-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_moderate [hPre_moderate : Cert.Pre_moderate.Facts] (m : (ℓ : Loc Cert.DiffIdeal.nD Cert.DiffIdeal.τ Cert.DiffIdeal.sig) → Buf (Elt Ideal) ℓ) : Prop :=
  ∀ c : Dev Cert.DiffIdeal.nD,
    (Cert.Pre_moderate.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_moderate [hPre_moderate : Cert.Pre_moderate.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_moderate.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))) = (fun _ => 1#1)

def Pre_DiffRef (m : (ℓ : Loc Cert.DiffRef.nD Cert.DiffRef.τ Cert.DiffRef.sig) → Buf (Elt Bits) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjRefIdeal (m : (ℓ : Loc Cert.NsaProjRefIdeal.nD Cert.NsaProjRefIdeal.τ Cert.NsaProjRefIdeal.sig) → Buf (Elt Ideal) ℓ) : Prop :=
  True

def Pre_SbProj (m : (ℓ : Loc Cert.SbProj.nD Cert.SbProj.τ Cert.SbProj.sig) → Buf (Elt Bits) ℓ) : Prop :=
  True

def Pre_SbProjIdeal (m : (ℓ : Loc Cert.SbProjIdeal.nD Cert.SbProjIdeal.τ Cert.SbProjIdeal.sig) → Buf (Elt Ideal) ℓ) : Prop :=
  True

def Pre_SbProjRefIdeal (m : (ℓ : Loc Cert.SbProjRefIdeal.nD Cert.SbProjRefIdeal.τ Cert.SbProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_NsaProjS (m : (ℓ : Loc Cert.NsaProjS.nD Cert.NsaProjS.τ Cert.NsaProjS.sig) → Buf (Elt Bits) ℓ) : Prop :=
  True

def Pre_NsaProjSIdeal (m : (ℓ : Loc Cert.NsaProjSIdeal.nD Cert.NsaProjSIdeal.τ Cert.NsaProjSIdeal.sig) → Buf (Elt Ideal) ℓ) : Prop :=
  True

def Pre_NsaProjSRefIdeal (m : (ℓ : Loc Cert.NsaProjSRefIdeal.nD Cert.NsaProjSRefIdeal.τ Cert.NsaProjSRefIdeal.sig) → Buf (Elt Ideal) ℓ) : Prop :=
  True

def Pre_SbProjS (m : (ℓ : Loc Cert.SbProjS.nD Cert.SbProjS.τ Cert.SbProjS.sig) → Buf (Elt Bits) ℓ) : Prop :=
  True

def Pre_SbProjSIdeal (m : (ℓ : Loc Cert.SbProjSIdeal.nD Cert.SbProjSIdeal.τ Cert.SbProjSIdeal.sig) → Buf (Elt Ideal) ℓ) : Prop :=
  True

def Pre_SbProjSRefIdeal (m : (ℓ : Loc Cert.SbProjSRefIdeal.nD Cert.SbProjSRefIdeal.τ Cert.SbProjSRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def Pre_WinS [hPre_pages_exist : Cert.Pre_pages_exist.Facts] (m : (ℓ : Loc Cert.WinS.nD Cert.WinS.τ Cert.WinS.sig) → Buf (Elt Bits) ℓ) : Prop :=
  ∀ c : Dev Cert.WinS.nD,
    (Cert.Pre_pages_exist.fn (F := Bits) (m ((c.tc : Thread Cert.WinS.nD Cert.WinS.τ).loc Cert.WinS.main_arg0)) (m ((c.tc : Thread Cert.WinS.nD Cert.WinS.τ).loc Cert.WinS.main_arg1)) (m ((c.tc : Thread Cert.WinS.nD Cert.WinS.τ).loc Cert.WinS.main_arg2)) (m ((c.tc : Thread Cert.WinS.nD Cert.WinS.τ).loc Cert.WinS.main_arg3)) (m ((c.tc : Thread Cert.WinS.nD Cert.WinS.τ).loc Cert.WinS.main_arg4)) (m ((c.tc : Thread Cert.WinS.nD Cert.WinS.τ).loc Cert.WinS.main_arg5)) (m ((c.tc : Thread Cert.WinS.nD Cert.WinS.τ).loc Cert.WinS.main_arg6)) (m ((c.tc : Thread Cert.WinS.nD Cert.WinS.τ).loc Cert.WinS.main_arg7)) (m ((c.tc : Thread Cert.WinS.nD Cert.WinS.τ).loc Cert.WinS.main_arg8)) (m ((c.tc : Thread Cert.WinS.nD Cert.WinS.τ).loc Cert.WinS.main_arg9)) (m ((c.tc : Thread Cert.WinS.nD Cert.WinS.τ).loc Cert.WinS.main_arg10)) (m ((c.tc : Thread Cert.WinS.nD Cert.WinS.τ).loc Cert.WinS.main_arg11))) = (fun _ => 1#1)

def Pre_WinSIdeal [hPre_pages_exist : Cert.Pre_pages_exist.Facts] (m : (ℓ : Loc Cert.WinSIdeal.nD Cert.WinSIdeal.τ Cert.WinSIdeal.sig) → Buf (Elt Ideal) ℓ) : Prop :=
  ∀ c : Dev Cert.WinSIdeal.nD,
    (Cert.Pre_pages_exist.fn (F := Ideal) (m ((c.tc : Thread Cert.WinSIdeal.nD Cert.WinSIdeal.τ).loc Cert.WinSIdeal.main_arg0)) (m ((c.tc : Thread Cert.WinSIdeal.nD Cert.WinSIdeal.τ).loc Cert.WinSIdeal.main_arg1)) (m ((c.tc : Thread Cert.WinSIdeal.nD Cert.WinSIdeal.τ).loc Cert.WinSIdeal.main_arg2)) (m ((c.tc : Thread Cert.WinSIdeal.nD Cert.WinSIdeal.τ).loc Cert.WinSIdeal.main_arg3)) (m ((c.tc : Thread Cert.WinSIdeal.nD Cert.WinSIdeal.τ).loc Cert.WinSIdeal.main_arg4)) (m ((c.tc : Thread Cert.WinSIdeal.nD Cert.WinSIdeal.τ).loc Cert.WinSIdeal.main_arg5)) (m ((c.tc : Thread Cert.WinSIdeal.nD Cert.WinSIdeal.τ).loc Cert.WinSIdeal.main_arg6)) (m ((c.tc : Thread Cert.WinSIdeal.nD Cert.WinSIdeal.τ).loc Cert.WinSIdeal.main_arg7)) (m ((c.tc : Thread Cert.WinSIdeal.nD Cert.WinSIdeal.τ).loc Cert.WinSIdeal.main_arg8)) (m ((c.tc : Thread Cert.WinSIdeal.nD Cert.WinSIdeal.τ).loc Cert.WinSIdeal.main_arg9)) (m ((c.tc : Thread Cert.WinSIdeal.nD Cert.WinSIdeal.τ).loc Cert.WinSIdeal.main_arg10)) (m ((c.tc : Thread Cert.WinSIdeal.nD Cert.WinSIdeal.τ).loc Cert.WinSIdeal.main_arg11))) = (fun _ => 1#1)

def Pre_WinSRefIdeal (m : (ℓ : Loc Cert.WinSRefIdeal.nD Cert.WinSRefIdeal.τ Cert.WinSRefIdeal.sig) → Buf (Elt Ideal) ℓ) : Prop :=
  True

def Pre_WinSRefIdeal_pages_exist [hPre_pages_exist : Cert.Pre_pages_exist.Facts] (m : (ℓ : Loc Cert.WinSRefIdeal.nD Cert.WinSRefIdeal.τ Cert.WinSRefIdeal.sig) → Buf (Elt Ideal) ℓ) : Prop :=
  ∀ c : Dev Cert.WinSRefIdeal.nD,
    (Cert.Pre_pages_exist.fn (F := Ideal) (m ((c.tc : Thread Cert.WinSRefIdeal.nD Cert.WinSRefIdeal.τ).loc Cert.WinSRefIdeal.main_arg0)) (m ((c.tc : Thread Cert.WinSRefIdeal.nD Cert.WinSRefIdeal.τ).loc Cert.WinSRefIdeal.main_arg1)) (m ((c.tc : Thread Cert.WinSRefIdeal.nD Cert.WinSRefIdeal.τ).loc Cert.WinSRefIdeal.main_arg2)) (m ((c.tc : Thread Cert.WinSRefIdeal.nD Cert.WinSRefIdeal.τ).loc Cert.WinSRefIdeal.main_arg3)) (m ((c.tc : Thread Cert.WinSRefIdeal.nD Cert.WinSRefIdeal.τ).loc Cert.WinSRefIdeal.main_arg4)) (m ((c.tc : Thread Cert.WinSRefIdeal.nD Cert.WinSRefIdeal.τ).loc Cert.WinSRefIdeal.main_arg5)) (m ((c.tc : Thread Cert.WinSRefIdeal.nD Cert.WinSRefIdeal.τ).loc Cert.WinSRefIdeal.main_arg6)) (m ((c.tc : Thread Cert.WinSRefIdeal.nD Cert.WinSRefIdeal.τ).loc Cert.WinSRefIdeal.main_arg7)) (m ((c.tc : Thread Cert.WinSRefIdeal.nD Cert.WinSRefIdeal.τ).loc Cert.WinSRefIdeal.main_arg8)) (m ((c.tc : Thread Cert.WinSRefIdeal.nD Cert.WinSRefIdeal.τ).loc Cert.WinSRefIdeal.main_arg9)) (m ((c.tc : Thread Cert.WinSRefIdeal.nD Cert.WinSRefIdeal.τ).loc Cert.WinSRefIdeal.main_arg10)) (m ((c.tc : Thread Cert.WinSRefIdeal.nD Cert.WinSRefIdeal.τ).loc Cert.WinSRefIdeal.main_arg11))) = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_moderate [hDiffIdeal : Cert.DiffIdeal.Facts] [hPre_moderate : Cert.Pre_moderate.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_moderate m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_DiffRefIdeal_pre_moderate [hDiffRefIdeal : Cert.DiffRefIdeal.Facts] [hPre_moderate : Cert.Pre_moderate.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_moderate m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_DiffRef [hDiffRef : Cert.DiffRef.Facts] : Prop :=
  ∀ (m : (ℓ : Loc Cert.DiffRef.nD Cert.DiffRef.τ Cert.DiffRef.sig) → Buf (Elt Bits) ℓ) (g : Dev Cert.DiffRef.nD → PrngReg), Pre_DiffRef m →
    θ_run (Cert.DiffRef.defs (F := Bits)) (onTc (τ := Cert.DiffRef.τ) (Cert.DiffRef.main (F := Bits))) ⟨m, fun _ => 0, g⟩ (fun r => (∀ c : Dev Cert.DiffRef.nD,
      r.2.mem ((c.tc : Thread Cert.DiffRef.nD Cert.DiffRef.τ).loc Cert.DiffRef.main_arg0) = m ((c.tc : Thread Cert.DiffRef.nD Cert.DiffRef.τ).loc Cert.DiffRef.main_arg0)
      ∧ r.2.mem ((c.tc : Thread Cert.DiffRef.nD Cert.DiffRef.τ).loc Cert.DiffRef.main_arg1) = m ((c.tc : Thread Cert.DiffRef.nD Cert.DiffRef.τ).loc Cert.DiffRef.main_arg1)
      ∧ r.2.mem ((c.tc : Thread Cert.DiffRef.nD Cert.DiffRef.τ).loc Cert.DiffRef.main_arg2) = m ((c.tc : Thread Cert.DiffRef.nD Cert.DiffRef.τ).loc Cert.DiffRef.main_arg2)
      ∧ r.2.mem ((c.tc : Thread Cert.DiffRef.nD Cert.DiffRef.τ).loc Cert.DiffRef.main_arg3) = m ((c.tc : Thread Cert.DiffRef.nD Cert.DiffRef.τ).loc Cert.DiffRef.main_arg3)
      ∧ r.2.mem ((c.tc : Thread Cert.DiffRef.nD Cert.DiffRef.τ).loc Cert.DiffRef.main_arg4) = m ((c.tc : Thread Cert.DiffRef.nD Cert.DiffRef.τ).loc Cert.DiffRef.main_arg4)
      ∧ r.2.mem ((c.tc : Thread Cert.DiffRef.nD Cert.DiffRef.τ).loc Cert.DiffRef.main_arg5) = m ((c.tc : Thread Cert.DiffRef.nD Cert.DiffRef.τ).loc Cert.DiffRef.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1))
      ∧ r.2.sem = fun _ => 0)

def quiescent_NsaProjRefIdeal [hNsaProjRefIdeal : Cert.NsaProjRefIdeal.Facts] : Prop :=
  ∀ (m : (ℓ : Loc Cert.NsaProjRefIdeal.nD Cert.NsaProjRefIdeal.τ Cert.NsaProjRefIdeal.sig) → Buf (Elt Ideal) ℓ) (g : Dev Cert.NsaProjRefIdeal.nD → PrngReg), Pre_NsaProjRefIdeal m →
    θ_run (Cert.NsaProjRefIdeal.defs (F := Ideal)) (onTc (τ := Cert.NsaProjRefIdeal.τ) (Cert.NsaProjRefIdeal.main (F := Ideal))) ⟨m, fun _ => 0, g⟩ (fun r => (∀ c : Dev Cert.NsaProjRefIdeal.nD,
      r.2.mem ((c.tc : Thread Cert.NsaProjRefIdeal.nD Cert.NsaProjRefIdeal.τ).loc Cert.NsaProjRefIdeal.main_arg0) = m ((c.tc : Thread Cert.NsaProjRefIdeal.nD Cert.NsaProjRefIdeal.τ).loc Cert.NsaProjRefIdeal.main_arg0)
      ∧ r.2.mem ((c.tc : Thread Cert.NsaProjRefIdeal.nD Cert.NsaProjRefIdeal.τ).loc Cert.NsaProjRefIdeal.main_arg1) = m ((c.tc : Thread Cert.NsaProjRefIdeal.nD Cert.NsaProjRefIdeal.τ).loc Cert.NsaProjRefIdeal.main_arg1))
      ∧ r.2.sem = fun _ => 0)

def quiescent_SbProj [hSbProj : Cert.SbProj.Facts] : Prop :=
  ∀ (m : (ℓ : Loc Cert.SbProj.nD Cert.SbProj.τ Cert.SbProj.sig) → Buf (Elt Bits) ℓ) (g : Dev Cert.SbProj.nD → PrngReg), Pre_SbProj m →
    θ_run (Cert.SbProj.defs (F := Bits)) (onTc (τ := Cert.SbProj.τ) (Cert.SbProj.main (F := Bits))) ⟨m, fun _ => 0, g⟩ (fun r => (∀ c : Dev Cert.SbProj.nD,
      r.2.mem ((c.tc : Thread Cert.SbProj.nD Cert.SbProj.τ).loc Cert.SbProj.main_arg0) = m ((c.tc : Thread Cert.SbProj.nD Cert.SbProj.τ).loc Cert.SbProj.main_arg0)
      ∧ r.2.mem ((c.tc : Thread Cert.SbProj.nD Cert.SbProj.τ).loc Cert.SbProj.main_arg1) = m ((c.tc : Thread Cert.SbProj.nD Cert.SbProj.τ).loc Cert.SbProj.main_arg1))
      ∧ r.2.sem = fun _ => 0)

def quiescent_SbProjIdeal [hSbProjIdeal : Cert.SbProjIdeal.Facts] : Prop :=
  ∀ (m : (ℓ : Loc Cert.SbProjIdeal.nD Cert.SbProjIdeal.τ Cert.SbProjIdeal.sig) → Buf (Elt Ideal) ℓ) (g : Dev Cert.SbProjIdeal.nD → PrngReg), Pre_SbProjIdeal m →
    θ_run (Cert.SbProjIdeal.defs (F := Ideal)) (onTc (τ := Cert.SbProjIdeal.τ) (Cert.SbProjIdeal.main (F := Ideal))) ⟨m, fun _ => 0, g⟩ (fun r => (∀ c : Dev Cert.SbProjIdeal.nD,
      r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
      ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1))
      ∧ r.2.sem = fun _ => 0)

def quiescent_SbProjRefIdeal [hSbProjRefIdeal : Cert.SbProjRefIdeal.Facts] : Prop :=
  ∀ (m : (ℓ : Loc Cert.SbProjRefIdeal.nD Cert.SbProjRefIdeal.τ Cert.SbProjRefIdeal.sig) → Buf (Elt Ideal) ℓ) (g : Dev Cert.SbProjRefIdeal.nD → PrngReg), Pre_SbProjRefIdeal m →
    θ_run (Cert.SbProjRefIdeal.defs (F := Ideal)) (onTc (τ := Cert.SbProjRefIdeal.τ) (Cert.SbProjRefIdeal.main (F := Ideal))) ⟨m, fun _ => 0, g⟩ (fun r => (∀ c : Dev Cert.SbProjRefIdeal.nD,
      r.2.mem ((c.tc : Thread Cert.SbProjRefIdeal.nD Cert.SbProjRefIdeal.τ).loc Cert.SbProjRefIdeal.main_arg0) = m ((c.tc : Thread Cert.SbProjRefIdeal.nD Cert.SbProjRefIdeal.τ).loc Cert.SbProjRefIdeal.main_arg0)
      ∧ r.2.mem ((c.tc : Thread Cert.SbProjRefIdeal.nD Cert.SbProjRefIdeal.τ).loc Cert.SbProjRefIdeal.main_arg1) = m ((c.tc : Thread Cert.SbProjRefIdeal.nD Cert.SbProjRefIdeal.τ).loc Cert.SbProjRefIdeal.main_arg1))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1))
      ∧ r.2.sem = fun _ => 0)

def quiescent_NsaProjS [hNsaProjS : Cert.NsaProjS.Facts] : Prop :=
  ∀ (m : (ℓ : Loc Cert.NsaProjS.nD Cert.NsaProjS.τ Cert.NsaProjS.sig) → Buf (Elt Bits) ℓ) (g : Dev Cert.NsaProjS.nD → PrngReg), Pre_NsaProjS m →
    θ_run (Cert.NsaProjS.defs (F := Bits)) (onTc (τ := Cert.NsaProjS.τ) (Cert.NsaProjS.main (F := Bits))) ⟨m, fun _ => 0, g⟩ (fun r => (∀ c : Dev Cert.NsaProjS.nD,
      r.2.mem ((c.tc : Thread Cert.NsaProjS.nD Cert.NsaProjS.τ).loc Cert.NsaProjS.main_arg0) = m ((c.tc : Thread Cert.NsaProjS.nD Cert.NsaProjS.τ).loc Cert.NsaProjS.main_arg0)
      ∧ r.2.mem ((c.tc : Thread Cert.NsaProjS.nD Cert.NsaProjS.τ).loc Cert.NsaProjS.main_arg1) = m ((c.tc : Thread Cert.NsaProjS.nD Cert.NsaProjS.τ).loc Cert.NsaProjS.main_arg1))
      ∧ r.2.sem = fun _ => 0)

def quiescent_NsaProjSIdeal [hNsaProjSIdeal : Cert.NsaProjSIdeal.Facts] : Prop :=
  ∀ (m : (ℓ : Loc Cert.NsaProjSIdeal.nD Cert.NsaProjSIdeal.τ Cert.NsaProjSIdeal.sig) → Buf (Elt Ideal) ℓ) (g : Dev Cert.NsaProjSIdeal.nD → PrngReg), Pre_NsaProjSIdeal m →
    θ_run (Cert.NsaProjSIdeal.defs (F := Ideal)) (onTc (τ := Cert.NsaProjSIdeal.τ) (Cert.NsaProjSIdeal.main (F := Ideal))) ⟨m, fun _ => 0, g⟩ (fun r => (∀ c : Dev Cert.NsaProjSIdeal.nD,
      r.2.mem ((c.tc : Thread Cert.NsaProjSIdeal.nD Cert.NsaProjSIdeal.τ).loc Cert.NsaProjSIdeal.main_arg0) = m ((c.tc : Thread Cert.NsaProjSIdeal.nD Cert.NsaProjSIdeal.τ).loc Cert.NsaProjSIdeal.main_arg0)
      ∧ r.2.mem ((c.tc : Thread Cert.NsaProjSIdeal.nD Cert.NsaProjSIdeal.τ).loc Cert.NsaProjSIdeal.main_arg1) = m ((c.tc : Thread Cert.NsaProjSIdeal.nD Cert.NsaProjSIdeal.τ).loc Cert.NsaProjSIdeal.main_arg1))
      ∧ r.2.sem = fun _ => 0)

def quiescent_NsaProjSRefIdeal [hNsaProjSRefIdeal : Cert.NsaProjSRefIdeal.Facts] : Prop :=
  ∀ (m : (ℓ : Loc Cert.NsaProjSRefIdeal.nD Cert.NsaProjSRefIdeal.τ Cert.NsaProjSRefIdeal.sig) → Buf (Elt Ideal) ℓ) (g : Dev Cert.NsaProjSRefIdeal.nD → PrngReg), Pre_NsaProjSRefIdeal m →
    θ_run (Cert.NsaProjSRefIdeal.defs (F := Ideal)) (onTc (τ := Cert.NsaProjSRefIdeal.τ) (Cert.NsaProjSRefIdeal.main (F := Ideal))) ⟨m, fun _ => 0, g⟩ (fun r => (∀ c : Dev Cert.NsaProjSRefIdeal.nD,
      r.2.mem ((c.tc : Thread Cert.NsaProjSRefIdeal.nD Cert.NsaProjSRefIdeal.τ).loc Cert.NsaProjSRefIdeal.main_arg0) = m ((c.tc : Thread Cert.NsaProjSRefIdeal.nD Cert.NsaProjSRefIdeal.τ).loc Cert.NsaProjSRefIdeal.main_arg0)
      ∧ r.2.mem ((c.tc : Thread Cert.NsaProjSRefIdeal.nD Cert.NsaProjSRefIdeal.τ).loc Cert.NsaProjSRefIdeal.main_arg1) = m ((c.tc : Thread Cert.NsaProjSRefIdeal.nD Cert.NsaProjSRefIdeal.τ).loc Cert.NsaProjSRefIdeal.main_arg1))
      ∧ r.2.sem = fun _ => 0)

def quiescent_SbProjS [hSbProjS : Cert.SbProjS.Facts] : Prop :=
  ∀ (m : (ℓ : Loc Cert.SbProjS.nD Cert.SbProjS.τ Cert.SbProjS.sig) → Buf (Elt Bits) ℓ) (g : Dev Cert.SbProjS.nD → PrngReg), Pre_SbProjS m →
    θ_run (Cert.SbProjS.defs (F := Bits)) (onTc (τ := Cert.SbProjS.τ) (Cert.SbProjS.main (F := Bits))) ⟨m, fun _ => 0, g⟩ (fun r => (∀ c : Dev Cert.SbProjS.nD,
      r.2.mem ((c.tc : Thread Cert.SbProjS.nD Cert.SbProjS.τ).loc Cert.SbProjS.main_arg0) = m ((c.tc : Thread Cert.SbProjS.nD Cert.SbProjS.τ).loc Cert.SbProjS.main_arg0)
      ∧ r.2.mem ((c.tc : Thread Cert.SbProjS.nD Cert.SbProjS.τ).loc Cert.SbProjS.main_arg1) = m ((c.tc : Thread Cert.SbProjS.nD Cert.SbProjS.τ).loc Cert.SbProjS.main_arg1))
      ∧ r.2.sem = fun _ => 0)

def quiescent_SbProjSIdeal [hSbProjSIdeal : Cert.SbProjSIdeal.Facts] : Prop :=
  ∀ (m : (ℓ : Loc Cert.SbProjSIdeal.nD Cert.SbProjSIdeal.τ Cert.SbProjSIdeal.sig) → Buf (Elt Ideal) ℓ) (g : Dev Cert.SbProjSIdeal.nD → PrngReg), Pre_SbProjSIdeal m →
    θ_run (Cert.SbProjSIdeal.defs (F := Ideal)) (onTc (τ := Cert.SbProjSIdeal.τ) (Cert.SbProjSIdeal.main (F := Ideal))) ⟨m, fun _ => 0, g⟩ (fun r => (∀ c : Dev Cert.SbProjSIdeal.nD,
      r.2.mem ((c.tc : Thread Cert.SbProjSIdeal.nD Cert.SbProjSIdeal.τ).loc Cert.SbProjSIdeal.main_arg0) = m ((c.tc : Thread Cert.SbProjSIdeal.nD Cert.SbProjSIdeal.τ).loc Cert.SbProjSIdeal.main_arg0)
      ∧ r.2.mem ((c.tc : Thread Cert.SbProjSIdeal.nD Cert.SbProjSIdeal.τ).loc Cert.SbProjSIdeal.main_arg1) = m ((c.tc : Thread Cert.SbProjSIdeal.nD Cert.SbProjSIdeal.τ).loc Cert.SbProjSIdeal.main_arg1))
      ∧ r.2.sem = fun _ => 0)

def quiescent_SbProjSRefIdeal [hSbProjSRefIdeal : Cert.SbProjSRefIdeal.Facts] : Prop :=
  ∀ (m : (ℓ : Loc Cert.SbProjSRefIdeal.nD Cert.SbProjSRefIdeal.τ Cert.SbProjSRefIdeal.sig) → Buf (Elt Ideal) ℓ) (g : Dev Cert.SbProjSRefIdeal.nD → PrngReg), Pre_SbProjSRefIdeal m →
    θ_run (Cert.SbProjSRefIdeal.defs (F := Ideal)) (onTc (τ := Cert.SbProjSRefIdeal.τ) (Cert.SbProjSRefIdeal.main (F := Ideal))) ⟨m, fun _ => 0, g⟩ (fun r => (∀ c : Dev Cert.SbProjSRefIdeal.nD,
      r.2.mem ((c.tc : Thread Cert.SbProjSRefIdeal.nD Cert.SbProjSRefIdeal.τ).loc Cert.SbProjSRefIdeal.main_arg0) = m ((c.tc : Thread Cert.SbProjSRefIdeal.nD Cert.SbProjSRefIdeal.τ).loc Cert.SbProjSRefIdeal.main_arg0)
      ∧ r.2.mem ((c.tc : Thread Cert.SbProjSRefIdeal.nD Cert.SbProjSRefIdeal.τ).loc Cert.SbProjSRefIdeal.main_arg1) = m ((c.tc : Thread Cert.SbProjSRefIdeal.nD Cert.SbProjSRefIdeal.τ).loc Cert.SbProjSRefIdeal.main_arg1))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6))
      ∧ r.2.sem = fun _ => 0)

def quiescent_WinS [hWinS : Cert.WinS.Facts] [hPre_pages_exist : Cert.Pre_pages_exist.Facts] : Prop :=
  ∀ (m : (ℓ : Loc Cert.WinS.nD Cert.WinS.τ Cert.WinS.sig) → Buf (Elt Bits) ℓ) (g : Dev Cert.WinS.nD → PrngReg), Pre_WinS m →
    θ_run (Cert.WinS.defs (F := Bits)) (onTc (τ := Cert.WinS.τ) (Cert.WinS.main (F := Bits))) ⟨m, fun _ => 0, g⟩ (fun r => (∀ c : Dev Cert.WinS.nD,
      r.2.mem ((c.tc : Thread Cert.WinS.nD Cert.WinS.τ).loc Cert.WinS.main_arg0) = m ((c.tc : Thread Cert.WinS.nD Cert.WinS.τ).loc Cert.WinS.main_arg0)
      ∧ r.2.mem ((c.tc : Thread Cert.WinS.nD Cert.WinS.τ).loc Cert.WinS.main_arg1) = m ((c.tc : Thread Cert.WinS.nD Cert.WinS.τ).loc Cert.WinS.main_arg1)
      ∧ r.2.mem ((c.tc : Thread Cert.WinS.nD Cert.WinS.τ).loc Cert.WinS.main_arg2) = m ((c.tc : Thread Cert.WinS.nD Cert.WinS.τ).loc Cert.WinS.main_arg2)
      ∧ r.2.mem ((c.tc : Thread Cert.WinS.nD Cert.WinS.τ).loc Cert.WinS.main_arg3) = m ((c.tc : Thread Cert.WinS.nD Cert.WinS.τ).loc Cert.WinS.main_arg3)
      ∧ r.2.mem ((c.tc : Thread Cert.WinS.nD Cert.WinS.τ).loc Cert.WinS.main_arg4) = m ((c.tc : Thread Cert.WinS.nD Cert.WinS.τ).loc Cert.WinS.main_arg4)
      ∧ r.2.mem ((c.tc : Thread Cert.WinS.nD Cert.WinS.τ).loc Cert.WinS.main_arg5) = m ((c.tc : Thread Cert.WinS.nD Cert.WinS.τ).loc Cert.WinS.main_arg5)
      ∧ r.2.mem ((c.tc : Thread Cert.WinS.nD Cert.WinS.τ).loc Cert.WinS.main_arg6) = m ((c.tc : Thread Cert.WinS.nD Cert.WinS.τ).loc Cert.WinS.main_arg6)
      ∧ r.2.mem ((c.tc : Thread Cert.WinS.nD Cert.WinS.τ).loc Cert.WinS.main_arg7) = m ((c.tc : Thread Cert.WinS.nD Cert.WinS.τ).loc Cert.WinS.main_arg7)
      ∧ r.2.mem ((c.tc : Thread Cert.WinS.nD Cert.WinS.τ).loc Cert.WinS.main_arg8) = m ((c.tc : Thread Cert.WinS.nD Cert.WinS.τ).loc Cert.WinS.main_arg8)
      ∧ r.2.mem ((c.tc : Thread Cert.WinS.nD Cert.WinS.τ).loc Cert.WinS.main_arg9) = m ((c.tc : Thread Cert.WinS.nD Cert.WinS.τ).loc Cert.WinS.main_arg9)
      ∧ r.2.mem ((c.tc : Thread Cert.WinS.nD Cert.WinS.τ).loc Cert.WinS.main_arg10) = m ((c.tc : Thread Cert.WinS.nD Cert.WinS.τ).loc Cert.WinS.main_arg10)
      ∧ r.2.mem ((c.tc : Thread Cert.WinS.nD Cert.WinS.τ).loc Cert.WinS.main_arg11) = m ((c.tc : Thread Cert.WinS.nD Cert.WinS.τ).loc Cert.WinS.main_arg11))
      ∧ r.2.sem = fun _ => 0)

def quiescent_WinSIdeal [hWinSIdeal : Cert.WinSIdeal.Facts] [hPre_pages_exist : Cert.Pre_pages_exist.Facts] : Prop :=
  ∀ (m : (ℓ : Loc Cert.WinSIdeal.nD Cert.WinSIdeal.τ Cert.WinSIdeal.sig) → Buf (Elt Ideal) ℓ) (g : Dev Cert.WinSIdeal.nD → PrngReg), Pre_WinSIdeal m →
    θ_run (Cert.WinSIdeal.defs (F := Ideal)) (onTc (τ := Cert.WinSIdeal.τ) (Cert.WinSIdeal.main (F := Ideal))) ⟨m, fun _ => 0, g⟩ (fun r => (∀ c : Dev Cert.WinSIdeal.nD,
      r.2.mem ((c.tc : Thread Cert.WinSIdeal.nD Cert.WinSIdeal.τ).loc Cert.WinSIdeal.main_arg0) = m ((c.tc : Thread Cert.WinSIdeal.nD Cert.WinSIdeal.τ).loc Cert.WinSIdeal.main_arg0)
      ∧ r.2.mem ((c.tc : Thread Cert.WinSIdeal.nD Cert.WinSIdeal.τ).loc Cert.WinSIdeal.main_arg1) = m ((c.tc : Thread Cert.WinSIdeal.nD Cert.WinSIdeal.τ).loc Cert.WinSIdeal.main_arg1)
      ∧ r.2.mem ((c.tc : Thread Cert.WinSIdeal.nD Cert.WinSIdeal.τ).loc Cert.WinSIdeal.main_arg2) = m ((c.tc : Thread Cert.WinSIdeal.nD Cert.WinSIdeal.τ).loc Cert.WinSIdeal.main_arg2)
      ∧ r.2.mem ((c.tc : Thread Cert.WinSIdeal.nD Cert.WinSIdeal.τ).loc Cert.WinSIdeal.main_arg3) = m ((c.tc : Thread Cert.WinSIdeal.nD Cert.WinSIdeal.τ).loc Cert.WinSIdeal.main_arg3)
      ∧ r.2.mem ((c.tc : Thread Cert.WinSIdeal.nD Cert.WinSIdeal.τ).loc Cert.WinSIdeal.main_arg4) = m ((c.tc : Thread Cert.WinSIdeal.nD Cert.WinSIdeal.τ).loc Cert.WinSIdeal.main_arg4)
      ∧ r.2.mem ((c.tc : Thread Cert.WinSIdeal.nD Cert.WinSIdeal.τ).loc Cert.WinSIdeal.main_arg5) = m ((c.tc : Thread Cert.WinSIdeal.nD Cert.WinSIdeal.τ).loc Cert.WinSIdeal.main_arg5)
      ∧ r.2.mem ((c.tc : Thread Cert.WinSIdeal.nD Cert.WinSIdeal.τ).loc Cert.WinSIdeal.main_arg6) = m ((c.tc : Thread Cert.WinSIdeal.nD Cert.WinSIdeal.τ).loc Cert.WinSIdeal.main_arg6)
      ∧ r.2.mem ((c.tc : Thread Cert.WinSIdeal.nD Cert.WinSIdeal.τ).loc Cert.WinSIdeal.main_arg7) = m ((c.tc : Thread Cert.WinSIdeal.nD Cert.WinSIdeal.τ).loc Cert.WinSIdeal.main_arg7)
      ∧ r.2.mem ((c.tc : Thread Cert.WinSIdeal.nD Cert.WinSIdeal.τ).loc Cert.WinSIdeal.main_arg8) = m ((c.tc : Thread Cert.WinSIdeal.nD Cert.WinSIdeal.τ).loc Cert.WinSIdeal.main_arg8)
      ∧ r.2.mem ((c.tc : Thread Cert.WinSIdeal.nD Cert.WinSIdeal.τ).loc Cert.WinSIdeal.main_arg9) = m ((c.tc : Thread Cert.WinSIdeal.nD Cert.WinSIdeal.τ).loc Cert.WinSIdeal.main_arg9)
      ∧ r.2.mem ((c.tc : Thread Cert.WinSIdeal.nD Cert.WinSIdeal.τ).loc Cert.WinSIdeal.main_arg10) = m ((c.tc : Thread Cert.WinSIdeal.nD Cert.WinSIdeal.τ).loc Cert.WinSIdeal.main_arg10)
      ∧ r.2.mem ((c.tc : Thread Cert.WinSIdeal.nD Cert.WinSIdeal.τ).loc Cert.WinSIdeal.main_arg11) = m ((c.tc : Thread Cert.WinSIdeal.nD Cert.WinSIdeal.τ).loc Cert.WinSIdeal.main_arg11))
      ∧ r.2.sem = fun _ => 0)

def quiescent_WinSRefIdeal [hWinSRefIdeal : Cert.WinSRefIdeal.Facts] : Prop :=
  ∀ (m : (ℓ : Loc Cert.WinSRefIdeal.nD Cert.WinSRefIdeal.τ Cert.WinSRefIdeal.sig) → Buf (Elt Ideal) ℓ) (g : Dev Cert.WinSRefIdeal.nD → PrngReg), Pre_WinSRefIdeal m →
    θ_run (Cert.WinSRefIdeal.defs (F := Ideal)) (onTc (τ := Cert.WinSRefIdeal.τ) (Cert.WinSRefIdeal.main (F := Ideal))) ⟨m, fun _ => 0, g⟩ (fun r => (∀ c : Dev Cert.WinSRefIdeal.nD,
      r.2.mem ((c.tc : Thread Cert.WinSRefIdeal.nD Cert.WinSRefIdeal.τ).loc Cert.WinSRefIdeal.main_arg0) = m ((c.tc : Thread Cert.WinSRefIdeal.nD Cert.WinSRefIdeal.τ).loc Cert.WinSRefIdeal.main_arg0)
      ∧ r.2.mem ((c.tc : Thread Cert.WinSRefIdeal.nD Cert.WinSRefIdeal.τ).loc Cert.WinSRefIdeal.main_arg1) = m ((c.tc : Thread Cert.WinSRefIdeal.nD Cert.WinSRefIdeal.τ).loc Cert.WinSRefIdeal.main_arg1)
      ∧ r.2.mem ((c.tc : Thread Cert.WinSRefIdeal.nD Cert.WinSRefIdeal.τ).loc Cert.WinSRefIdeal.main_arg2) = m ((c.tc : Thread Cert.WinSRefIdeal.nD Cert.WinSRefIdeal.τ).loc Cert.WinSRefIdeal.main_arg2)
      ∧ r.2.mem ((c.tc : Thread Cert.WinSRefIdeal.nD Cert.WinSRefIdeal.τ).loc Cert.WinSRefIdeal.main_arg3) = m ((c.tc : Thread Cert.WinSRefIdeal.nD Cert.WinSRefIdeal.τ).loc Cert.WinSRefIdeal.main_arg3)
      ∧ r.2.mem ((c.tc : Thread Cert.WinSRefIdeal.nD Cert.WinSRefIdeal.τ).loc Cert.WinSRefIdeal.main_arg4) = m ((c.tc : Thread Cert.WinSRefIdeal.nD Cert.WinSRefIdeal.τ).loc Cert.WinSRefIdeal.main_arg4)
      ∧ r.2.mem ((c.tc : Thread Cert.WinSRefIdeal.nD Cert.WinSRefIdeal.τ).loc Cert.WinSRefIdeal.main_arg5) = m ((c.tc : Thread Cert.WinSRefIdeal.nD Cert.WinSRefIdeal.τ).loc Cert.WinSRefIdeal.main_arg5)
      ∧ r.2.mem ((c.tc : Thread Cert.WinSRefIdeal.nD Cert.WinSRefIdeal.τ).loc Cert.WinSRefIdeal.main_arg6) = m ((c.tc : Thread Cert.WinSRefIdeal.nD Cert.WinSRefIdeal.τ).loc Cert.WinSRefIdeal.main_arg6)
      ∧ r.2.mem ((c.tc : Thread Cert.WinSRefIdeal.nD Cert.WinSRefIdeal.τ).loc Cert.WinSRefIdeal.main_arg7) = m ((c.tc : Thread Cert.WinSRefIdeal.nD Cert.WinSRefIdeal.τ).loc Cert.WinSRefIdeal.main_arg7)
      ∧ r.2.mem ((c.tc : Thread Cert.WinSRefIdeal.nD Cert.WinSRefIdeal.τ).loc Cert.WinSRefIdeal.main_arg8) = m ((c.tc : Thread Cert.WinSRefIdeal.nD Cert.WinSRefIdeal.τ).loc Cert.WinSRefIdeal.main_arg8)
      ∧ r.2.mem ((c.tc : Thread Cert.WinSRefIdeal.nD Cert.WinSRefIdeal.τ).loc Cert.WinSRefIdeal.main_arg9) = m ((c.tc : Thread Cert.WinSRefIdeal.nD Cert.WinSRefIdeal.τ).loc Cert.WinSRefIdeal.main_arg9)
      ∧ r.2.mem ((c.tc : Thread Cert.WinSRefIdeal.nD Cert.WinSRefIdeal.τ).loc Cert.WinSRefIdeal.main_arg10) = m ((c.tc : Thread Cert.WinSRefIdeal.nD Cert.WinSRefIdeal.τ).loc Cert.WinSRefIdeal.main_arg10)
      ∧ r.2.mem ((c.tc : Thread Cert.WinSRefIdeal.nD Cert.WinSRefIdeal.τ).loc Cert.WinSRefIdeal.main_arg11) = m ((c.tc : Thread Cert.WinSRefIdeal.nD Cert.WinSRefIdeal.τ).loc Cert.WinSRefIdeal.main_arg11))
      ∧ r.2.sem = fun _ => 0)

def quiescent_WinSRefIdeal_pre_pages_exist [hWinSRefIdeal : Cert.WinSRefIdeal.Facts] [hPre_pages_exist : Cert.Pre_pages_exist.Facts] : Prop :=
  ∀ (m : (ℓ : Loc Cert.WinSRefIdeal.nD Cert.WinSRefIdeal.τ Cert.WinSRefIdeal.sig) → Buf (Elt Ideal) ℓ) (g : Dev Cert.WinSRefIdeal.nD → PrngReg), Pre_WinSRefIdeal_pages_exist m →
    θ_run (Cert.WinSRefIdeal.defs (F := Ideal)) (onTc (τ := Cert.WinSRefIdeal.τ) (Cert.WinSRefIdeal.main (F := Ideal))) ⟨m, fun _ => 0, g⟩ (fun r => (∀ c : Dev Cert.WinSRefIdeal.nD,
      r.2.mem ((c.tc : Thread Cert.WinSRefIdeal.nD Cert.WinSRefIdeal.τ).loc Cert.WinSRefIdeal.main_arg0) = m ((c.tc : Thread Cert.WinSRefIdeal.nD Cert.WinSRefIdeal.τ).loc Cert.WinSRefIdeal.main_arg0)
      ∧ r.2.mem ((c.tc : Thread Cert.WinSRefIdeal.nD Cert.WinSRefIdeal.τ).loc Cert.WinSRefIdeal.main_arg1) = m ((c.tc : Thread Cert.WinSRefIdeal.nD Cert.WinSRefIdeal.τ).loc Cert.WinSRefIdeal.main_arg1)
      ∧ r.2.mem ((c.tc : Thread Cert.WinSRefIdeal.nD Cert.WinSRefIdeal.τ).loc Cert.WinSRefIdeal.main_arg2) = m ((c.tc : Thread Cert.WinSRefIdeal.nD Cert.WinSRefIdeal.τ).loc Cert.WinSRefIdeal.main_arg2)
      ∧ r.2.mem ((c.tc : Thread Cert.WinSRefIdeal.nD Cert.WinSRefIdeal.τ).loc Cert.WinSRefIdeal.main_arg3) = m ((c.tc : Thread Cert.WinSRefIdeal.nD Cert.WinSRefIdeal.τ).loc Cert.WinSRefIdeal.main_arg3)
      ∧ r.2.mem ((c.tc : Thread Cert.WinSRefIdeal.nD Cert.WinSRefIdeal.τ).loc Cert.WinSRefIdeal.main_arg4) = m ((c.tc : Thread Cert.WinSRefIdeal.nD Cert.WinSRefIdeal.τ).loc Cert.WinSRefIdeal.main_arg4)
      ∧ r.2.mem ((c.tc : Thread Cert.WinSRefIdeal.nD Cert.WinSRefIdeal.τ).loc Cert.WinSRefIdeal.main_arg5) = m ((c.tc : Thread Cert.WinSRefIdeal.nD Cert.WinSRefIdeal.τ).loc Cert.WinSRefIdeal.main_arg5)
      ∧ r.2.mem ((c.tc : Thread Cert.WinSRefIdeal.nD Cert.WinSRefIdeal.τ).loc Cert.WinSRefIdeal.main_arg6) = m ((c.tc : Thread Cert.WinSRefIdeal.nD Cert.WinSRefIdeal.τ).loc Cert.WinSRefIdeal.main_arg6)
      ∧ r.2.mem ((c.tc : Thread Cert.WinSRefIdeal.nD Cert.WinSRefIdeal.τ).loc Cert.WinSRefIdeal.main_arg7) = m ((c.tc : Thread Cert.WinSRefIdeal.nD Cert.WinSRefIdeal.τ).loc Cert.WinSRefIdeal.main_arg7)
      ∧ r.2.mem ((c.tc : Thread Cert.WinSRefIdeal.nD Cert.WinSRefIdeal.τ).loc Cert.WinSRefIdeal.main_arg8) = m ((c.tc : Thread Cert.WinSRefIdeal.nD Cert.WinSRefIdeal.τ).loc Cert.WinSRefIdeal.main_arg8)
      ∧ r.2.mem ((c.tc : Thread Cert.WinSRefIdeal.nD Cert.WinSRefIdeal.τ).loc Cert.WinSRefIdeal.main_arg9) = m ((c.tc : Thread Cert.WinSRefIdeal.nD Cert.WinSRefIdeal.τ).loc Cert.WinSRefIdeal.main_arg9)
      ∧ r.2.mem ((c.tc : Thread Cert.WinSRefIdeal.nD Cert.WinSRefIdeal.τ).loc Cert.WinSRefIdeal.main_arg10) = m ((c.tc : Thread Cert.WinSRefIdeal.nD Cert.WinSRefIdeal.τ).loc Cert.WinSRefIdeal.main_arg10)
      ∧ r.2.mem ((c.tc : Thread Cert.WinSRefIdeal.nD Cert.WinSRefIdeal.τ).loc Cert.WinSRefIdeal.main_arg11) = m ((c.tc : Thread Cert.WinSRefIdeal.nD Cert.WinSRefIdeal.τ).loc Cert.WinSRefIdeal.main_arg11))
      ∧ r.2.sem = fun _ => 0)

def preserves_Diff_DiffIdeal : Prop :=
  IdealRules.named_const.Statement Cert.DiffIdeal.κ "scale_log2e" .f32 0x3E38AA3B#32 (((1 / 8) * (Real.log 2)⁻¹ : ℝ) : EReal)
  ∧ IdealRules.named_const.Statement Cert.DiffIdeal.κ "mask" .f32 0xF149F2CA#32 ⊥
  ∧ IdealRules.named_const.Statement Cert.DiffIdeal.κ "log2e" .f32 0x3FB8AA3B#32 (((Real.log 2)⁻¹ : ℝ) : EReal)

def preserves_DiffRef_DiffRefIdeal : Prop :=
  True

def algebraic_DiffIdeal_DiffRefIdeal_pre_moderate [hDiffIdeal : Cert.DiffIdeal.Facts] [hDiffRefIdeal : Cert.DiffRefIdeal.Facts] [hPre_moderate : Cert.Pre_moderate.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_moderate m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v231)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v231) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v99) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v16)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v16) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v66) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)) (v2 : (c : Dev Cert.ProjIdeal.nD) → Buf (Elt Ideal) ((c.tc : Thread Cert.ProjIdeal.nD Cert.ProjIdeal.τ).loc Cert.ProjIdeal.main_v7_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_v7_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_v3) = v1 c
          ∧ r.2.mem ((c.tc : Thread Cert.ProjRefIdeal.nD Cert.ProjRefIdeal.τ).loc Cert.ProjRefIdeal.main_v5) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_NsaProj_NsaProjIdeal : Prop :=
  True

def algebraic_NsaProjIdeal_NsaProjRefIdeal [hNsaProjIdeal : Cert.NsaProjIdeal.Facts] [hNsaProjRefIdeal : Cert.NsaProjRefIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjRefIdeal.nD Cert.NsaProjRefIdeal.τ Cert.NsaProjRefIdeal.sig) → Buf (Elt Ideal) ℓ) (g' : Dev Cert.NsaProjRefIdeal.nD → PrngReg), Pre_NsaProjIdeal m →
    (∀ c : Dev Cert.NsaProjIdeal.nD,
      m' ((c.tc : Thread Cert.NsaProjRefIdeal.nD Cert.NsaProjRefIdeal.τ).loc Cert.NsaProjRefIdeal.main_arg0) = m ((c.tc : Thread Cert.NsaProjIdeal.nD Cert.NsaProjIdeal.τ).loc Cert.NsaProjIdeal.main_arg0)
      ∧ m' ((c.tc : Thread Cert.NsaProjRefIdeal.nD Cert.NsaProjRefIdeal.τ).loc Cert.NsaProjRefIdeal.main_arg1) = m ((c.tc : Thread Cert.NsaProjIdeal.nD Cert.NsaProjIdeal.τ).loc Cert.NsaProjIdeal.main_arg1)) →
    ∃ (v0 : (c : Dev Cert.NsaProjIdeal.nD) → Buf (Elt Ideal) ((c.tc : Thread Cert.NsaProjIdeal.nD Cert.NsaProjIdeal.τ).loc Cert.NsaProjIdeal.main_v13_0)) (v1 : (c : Dev Cert.NsaProjIdeal.nD) → Buf (Elt Ideal) ((c.tc : Thread Cert.NsaProjIdeal.nD Cert.NsaProjIdeal.τ).loc Cert.NsaProjIdeal.main_v13_1)) (v2 : (c : Dev Cert.NsaProjIdeal.nD) → Buf (Elt Ideal) ((c.tc : Thread Cert.NsaProjIdeal.nD Cert.NsaProjIdeal.τ).loc Cert.NsaProjIdeal.main_v13_2)) (v3 : (c : Dev Cert.NsaProjIdeal.nD) → Buf (Elt Ideal) ((c.tc : Thread Cert.NsaProjIdeal.nD Cert.NsaProjIdeal.τ).loc Cert.NsaProjIdeal.main_v13_3)) (v4 : (c : Dev Cert.NsaProjIdeal.nD) → Buf (Elt Ideal) ((c.tc : Thread Cert.NsaProjIdeal.nD Cert.NsaProjIdeal.τ).loc Cert.NsaProjIdeal.main_v13_4)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v13_0) = v0 c
          ∧ r.2.mem ((c.tc : Thread Cert.NsaProjIdeal.nD Cert.NsaProjIdeal.τ).loc Cert.NsaProjIdeal.main_v13_1) = v1 c
          ∧ r.2.mem ((c.tc : Thread Cert.NsaProjIdeal.nD Cert.NsaProjIdeal.τ).loc Cert.NsaProjIdeal.main_v13_2) = v2 c
          ∧ r.2.mem ((c.tc : Thread Cert.NsaProjIdeal.nD Cert.NsaProjIdeal.τ).loc Cert.NsaProjIdeal.main_v13_3) = v3 c
          ∧ r.2.mem ((c.tc : Thread Cert.NsaProjIdeal.nD Cert.NsaProjIdeal.τ).loc Cert.NsaProjIdeal.main_v13_4) = v4 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1))
      ∧ θ_run (Cert.NsaProjRefIdeal.defs (F := Ideal)) (onTc (τ := Cert.NsaProjRefIdeal.τ) (Cert.NsaProjRefIdeal.main (F := Ideal))) ⟨m', fun _ => 0, g'⟩ (fun r => ∀ c : Dev Cert.NsaProjRefIdeal.nD,
          r.2.mem ((c.tc : Thread Cert.NsaProjRefIdeal.nD Cert.NsaProjRefIdeal.τ).loc Cert.NsaProjRefIdeal.main_v4) = v0 c
          ∧ r.2.mem ((c.tc : Thread Cert.NsaProjRefIdeal.nD Cert.NsaProjRefIdeal.τ).loc Cert.NsaProjRefIdeal.main_v5) = v1 c
          ∧ r.2.mem ((c.tc : Thread Cert.NsaProjRefIdeal.nD Cert.NsaProjRefIdeal.τ).loc Cert.NsaProjRefIdeal.main_v6) = v2 c
          ∧ r.2.mem ((c.tc : Thread Cert.NsaProjRefIdeal.nD Cert.NsaProjRefIdeal.τ).loc Cert.NsaProjRefIdeal.main_v8) = v3 c
          ∧ r.2.mem ((c.tc : Thread Cert.NsaProjRefIdeal.nD Cert.NsaProjRefIdeal.τ).loc Cert.NsaProjRefIdeal.main_v10) = v4 c
          ∧ r.2.mem ((c.tc : Thread Cert.NsaProjRefIdeal.nD Cert.NsaProjRefIdeal.τ).loc Cert.NsaProjRefIdeal.main_arg0) = m' ((c.tc : Thread Cert.NsaProjRefIdeal.nD Cert.NsaProjRefIdeal.τ).loc Cert.NsaProjRefIdeal.main_arg0)
          ∧ r.2.mem ((c.tc : Thread Cert.NsaProjRefIdeal.nD Cert.NsaProjRefIdeal.τ).loc Cert.NsaProjRefIdeal.main_arg1) = m' ((c.tc : Thread Cert.NsaProjRefIdeal.nD Cert.NsaProjRefIdeal.τ).loc Cert.NsaProjRefIdeal.main_arg1))

def preserves_SbProj_SbProjIdeal : Prop :=
  True

def algebraic_SbProjIdeal_SbProjRefIdeal [hSbProjIdeal : Cert.SbProjIdeal.Facts] [hSbProjRefIdeal : Cert.SbProjRefIdeal.Facts] : Prop :=
  ∀ (m : (ℓ : Loc Cert.SbProjIdeal.nD Cert.SbProjIdeal.τ Cert.SbProjIdeal.sig) → Buf (Elt Ideal) ℓ) (g : Dev Cert.SbProjIdeal.nD → PrngReg)
    (m' : (ℓ : Loc Cert.SbProjRefIdeal.nD Cert.SbProjRefIdeal.τ Cert.SbProjRefIdeal.sig) → Buf (Elt Ideal) ℓ) (g' : Dev Cert.SbProjRefIdeal.nD → PrngReg), Pre_SbProjIdeal m →
    (∀ c : Dev Cert.SbProjIdeal.nD,
      m' ((c.tc : Thread Cert.SbProjRefIdeal.nD Cert.SbProjRefIdeal.τ).loc Cert.SbProjRefIdeal.main_arg0) = m ((c.tc : Thread Cert.SbProjIdeal.nD Cert.SbProjIdeal.τ).loc Cert.SbProjIdeal.main_arg0)
      ∧ m' ((c.tc : Thread Cert.SbProjRefIdeal.nD Cert.SbProjRefIdeal.τ).loc Cert.SbProjRefIdeal.main_arg1) = m ((c.tc : Thread Cert.SbProjIdeal.nD Cert.SbProjIdeal.τ).loc Cert.SbProjIdeal.main_arg1)) →
    ∃ (v0 : (c : Dev Cert.SbProjIdeal.nD) → Buf (Elt Ideal) ((c.tc : Thread Cert.SbProjIdeal.nD Cert.SbProjIdeal.τ).loc Cert.SbProjIdeal.main_v5_0)) (v1 : (c : Dev Cert.SbProjIdeal.nD) → Buf (Elt Ideal) ((c.tc : Thread Cert.SbProjIdeal.nD Cert.SbProjIdeal.τ).loc Cert.SbProjIdeal.main_v5_1)),
      θ_run (Cert.SbProjIdeal.defs (F := Ideal)) (onTc (τ := Cert.SbProjIdeal.τ) (Cert.SbProjIdeal.main (F := Ideal))) ⟨m, fun _ => 0, g⟩ (fun r => ∀ c : Dev Cert.SbProjIdeal.nD,
          r.2.mem ((c.tc : Thread Cert.SbProjIdeal.nD Cert.SbProjIdeal.τ).loc Cert.SbProjIdeal.main_v5_0) = v0 c
          ∧ r.2.mem ((c.tc : Thread Cert.SbProjIdeal.nD Cert.SbProjIdeal.τ).loc Cert.SbProjIdeal.main_v5_1) = v1 c
          ∧ r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
          ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1))
      ∧ θ_run (Cert.SbProjRefIdeal.defs (F := Ideal)) (onTc (τ := Cert.SbProjRefIdeal.τ) (Cert.SbProjRefIdeal.main (F := Ideal))) ⟨m', fun _ => 0, g'⟩ (fun r => ∀ c : Dev Cert.SbProjRefIdeal.nD,
          r.2.mem ((c.tc : Thread Cert.SbProjRefIdeal.nD Cert.SbProjRefIdeal.τ).loc Cert.SbProjRefIdeal.main_v1) = v0 c
          ∧ r.2.mem ((c.tc : Thread Cert.SbProjRefIdeal.nD Cert.SbProjRefIdeal.τ).loc Cert.SbProjRefIdeal.main_v4) = v1 c
          ∧ r.2.mem ((c.tc : Thread Cert.SbProjRefIdeal.nD Cert.SbProjRefIdeal.τ).loc Cert.SbProjRefIdeal.main_arg0) = m' ((c.tc : Thread Cert.SbProjRefIdeal.nD Cert.SbProjRefIdeal.τ).loc Cert.SbProjRefIdeal.main_arg0)
          ∧ r.2.mem ((c.tc : Thread Cert.SbProjRefIdeal.nD Cert.SbProjRefIdeal.τ).loc Cert.SbProjRefIdeal.main_arg1) = m' ((c.tc : Thread Cert.SbProjRefIdeal.nD Cert.SbProjRefIdeal.τ).loc Cert.SbProjRefIdeal.main_arg1))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)) →
    ∃ (v0 : (c : Dev Cert.ProjSIdeal.nD) → Buf (Elt Ideal) ((c.tc : Thread Cert.ProjSIdeal.nD Cert.ProjSIdeal.τ).loc Cert.ProjSIdeal.main_v11_0)) (v1 : (c : Dev Cert.ProjSIdeal.nD) → Buf (Elt Ideal) ((c.tc : Thread Cert.ProjSIdeal.nD Cert.ProjSIdeal.τ).loc Cert.ProjSIdeal.main_v11_1)) (v2 : (c : Dev Cert.ProjSIdeal.nD) → Buf (Elt Ideal) ((c.tc : Thread Cert.ProjSIdeal.nD Cert.ProjSIdeal.τ).loc Cert.ProjSIdeal.main_v11_2)) (v3 : (c : Dev Cert.ProjSIdeal.nD) → Buf (Elt Ideal) ((c.tc : Thread Cert.ProjSIdeal.nD Cert.ProjSIdeal.τ).loc Cert.ProjSIdeal.main_v11_3)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v11_0) = v0 c
          ∧ r.2.mem ((c.tc : Thread Cert.ProjSIdeal.nD Cert.ProjSIdeal.τ).loc Cert.ProjSIdeal.main_v11_1) = v1 c
          ∧ r.2.mem ((c.tc : Thread Cert.ProjSIdeal.nD Cert.ProjSIdeal.τ).loc Cert.ProjSIdeal.main_v11_2) = v2 c
          ∧ r.2.mem ((c.tc : Thread Cert.ProjSIdeal.nD Cert.ProjSIdeal.τ).loc Cert.ProjSIdeal.main_v11_3) = v3 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v5) = v0 c
          ∧ r.2.mem ((c.tc : Thread Cert.ProjSRefIdeal.nD Cert.ProjSRefIdeal.τ).loc Cert.ProjSRefIdeal.main_v7) = v1 c
          ∧ r.2.mem ((c.tc : Thread Cert.ProjSRefIdeal.nD Cert.ProjSRefIdeal.τ).loc Cert.ProjSRefIdeal.main_v9) = v2 c
          ∧ r.2.mem ((c.tc : Thread Cert.ProjSRefIdeal.nD Cert.ProjSRefIdeal.τ).loc Cert.ProjSRefIdeal.main_v10) = v3 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1))

def preserves_NsaProjS_NsaProjSIdeal : Prop :=
  True

def algebraic_NsaProjSIdeal_NsaProjSRefIdeal [hNsaProjSIdeal : Cert.NsaProjSIdeal.Facts] [hNsaProjSRefIdeal : Cert.NsaProjSRefIdeal.Facts] : Prop :=
  ∀ (m : (ℓ : Loc Cert.NsaProjSIdeal.nD Cert.NsaProjSIdeal.τ Cert.NsaProjSIdeal.sig) → Buf (Elt Ideal) ℓ) (g : Dev Cert.NsaProjSIdeal.nD → PrngReg)
    (m' : (ℓ : Loc Cert.NsaProjSRefIdeal.nD Cert.NsaProjSRefIdeal.τ Cert.NsaProjSRefIdeal.sig) → Buf (Elt Ideal) ℓ) (g' : Dev Cert.NsaProjSRefIdeal.nD → PrngReg), Pre_NsaProjSIdeal m →
    (∀ c : Dev Cert.NsaProjSIdeal.nD,
      m' ((c.tc : Thread Cert.NsaProjSRefIdeal.nD Cert.NsaProjSRefIdeal.τ).loc Cert.NsaProjSRefIdeal.main_arg0) = m ((c.tc : Thread Cert.NsaProjSIdeal.nD Cert.NsaProjSIdeal.τ).loc Cert.NsaProjSIdeal.main_arg0)
      ∧ m' ((c.tc : Thread Cert.NsaProjSRefIdeal.nD Cert.NsaProjSRefIdeal.τ).loc Cert.NsaProjSRefIdeal.main_arg1) = m ((c.tc : Thread Cert.NsaProjSIdeal.nD Cert.NsaProjSIdeal.τ).loc Cert.NsaProjSIdeal.main_arg1)) →
    ∃ (v0 : (c : Dev Cert.NsaProjSIdeal.nD) → Buf (Elt Ideal) ((c.tc : Thread Cert.NsaProjSIdeal.nD Cert.NsaProjSIdeal.τ).loc Cert.NsaProjSIdeal.main_v14_0)) (v1 : (c : Dev Cert.NsaProjSIdeal.nD) → Buf (Elt Ideal) ((c.tc : Thread Cert.NsaProjSIdeal.nD Cert.NsaProjSIdeal.τ).loc Cert.NsaProjSIdeal.main_v14_1)) (v2 : (c : Dev Cert.NsaProjSIdeal.nD) → Buf (Elt Ideal) ((c.tc : Thread Cert.NsaProjSIdeal.nD Cert.NsaProjSIdeal.τ).loc Cert.NsaProjSIdeal.main_v14_2)) (v3 : (c : Dev Cert.NsaProjSIdeal.nD) → Buf (Elt Ideal) ((c.tc : Thread Cert.NsaProjSIdeal.nD Cert.NsaProjSIdeal.τ).loc Cert.NsaProjSIdeal.main_v14_3)) (v4 : (c : Dev Cert.NsaProjSIdeal.nD) → Buf (Elt Ideal) ((c.tc : Thread Cert.NsaProjSIdeal.nD Cert.NsaProjSIdeal.τ).loc Cert.NsaProjSIdeal.main_v14_4)),
      θ_run (Cert.NsaProjSIdeal.defs (F := Ideal)) (onTc (τ := Cert.NsaProjSIdeal.τ) (Cert.NsaProjSIdeal.main (F := Ideal))) ⟨m, fun _ => 0, g⟩ (fun r => ∀ c : Dev Cert.NsaProjSIdeal.nD,
          r.2.mem ((c.tc : Thread Cert.NsaProjSIdeal.nD Cert.NsaProjSIdeal.τ).loc Cert.NsaProjSIdeal.main_v14_0) = v0 c
          ∧ r.2.mem ((c.tc : Thread Cert.NsaProjSIdeal.nD Cert.NsaProjSIdeal.τ).loc Cert.NsaProjSIdeal.main_v14_1) = v1 c
          ∧ r.2.mem ((c.tc : Thread Cert.NsaProjSIdeal.nD Cert.NsaProjSIdeal.τ).loc Cert.NsaProjSIdeal.main_v14_2) = v2 c
          ∧ r.2.mem ((c.tc : Thread Cert.NsaProjSIdeal.nD Cert.NsaProjSIdeal.τ).loc Cert.NsaProjSIdeal.main_v14_3) = v3 c
          ∧ r.2.mem ((c.tc : Thread Cert.NsaProjSIdeal.nD Cert.NsaProjSIdeal.τ).loc Cert.NsaProjSIdeal.main_v14_4) = v4 c
          ∧ r.2.mem ((c.tc : Thread Cert.NsaProjSIdeal.nD Cert.NsaProjSIdeal.τ).loc Cert.NsaProjSIdeal.main_arg0) = m ((c.tc : Thread Cert.NsaProjSIdeal.nD Cert.NsaProjSIdeal.τ).loc Cert.NsaProjSIdeal.main_arg0)
          ∧ r.2.mem ((c.tc : Thread Cert.NsaProjSIdeal.nD Cert.NsaProjSIdeal.τ).loc Cert.NsaProjSIdeal.main_arg1) = m ((c.tc : Thread Cert.NsaProjSIdeal.nD Cert.NsaProjSIdeal.τ).loc Cert.NsaProjSIdeal.main_arg1))
      ∧ θ_run (Cert.NsaProjSRefIdeal.defs (F := Ideal)) (onTc (τ := Cert.NsaProjSRefIdeal.τ) (Cert.NsaProjSRefIdeal.main (F := Ideal))) ⟨m', fun _ => 0, g'⟩ (fun r => ∀ c : Dev Cert.NsaProjSRefIdeal.nD,
          r.2.mem ((c.tc : Thread Cert.NsaProjSRefIdeal.nD Cert.NsaProjSRefIdeal.τ).loc Cert.NsaProjSRefIdeal.main_v6) = v0 c
          ∧ r.2.mem ((c.tc : Thread Cert.NsaProjSRefIdeal.nD Cert.NsaProjSRefIdeal.τ).loc Cert.NsaProjSRefIdeal.main_v8) = v1 c
          ∧ r.2.mem ((c.tc : Thread Cert.NsaProjSRefIdeal.nD Cert.NsaProjSRefIdeal.τ).loc Cert.NsaProjSRefIdeal.main_v10) = v2 c
          ∧ r.2.mem ((c.tc : Thread Cert.NsaProjSRefIdeal.nD Cert.NsaProjSRefIdeal.τ).loc Cert.NsaProjSRefIdeal.main_v13) = v3 c
          ∧ r.2.mem ((c.tc : Thread Cert.NsaProjSRefIdeal.nD Cert.NsaProjSRefIdeal.τ).loc Cert.NsaProjSRefIdeal.main_v14) = v4 c
          ∧ r.2.mem ((c.tc : Thread Cert.NsaProjSRefIdeal.nD Cert.NsaProjSRefIdeal.τ).loc Cert.NsaProjSRefIdeal.main_arg0) = m' ((c.tc : Thread Cert.NsaProjSRefIdeal.nD Cert.NsaProjSRefIdeal.τ).loc Cert.NsaProjSRefIdeal.main_arg0)
          ∧ r.2.mem ((c.tc : Thread Cert.NsaProjSRefIdeal.nD Cert.NsaProjSRefIdeal.τ).loc Cert.NsaProjSRefIdeal.main_arg1) = m' ((c.tc : Thread Cert.NsaProjSRefIdeal.nD Cert.NsaProjSRefIdeal.τ).loc Cert.NsaProjSRefIdeal.main_arg1))

def preserves_SbProjS_SbProjSIdeal : Prop :=
  True

def algebraic_SbProjSIdeal_SbProjSRefIdeal [hSbProjSIdeal : Cert.SbProjSIdeal.Facts] [hSbProjSRefIdeal : Cert.SbProjSRefIdeal.Facts] : Prop :=
  ∀ (m : (ℓ : Loc Cert.SbProjSIdeal.nD Cert.SbProjSIdeal.τ Cert.SbProjSIdeal.sig) → Buf (Elt Ideal) ℓ) (g : Dev Cert.SbProjSIdeal.nD → PrngReg)
    (m' : (ℓ : Loc Cert.SbProjSRefIdeal.nD Cert.SbProjSRefIdeal.τ Cert.SbProjSRefIdeal.sig) → Buf (Elt Ideal) ℓ) (g' : Dev Cert.SbProjSRefIdeal.nD → PrngReg), Pre_SbProjSIdeal m →
    (∀ c : Dev Cert.SbProjSIdeal.nD,
      m' ((c.tc : Thread Cert.SbProjSRefIdeal.nD Cert.SbProjSRefIdeal.τ).loc Cert.SbProjSRefIdeal.main_arg0) = m ((c.tc : Thread Cert.SbProjSIdeal.nD Cert.SbProjSIdeal.τ).loc Cert.SbProjSIdeal.main_arg0)
      ∧ m' ((c.tc : Thread Cert.SbProjSRefIdeal.nD Cert.SbProjSRefIdeal.τ).loc Cert.SbProjSRefIdeal.main_arg1) = m ((c.tc : Thread Cert.SbProjSIdeal.nD Cert.SbProjSIdeal.τ).loc Cert.SbProjSIdeal.main_arg1)) →
    ∃ (v0 : (c : Dev Cert.SbProjSIdeal.nD) → Buf (Elt Ideal) ((c.tc : Thread Cert.SbProjSIdeal.nD Cert.SbProjSIdeal.τ).loc Cert.SbProjSIdeal.main_v9_0)) (v1 : (c : Dev Cert.SbProjSIdeal.nD) → Buf (Elt Ideal) ((c.tc : Thread Cert.SbProjSIdeal.nD Cert.SbProjSIdeal.τ).loc Cert.SbProjSIdeal.main_v9_1)) (v2 : (c : Dev Cert.SbProjSIdeal.nD) → Buf (Elt Ideal) ((c.tc : Thread Cert.SbProjSIdeal.nD Cert.SbProjSIdeal.τ).loc Cert.SbProjSIdeal.main_v9_2)),
      θ_run (Cert.SbProjSIdeal.defs (F := Ideal)) (onTc (τ := Cert.SbProjSIdeal.τ) (Cert.SbProjSIdeal.main (F := Ideal))) ⟨m, fun _ => 0, g⟩ (fun r => ∀ c : Dev Cert.SbProjSIdeal.nD,
          r.2.mem ((c.tc : Thread Cert.SbProjSIdeal.nD Cert.SbProjSIdeal.τ).loc Cert.SbProjSIdeal.main_v9_0) = v0 c
          ∧ r.2.mem ((c.tc : Thread Cert.SbProjSIdeal.nD Cert.SbProjSIdeal.τ).loc Cert.SbProjSIdeal.main_v9_1) = v1 c
          ∧ r.2.mem ((c.tc : Thread Cert.SbProjSIdeal.nD Cert.SbProjSIdeal.τ).loc Cert.SbProjSIdeal.main_v9_2) = v2 c
          ∧ r.2.mem ((c.tc : Thread Cert.SbProjSIdeal.nD Cert.SbProjSIdeal.τ).loc Cert.SbProjSIdeal.main_arg0) = m ((c.tc : Thread Cert.SbProjSIdeal.nD Cert.SbProjSIdeal.τ).loc Cert.SbProjSIdeal.main_arg0)
          ∧ r.2.mem ((c.tc : Thread Cert.SbProjSIdeal.nD Cert.SbProjSIdeal.τ).loc Cert.SbProjSIdeal.main_arg1) = m ((c.tc : Thread Cert.SbProjSIdeal.nD Cert.SbProjSIdeal.τ).loc Cert.SbProjSIdeal.main_arg1))
      ∧ θ_run (Cert.SbProjSRefIdeal.defs (F := Ideal)) (onTc (τ := Cert.SbProjSRefIdeal.τ) (Cert.SbProjSRefIdeal.main (F := Ideal))) ⟨m', fun _ => 0, g'⟩ (fun r => ∀ c : Dev Cert.SbProjSRefIdeal.nD,
          r.2.mem ((c.tc : Thread Cert.SbProjSRefIdeal.nD Cert.SbProjSRefIdeal.τ).loc Cert.SbProjSRefIdeal.main_v4) = v0 c
          ∧ r.2.mem ((c.tc : Thread Cert.SbProjSRefIdeal.nD Cert.SbProjSRefIdeal.τ).loc Cert.SbProjSRefIdeal.main_v6) = v1 c
          ∧ r.2.mem ((c.tc : Thread Cert.SbProjSRefIdeal.nD Cert.SbProjSRefIdeal.τ).loc Cert.SbProjSRefIdeal.main_v7) = v2 c
          ∧ r.2.mem ((c.tc : Thread Cert.SbProjSRefIdeal.nD Cert.SbProjSRefIdeal.τ).loc Cert.SbProjSRefIdeal.main_arg0) = m' ((c.tc : Thread Cert.SbProjSRefIdeal.nD Cert.SbProjSRefIdeal.τ).loc Cert.SbProjSRefIdeal.main_arg0)
          ∧ r.2.mem ((c.tc : Thread Cert.SbProjSRefIdeal.nD Cert.SbProjSRefIdeal.τ).loc Cert.SbProjSRefIdeal.main_arg1) = m' ((c.tc : Thread Cert.SbProjSRefIdeal.nD Cert.SbProjSRefIdeal.τ).loc Cert.SbProjSRefIdeal.main_arg1))

def preserves_PostS_PostSIdeal : Prop :=
  True

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)) →
    ∃ (v0 : (c : Dev Cert.PostSIdeal.nD) → Buf (Elt Ideal) ((c.tc : Thread Cert.PostSIdeal.nD Cert.PostSIdeal.τ).loc Cert.PostSIdeal.main_v16)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v16) = v0 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v66) = v0 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6))

def preserves_WinS_WinSIdeal : Prop :=
  True

def algebraic_WinSIdeal_WinSRefIdeal [hWinSIdeal : Cert.WinSIdeal.Facts] [hWinSRefIdeal : Cert.WinSRefIdeal.Facts] [hPre_pages_exist : Cert.Pre_pages_exist.Facts] : Prop :=
  ∀ (m : (ℓ : Loc Cert.WinSIdeal.nD Cert.WinSIdeal.τ Cert.WinSIdeal.sig) → Buf (Elt Ideal) ℓ) (g : Dev Cert.WinSIdeal.nD → PrngReg)
    (m' : (ℓ : Loc Cert.WinSRefIdeal.nD Cert.WinSRefIdeal.τ Cert.WinSRefIdeal.sig) → Buf (Elt Ideal) ℓ) (g' : Dev Cert.WinSRefIdeal.nD → PrngReg), Pre_WinSIdeal m →
    (∀ c : Dev Cert.WinSIdeal.nD,
      m' ((c.tc : Thread Cert.WinSRefIdeal.nD Cert.WinSRefIdeal.τ).loc Cert.WinSRefIdeal.main_arg0) = m ((c.tc : Thread Cert.WinSIdeal.nD Cert.WinSIdeal.τ).loc Cert.WinSIdeal.main_arg0)
      ∧ m' ((c.tc : Thread Cert.WinSRefIdeal.nD Cert.WinSRefIdeal.τ).loc Cert.WinSRefIdeal.main_arg1) = m ((c.tc : Thread Cert.WinSIdeal.nD Cert.WinSIdeal.τ).loc Cert.WinSIdeal.main_arg1)
      ∧ m' ((c.tc : Thread Cert.WinSRefIdeal.nD Cert.WinSRefIdeal.τ).loc Cert.WinSRefIdeal.main_arg2) = m ((c.tc : Thread Cert.WinSIdeal.nD Cert.WinSIdeal.τ).loc Cert.WinSIdeal.main_arg2)
      ∧ m' ((c.tc : Thread Cert.WinSRefIdeal.nD Cert.WinSRefIdeal.τ).loc Cert.WinSRefIdeal.main_arg3) = m ((c.tc : Thread Cert.WinSIdeal.nD Cert.WinSIdeal.τ).loc Cert.WinSIdeal.main_arg3)
      ∧ m' ((c.tc : Thread Cert.WinSRefIdeal.nD Cert.WinSRefIdeal.τ).loc Cert.WinSRefIdeal.main_arg4) = m ((c.tc : Thread Cert.WinSIdeal.nD Cert.WinSIdeal.τ).loc Cert.WinSIdeal.main_arg4)
      ∧ m' ((c.tc : Thread Cert.WinSRefIdeal.nD Cert.WinSRefIdeal.τ).loc Cert.WinSRefIdeal.main_arg5) = m ((c.tc : Thread Cert.WinSIdeal.nD Cert.WinSIdeal.τ).loc Cert.WinSIdeal.main_arg5)
      ∧ m' ((c.tc : Thread Cert.WinSRefIdeal.nD Cert.WinSRefIdeal.τ).loc Cert.WinSRefIdeal.main_arg6) = m ((c.tc : Thread Cert.WinSIdeal.nD Cert.WinSIdeal.τ).loc Cert.WinSIdeal.main_arg6)
      ∧ m' ((c.tc : Thread Cert.WinSRefIdeal.nD Cert.WinSRefIdeal.τ).loc Cert.WinSRefIdeal.main_arg7) = m ((c.tc : Thread Cert.WinSIdeal.nD Cert.WinSIdeal.τ).loc Cert.WinSIdeal.main_arg7)
      ∧ m' ((c.tc : Thread Cert.WinSRefIdeal.nD Cert.WinSRefIdeal.τ).loc Cert.WinSRefIdeal.main_arg8) = m ((c.tc : Thread Cert.WinSIdeal.nD Cert.WinSIdeal.τ).loc Cert.WinSIdeal.main_arg8)
      ∧ m' ((c.tc : Thread Cert.WinSRefIdeal.nD Cert.WinSRefIdeal.τ).loc Cert.WinSRefIdeal.main_arg9) = m ((c.tc : Thread Cert.WinSIdeal.nD Cert.WinSIdeal.τ).loc Cert.WinSIdeal.main_arg9)
      ∧ m' ((c.tc : Thread Cert.WinSRefIdeal.nD Cert.WinSRefIdeal.τ).loc Cert.WinSRefIdeal.main_arg10) = m ((c.tc : Thread Cert.WinSIdeal.nD Cert.WinSIdeal.τ).loc Cert.WinSIdeal.main_arg10)
      ∧ m' ((c.tc : Thread Cert.WinSRefIdeal.nD Cert.WinSRefIdeal.τ).loc Cert.WinSRefIdeal.main_arg11) = m ((c.tc : Thread Cert.WinSIdeal.nD Cert.WinSIdeal.τ).loc Cert.WinSIdeal.main_arg11)) →
    ∃ (v0 : (c : Dev Cert.WinSIdeal.nD) → Buf (Elt Ideal) ((c.tc : Thread Cert.WinSIdeal.nD Cert.WinSIdeal.τ).loc Cert.WinSIdeal.main_v3_1)),
      θ_run (Cert.WinSIdeal.defs (F := Ideal)) (onTc (τ := Cert.WinSIdeal.τ) (Cert.WinSIdeal.main (F := Ideal))) ⟨m, fun _ => 0, g⟩ (fun r => ∀ c : Dev Cert.WinSIdeal.nD,
          r.2.mem ((c.tc : Thread Cert.WinSIdeal.nD Cert.WinSIdeal.τ).loc Cert.WinSIdeal.main_v3_1) = v0 c
          ∧ r.2.mem ((c.tc : Thread Cert.WinSIdeal.nD Cert.WinSIdeal.τ).loc Cert.WinSIdeal.main_arg0) = m ((c.tc : Thread Cert.WinSIdeal.nD Cert.WinSIdeal.τ).loc Cert.WinSIdeal.main_arg0)
          ∧ r.2.mem ((c.tc : Thread Cert.WinSIdeal.nD Cert.WinSIdeal.τ).loc Cert.WinSIdeal.main_arg1) = m ((c.tc : Thread Cert.WinSIdeal.nD Cert.WinSIdeal.τ).loc Cert.WinSIdeal.main_arg1)
          ∧ r.2.mem ((c.tc : Thread Cert.WinSIdeal.nD Cert.WinSIdeal.τ).loc Cert.WinSIdeal.main_arg2) = m ((c.tc : Thread Cert.WinSIdeal.nD Cert.WinSIdeal.τ).loc Cert.WinSIdeal.main_arg2)
          ∧ r.2.mem ((c.tc : Thread Cert.WinSIdeal.nD Cert.WinSIdeal.τ).loc Cert.WinSIdeal.main_arg3) = m ((c.tc : Thread Cert.WinSIdeal.nD Cert.WinSIdeal.τ).loc Cert.WinSIdeal.main_arg3)
          ∧ r.2.mem ((c.tc : Thread Cert.WinSIdeal.nD Cert.WinSIdeal.τ).loc Cert.WinSIdeal.main_arg4) = m ((c.tc : Thread Cert.WinSIdeal.nD Cert.WinSIdeal.τ).loc Cert.WinSIdeal.main_arg4)
          ∧ r.2.mem ((c.tc : Thread Cert.WinSIdeal.nD Cert.WinSIdeal.τ).loc Cert.WinSIdeal.main_arg5) = m ((c.tc : Thread Cert.WinSIdeal.nD Cert.WinSIdeal.τ).loc Cert.WinSIdeal.main_arg5)
          ∧ r.2.mem ((c.tc : Thread Cert.WinSIdeal.nD Cert.WinSIdeal.τ).loc Cert.WinSIdeal.main_arg6) = m ((c.tc : Thread Cert.WinSIdeal.nD Cert.WinSIdeal.τ).loc Cert.WinSIdeal.main_arg6)
          ∧ r.2.mem ((c.tc : Thread Cert.WinSIdeal.nD Cert.WinSIdeal.τ).loc Cert.WinSIdeal.main_arg7) = m ((c.tc : Thread Cert.WinSIdeal.nD Cert.WinSIdeal.τ).loc Cert.WinSIdeal.main_arg7)
          ∧ r.2.mem ((c.tc : Thread Cert.WinSIdeal.nD Cert.WinSIdeal.τ).loc Cert.WinSIdeal.main_arg8) = m ((c.tc : Thread Cert.WinSIdeal.nD Cert.WinSIdeal.τ).loc Cert.WinSIdeal.main_arg8)
          ∧ r.2.mem ((c.tc : Thread Cert.WinSIdeal.nD Cert.WinSIdeal.τ).loc Cert.WinSIdeal.main_arg9) = m ((c.tc : Thread Cert.WinSIdeal.nD Cert.WinSIdeal.τ).loc Cert.WinSIdeal.main_arg9)
          ∧ r.2.mem ((c.tc : Thread Cert.WinSIdeal.nD Cert.WinSIdeal.τ).loc Cert.WinSIdeal.main_arg10) = m ((c.tc : Thread Cert.WinSIdeal.nD Cert.WinSIdeal.τ).loc Cert.WinSIdeal.main_arg10)
          ∧ r.2.mem ((c.tc : Thread Cert.WinSIdeal.nD Cert.WinSIdeal.τ).loc Cert.WinSIdeal.main_arg11) = m ((c.tc : Thread Cert.WinSIdeal.nD Cert.WinSIdeal.τ).loc Cert.WinSIdeal.main_arg11))
      ∧ θ_run (Cert.WinSRefIdeal.defs (F := Ideal)) (onTc (τ := Cert.WinSRefIdeal.τ) (Cert.WinSRefIdeal.main (F := Ideal))) ⟨m', fun _ => 0, g'⟩ (fun r => ∀ c : Dev Cert.WinSRefIdeal.nD,
          r.2.mem ((c.tc : Thread Cert.WinSRefIdeal.nD Cert.WinSRefIdeal.τ).loc Cert.WinSRefIdeal.main_v5) = v0 c
          ∧ r.2.mem ((c.tc : Thread Cert.WinSRefIdeal.nD Cert.WinSRefIdeal.τ).loc Cert.WinSRefIdeal.main_arg0) = m' ((c.tc : Thread Cert.WinSRefIdeal.nD Cert.WinSRefIdeal.τ).loc Cert.WinSRefIdeal.main_arg0)
          ∧ r.2.mem ((c.tc : Thread Cert.WinSRefIdeal.nD Cert.WinSRefIdeal.τ).loc Cert.WinSRefIdeal.main_arg1) = m' ((c.tc : Thread Cert.WinSRefIdeal.nD Cert.WinSRefIdeal.τ).loc Cert.WinSRefIdeal.main_arg1)
          ∧ r.2.mem ((c.tc : Thread Cert.WinSRefIdeal.nD Cert.WinSRefIdeal.τ).loc Cert.WinSRefIdeal.main_arg2) = m' ((c.tc : Thread Cert.WinSRefIdeal.nD Cert.WinSRefIdeal.τ).loc Cert.WinSRefIdeal.main_arg2)
          ∧ r.2.mem ((c.tc : Thread Cert.WinSRefIdeal.nD Cert.WinSRefIdeal.τ).loc Cert.WinSRefIdeal.main_arg3) = m' ((c.tc : Thread Cert.WinSRefIdeal.nD Cert.WinSRefIdeal.τ).loc Cert.WinSRefIdeal.main_arg3)
          ∧ r.2.mem ((c.tc : Thread Cert.WinSRefIdeal.nD Cert.WinSRefIdeal.τ).loc Cert.WinSRefIdeal.main_arg4) = m' ((c.tc : Thread Cert.WinSRefIdeal.nD Cert.WinSRefIdeal.τ).loc Cert.WinSRefIdeal.main_arg4)
          ∧ r.2.mem ((c.tc : Thread Cert.WinSRefIdeal.nD Cert.WinSRefIdeal.τ).loc Cert.WinSRefIdeal.main_arg5) = m' ((c.tc : Thread Cert.WinSRefIdeal.nD Cert.WinSRefIdeal.τ).loc Cert.WinSRefIdeal.main_arg5)
          ∧ r.2.mem ((c.tc : Thread Cert.WinSRefIdeal.nD Cert.WinSRefIdeal.τ).loc Cert.WinSRefIdeal.main_arg6) = m' ((c.tc : Thread Cert.WinSRefIdeal.nD Cert.WinSRefIdeal.τ).loc Cert.WinSRefIdeal.main_arg6)
          ∧ r.2.mem ((c.tc : Thread Cert.WinSRefIdeal.nD Cert.WinSRefIdeal.τ).loc Cert.WinSRefIdeal.main_arg7) = m' ((c.tc : Thread Cert.WinSRefIdeal.nD Cert.WinSRefIdeal.τ).loc Cert.WinSRefIdeal.main_arg7)
          ∧ r.2.mem ((c.tc : Thread Cert.WinSRefIdeal.nD Cert.WinSRefIdeal.τ).loc Cert.WinSRefIdeal.main_arg8) = m' ((c.tc : Thread Cert.WinSRefIdeal.nD Cert.WinSRefIdeal.τ).loc Cert.WinSRefIdeal.main_arg8)
          ∧ r.2.mem ((c.tc : Thread Cert.WinSRefIdeal.nD Cert.WinSRefIdeal.τ).loc Cert.WinSRefIdeal.main_arg9) = m' ((c.tc : Thread Cert.WinSRefIdeal.nD Cert.WinSRefIdeal.τ).loc Cert.WinSRefIdeal.main_arg9)
          ∧ r.2.mem ((c.tc : Thread Cert.WinSRefIdeal.nD Cert.WinSRefIdeal.τ).loc Cert.WinSRefIdeal.main_arg10) = m' ((c.tc : Thread Cert.WinSRefIdeal.nD Cert.WinSRefIdeal.τ).loc Cert.WinSRefIdeal.main_arg10)
          ∧ r.2.mem ((c.tc : Thread Cert.WinSRefIdeal.nD Cert.WinSRefIdeal.τ).loc Cert.WinSRefIdeal.main_arg11) = m' ((c.tc : Thread Cert.WinSRefIdeal.nD Cert.WinSRefIdeal.τ).loc Cert.WinSRefIdeal.main_arg11))

def Claim : Prop :=
  ∃ (hDiff : Cert.Diff.Facts) (hDiffIdeal : Cert.DiffIdeal.Facts) (hDiffRefIdeal : Cert.DiffRefIdeal.Facts) (hDiffRef : Cert.DiffRef.Facts) (hPost : Cert.Post.Facts) (hPostIdeal : Cert.PostIdeal.Facts) (hPostRefIdeal : Cert.PostRefIdeal.Facts) (hProj : Cert.Proj.Facts) (hProjIdeal : Cert.ProjIdeal.Facts) (hProjRefIdeal : Cert.ProjRefIdeal.Facts) (hNsaProj : Cert.NsaProj.Facts) (hNsaProjIdeal : Cert.NsaProjIdeal.Facts) (hNsaProjRefIdeal : Cert.NsaProjRefIdeal.Facts) (hSbProj : Cert.SbProj.Facts) (hSbProjIdeal : Cert.SbProjIdeal.Facts) (hSbProjRefIdeal : Cert.SbProjRefIdeal.Facts) (hProjS : Cert.ProjS.Facts) (hProjSIdeal : Cert.ProjSIdeal.Facts) (hProjSRefIdeal : Cert.ProjSRefIdeal.Facts) (hNsaProjS : Cert.NsaProjS.Facts) (hNsaProjSIdeal : Cert.NsaProjSIdeal.Facts) (hNsaProjSRefIdeal : Cert.NsaProjSRefIdeal.Facts) (hSbProjS : Cert.SbProjS.Facts) (hSbProjSIdeal : Cert.SbProjSIdeal.Facts) (hSbProjSRefIdeal : Cert.SbProjSRefIdeal.Facts) (hPostS : Cert.PostS.Facts) (hPostSIdeal : Cert.PostSIdeal.Facts) (hPostSRefIdeal : Cert.PostSRefIdeal.Facts) (hWinS : Cert.WinS.Facts) (hWinSIdeal : Cert.WinSIdeal.Facts) (hWinSRefIdeal : Cert.WinSRefIdeal.Facts) (hPre_moderate : Cert.Pre_moderate.Facts) (hPre_pages_exist : Cert.Pre_pages_exist.Facts),
    quiescent_Diff (hDiff := hDiff)
    ∧ quiescent_DiffIdeal (hDiffIdeal := hDiffIdeal)
    ∧ quiescent_DiffIdeal_pre_moderate (hDiffIdeal := hDiffIdeal) (hPre_moderate := hPre_moderate)
    ∧ quiescent_DiffRefIdeal (hDiffRefIdeal := hDiffRefIdeal)
    ∧ quiescent_DiffRefIdeal_pre_moderate (hDiffRefIdeal := hDiffRefIdeal) (hPre_moderate := hPre_moderate)
    ∧ quiescent_DiffRef (hDiffRef := hDiffRef)
    ∧ quiescent_Post (hPost := hPost)
    ∧ quiescent_PostIdeal (hPostIdeal := hPostIdeal)
    ∧ quiescent_PostRefIdeal (hPostRefIdeal := hPostRefIdeal)
    ∧ quiescent_Proj (hProj := hProj)
    ∧ quiescent_ProjIdeal (hProjIdeal := hProjIdeal)
    ∧ quiescent_ProjRefIdeal (hProjRefIdeal := hProjRefIdeal)
    ∧ quiescent_NsaProj (hNsaProj := hNsaProj)
    ∧ quiescent_NsaProjIdeal (hNsaProjIdeal := hNsaProjIdeal)
    ∧ quiescent_NsaProjRefIdeal (hNsaProjRefIdeal := hNsaProjRefIdeal)
    ∧ quiescent_SbProj (hSbProj := hSbProj)
    ∧ quiescent_SbProjIdeal (hSbProjIdeal := hSbProjIdeal)
    ∧ quiescent_SbProjRefIdeal (hSbProjRefIdeal := hSbProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_NsaProjS (hNsaProjS := hNsaProjS)
    ∧ quiescent_NsaProjSIdeal (hNsaProjSIdeal := hNsaProjSIdeal)
    ∧ quiescent_NsaProjSRefIdeal (hNsaProjSRefIdeal := hNsaProjSRefIdeal)
    ∧ quiescent_SbProjS (hSbProjS := hSbProjS)
    ∧ quiescent_SbProjSIdeal (hSbProjSIdeal := hSbProjSIdeal)
    ∧ quiescent_SbProjSRefIdeal (hSbProjSRefIdeal := hSbProjSRefIdeal)
    ∧ quiescent_PostS (hPostS := hPostS)
    ∧ quiescent_PostSIdeal (hPostSIdeal := hPostSIdeal)
    ∧ quiescent_PostSRefIdeal (hPostSRefIdeal := hPostSRefIdeal)
    ∧ quiescent_WinS (hWinS := hWinS) (hPre_pages_exist := hPre_pages_exist)
    ∧ quiescent_WinSIdeal (hWinSIdeal := hWinSIdeal) (hPre_pages_exist := hPre_pages_exist)
    ∧ quiescent_WinSRefIdeal (hWinSRefIdeal := hWinSRefIdeal)
    ∧ quiescent_WinSRefIdeal_pre_pages_exist (hWinSRefIdeal := hWinSRefIdeal) (hPre_pages_exist := hPre_pages_exist)
    ∧ preserves_Diff_DiffIdeal
    ∧ preserves_DiffRef_DiffRefIdeal
    ∧ algebraic_DiffIdeal_DiffRefIdeal_pre_moderate (hDiffIdeal := hDiffIdeal) (hDiffRefIdeal := hDiffRefIdeal) (hPre_moderate := hPre_moderate)
    ∧ preserves_Post_PostIdeal
    ∧ algebraic_PostIdeal_PostRefIdeal (hPostIdeal := hPostIdeal) (hPostRefIdeal := hPostRefIdeal)
    ∧ preserves_Proj_ProjIdeal
    ∧ algebraic_ProjIdeal_ProjRefIdeal (hProjIdeal := hProjIdeal) (hProjRefIdeal := hProjRefIdeal)
    ∧ preserves_NsaProj_NsaProjIdeal
    ∧ algebraic_NsaProjIdeal_NsaProjRefIdeal (hNsaProjIdeal := hNsaProjIdeal) (hNsaProjRefIdeal := hNsaProjRefIdeal)
    ∧ preserves_SbProj_SbProjIdeal
    ∧ algebraic_SbProjIdeal_SbProjRefIdeal (hSbProjIdeal := hSbProjIdeal) (hSbProjRefIdeal := hSbProjRefIdeal)
    ∧ preserves_ProjS_ProjSIdeal
    ∧ algebraic_ProjSIdeal_ProjSRefIdeal (hProjSIdeal := hProjSIdeal) (hProjSRefIdeal := hProjSRefIdeal)
    ∧ preserves_NsaProjS_NsaProjSIdeal
    ∧ algebraic_NsaProjSIdeal_NsaProjSRefIdeal (hNsaProjSIdeal := hNsaProjSIdeal) (hNsaProjSRefIdeal := hNsaProjSRefIdeal)
    ∧ preserves_SbProjS_SbProjSIdeal
    ∧ algebraic_SbProjSIdeal_SbProjSRefIdeal (hSbProjSIdeal := hSbProjSIdeal) (hSbProjSRefIdeal := hSbProjSRefIdeal)
    ∧ preserves_PostS_PostSIdeal
    ∧ algebraic_PostSIdeal_PostSRefIdeal (hPostSIdeal := hPostSIdeal) (hPostSRefIdeal := hPostSRefIdeal)
    ∧ preserves_WinS_WinSIdeal
    ∧ algebraic_WinSIdeal_WinSRefIdeal (hWinSIdeal := hWinSIdeal) (hWinSRefIdeal := hWinSRefIdeal) (hPre_pages_exist := hPre_pages_exist)
-- ==== Pre_moderate.lean ====
abbrev S4x4096x1024 : Shape := ⟨3, ![4, 4096, 1024]⟩
abbrev S32x16 : Shape := ⟨2, ![32, 16]⟩
abbrev S4x64 : Shape := ⟨2, ![4, 64]⟩
abbrev S128 : Shape := ⟨1, ![128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S32x16 : S_.BroadcastsInDim S32x16 (![] : Fin 0 → Fin S32x16.rank)
  reducesTo_S32x16_S_d0_1 : S32x16.ReducesTo [0, 1] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S4x64 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  main_v23

def fn {F : FTy → Type} [FloatOps F] (main_arg0 : FVec F S4x4096x1024 .f32) (main_arg1 : FVec F S4x4096x1024 .f32) (main_arg2 : FVec F S4x4096x1024 .f32) (main_arg3 : FVec F S32x16 .f32) (main_arg4 : FVec F S4x64 .f32) (main_arg5 : FVec F S128 .f32) : IVec S_ 1 :=
  let main_v0 : FVec F S4x4096x1024 .f32 := Host.absf main_arg0
  let main_cst : FVec F S_ .f32 := constant S_ .f32 0x4E6E6B28#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x4E6E6B28#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S32x16 .f32 := Host.absf main_arg3
  let main_cst_4 : FVec F S_ .f32 := constant S_ .f32 0x4E6E6B28#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Pre_pages_exist.lean ====
abbrev S128x8x1024 : Shape := ⟨3, ![128, 8, 1024]⟩
abbrev S128x8x512 : Shape := ⟨3, ![128, 8, 512]⟩
abbrev S128x8x128 : Shape := ⟨3, ![128, 8, 128]⟩
abbrev S128x128x512 : Shape := ⟨3, ![128, 128, 512]⟩
abbrev S2x128x512x2x4x64 : Shape := ⟨6, ![2, 128, 512, 2, 4, 64]⟩
abbrev S2x2560x128x4x4x64 : Shape := ⟨6, ![2, 2560, 128, 4, 4, 64]⟩
abbrev S128x16 : Shape := ⟨2, ![128, 16]⟩
abbrev S128x128 : Shape := ⟨2, ![128, 128]⟩
abbrev S128x2176 : Shape := ⟨2, ![128, 2176]⟩
abbrev S128x640 : Shape := ⟨2, ![128, 640]⟩
abbrev S40x128 : Shape := ⟨2, ![40, 128]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : FVec F S128x8x1024 .f32) (main_arg1 : FVec F S128x8x1024 .f32) (main_arg2 : FVec F S128x8x512 .f32) (main_arg3 : FVec F S128x8x128 .f32) (main_arg4 : FVec F S128x128x512 .f32) (main_arg5 : FVec F S2x128x512x2x4x64 .f32) (main_arg6 : FVec F S2x2560x128x4x4x64 .f32) (main_arg7 : IVec S128x16 32) (main_arg8 : FVec F S128x128 .f32) (main_arg9 : FVec F S128x2176 .f32) (main_arg10 : FVec F S128x640 .f32) (main_arg11 : FVec F S40x128 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg7 main_v0
  let main_c_0 : IVec S_ 32 := constantI S_ 32 2560#32
  let main_v2 : IVec S128x16 32 := broadcastInDim S128x16 ![] bcast_S_S128x16 main_c_0
  let main_v3 : IVec S128x16 1 := cmpi .slt main_arg7 main_v2
  let main_v4 : IVec S128x16 1 := andi main_v1 main_v3
  main_v4
-- ==== Diff.lean ====
abbrev S4x4096x1024 : Shape := ⟨3, ![4, 4096, 1024]⟩
abbrev S32x16 : Shape := ⟨2, ![32, 16]⟩
abbrev S4x64 : Shape := ⟨2, ![4, 64]⟩
abbrev S128 : Shape := ⟨1, ![128]⟩
abbrev S4x1024x4096 : Shape := ⟨3, ![4, 1024, 4096]⟩
abbrev S1x16 : Shape := ⟨2, ![1, 16]⟩
abbrev S16 : Shape := ⟨1, ![16]⟩
abbrev S16x1x1x1 : Shape := ⟨4, ![16, 1, 1, 1]⟩
abbrev S2x512x512 : Shape := ⟨3, ![2, 512, 512]⟩
abbrev S_ : Shape := ⟨0, ![]⟩
abbrev S1x2x512x512 : Shape := ⟨4, ![1, 2, 512, 512]⟩
abbrev S16x2x512x512 : Shape := ⟨4, ![16, 2, 512, 512]⟩
abbrev S8x2x512x512 : Shape := ⟨4, ![8, 2, 512, 512]⟩
abbrev S8x2x1024x512 : Shape := ⟨4, ![8, 2, 1024, 512]⟩
abbrev S1x128 : Shape := ⟨2, ![1, 128]⟩
abbrev S1x512x128 : Shape := ⟨3, ![1, 512, 128]⟩
abbrev S1x128x4096 : Shape := ⟨3, ![1, 128, 4096]⟩
abbrev S1x4096x128 : Shape := ⟨3, ![1, 4096, 128]⟩
abbrev S1x2x1024x512 : Shape := ⟨4, ![1, 2, 1024, 512]⟩
abbrev S512x128 : Shape := ⟨2, ![512, 128]⟩
abbrev S1024x128 : Shape := ⟨2, ![1024, 128]⟩
abbrev S1024x1 : Shape := ⟨2, ![1024, 1]⟩
abbrev S1x128x512 : Shape := ⟨3, ![1, 128, 512]⟩
abbrev S128x512 : Shape := ⟨2, ![128, 512]⟩
abbrev S1024x512 : Shape := ⟨2, ![1024, 512]⟩
abbrev S1024 : Shape := ⟨1, ![1024]⟩
abbrev S1x1x1024x512 : Shape := ⟨4, ![1, 1, 1024, 512]⟩
abbrev S512x512 : Shape := ⟨2, ![512, 512]⟩
abbrev S1x512x512 : Shape := ⟨3, ![1, 512, 512]⟩
abbrev S1x64 : Shape := ⟨2, ![1, 64]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 344
  | .vmem => 12
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S32x16, .f32⟩
  | 4 => ⟨S4x64, .f32⟩
  | 5 => ⟨S128, .f32⟩
  | 6 => ⟨S4x1024x4096, .f32⟩
  | 7 => ⟨S1x16, .f32⟩
  | 8 => ⟨S16, .f32⟩
  | 9 => ⟨S16x1x1x1, .f32⟩
  | 10 => ⟨S2x512x512, .i32⟩
  | 11 => ⟨S2x512x512, .i32⟩
  | 12 => ⟨S2x512x512, .i32⟩
  | 13 => ⟨S_, .i32⟩
  | 14 => ⟨S2x512x512, .i32⟩
  | 15 => ⟨S2x512x512, .i32⟩
  | 16 => ⟨S2x512x512, .i32⟩
  | 17 => ⟨S2x512x512, .i32⟩
  | 18 => ⟨S_, .i32⟩
  | 19 => ⟨S2x512x512, .i32⟩
  | 20 => ⟨S2x512x512, .i32⟩
  | 21 => ⟨S_, .i32⟩
  | 22 => ⟨S2x512x512, .i32⟩
  | 23 => ⟨S2x512x512, .i32⟩
  | 24 => ⟨S2x512x512, .f32⟩
  | 25 => ⟨S_, .f32⟩
  | 26 => ⟨S2x512x512, .f32⟩
  | 27 => ⟨S2x512x512, .f32⟩
  | 28 => ⟨S2x512x512, .f32⟩
  | 29 => ⟨S_, .f32⟩
  | 30 => ⟨S2x512x512, .f32⟩
  | 31 => ⟨S2x512x512, .f32⟩
  | 32 => ⟨S_, .f32⟩
  | 33 => ⟨S2x512x512, .f32⟩
  | 34 => ⟨S2x512x512, .f32⟩
  | 35 => ⟨S2x512x512, .i32⟩
  | 36 => ⟨S_, .i32⟩
  | 37 => ⟨S2x512x512, .i32⟩
  | 38 => ⟨S2x512x512, .i32⟩
  | 39 => ⟨S_, .i32⟩
  | 40 => ⟨S2x512x512, .i32⟩
  | 41 => ⟨S2x512x512, .i1⟩
  | 42 => ⟨S_, .i32⟩
  | 43 => ⟨S2x512x512, .i32⟩
  | 44 => ⟨S2x512x512, .i32⟩
  | 45 => ⟨S2x512x512, .i32⟩
  | 46 => ⟨S1x2x512x512, .i32⟩
  | 47 => ⟨S_, .f32⟩
  | 48 => ⟨S16x2x512x512, .f32⟩
  | 49 => ⟨S_, .i32⟩
  | 50 => ⟨S1x2x512x512, .i32⟩
  | 51 => ⟨S1x2x512x512, .i1⟩
  | 52 => ⟨S1x16, .f32⟩
  | 53 => ⟨S16, .f32⟩
  | 54 => ⟨S16x1x1x1, .f32⟩
  | 55 => ⟨S16x2x512x512, .i1⟩
  | 56 => ⟨S16x2x512x512, .f32⟩
  | 57 => ⟨S16x2x512x512, .f32⟩
  | 58 => ⟨S_, .i32⟩
  | 59 => ⟨S1x2x512x512, .i32⟩
  | 60 => ⟨S1x2x512x512, .i1⟩
  | 61 => ⟨S1x16, .f32⟩
  | 62 => ⟨S16, .f32⟩
  | 63 => ⟨S16x1x1x1, .f32⟩
  | 64 => ⟨S16x2x512x512, .i1⟩
  | 65 => ⟨S16x2x512x512, .f32⟩
  | 66 => ⟨S16x2x512x512, .f32⟩
  | 67 => ⟨S_, .i32⟩
  | 68 => ⟨S1x2x512x512, .i32⟩
  | 69 => ⟨S1x2x512x512, .i1⟩
  | 70 => ⟨S1x16, .f32⟩
  | 71 => ⟨S16, .f32⟩
  | 72 => ⟨S16x1x1x1, .f32⟩
  | 73 => ⟨S16x2x512x512, .i1⟩
  | 74 => ⟨S16x2x512x512, .f32⟩
  | 75 => ⟨S16x2x512x512, .f32⟩
  | 76 => ⟨S_, .i32⟩
  | 77 => ⟨S1x2x512x512, .i32⟩
  | 78 => ⟨S1x2x512x512, .i1⟩
  | 79 => ⟨S1x16, .f32⟩
  | 80 => ⟨S16, .f32⟩
  | 81 => ⟨S16x1x1x1, .f32⟩
  | 82 => ⟨S16x2x512x512, .i1⟩
  | 83 => ⟨S16x2x512x512, .f32⟩
  | 84 => ⟨S16x2x512x512, .f32⟩
  | 85 => ⟨S_, .i32⟩
  | 86 => ⟨S1x2x512x512, .i32⟩
  | 87 => ⟨S1x2x512x512, .i1⟩
  | 88 => ⟨S1x16, .f32⟩
  | 89 => ⟨S16, .f32⟩
  | 90 => ⟨S16x1x1x1, .f32⟩
  | 91 => ⟨S16x2x512x512, .i1⟩
  | 92 => ⟨S16x2x512x512, .f32⟩
  | 93 => ⟨S16x2x512x512, .f32⟩
  | 94 => ⟨S_, .i32⟩
  | 95 => ⟨S1x2x512x512, .i32⟩
  | 96 => ⟨S1x2x512x512, .i1⟩
  | 97 => ⟨S1x16, .f32⟩
  | 98 => ⟨S16, .f32⟩
  | 99 => ⟨S16x1x1x1, .f32⟩
  | 100 => ⟨S16x2x512x512, .i1⟩
  | 101 => ⟨S16x2x512x512, .f32⟩
  | 102 => ⟨S16x2x512x512, .f32⟩
  | 103 => ⟨S_, .i32⟩
  | 104 => ⟨S1x2x512x512, .i32⟩
  | 105 => ⟨S1x2x512x512, .i1⟩
  | 106 => ⟨S1x16, .f32⟩
  | 107 => ⟨S16, .f32⟩
  | 108 => ⟨S16x1x1x1, .f32⟩
  | 109 => ⟨S16x2x512x512, .i1⟩
  | 110 => ⟨S16x2x512x512, .f32⟩
  | 111 => ⟨S16x2x512x512, .f32⟩
  | 112 => ⟨S_, .i32⟩
  | 113 => ⟨S1x2x512x512, .i32⟩
  | 114 => ⟨S1x2x512x512, .i1⟩
  | 115 => ⟨S1x16, .f32⟩
  | 116 => ⟨S16, .f32⟩
  | 117 => ⟨S16x1x1x1, .f32⟩
  | 118 => ⟨S16x2x512x512, .i1⟩
  | 119 => ⟨S16x2x512x512, .f32⟩
  | 120 => ⟨S16x2x512x512, .f32⟩
  | 121 => ⟨S_, .i32⟩
  | 122 => ⟨S1x2x512x512, .i32⟩
  | 123 => ⟨S1x2x512x512, .i1⟩
  | 124 => ⟨S1x16, .f32⟩
  | 125 => ⟨S16, .f32⟩
  | 126 => ⟨S16x1x1x1, .f32⟩
  | 127 => ⟨S16x2x512x512, .i1⟩
  | _ => ⟨S4x4096x1024, .f32⟩

abbrev hbmTy0_1 (i : Nat) : BufTy := match i % 128 with
  | 0 => ⟨S16x2x512x512, .f32⟩
  | 1 => ⟨S16x2x512x512, .f32⟩
  | 2 => ⟨S_, .i32⟩
  | 3 => ⟨S1x2x512x512, .i32⟩
  | 4 => ⟨S1x2x512x512, .i1⟩
  | 5 => ⟨S1x16, .f32⟩
  | 6 => ⟨S16, .f32⟩
  | 7 => ⟨S16x1x1x1, .f32⟩
  | 8 => ⟨S16x2x512x512, .i1⟩
  | 9 => ⟨S16x2x512x512, .f32⟩
  | 10 => ⟨S16x2x512x512, .f32⟩
  | 11 => ⟨S_, .i32⟩
  | 12 => ⟨S1x2x512x512, .i32⟩
  | 13 => ⟨S1x2x512x512, .i1⟩
  | 14 => ⟨S1x16, .f32⟩
  | 15 => ⟨S16, .f32⟩
  | 16 => ⟨S16x1x1x1, .f32⟩
  | 17 => ⟨S16x2x512x512, .i1⟩
  | 18 => ⟨S16x2x512x512, .f32⟩
  | 19 => ⟨S16x2x512x512, .f32⟩
  | 20 => ⟨S_, .i32⟩
  | 21 => ⟨S1x2x512x512, .i32⟩
  | 22 => ⟨S1x2x512x512, .i1⟩
  | 23 => ⟨S1x16, .f32⟩
  | 24 => ⟨S16, .f32⟩
  | 25 => ⟨S16x1x1x1, .f32⟩
  | 26 => ⟨S16x2x512x512, .i1⟩
  | 27 => ⟨S16x2x512x512, .f32⟩
  | 28 => ⟨S16x2x512x512, .f32⟩
  | 29 => ⟨S_, .i32⟩
  | 30 => ⟨S1x2x512x512, .i32⟩
  | 31 => ⟨S1x2x512x512, .i1⟩
  | 32 => ⟨S1x16, .f32⟩
  | 33 => ⟨S16, .f32⟩
  | 34 => ⟨S16x1x1x1, .f32⟩
  | 35 => ⟨S16x2x512x512, .i1⟩
  | 36 => ⟨S16x2x512x512, .f32⟩
  | 37 => ⟨S16x2x512x512, .f32⟩
  | 38 => ⟨S_, .i32⟩
  | 39 => ⟨S1x2x512x512, .i32⟩
  | 40 => ⟨S1x2x512x512, .i1⟩
  | 41 => ⟨S1x16, .f32⟩
  | 42 => ⟨S16, .f32⟩
  | 43 => ⟨S16x1x1x1, .f32⟩
  | 44 => ⟨S16x2x512x512, .i1⟩
  | 45 => ⟨S16x2x512x512, .f32⟩
  | 46 => ⟨S16x2x512x512, .f32⟩
  | 47 => ⟨S_, .i32⟩
  | 48 => ⟨S1x2x512x512, .i32⟩
  | 49 => ⟨S1x2x512x512, .i1⟩
  | 50 => ⟨S1x16, .f32⟩
  | 51 => ⟨S16, .f32⟩
  | 52 => ⟨S16x1x1x1, .f32⟩
  | 53 => ⟨S16x2x512x512, .i1⟩
  | 54 => ⟨S16x2x512x512, .f32⟩
  | 55 => ⟨S16x2x512x512, .f32⟩
  | 56 => ⟨S_, .i32⟩
  | 57 => ⟨S1x2x512x512, .i32⟩
  | 58 => ⟨S1x2x512x512, .i1⟩
  | 59 => ⟨S1x16, .f32⟩
  | 60 => ⟨S16, .f32⟩
  | 61 => ⟨S16x1x1x1, .f32⟩
  | 62 => ⟨S16x2x512x512, .i1⟩
  | 63 => ⟨S16x2x512x512, .f32⟩
  | 64 => ⟨S16x2x512x512, .f32⟩
  | 65 => ⟨S_, .i32⟩
  | 66 => ⟨S1x2x512x512, .i32⟩
  | 67 => ⟨S1x2x512x512, .i1⟩
  | 68 => ⟨S1x16, .f32⟩
  | 69 => ⟨S16, .f32⟩
  | 70 => ⟨S16x1x1x1, .f32⟩
  | 71 => ⟨S16x2x512x512, .i1⟩
  | 72 => ⟨S16x2x512x512, .f32⟩
  | 73 => ⟨S16x2x512x512, .f32⟩
  | 74 => ⟨S_, .i32⟩
  | 75 => ⟨S1x2x512x512, .i32⟩
  | 76 => ⟨S1x2x512x512, .i1⟩
  | 77 => ⟨S1x16, .f32⟩
  | 78 => ⟨S16, .f32⟩
  | 79 => ⟨S16x1x1x1, .f32⟩
  | 80 => ⟨S16x2x512x512, .i1⟩
  | 81 => ⟨S16x2x512x512, .f32⟩
  | 82 => ⟨S16x2x512x512, .f32⟩
  | 83 => ⟨S_, .i32⟩
  | 84 => ⟨S1x2x512x512, .i32⟩
  | 85 => ⟨S1x2x512x512, .i1⟩
  | 86 => ⟨S1x16, .f32⟩
  | 87 => ⟨S16, .f32⟩
  | 88 => ⟨S16x1x1x1, .f32⟩
  | 89 => ⟨S16x2x512x512, .i1⟩
  | 90 => ⟨S16x2x512x512, .f32⟩
  | 91 => ⟨S16x2x512x512, .f32⟩
  | 92 => ⟨S_, .i32⟩
  | 93 => ⟨S1x2x512x512, .i32⟩
  | 94 => ⟨S1x2x512x512, .i1⟩
  | 95 => ⟨S1x16, .f32⟩
  | 96 => ⟨S16, .f32⟩
  | 97 => ⟨S16x1x1x1, .f32⟩
  | 98 => ⟨S16x2x512x512, .i1⟩
  | 99 => ⟨S16x2x512x512, .f32⟩
  | 100 => ⟨S16x2x512x512, .f32⟩
  | 101 => ⟨S_, .i32⟩
  | 102 => ⟨S1x2x512x512, .i32⟩
  | 103 => ⟨S1x2x512x512, .i1⟩
  | 104 => ⟨S1x16, .f32⟩
  | 105 => ⟨S16, .f32⟩
  | 106 => ⟨S16x1x1x1, .f32⟩
  | 107 => ⟨S16x2x512x512, .i1⟩
  | 108 => ⟨S16x2x512x512, .f32⟩
  | 109 => ⟨S16x2x512x512, .f32⟩
  | 110 => ⟨S_, .i32⟩
  | 111 => ⟨S1x2x512x512, .i32⟩
  | 112 => ⟨S1x2x512x512, .i1⟩
  | 113 => ⟨S1x16, .f32⟩
  | 114 => ⟨S16, .f32⟩
  | 115 => ⟨S16x1x1x1, .f32⟩
  | 116 => ⟨S16x2x512x512, .i1⟩
  | 117 => ⟨S16x2x512x512, .f32⟩
  | 118 => ⟨S16x2x512x512, .f32⟩
  | 119 => ⟨S_, .i32⟩
  | 120 => ⟨S1x2x512x512, .i32⟩
  | 121 => ⟨S1x2x512x512, .i1⟩
  | 122 => ⟨S1x16, .f32⟩
  | 123 => ⟨S16, .f32⟩
  | 124 => ⟨S16x1x1x1, .f32⟩
  | 125 => ⟨S16x2x512x512, .i1⟩
  | 126 => ⟨S16x2x512x512, .f32⟩
  | 127 => ⟨S16x2x512x512, .f32⟩
  | _ => ⟨S4x4096x1024, .f32⟩

abbrev hbmTy0_2 (i : Nat) : BufTy := match i % 128 with
  | 0 => ⟨S_, .i32⟩
  | 1 => ⟨S1x2x512x512, .i32⟩
  | 2 => ⟨S1x2x512x512, .i1⟩
  | 3 => ⟨S1x16, .f32⟩
  | 4 => ⟨S16, .f32⟩
  | 5 => ⟨S16x1x1x1, .f32⟩
  | 6 => ⟨S16x2x512x512, .i1⟩
  | 7 => ⟨S16x2x512x512, .f32⟩
  | 8 => ⟨S16x2x512x512, .f32⟩
  | 9 => ⟨S_, .i32⟩
  | 10 => ⟨S1x2x512x512, .i32⟩
  | 11 => ⟨S1x2x512x512, .i1⟩
  | 12 => ⟨S1x16, .f32⟩
  | 13 => ⟨S16, .f32⟩
  | 14 => ⟨S16x1x1x1, .f32⟩
  | 15 => ⟨S16x2x512x512, .i1⟩
  | 16 => ⟨S16x2x512x512, .f32⟩
  | 17 => ⟨S16x2x512x512, .f32⟩
  | 18 => ⟨S_, .i32⟩
  | 19 => ⟨S1x2x512x512, .i32⟩
  | 20 => ⟨S1x2x512x512, .i1⟩
  | 21 => ⟨S1x16, .f32⟩
  | 22 => ⟨S16, .f32⟩
  | 23 => ⟨S16x1x1x1, .f32⟩
  | 24 => ⟨S16x2x512x512, .i1⟩
  | 25 => ⟨S16x2x512x512, .f32⟩
  | 26 => ⟨S16x2x512x512, .f32⟩
  | 27 => ⟨S_, .i32⟩
  | 28 => ⟨S1x2x512x512, .i32⟩
  | 29 => ⟨S1x2x512x512, .i1⟩
  | 30 => ⟨S1x16, .f32⟩
  | 31 => ⟨S16, .f32⟩
  | 32 => ⟨S16x1x1x1, .f32⟩
  | 33 => ⟨S16x2x512x512, .i1⟩
  | 34 => ⟨S16x2x512x512, .f32⟩
  | 35 => ⟨S16x2x512x512, .f32⟩
  | 36 => ⟨S_, .i32⟩
  | 37 => ⟨S1x2x512x512, .i32⟩
  | 38 => ⟨S1x2x512x512, .i1⟩
  | 39 => ⟨S1x16, .f32⟩
  | 40 => ⟨S16, .f32⟩
  | 41 => ⟨S16x1x1x1, .f32⟩
  | 42 => ⟨S16x2x512x512, .i1⟩
  | 43 => ⟨S16x2x512x512, .f32⟩
  | 44 => ⟨S16x2x512x512, .f32⟩
  | 45 => ⟨S_, .i32⟩
  | 46 => ⟨S1x2x512x512, .i32⟩
  | 47 => ⟨S1x2x512x512, .i1⟩
  | 48 => ⟨S1x16, .f32⟩
  | 49 => ⟨S16, .f32⟩
  | 50 => ⟨S16x1x1x1, .f32⟩
  | 51 => ⟨S16x2x512x512, .i1⟩
  | 52 => ⟨S16x2x512x512, .f32⟩
  | 53 => ⟨S16x2x512x512, .f32⟩
  | 54 => ⟨S_, .i32⟩
  | 55 => ⟨S1x2x512x512, .i32⟩
  | 56 => ⟨S1x2x512x512, .i1⟩
  | 57 => ⟨S1x16, .f32⟩
  | 58 => ⟨S16, .f32⟩
  | 59 => ⟨S16x1x1x1, .f32⟩
  | 60 => ⟨S16x2x512x512, .i1⟩
  | 61 => ⟨S16x2x512x512, .f32⟩
  | 62 => ⟨S16x2x512x512, .f32⟩
  | 63 => ⟨S_, .i32⟩
  | 64 => ⟨S1x2x512x512, .i32⟩
  | 65 => ⟨S1x2x512x512, .i1⟩
  | 66 => ⟨S1x16, .f32⟩
  | 67 => ⟨S16, .f32⟩
  | 68 => ⟨S16x1x1x1, .f32⟩
  | 69 => ⟨S16x2x512x512, .i1⟩
  | 70 => ⟨S16x2x512x512, .f32⟩
  | 71 => ⟨S16x2x512x512, .f32⟩
  | 72 => ⟨S_, .i32⟩
  | 73 => ⟨S1x2x512x512, .i32⟩
  | 74 => ⟨S1x2x512x512, .i1⟩
  | 75 => ⟨S1x16, .f32⟩
  | 76 => ⟨S16, .f32⟩
  | 77 => ⟨S16x1x1x1, .f32⟩
  | 78 => ⟨S16x2x512x512, .i1⟩
  | 79 => ⟨S16x2x512x512, .f32⟩
  | 80 => ⟨S16x2x512x512, .f32⟩
  | 81 => ⟨S16x2x512x512, .f32⟩
  | 82 => ⟨S16x2x512x512, .f32⟩
  | 83 => ⟨S8x2x512x512, .f32⟩
  | 84 => ⟨S8x2x512x512, .f32⟩
  | 85 => ⟨S8x2x1024x512, .f32⟩
  | 86 => ⟨S1x128, .f32⟩
  | 87 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | .local _ .vmem, ⟨0, _⟩ => ⟨S1x512x128, .f32⟩
  | .local _ .vmem, ⟨1, _⟩ => ⟨S1x512x128, .f32⟩
  | .local _ .vmem, ⟨2, _⟩ => ⟨S1x128x4096, .f32⟩
  | .local _ .vmem, ⟨3, _⟩ => ⟨S1x128x4096, .f32⟩
  | .local _ .vmem, ⟨4, _⟩ => ⟨S1x4096x128, .f32⟩
  | .local _ .vmem, ⟨5, _⟩ => ⟨S1x4096x128, .f32⟩
  | .local _ .vmem, ⟨6, _⟩ => ⟨S1x2x1024x512, .f32⟩
  | .local _ .vmem, ⟨7, _⟩ => ⟨S1x2x1024x512, .f32⟩
  | .local _ .vmem, ⟨8, _⟩ => ⟨S4x64, .f32⟩
  | .local _ .vmem, ⟨9, _⟩ => ⟨S1x128, .f32⟩
  | .local _ .vmem, ⟨10, _⟩ => ⟨S1x512x128, .f32⟩
  | .local _ .vmem, ⟨11, _⟩ => ⟨S1x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_v0 : Ref sig .tc := ⟨.hbm, 55, rfl⟩
abbrev main_call1_v1 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call2_v0 : Ref sig .tc := ⟨.hbm, 64, rfl⟩
abbrev main_call2_v1 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call3_v0 : Ref sig .tc := ⟨.hbm, 73, rfl⟩
abbrev main_call3_v1 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call4_v0 : Ref sig .tc := ⟨.hbm, 82, rfl⟩
abbrev main_call4_v1 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call5_v0 : Ref sig .tc := ⟨.hbm, 91, rfl⟩
abbrev main_call5_v1 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call6_v0 : Ref sig .tc := ⟨.hbm, 100, rfl⟩
abbrev main_call6_v1 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call7_v0 : Ref sig .tc := ⟨.hbm, 109, rfl⟩
abbrev main_call7_v1 : Ref sig .tc := ⟨.hbm, 110, rfl⟩
abbrev main_v74 : Ref sig .tc := ⟨.hbm, 111, rfl⟩
abbrev main_c_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call8_v0 : Ref sig .tc := ⟨.hbm, 118, rfl⟩
abbrev main_call8_v1 : Ref sig .tc := ⟨.hbm, 119, rfl⟩
abbrev main_v80 : Ref sig .tc := ⟨.hbm, 120, rfl⟩
abbrev main_c_16 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call9_v0 : Ref sig .tc := ⟨.hbm, 127, rfl⟩
abbrev main_call9_v1 : Ref sig .tc := ⟨.hbm, 128, rfl⟩
abbrev main_v86 : Ref sig .tc := ⟨.hbm, 129, rfl⟩
abbrev main_c_17 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_call10_v0 : Ref sig .tc := ⟨.hbm, 136, rfl⟩
abbrev main_call10_v1 : Ref sig .tc := ⟨.hbm, 137, rfl⟩
abbrev main_v92 : Ref sig .tc := ⟨.hbm, 138, rfl⟩
abbrev main_c_18 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_call11_v0 : Ref sig .tc := ⟨.hbm, 145, rfl⟩
abbrev main_call11_v1 : Ref sig .tc := ⟨.hbm, 146, rfl⟩
abbrev main_v98 : Ref sig .tc := ⟨.hbm, 147, rfl⟩
abbrev main_c_19 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_call12_v0 : Ref sig .tc := ⟨.hbm, 154, rfl⟩
abbrev main_call12_v1 : Ref sig .tc := ⟨.hbm, 155, rfl⟩
abbrev main_v104 : Ref sig .tc := ⟨.hbm, 156, rfl⟩
abbrev main_c_20 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_call13_v0 : Ref sig .tc := ⟨.hbm, 163, rfl⟩
abbrev main_call13_v1 : Ref sig .tc := ⟨.hbm, 164, rfl⟩
abbrev main_v110 : Ref sig .tc := ⟨.hbm, 165, rfl⟩
abbrev main_c_21 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_call14_v0 : Ref sig .tc := ⟨.hbm, 172, rfl⟩
abbrev main_call14_v1 : Ref sig .tc := ⟨.hbm, 173, rfl⟩
abbrev main_v116 : Ref sig .tc := ⟨.hbm, 174, rfl⟩
abbrev main_c_22 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_call15_v0 : Ref sig .tc := ⟨.hbm, 181, rfl⟩
abbrev main_call15_v1 : Ref sig .tc := ⟨.hbm, 182, rfl⟩
abbrev main_v122 : Ref sig .tc := ⟨.hbm, 183, rfl⟩
abbrev main_c_23 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_call16_v0 : Ref sig .tc := ⟨.hbm, 190, rfl⟩
abbrev main_call16_v1 : Ref sig .tc := ⟨.hbm, 191, rfl⟩
abbrev main_v128 : Ref sig .tc := ⟨.hbm, 192, rfl⟩
abbrev main_c_24 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_call17_v0 : Ref sig .tc := ⟨.hbm, 199, rfl⟩
abbrev main_call17_v1 : Ref sig .tc := ⟨.hbm, 200, rfl⟩
abbrev main_v134 : Ref sig .tc := ⟨.hbm, 201, rfl⟩
abbrev main_c_25 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_call18_v0 : Ref sig .tc := ⟨.hbm, 208, rfl⟩
abbrev main_call18_v1 : Ref sig .tc := ⟨.hbm, 209, rfl⟩
abbrev main_v140 : Ref sig .tc := ⟨.hbm, 210, rfl⟩
abbrev main_c_26 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_call19_v0 : Ref sig .tc := ⟨.hbm, 217, rfl⟩
abbrev main_call19_v1 : Ref sig .tc := ⟨.hbm, 218, rfl⟩
abbrev main_v146 : Ref sig .tc := ⟨.hbm, 219, rfl⟩
abbrev main_c_27 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_call20_v0 : Ref sig .tc := ⟨.hbm, 226, rfl⟩
abbrev main_call20_v1 : Ref sig .tc := ⟨.hbm, 227, rfl⟩
abbrev main_v152 : Ref sig .tc := ⟨.hbm, 228, rfl⟩
abbrev main_c_28 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_call21_v0 : Ref sig .tc := ⟨.hbm, 235, rfl⟩
abbrev main_call21_v1 : Ref sig .tc := ⟨.hbm, 236, rfl⟩
abbrev main_v158 : Ref sig .tc := ⟨.hbm, 237, rfl⟩
abbrev main_c_29 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_call22_v0 : Ref sig .tc := ⟨.hbm, 244, rfl⟩
abbrev main_call22_v1 : Ref sig .tc := ⟨.hbm, 245, rfl⟩
abbrev main_v164 : Ref sig .tc := ⟨.hbm, 246, rfl⟩
abbrev main_c_30 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_call23_v0 : Ref sig .tc := ⟨.hbm, 253, rfl⟩
abbrev main_call23_v1 : Ref sig .tc := ⟨.hbm, 254, rfl⟩
abbrev main_v170 : Ref sig .tc := ⟨.hbm, 255, rfl⟩
abbrev main_c_31 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_call24_v0 : Ref sig .tc := ⟨.hbm, 262, rfl⟩
abbrev main_call24_v1 : Ref sig .tc := ⟨.hbm, 263, rfl⟩
abbrev main_v176 : Ref sig .tc := ⟨.hbm, 264, rfl⟩
abbrev main_c_32 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_call25_v0 : Ref sig .tc := ⟨.hbm, 271, rfl⟩
abbrev main_call25_v1 : Ref sig .tc := ⟨.hbm, 272, rfl⟩
abbrev main_v182 : Ref sig .tc := ⟨.hbm, 273, rfl⟩
abbrev main_c_33 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_call26_v0 : Ref sig .tc := ⟨.hbm, 280, rfl⟩
abbrev main_call26_v1 : Ref sig .tc := ⟨.hbm, 281, rfl⟩
abbrev main_v188 : Ref sig .tc := ⟨.hbm, 282, rfl⟩
abbrev main_c_34 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_call27_v0 : Ref sig .tc := ⟨.hbm, 289, rfl⟩
abbrev main_call27_v1 : Ref sig .tc := ⟨.hbm, 290, rfl⟩
abbrev main_v194 : Ref sig .tc := ⟨.hbm, 291, rfl⟩
abbrev main_c_35 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_call28_v0 : Ref sig .tc := ⟨.hbm, 298, rfl⟩
abbrev main_call28_v1 : Ref sig .tc := ⟨.hbm, 299, rfl⟩
abbrev main_v200 : Ref sig .tc := ⟨.hbm, 300, rfl⟩
abbrev main_c_36 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_call29_v0 : Ref sig .tc := ⟨.hbm, 307, rfl⟩
abbrev main_call29_v1 : Ref sig .tc := ⟨.hbm, 308, rfl⟩
abbrev main_v206 : Ref sig .tc := ⟨.hbm, 309, rfl⟩
abbrev main_c_37 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_call30_v0 : Ref sig .tc := ⟨.hbm, 316, rfl⟩
abbrev main_call30_v1 : Ref sig .tc := ⟨.hbm, 317, rfl⟩
abbrev main_v212 : Ref sig .tc := ⟨.hbm, 318, rfl⟩
abbrev main_c_38 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_call31_v0 : Ref sig .tc := ⟨.hbm, 325, rfl⟩
abbrev main_call31_v1 : Ref sig .tc := ⟨.hbm, 326, rfl⟩
abbrev main_v218 : Ref sig .tc := ⟨.hbm, 327, rfl⟩
abbrev main_c_39 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_call32_v0 : Ref sig .tc := ⟨.hbm, 334, rfl⟩
abbrev main_call32_v1 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_v229 : Ref sig .tc := ⟨.hbm, 341, rfl⟩
abbrev main_v230 : Ref sig .tc := ⟨.hbm, 342, rfl⟩
abbrev main_v231 : Ref sig .tc := ⟨.hbm, 343, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32_8 : BitVec 32 := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v20 : BitVec 32 := Scalar.subi v16 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_10 : BitVec 32 := 1#32
  ⟨c0_i32_8, v24, c1_i32_10⟩
def k0_mult1 (i : grid0.Coords) (k0_t1 : Fin (k0_t1_loop i).trips) : BitVec 32 :=
  let c0_i32_8 : BitVec 32 := 0#32
  let c1_i32_10 : BitVec 32 := 1#32
  let arg10 : BitVec 32 := Scf.iv c0_i32_8 c1_i32_10 k0_t1
  let c512_i32_45 : BitVec 32 := 512#32
  let v122 : BitVec 32 := Scalar.muli arg10 c512_i32_45
  v122
def k0_off1 (i : grid0.Coords) (k0_t1 : Fin (k0_t1_loop i).trips) : Fin 3 → Nat :=
  let c0_46 : Index := 0#32
  let c0_47 : Index := 0#32
  let c0_i32_8 : BitVec 32 := 0#32
  let c1_i32_10 : BitVec 32 := 1#32
  let arg10 : BitVec 32 := Scf.iv c0_i32_8 c1_i32_10 k0_t1
  let c512_i32_45 : BitVec 32 := 512#32
  let v122 : BitVec 32 := Scalar.muli arg10 c512_i32_45
  let v123 : BitVec 32 := v122
  let v124 : Index := Scalar.indexCast v123
  ![0, 0, v124.toNat]
def k0_mult2 (i : grid0.Coords) (k0_t1 : Fin (k0_t1_loop i).trips) : BitVec 32 :=
  let c0_i32_8 : BitVec 32 := 0#32
  let c1_i32_10 : BitVec 32 := 1#32
  let arg10 : BitVec 32 := Scf.iv c0_i32_8 c1_i32_10 k0_t1
  let c512_i32_49 : BitVec 32 := 512#32
  let v129 : BitVec 32 := Scalar.muli arg10 c512_i32_49
  v129
def k0_off2 (i : grid0.Coords) (k0_t1 : Fin (k0_t1_loop i).trips) : Fin 3 → Nat :=
  let c0_50 : Index := 0#32
  let c0_i32_8 : BitVec 32 := 0#32
  let c1_i32_10 : BitVec 32 := 1#32
  let arg10 : BitVec 32 := Scf.iv c0_i32_8 c1_i32_10 k0_t1
  let c512_i32_49 : BitVec 32 := 512#32
  let v129 : BitVec 32 := Scalar.muli arg10 c512_i32_49
  let v130 : BitVec 32 := v129
  let v131 : Index := Scalar.indexCast v130
  let c0_51 : Index := 0#32
  ![0, v131.toNat, 0]
@[reducible] def k0_t2_loop (i : grid0.Coords) : Scf.Loop 32 :=
  let c0_i32_8 : BitVec 32 := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v20 : BitVec 32 := Scalar.subi v16 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let v21 : BitVec 32 := Scalar.addi c0_i32_8 v20
  let c1_i32_11 : BitVec 32 := 1#32
  ⟨v24, v21, c1_i32_11⟩
def k0_mult3 (i : grid0.Coords) (k0_t2 : Fin (k0_t2_loop i).trips) : BitVec 32 :=
  let c0_i32_8 : BitVec 32 := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v20 : BitVec 32 := Scalar.subi v16 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_11 : BitVec 32 := 1#32
  let arg10 : BitVec 32 := Scf.iv v24 c1_i32_11 k0_t2
  let c512_i32_45 : BitVec 32 := 512#32
  let v122 : BitVec 32 := Scalar.muli arg10 c512_i32_45
  v122
def k0_off3 (i : grid0.Coords) (k0_t2 : Fin (k0_t2_loop i).trips) : Fin 3 → Nat :=
  let c0_46 : Index := 0#32
  let c0_47 : Index := 0#32
  let c0_i32_8 : BitVec 32 := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v20 : BitVec 32 := Scalar.subi v16 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_11 : BitVec 32 := 1#32
  let arg10 : BitVec 32 := Scf.iv v24 c1_i32_11 k0_t2
  let c512_i32_45 : BitVec 32 := 512#32
  let v122 : BitVec 32 := Scalar.muli arg10 c512_i32_45
  let v123 : BitVec 32 := v122
  let v124 : Index := Scalar.indexCast v123
  ![0, 0, v124.toNat]
def k0_mult4 (i : grid0.Coords) (k0_t2 : Fin (k0_t2_loop i).trips) : BitVec 32 :=
  let c0_i32_8 : BitVec 32 := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v20 : BitVec 32 := Scalar.subi v16 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_11 : BitVec 32 := 1#32
  let arg10 : BitVec 32 := Scf.iv v24 c1_i32_11 k0_t2
  let c512_i32_49 : BitVec 32 := 512#32
  let v129 : BitVec 32 := Scalar.muli arg10 c512_i32_49
  v129
def k0_off4 (i : grid0.Coords) (k0_t2 : Fin (k0_t2_loop i).trips) : Fin 3 → Nat :=
  let c0_50 : Index := 0#32
  let c0_i32_8 : BitVec 32 := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v20 : BitVec 32 := Scalar.subi v16 c0_i32_8
  let c1_i32_9 : BitVec 32 := 1#32
  let v22 : BitVec 32 := Scalar.divsi v20 c1_i32_9
  let v23 : BitVec 32 := Scalar.muli v22 c1_i32_9
  let v24 : BitVec 32 := Scalar.addi c0_i32_8 v23
  let c1_i32_11 : BitVec 32 := 1#32
  let arg10 : BitVec 32 := Scf.iv v24 c1_i32_11 k0_t2
  let c512_i32_49 : BitVec 32 := 512#32
  let v129 : BitVec 32 := Scalar.muli arg10 c512_i32_49
  let v130 : BitVec 32 := v129
  let v131 : Index := Scalar.indexCast v130
  let c0_51 : Index := 0#32
  ![0, v131.toNat, 0]
@[reducible] def k0_t3_loop (i : grid0.Coords) : Scf.Loop 32 :=
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v27 : BitVec 32 := Scalar.subi arg2 v16
  let c1_i32_12 : BitVec 32 := 1#32
  let v29 : BitVec 32 := Scalar.divsi v27 c1_i32_12
  let v30 : BitVec 32 := Scalar.muli v29 c1_i32_12
  let v31 : BitVec 32 := Scalar.addi v16 v30
  let c1_i32_13 : BitVec 32 := 1#32
  ⟨v16, v31, c1_i32_13⟩
def k0_mult5 (i : grid0.Coords) (k0_t3 : Fin (k0_t3_loop i).trips) : BitVec 32 :=
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let c1_i32_13 : BitVec 32 := 1#32
  let arg10 : BitVec 32 := Scf.iv v16 c1_i32_13 k0_t3
  let c512_i32_49 : BitVec 32 := 512#32
  let v126 : BitVec 32 := Scalar.muli arg10 c512_i32_49
  v126
def k0_off5 (i : grid0.Coords) (k0_t3 : Fin (k0_t3_loop i).trips) : Fin 3 → Nat :=
  let c0_50 : Index := 0#32
  let c0_51 : Index := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let c1_i32_13 : BitVec 32 := 1#32
  let arg10 : BitVec 32 := Scf.iv v16 c1_i32_13 k0_t3
  let c512_i32_49 : BitVec 32 := 512#32
  let v126 : BitVec 32 := Scalar.muli arg10 c512_i32_49
  let v127 : BitVec 32 := v126
  let v128 : Index := Scalar.indexCast v127
  ![0, 0, v128.toNat]
def k0_mult6 (i : grid0.Coords) (k0_t3 : Fin (k0_t3_loop i).trips) : BitVec 32 :=
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let c1_i32_13 : BitVec 32 := 1#32
  let arg10 : BitVec 32 := Scf.iv v16 c1_i32_13 k0_t3
  let c512_i32_53 : BitVec 32 := 512#32
  let v134 : BitVec 32 := Scalar.muli arg10 c512_i32_53
  v134
def k0_off6 (i : grid0.Coords) (k0_t3 : Fin (k0_t3_loop i).trips) : Fin 3 → Nat :=
  let c0_54 : Index := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let c1_i32_13 : BitVec 32 := 1#32
  let arg10 : BitVec 32 := Scf.iv v16 c1_i32_13 k0_t3
  let c512_i32_53 : BitVec 32 := 512#32
  let v134 : BitVec 32 := Scalar.muli arg10 c512_i32_53
  let v135 : BitVec 32 := v134
  let v136 : Index := Scalar.indexCast v135
  let c0_55 : Index := 0#32
  ![0, v136.toNat, 0]
@[reducible] def k0_t4_loop (i : grid0.Coords) : Scf.Loop 32 :=
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v27 : BitVec 32 := Scalar.subi arg2 v16
  let c1_i32_12 : BitVec 32 := 1#32
  let v29 : BitVec 32 := Scalar.divsi v27 c1_i32_12
  let v30 : BitVec 32 := Scalar.muli v29 c1_i32_12
  let v31 : BitVec 32 := Scalar.addi v16 v30
  let v28 : BitVec 32 := Scalar.addi v16 v27
  let c1_i32_14 : BitVec 32 := 1#32
  ⟨v31, v28, c1_i32_14⟩
def k0_mult7 (i : grid0.Coords) (k0_t4 : Fin (k0_t4_loop i).trips) : BitVec 32 :=
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v27 : BitVec 32 := Scalar.subi arg2 v16
  let c1_i32_12 : BitVec 32 := 1#32
  let v29 : BitVec 32 := Scalar.divsi v27 c1_i32_12
  let v30 : BitVec 32 := Scalar.muli v29 c1_i32_12
  let v31 : BitVec 32 := Scalar.addi v16 v30
  let c1_i32_14 : BitVec 32 := 1#32
  let arg10 : BitVec 32 := Scf.iv v31 c1_i32_14 k0_t4
  let c512_i32_49 : BitVec 32 := 512#32
  let v126 : BitVec 32 := Scalar.muli arg10 c512_i32_49
  v126
def k0_off7 (i : grid0.Coords) (k0_t4 : Fin (k0_t4_loop i).trips) : Fin 3 → Nat :=
  let c0_50 : Index := 0#32
  let c0_51 : Index := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v27 : BitVec 32 := Scalar.subi arg2 v16
  let c1_i32_12 : BitVec 32 := 1#32
  let v29 : BitVec 32 := Scalar.divsi v27 c1_i32_12
  let v30 : BitVec 32 := Scalar.muli v29 c1_i32_12
  let v31 : BitVec 32 := Scalar.addi v16 v30
  let c1_i32_14 : BitVec 32 := 1#32
  let arg10 : BitVec 32 := Scf.iv v31 c1_i32_14 k0_t4
  let c512_i32_49 : BitVec 32 := 512#32
  let v126 : BitVec 32 := Scalar.muli arg10 c512_i32_49
  let v127 : BitVec 32 := v126
  let v128 : Index := Scalar.indexCast v127
  ![0, 0, v128.toNat]
def k0_mult8 (i : grid0.Coords) (k0_t4 : Fin (k0_t4_loop i).trips) : BitVec 32 :=
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v27 : BitVec 32 := Scalar.subi arg2 v16
  let c1_i32_12 : BitVec 32 := 1#32
  let v29 : BitVec 32 := Scalar.divsi v27 c1_i32_12
  let v30 : BitVec 32 := Scalar.muli v29 c1_i32_12
  let v31 : BitVec 32 := Scalar.addi v16 v30
  let c1_i32_14 : BitVec 32 := 1#32
  let arg10 : BitVec 32 := Scf.iv v31 c1_i32_14 k0_t4
  let c512_i32_53 : BitVec 32 := 512#32
  let v134 : BitVec 32 := Scalar.muli arg10 c512_i32_53
  v134
def k0_off8 (i : grid0.Coords) (k0_t4 : Fin (k0_t4_loop i).trips) : Fin 3 → Nat :=
  let c0_54 : Index := 0#32
  let arg2 : BitVec 32 := BitVec.ofNat 32 (i 2).val
  let c1_i32 : BitVec 32 := 1#32
  let v15 : BitVec 32 := Scalar.subi arg2 c1_i32
  let c0_i32 : BitVec 32 := 0#32
  let v16 : BitVec 32 := Scalar.maxsi v15 c0_i32
  let v27 : BitVec 32 := Scalar.subi arg2 v16
  let c1_i32_12 : BitVec 32 := 1#32
  let v29 : BitVec 32 := Scalar.divsi v27 c1_i32_12
  let v30 : BitVec 32 := Scalar.muli v29 c1_i32_12
  let v31 : BitVec 32 := Scalar.addi v16 v30
  let c1_i32_14 : BitVec 32 := 1#32
  let arg10 : BitVec 32 := Scf.iv v31 c1_i32_14 k0_t4
  let c512_i32_53 : BitVec 32 := 512#32
  let v134 : BitVec 32 := Scalar.muli arg10 c512_i32_53
  let v135 : BitVec 32 := v134
  let v136 : Index := Scalar.indexCast v135
  let c0_55 : Index := 0#32
  ![0, v136.toNat, 0]
def k0_mult9 (i : grid0.Coords) : BitVec 32 :=
  let arg2 : BitVec 32 := BitVec.ofNat 32 (i 2).val
  let c512_i32 : BitVec 32 := 512#32
  let v49 : BitVec 32 := Scalar.muli arg2 c512_i32
  v49
def k0_off9 (i : grid0.Coords) : Fin 3 → Nat :=
  let c0_22 : Index := 0#32
  let c0_23 : Index := 0#32
  let arg2 : BitVec 32 := BitVec.ofNat 32 (i 2).val
  let c512_i32 : BitVec 32 := 512#32
  let v49 : BitVec 32 := Scalar.muli arg2 c512_i32
  let v50 : BitVec 32 := v49
  let v51 : Index := Scalar.indexCast v50
  ![0, 0, v51.toNat]
def k0_mult10 (i : grid0.Coords) : BitVec 32 :=
  let arg2 : BitVec 32 := BitVec.ofNat 32 (i 2).val
  let c512_i32_25 : BitVec 32 := 512#32
  let v57 : BitVec 32 := Scalar.muli arg2 c512_i32_25
  v57
def k0_off10 (i : grid0.Coords) : Fin 3 → Nat :=
  let c0_26 : Index := 0#32
  let arg2 : BitVec 32 := BitVec.ofNat 32 (i 2).val
  let c512_i32_25 : BitVec 32 := 512#32
  let v57 : BitVec 32 := Scalar.muli arg2 c512_i32_25
  let v58 : BitVec 32 := v57
  let v59 : Index := Scalar.indexCast v58
  let c0_27 : Index := 0#32
  ![0, v59.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffIdeal.lean ====
variable {F : FTy → Type} [FloatOps F] [Named F]
def κ : String → Option EReal := fun
  | "log2e" => some (((Real.log 2)⁻¹ : ℝ) : EReal)
  | "mask" => some ⊥
  | "scale_log2e" => some (((1 / 8) * (Real.log 2)⁻¹ : ℝ) : EReal)
  | _ => none
-- ==== DiffRef.lean ====
abbrev S4x4096x1024 : Shape := ⟨3, ![4, 4096, 1024]⟩
abbrev S32x16 : Shape := ⟨2, ![32, 16]⟩
abbrev S4x64 : Shape := ⟨2, ![4, 64]⟩
abbrev S128 : Shape := ⟨1, ![128]⟩
abbrev S4x4096x8x2x64 : Shape := ⟨5, ![4, 4096, 8, 2, 64]⟩
abbrev S4x4096x8x128 : Shape := ⟨4, ![4, 4096, 8, 128]⟩
abbrev S32x2x8 : Shape := ⟨3, ![32, 2, 8]⟩
abbrev S1x64 : Shape := ⟨2, ![1, 64]⟩
abbrev S64 : Shape := ⟨1, ![64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x8x2x4096x4096 : Shape := ⟨5, ![4, 8, 2, 4096, 4096]⟩
abbrev S4096x4096x1 : Shape := ⟨3, ![4096, 4096, 1]⟩
abbrev S4096x4096x2x8 : Shape := ⟨4, ![4096, 4096, 2, 8]⟩
abbrev S8x2x4096x4096 : Shape := ⟨4, ![8, 2, 4096, 4096]⟩
abbrev S1x8x2x4096x4096 : Shape := ⟨5, ![1, 8, 2, 4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 136
  | .vmem => 0
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S32x16, .f32⟩
  | 4 => ⟨S4x64, .f32⟩
  | 5 => ⟨S128, .f32⟩
  | 6 => ⟨S4x4096x8x2x64, .f32⟩
  | 7 => ⟨S4x4096x8x2x64, .f32⟩
  | 8 => ⟨S4x4096x8x128, .f32⟩
  | 9 => ⟨S32x2x8, .f32⟩
  | 10 => ⟨S1x64, .f32⟩
  | 11 => ⟨S64, .f32⟩
  | 12 => ⟨S1x64, .f32⟩
  | 13 => ⟨S64, .f32⟩
  | 14 => ⟨S64, .f32⟩
  | 15 => ⟨S_, .f32⟩
  | 16 => ⟨S_, .f32⟩
  | 17 => ⟨S_, .f32⟩
  | 18 => ⟨S1x64, .f32⟩
  | 19 => ⟨S64, .f32⟩
  | 20 => ⟨S1x64, .f32⟩
  | 21 => ⟨S64, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S4096, .i32⟩
  | 30 => ⟨S4096x1, .i32⟩
  | 31 => ⟨S1x4096, .i32⟩
  | 32 => ⟨S4096x4096, .i32⟩
  | 33 => ⟨S4096x4096, .i32⟩
  | 34 => ⟨S4096x4096, .i32⟩
  | 35 => ⟨S_, .f32⟩
  | 36 => ⟨S4x4096x8x2x64, .f32⟩
  | 37 => ⟨S4x4096x8x2x64, .f32⟩
  | 38 => ⟨S4x8x2x4096x4096, .f32⟩
  | 39 => ⟨S_, .i32⟩
  | 40 => ⟨S4096x4096, .i32⟩
  | 41 => ⟨S4096x4096, .i32⟩
  | 42 => ⟨S_, .i32⟩
  | 43 => ⟨S4096x4096, .i32⟩
  | 44 => ⟨S4096x4096, .i32⟩
  | 45 => ⟨S4096x4096, .f32⟩
  | 46 => ⟨S_, .f32⟩
  | 47 => ⟨S4096x4096, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S4096x4096, .i32⟩
  | 57 => ⟨S_, .i32⟩
  | 58 => ⟨S4096x4096, .i32⟩
  | 59 => ⟨S4096x4096, .i32⟩
  | 60 => ⟨S_, .i32⟩
  | 61 => ⟨S4096x4096, .i32⟩
  | 62 => ⟨S4096x4096, .i1⟩
  | 63 => ⟨S_, .i32⟩
  | 64 => ⟨S4096x4096, .i32⟩
  | 65 => ⟨S4096x4096, .i32⟩
  | 66 => ⟨S4096x4096, .i32⟩
  | 67 => ⟨S_, .i32⟩
  | 68 => ⟨S4096x4096, .i32⟩
  | 69 => ⟨S4096x4096, .i1⟩
  | 70 => ⟨S_, .i32⟩
  | 71 => ⟨S4096x4096, .i32⟩
  | 72 => ⟨S4096x4096, .i32⟩
  | 73 => ⟨S4096x4096, .i32⟩
  | 74 => ⟨S4096x4096x1, .i32⟩
  | 75 => ⟨S4096x4096x2x8, .f32⟩
  | 76 => ⟨S8x2x4096x4096, .f32⟩
  | 77 => ⟨S1x8x2x4096x4096, .f32⟩
  | 78 => ⟨S4x8x2x4096x4096, .f32⟩
  | 79 => ⟨S4x8x2x4096x4096, .f32⟩
  | 80 => ⟨S_, .i32⟩
  | 81 => ⟨S4096x4096, .i32⟩
  | 82 => ⟨S4096x4096, .i1⟩
  | 83 => ⟨S_, .f32⟩
  | 84 => ⟨S_, .f32⟩
  | 85 => ⟨S4x8x2x4096x4096, .i1⟩
  | 86 => ⟨S4x8x2x4096x4096, .f32⟩
  | 87 => ⟨S4x8x2x4096x4096, .f32⟩
  | 88 => ⟨S_, .f32⟩
  | 89 => ⟨S4x8x2x4096, .f32⟩
  | 90 => ⟨S4x8x2x4096x1, .f32⟩
  | 91 => ⟨S4x8x2x4096x4096, .f32⟩
  | 92 => ⟨S4x8x2x4096x4096, .f32⟩
  | 93 => ⟨S4x8x2x4096x4096, .f32⟩
  | 94 => ⟨S_, .f32⟩
  | 95 => ⟨S_, .f32⟩
  | 96 => ⟨S4x8x2x4096x4096, .i1⟩
  | 97 => ⟨S4x8x2x4096x4096, .f32⟩
  | 98 => ⟨S4x8x2x4096x4096, .f32⟩
  | 99 => ⟨S_, .f32⟩
  | 100 => ⟨S4x8x2x4096, .f32⟩
  | 101 => ⟨S4x8x2x4096x1, .f32⟩
  | 102 => ⟨S_, .f32⟩
  | 103 => ⟨S4x8x2x4096x1, .f32⟩
  | 104 => ⟨S4x8x2x4096x1, .f32⟩
  | 105 => ⟨S4x8x2x4096x4096, .f32⟩
  | 106 => ⟨S4x8x2x4096x4096, .f32⟩
  | 107 => ⟨S4x8x1x4096x4096, .f32⟩
  | 108 => ⟨S4x8x4096x4096, .f32⟩
  | 109 => ⟨S4x8x1x4096x4096, .f32⟩
  | 110 => ⟨S4x8x4096x4096, .f32⟩
  | 111 => ⟨S4x8x4096x4096, .f32⟩
  | 112 => ⟨S4x8x4096x4096, .f32⟩
  | 113 => ⟨S4x8x4096x4096, .f32⟩
  | 114 => ⟨S4x8x128x4096, .f32⟩
  | 115 => ⟨S4x4096x8x128, .f32⟩
  | 116 => ⟨S4x4096x8x128, .f32⟩
  | 117 => ⟨S_, .f32⟩
  | 118 => ⟨S4x4096x8, .f32⟩
  | 119 => ⟨S4x4096x8x1, .f32⟩
  | 120 => ⟨S_, .f32⟩
  | 121 => ⟨S4x4096x8x1, .f32⟩
  | 122 => ⟨S4x4096x8x1, .f32⟩
  | 123 => ⟨S_, .f32⟩
  | 124 => ⟨S4x4096x8x1, .f32⟩
  | 125 => ⟨S4x4096x8x1, .f32⟩
  | 126 => ⟨S4x4096x8x1, .f32⟩
  | 127 => ⟨S4x4096x8x128, .f32⟩
  | _ => ⟨S4x4096x1024, .f32⟩

abbrev hbmTy0_1 (i : Nat) : BufTy := match i % 128 with
  | 0 => ⟨S4x4096x8x128, .f32⟩
  | 1 => ⟨S1x1x1x128, .f32⟩
  | 2 => ⟨S4x4096x8x128, .f32⟩
  | 3 => ⟨S4x4096x8x128, .f32⟩
  | 4 => ⟨S_, .f32⟩
  | 5 => ⟨S4x4096x8x128, .f32⟩
  | 6 => ⟨S4x4096x8x128, .f32⟩
  | 7 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_v70 : Ref sig .tc := ⟨.hbm, 101, rfl⟩
abbrev main_cst_17 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_18 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_cst_20 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_21 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩

abbrev nD : Nat := 1
abbrev τ : Topo := Topo.v7x

variable {F : FTy → Type} [FloatOps F]
-- ==== Post.lean ====
abbrev S16384x1024 : Shape := ⟨2, ![16384, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S4x1024 : Shape := ⟨2, ![4, 1024]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S2x1024, .f32⟩
  | .hbm, ⟨4, _⟩ => ⟨S2x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S4x1024, .f32⟩
  | .hbm, ⟨20, _⟩ => ⟨S1024x1024, .bf16⟩
  | .hbm, ⟨21, _⟩ => ⟨S1024x4096, .bf16⟩
  | .hbm, ⟨22, _⟩ => ⟨S4096x1024, .bf16⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S4x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PostIdeal.lean ====
abbrev S16384x1024 : Shape := ⟨2, ![16384, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S4x1024 : Shape := ⟨2, ![4, 1024]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S2x1024, .f32⟩
  | .hbm, ⟨4, _⟩ => ⟨S2x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S4x1024, .f32⟩
  | .hbm, ⟨20, _⟩ => ⟨S1024x1024, .bf16⟩
  | .hbm, ⟨21, _⟩ => ⟨S1024x4096, .bf16⟩
  | .hbm, ⟨22, _⟩ => ⟨S4096x1024, .bf16⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S4x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PostRefIdeal.lean ====
abbrev S16384x1024 : Shape := ⟨2, ![16384, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S_ : Shape := ⟨0, ![]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S2x1024, .f32⟩
  | .hbm, ⟨4, _⟩ => ⟨S2x1024, .f32⟩
  | .hbm, ⟨5, _⟩ => ⟨S1024x4096, .f32⟩
  | .hbm, ⟨6, _⟩ => ⟨S4096x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x4096, .f32⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Proj.lean ====
abbrev S16384x1024 : Shape := ⟨2, ![16384, 1024]⟩
abbrev S1024x3072 : Shape := ⟨2, ![1024, 3072]⟩
abbrev S1024x1024 : Shape := ⟨2, ![1024, 1024]⟩
abbrev S4x1024x4096 : Shape := ⟨3, ![4, 1024, 4096]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 12
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S16384x1024, .f32⟩
  | .hbm, ⟨10, _⟩ => ⟨S16384x1024, .f32⟩
  | .hbm, ⟨11, _⟩ => ⟨S4x1024x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024x512, .f32⟩
  | .local _ .vmem, ⟨10, _⟩ => ⟨S1x1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S16384x1024 : Shape := ⟨2, ![16384, 1024]⟩
abbrev S1024x3072 : Shape := ⟨2, ![1024, 3072]⟩
abbrev S16384x3072 : Shape := ⟨2, ![16384, 3072]⟩
abbrev S4x4096x1024 : Shape := ⟨3, ![4, 4096, 1024]⟩
abbrev S4x1024x4096 : Shape := ⟨3, ![4, 1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S4x4096x1024, .f32⟩
  | .hbm, ⟨7, _⟩ => ⟨S4x1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NsaProj.lean ====
abbrev S16384x1024 : Shape := ⟨2, ![16384, 1024]⟩
abbrev S1024x2608 : Shape := ⟨2, ![1024, 2608]⟩
abbrev S1024x1024 : Shape := ⟨2, ![1024, 1024]⟩
abbrev S1024x512 : Shape := ⟨2, ![1024, 512]⟩
abbrev S1024x48 : Shape := ⟨2, ![1024, 48]⟩
abbrev S_ : Shape := ⟨0, ![]⟩
abbrev S1024x128 : Shape := ⟨2, ![1024, 128]⟩
abbrev S512x1024 : Shape := ⟨2, ![512, 1024]⟩
abbrev S16384x512 : Shape := ⟨2, ![16384, 512]⟩
abbrev S16384x128 : Shape := ⟨2, ![16384, 128]⟩
abbrev S4x1024x4096 : Shape := ⟨3, ![4, 1024, 4096]⟩
abbrev S4x512x4096 : Shape := ⟨3, ![4, 512, 4096]⟩
abbrev S512x512 : Shape := ⟨2, ![512, 512]⟩
abbrev S512x128 : Shape := ⟨2, ![512, 128]⟩
abbrev S1x1024x512 : Shape := ⟨3, ![1, 1024, 512]⟩
abbrev S1x512x512 : Shape := ⟨3, ![1, 512, 512]⟩

abbrev nBuf : Space → Nat
  | .hbm => 22
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x2608, .f32⟩
  | .hbm, ⟨2, _⟩ => ⟨S1024x1024, .f32⟩
  | .hbm, ⟨3, _⟩ => ⟨S1024x1024, .bf16⟩
  | .hbm, ⟨4, _⟩ => ⟨S1024x512, .f32⟩
  | .hbm, ⟨5, _⟩ => ⟨S1024x512, .bf16⟩
  | .hbm, ⟨6, _⟩ => ⟨S1024x48, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x512, .f32⟩
  | .hbm, ⟨15, _⟩ => ⟨S512x1024, .f32⟩
  | .hbm, ⟨16, _⟩ => ⟨S512x1024, .bf16⟩
  | .hbm, ⟨17, _⟩ => ⟨S16384x1024, .f32⟩
  | .hbm, ⟨18, _⟩ => ⟨S16384x512, .f32⟩
  | .hbm, ⟨19, _⟩ => ⟨S16384x128, .f32⟩
  | .hbm, ⟨20, _⟩ => ⟨S4x1024x4096, .f32⟩
  | .hbm, ⟨21, _⟩ => ⟨S4x512x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x512, .bf16⟩
  | .local _ .vmem, ⟨4, _⟩ => ⟨S1024x128, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x512, .f32⟩
  | .local _ .vmem, ⟨10, _⟩ => ⟨S512x512, .f32⟩
  | .local _ .vmem, ⟨11, _⟩ => ⟨S512x128, .f32⟩
  | .local _ .vmem, ⟨12, _⟩ => ⟨S512x128, .f32⟩
  | .local _ .vmem, ⟨13, _⟩ => ⟨S1x1024x512, .f32⟩
  | .local _ .vmem, ⟨14, _⟩ => ⟨S1x1024x512, .f32⟩
  | .local _ .vmem, ⟨15, _⟩ => ⟨S1x512x512, .f32⟩
  | .local _ .vmem, ⟨16, _⟩ => ⟨S1x512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v13_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== NsaProjRefIdeal.lean ====
abbrev S16384x1024 : Shape := ⟨2, ![16384, 1024]⟩
abbrev S1024x2608 : Shape := ⟨2, ![1024, 2608]⟩
abbrev S16384x2608 : Shape := ⟨2, ![16384, 2608]⟩
abbrev S16384x512 : Shape := ⟨2, ![16384, 512]⟩
abbrev S16384x48 : Shape := ⟨2, ![16384, 48]⟩
abbrev S_ : Shape := ⟨0, ![]⟩
abbrev S16384x128 : Shape := ⟨2, ![16384, 128]⟩
abbrev S4x4096x1024 : Shape := ⟨3, ![4, 4096, 1024]⟩
abbrev S4x1024x4096 : Shape := ⟨3, ![4, 1024, 4096]⟩
abbrev S4x4096x512 : Shape := ⟨3, ![4, 4096, 512]⟩
abbrev S4x512x4096 : Shape := ⟨3, ![4, 512, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2608, .f32⟩
  | .hbm, ⟨2, _⟩ => ⟨S16384x2608, .f32⟩
  | .hbm, ⟨3, _⟩ => ⟨S16384x1024, .f32⟩
  | .hbm, ⟨4, _⟩ => ⟨S16384x512, .f32⟩
  | .hbm, ⟨5, _⟩ => ⟨S16384x48, .f32⟩
  | .hbm, ⟨6, _⟩ => ⟨S16384x1024, .f32⟩
  | .hbm, ⟨7, _⟩ => ⟨S16384x512, .f32⟩
  | .hbm, ⟨8, _⟩ => ⟨S_, .i32⟩
  | .hbm, ⟨9, _⟩ => ⟨S_, .f32⟩
  | .hbm, ⟨10, _⟩ => ⟨S16384x128, .f32⟩
  | .hbm, ⟨11, _⟩ => ⟨S4x4096x1024, .f32⟩
  | .hbm, ⟨12, _⟩ => ⟨S4x1024x4096, .f32⟩
  | .hbm, ⟨13, _⟩ => ⟨S4x4096x512, .f32⟩
  | .hbm, ⟨14, _⟩ => ⟨S4x512x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== SbProj.lean ====
abbrev S16384x1024 : Shape := ⟨2, ![16384, 1024]⟩
abbrev S1024x3072 : Shape := ⟨2, ![1024, 3072]⟩
abbrev S1024x1024 : Shape := ⟨2, ![1024, 1024]⟩
abbrev S1024x2048 : Shape := ⟨2, ![1024, 2048]⟩
abbrev S2048x1024 : Shape := ⟨2, ![2048, 1024]⟩
abbrev S4x2048x4096 : Shape := ⟨3, ![4, 2048, 4096]⟩
abbrev S512x1024 : Shape := ⟨2, ![512, 1024]⟩
abbrev S1x2048x512 : Shape := ⟨3, ![1, 2048, 512]⟩
abbrev S2048x512 : Shape := ⟨2, ![2048, 512]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x1024, .f32⟩
  | .hbm, ⟨3, _⟩ => ⟨S1024x1024, .bf16⟩
  | .hbm, ⟨4, _⟩ => ⟨S1024x2048, .f32⟩
  | .hbm, ⟨5, _⟩ => ⟨S2048x1024, .f32⟩
  | .hbm, ⟨6, _⟩ => ⟨S2048x1024, .bf16⟩
  | .hbm, ⟨7, _⟩ => ⟨S16384x1024, .f32⟩
  | .hbm, ⟨8, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1x2048x512, .f32⟩
  | .local _ .vmem, ⟨7, _⟩ => ⟨S1x2048x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SbProjRefIdeal.lean ====
abbrev S16384x1024 : Shape := ⟨2, ![16384, 1024]⟩
abbrev S1024x3072 : Shape := ⟨2, ![1024, 3072]⟩
abbrev S16384x3072 : Shape := ⟨2, ![16384, 3072]⟩
abbrev S16384x2048 : Shape := ⟨2, ![16384, 2048]⟩
abbrev S4x4096x2048 : Shape := ⟨3, ![4, 4096, 2048]⟩
abbrev S4x2048x4096 : Shape := ⟨3, ![4, 2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x2048, .f32⟩
  | .hbm, ⟨5, _⟩ => ⟨S4x4096x2048, .f32⟩
  | .hbm, ⟨6, _⟩ => ⟨S4x2048x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjS.lean ====
abbrev S128x8x1024 : Shape := ⟨3, ![128, 8, 1024]⟩
abbrev S1024x3072 : Shape := ⟨2, ![1024, 3072]⟩
abbrev S1024x1024 : Shape := ⟨2, ![1024, 1024]⟩
abbrev S8x128x1024 : Shape := ⟨3, ![8, 128, 1024]⟩
abbrev S8x1024x128 : Shape := ⟨3, ![8, 1024, 128]⟩
abbrev S128x1024 : Shape := ⟨2, ![128, 1024]⟩
abbrev S1x1024x128 : Shape := ⟨3, ![1, 1024, 128]⟩
abbrev S1024x128 : Shape := ⟨2, ![1024, 128]⟩

abbrev nBuf : Space → Nat
  | .hbm => 17
  | .vmem => 14
  | .smem => 0
  | _ => 0

abbrev bufTy : (tb : Table) → Fin (tcTables nBuf tb) → BufTy
  | .hbm, ⟨0, _⟩ => ⟨S128x8x1024, .f32⟩
  | .hbm, ⟨1, _⟩ => ⟨S1024x3072, .f32⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S8x128x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S8x1024x128, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1x1024x128, .f32⟩
  | .local _ .vmem, ⟨13, _⟩ => ⟨S1x1024x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev main_v11_2 : Ref sig .tc := ⟨.hbm, 15, rfl⟩
abbrev main_v11_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjSRefIdeal.lean ====
abbrev S128x8x1024 : Shape := ⟨3, ![128, 8, 1024]⟩
abbrev S1024x3072 : Shape := ⟨2, ![1024, 3072]⟩
abbrev S128x8x3072 : Shape := ⟨3, ![128, 8, 3072]⟩
abbrev S8x128x1024 : Shape := ⟨3, ![8, 128, 1024]⟩
abbrev S1024x1024 : Shape := ⟨2, ![1024, 1024]⟩
abbrev S8x1024x128 : Shape := ⟨3, ![8, 1024, 128]⟩

abbrev nBuf : Space → Nat
  | .hbm => 13
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x3072, .f32⟩
  | .hbm, ⟨2, _⟩ => ⟨S128x8x3072, .f32⟩
  | .hbm, ⟨3, _⟩ => ⟨S128x8x1024, .f32⟩
  | .hbm, ⟨4, _⟩ => ⟨S128x8x1024, .f32⟩
  | .hbm, ⟨5, _⟩ => ⟨S128x8x1024, .f32⟩
  | .hbm, ⟨6, _⟩ => ⟨S8x128x1024, .f32⟩
  | .hbm, ⟨7, _⟩ => ⟨S1024x1024, .f32⟩
  | .hbm, ⟨8, _⟩ => ⟨S8x128x1024, .f32⟩
  | .hbm, ⟨9, _⟩ => ⟨S1024x1024, .f32⟩
  | .hbm, ⟨10, _⟩ => ⟨S8x128x1024, .f32⟩
  | .hbm, ⟨11, _⟩ => ⟨S1024x1024, .f32⟩
  | .hbm, ⟨12, _⟩ => ⟨S8x1024x128, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== NsaProjS.lean ====
abbrev S128x8x1024 : Shape := ⟨3, ![128, 8, 1024]⟩
abbrev S1024x2608 : Shape := ⟨2, ![1024, 2608]⟩
abbrev S1024x1024 : Shape := ⟨2, ![1024, 1024]⟩
abbrev S1024x512 : Shape := ⟨2, ![1024, 512]⟩
abbrev S1024x48 : Shape := ⟨2, ![1024, 48]⟩
abbrev S_ : Shape := ⟨0, ![]⟩
abbrev S1024x128 : Shape := ⟨2, ![1024, 128]⟩
abbrev S8x128x1024 : Shape := ⟨3, ![8, 128, 1024]⟩
abbrev S8x1024x128 : Shape := ⟨3, ![8, 1024, 128]⟩
abbrev S128x1024 : Shape := ⟨2, ![128, 1024]⟩
abbrev S128x512 : Shape := ⟨2, ![128, 512]⟩
abbrev S128x128 : Shape := ⟨2, ![128, 128]⟩
abbrev S1x1024x128 : Shape := ⟨3, ![1, 1024, 128]⟩

abbrev nBuf : Space → Nat
  | .hbm => 23
  | .vmem => 17
  | .smem => 0
  | _ => 0

abbrev bufTy : (tb : Table) → Fin (tcTables nBuf tb) → BufTy
  | .hbm, ⟨0, _⟩ => ⟨S128x8x1024, .f32⟩
  | .hbm, ⟨1, _⟩ => ⟨S1024x2608, .f32⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S1024x1024, .bf16⟩
  | .hbm, ⟨6, _⟩ => ⟨S1024x512, .f32⟩
  | .hbm, ⟨7, _⟩ => ⟨S1024x512, .bf16⟩
  | .hbm, ⟨8, _⟩ => ⟨S1024x48, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S8x128x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .f32⟩
  | .hbm, ⟨20, _⟩ => ⟨S1024x512, .f32⟩
  | .hbm, ⟨21, _⟩ => ⟨S1024x128, .f32⟩
  | .hbm, ⟨22, _⟩ => ⟨S8x1024x128, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x128, .bf16⟩
  | .local _ .vmem, ⟨6, _⟩ => ⟨S1024x1024, .bf16⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x512, .f32⟩
  | .local _ .vmem, ⟨12, _⟩ => ⟨S128x512, .f32⟩
  | .local _ .vmem, ⟨13, _⟩ => ⟨S128x128, .f32⟩
  | .local _ .vmem, ⟨14, _⟩ => ⟨S128x128, .f32⟩
  | .local _ .vmem, ⟨15, _⟩ => ⟨S1x1024x128, .f32⟩
  | .local _ .vmem, ⟨16, _⟩ => ⟨S1x1024x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v14_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== NsaProjSRefIdeal.lean ====
abbrev S128x8x1024 : Shape := ⟨3, ![128, 8, 1024]⟩
abbrev S1024x2608 : Shape := ⟨2, ![1024, 2608]⟩
abbrev S128x8x2608 : Shape := ⟨3, ![128, 8, 2608]⟩
abbrev S128x8x512 : Shape := ⟨3, ![128, 8, 512]⟩
abbrev S128x8x48 : Shape := ⟨3, ![128, 8, 48]⟩
abbrev S8x128x1024 : Shape := ⟨3, ![8, 128, 1024]⟩
abbrev S1024x1024 : Shape := ⟨2, ![1024, 1024]⟩
abbrev S8x128x512 : Shape := ⟨3, ![8, 128, 512]⟩
abbrev S1024x512 : Shape := ⟨2, ![1024, 512]⟩
abbrev S8x128x48 : Shape := ⟨3, ![8, 128, 48]⟩
abbrev S1024x48 : Shape := ⟨2, ![1024, 48]⟩
abbrev S_ : Shape := ⟨0, ![]⟩
abbrev S1024x128 : Shape := ⟨2, ![1024, 128]⟩
abbrev S8x1024x128 : Shape := ⟨3, ![8, 1024, 128]⟩

abbrev nBuf : Space → Nat
  | .hbm => 19
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x2608, .f32⟩
  | .hbm, ⟨2, _⟩ => ⟨S128x8x2608, .f32⟩
  | .hbm, ⟨3, _⟩ => ⟨S128x8x1024, .f32⟩
  | .hbm, ⟨4, _⟩ => ⟨S128x8x512, .f32⟩
  | .hbm, ⟨5, _⟩ => ⟨S128x8x48, .f32⟩
  | .hbm, ⟨6, _⟩ => ⟨S128x8x1024, .f32⟩
  | .hbm, ⟨7, _⟩ => ⟨S8x128x1024, .f32⟩
  | .hbm, ⟨8, _⟩ => ⟨S1024x1024, .f32⟩
  | .hbm, ⟨9, _⟩ => ⟨S8x128x1024, .f32⟩
  | .hbm, ⟨10, _⟩ => ⟨S1024x1024, .f32⟩
  | .hbm, ⟨11, _⟩ => ⟨S8x128x512, .f32⟩
  | .hbm, ⟨12, _⟩ => ⟨S1024x512, .f32⟩
  | .hbm, ⟨13, _⟩ => ⟨S8x128x48, .f32⟩
  | .hbm, ⟨14, _⟩ => ⟨S1024x48, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S8x1024x128, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== SbProjS.lean ====
abbrev S128x8x1024 : Shape := ⟨3, ![128, 8, 1024]⟩
abbrev S1024x3072 : Shape := ⟨2, ![1024, 3072]⟩
abbrev S1024x1024 : Shape := ⟨2, ![1024, 1024]⟩
abbrev S1024x2048 : Shape := ⟨2, ![1024, 2048]⟩
abbrev S2048x1024 : Shape := ⟨2, ![2048, 1024]⟩
abbrev S8x128x1024 : Shape := ⟨3, ![8, 128, 1024]⟩
abbrev S8x2048x128 : Shape := ⟨3, ![8, 2048, 128]⟩
abbrev S128x1024 : Shape := ⟨2, ![128, 1024]⟩
abbrev S128x2048 : Shape := ⟨2, ![128, 2048]⟩
abbrev S1x2048x128 : Shape := ⟨3, ![1, 2048, 128]⟩
abbrev S2048x128 : Shape := ⟨2, ![2048, 128]⟩

abbrev nBuf : Space → Nat
  | .hbm => 14
  | .vmem => 11
  | .smem => 0
  | _ => 0

abbrev bufTy : (tb : Table) → Fin (tcTables nBuf tb) → BufTy
  | .hbm, ⟨0, _⟩ => ⟨S128x8x1024, .f32⟩
  | .hbm, ⟨1, _⟩ => ⟨S1024x3072, .f32⟩
  | .hbm, ⟨2, _⟩ => ⟨S1024x1024, .f32⟩
  | .hbm, ⟨3, _⟩ => ⟨S1024x1024, .bf16⟩
  | .hbm, ⟨4, _⟩ => ⟨S1024x2048, .f32⟩
  | .hbm, ⟨5, _⟩ => ⟨S2048x1024, .f32⟩
  | .hbm, ⟨6, _⟩ => ⟨S2048x1024, .bf16⟩
  | .hbm, ⟨7, _⟩ => ⟨S8x128x1024, .f32⟩
  | .hbm, ⟨8, _⟩ => ⟨S1024x1024, .f32⟩
  | .hbm, ⟨9, _⟩ => ⟨S1024x2048, .f32⟩
  | .hbm, ⟨10, _⟩ => ⟨S1024x2048, .bf16⟩
  | .hbm, ⟨11, _⟩ => ⟨S1024x1024, .f32⟩
  | .hbm, ⟨12, _⟩ => ⟨S1024x2048, .f32⟩
  | .hbm, ⟨13, _⟩ => ⟨S8x2048x128, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1024x2048, .bf16⟩
  | .local _ .vmem, ⟨4, _⟩ => ⟨S2048x1024, .bf16⟩
  | .local _ .vmem, ⟨5, _⟩ => ⟨S128x1024, .f32⟩
  | .local _ .vmem, ⟨6, _⟩ => ⟨S128x1024, .f32⟩
  | .local _ .vmem, ⟨7, _⟩ => ⟨S128x2048, .f32⟩
  | .local _ .vmem, ⟨8, _⟩ => ⟨S128x2048, .f32⟩
  | .local _ .vmem, ⟨9, _⟩ => ⟨S1x2048x128, .f32⟩
  | .local _ .vmem, ⟨10, _⟩ => ⟨S1x2048x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev main_v9_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SbProjSRefIdeal.lean ====
abbrev S128x8x1024 : Shape := ⟨3, ![128, 8, 1024]⟩
abbrev S1024x3072 : Shape := ⟨2, ![1024, 3072]⟩
abbrev S128x8x3072 : Shape := ⟨3, ![128, 8, 3072]⟩
abbrev S128x8x2048 : Shape := ⟨3, ![128, 8, 2048]⟩
abbrev S8x128x1024 : Shape := ⟨3, ![8, 128, 1024]⟩
abbrev S1024x1024 : Shape := ⟨2, ![1024, 1024]⟩
abbrev S8x128x2048 : Shape := ⟨3, ![8, 128, 2048]⟩
abbrev S1024x2048 : Shape := ⟨2, ![1024, 2048]⟩
abbrev S8x2048x128 : Shape := ⟨3, ![8, 2048, 128]⟩

abbrev nBuf : Space → Nat
  | .hbm => 10
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x3072, .f32⟩
  | .hbm, ⟨2, _⟩ => ⟨S128x8x3072, .f32⟩
  | .hbm, ⟨3, _⟩ => ⟨S128x8x2048, .f32⟩
  | .hbm, ⟨4, _⟩ => ⟨S128x8x1024, .f32⟩
  | .hbm, ⟨5, _⟩ => ⟨S8x128x1024, .f32⟩
  | .hbm, ⟨6, _⟩ => ⟨S1024x1024, .f32⟩
  | .hbm, ⟨7, _⟩ => ⟨S8x128x2048, .f32⟩
  | .hbm, ⟨8, _⟩ => ⟨S1024x2048, .f32⟩
  | .hbm, ⟨9, _⟩ => ⟨S8x2048x128, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== PostS.lean ====
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S4x1024 : Shape := ⟨2, ![4, 1024]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2x1024, .f32⟩
  | .hbm, ⟨4, _⟩ => ⟨S2x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S4x1024, .f32⟩
  | .hbm, ⟨20, _⟩ => ⟨S1024x1024, .bf16⟩
  | .hbm, ⟨21, _⟩ => ⟨S1024x4096, .bf16⟩
  | .hbm, ⟨22, _⟩ => ⟨S4096x1024, .bf16⟩
  | .hbm, ⟨23, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S4x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PostSRefIdeal.lean ====
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S_ : Shape := ⟨0, ![]⟩
abbrev S1x1024 : Shape := ⟨2, ![1, 1024]⟩
abbrev S1024 : Shape := ⟨1, ![1024]⟩
abbrev S1024x1 : Shape := ⟨2, ![1024, 1]⟩

abbrev nBuf : Space → Nat
  | .hbm => 88
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2x1024, .f32⟩
  | .hbm, ⟨4, _⟩ => ⟨S2x1024, .f32⟩
  | .hbm, ⟨5, _⟩ => ⟨S1024x4096, .f32⟩
  | .hbm, ⟨6, _⟩ => ⟨S4096x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024, .f32⟩
  | .hbm, ⟨27, _⟩ => ⟨S1024x1, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S1024x1024, .f32⟩
  | .hbm, ⟨38, _⟩ => ⟨S1024x1024, .f32⟩
  | .hbm, ⟨39, _⟩ => ⟨S1x1024, .f32⟩
  | .hbm, ⟨40, _⟩ => ⟨S1024x1024, .f32⟩
  | .hbm, ⟨41, _⟩ => ⟨S1024x1024, .f32⟩
  | .hbm, ⟨42, _⟩ => ⟨S1x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x4096, .f32⟩
  | .hbm, ⟨49, _⟩ => ⟨S_, .f32⟩
  | .hbm, ⟨50, _⟩ => ⟨S1024x4096, .f32⟩
  | .hbm, ⟨51, _⟩ => ⟨S1024x4096, .f32⟩
  | .hbm, ⟨52, _⟩ => ⟨S1024x4096, .f32⟩
  | .hbm, ⟨53, _⟩ => ⟨S1024x1024, .f32⟩
  | .hbm, ⟨54, _⟩ => ⟨S1024x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024x1, .f32⟩
  | .hbm, ⟨62, _⟩ => ⟨S_, .f32⟩
  | .hbm, ⟨63, _⟩ => ⟨S1024x1, .f32⟩
  | .hbm, ⟨64, _⟩ => ⟨S1024x1, .f32⟩
  | .hbm, ⟨65, _⟩ => ⟨S1024x1024, .f32⟩
  | .hbm, ⟨66, _⟩ => ⟨S1024x1024, .f32⟩
  | .hbm, ⟨67, _⟩ => ⟨S1024x1024, .f32⟩
  | .hbm, ⟨68, _⟩ => ⟨S_, .f32⟩
  | .hbm, ⟨69, _⟩ => ⟨S1024, .f32⟩
  | .hbm, ⟨70, _⟩ => ⟨S1024x1, .f32⟩
  | .hbm, ⟨71, _⟩ => ⟨S_, .f32⟩
  | .hbm, ⟨72, _⟩ => ⟨S1024x1, .f32⟩
  | .hbm, ⟨73, _⟩ => ⟨S1024x1, .f32⟩
  | .hbm, ⟨74, _⟩ => ⟨S1024x1024, .f32⟩
  | .hbm, ⟨75, _⟩ => ⟨S1024x1024, .f32⟩
  | .hbm, ⟨76, _⟩ => ⟨S_, .f32⟩
  | .hbm, ⟨77, _⟩ => ⟨S1024x1, .f32⟩
  | .hbm, ⟨78, _⟩ => ⟨S1024x1, .f32⟩
  | .hbm, ⟨79, _⟩ => ⟨S1024x1, .f32⟩
  | .hbm, ⟨80, _⟩ => ⟨S1024x1024, .f32⟩
  | .hbm, ⟨81, _⟩ => ⟨S1024x1024, .f32⟩
  | .hbm, ⟨82, _⟩ => ⟨S1x1024, .f32⟩
  | .hbm, ⟨83, _⟩ => ⟨S1024x1024, .f32⟩
  | .hbm, ⟨84, _⟩ => ⟨S1024x1024, .f32⟩
  | .hbm, ⟨85, _⟩ => ⟨S1x1024, .f32⟩
  | .hbm, ⟨86, _⟩ => ⟨S1024x1024, .f32⟩
  | .hbm, ⟨87, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== WinS.lean ====
abbrev S128x8x1024 : Shape := ⟨3, ![128, 8, 1024]⟩
abbrev S128x8x512 : Shape := ⟨3, ![128, 8, 512]⟩
abbrev S128x8x128 : Shape := ⟨3, ![128, 8, 128]⟩
abbrev S128x128x512 : Shape := ⟨3, ![128, 128, 512]⟩
abbrev S2x128x512x2x4x64 : Shape := ⟨6, ![2, 128, 512, 2, 4, 64]⟩
abbrev S2x2560x128x4x4x64 : Shape := ⟨6, ![2, 2560, 128, 4, 4, 64]⟩
abbrev S128x16 : Shape := ⟨2, ![128, 16]⟩
abbrev S128x128 : Shape := ⟨2, ![128, 128]⟩
abbrev S128x2176 : Shape := ⟨2, ![128, 2176]⟩
abbrev S128x640 : Shape := ⟨2, ![128, 640]⟩
abbrev S40x128 : Shape := ⟨2, ![40, 128]⟩
abbrev S2x128x2x4x64x512 : Shape := ⟨6, ![2, 128, 2, 4, 64, 512]⟩
abbrev S2x2560x4x4x64x128 : Shape := ⟨6, ![2, 2560, 4, 4, 64, 128]⟩
abbrev S128x2x4x64x512 : Shape := ⟨5, ![128, 2, 4, 64, 512]⟩
abbrev S1x8x1024 : Shape := ⟨3, ![1, 8, 1024]⟩
abbrev S1x8x512 : Shape := ⟨3, ![1, 8, 512]⟩
abbrev S1x8x128 : Shape := ⟨3, ![1, 8, 128]⟩
abbrev S1x128x512 : Shape := ⟨3, ![1, 128, 512]⟩
abbrev S1x1x2x4x64x512 : Shape := ⟨6, ![1, 1, 2, 4, 64, 512]⟩
abbrev S1x1x2x4x64x128 : Shape := ⟨6, ![1, 1, 2, 4, 64, 128]⟩
abbrev S1x1 : Shape := ⟨2, ![1, 1]⟩
abbrev S1x2x4x64x512 : Shape := ⟨5, ![1, 2, 4, 64, 512]⟩
abbrev S128x2048 : Shape := ⟨2, ![128, 2048]⟩
abbrev S8x128 : Shape := ⟨2, ![8, 128]⟩
abbrev S8x1024 : Shape := ⟨2, ![8, 1024]⟩
abbrev S8x256 : Shape := ⟨2, ![8, 256]⟩
abbrev S128x256 : Shape := ⟨2, ![128, 256]⟩
abbrev S128x512 : Shape := ⟨2, ![128, 512]⟩
abbrev S128 : Shape := ⟨1, ![128]⟩
abbrev S128x1 : Shape := ⟨2, ![128, 1]⟩
abbrev S32x128 : Shape := ⟨2, ![32, 128]⟩
abbrev S96x128 : Shape := ⟨2, ![96, 128]⟩
abbrev S1x128 : Shape := ⟨2, ![1, 128]⟩
abbrev S88x128 : Shape := ⟨2, ![88, 128]⟩
abbrev S1x1x1x4x64x128 : Shape := ⟨6, ![1, 1, 1, 4, 64, 128]⟩
abbrev S4x64x128 : Shape := ⟨3, ![4, 64, 128]⟩
abbrev S256x128 : Shape := ⟨2, ![256, 128]⟩
abbrev S120x1024 : Shape := ⟨2, ![120, 1024]⟩
abbrev S128x1024 : Shape := ⟨2, ![128, 1024]⟩
abbrev S1x1x1x4x64x512 : Shape := ⟨6, ![1, 1, 1, 4, 64, 512]⟩
abbrev S4x64x512 : Shape := ⟨3, ![4, 64, 512]⟩
abbrev S256x512 : Shape := ⟨2, ![256, 512]⟩
abbrev S8x512 : Shape := ⟨2, ![8, 512]⟩
abbrev S120x512 : Shape := ⟨2, ![120, 512]⟩
abbrev S2x4x64x512 : Shape := ⟨4, ![2, 4, 64, 512]⟩
abbrev S512x512 : Shape := ⟨2, ![512, 512]⟩
abbrev S512x128 : Shape := ⟨2, ![512, 128]⟩
abbrev S512x504 : Shape := ⟨2, ![512, 504]⟩
abbrev S512x8 : Shape := ⟨2, ![512, 8]⟩

abbrev nBuf : Space → Nat
  | .hbm => 16
  | .vmem => 53
  | .smem => 1
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S128x8x512, .f32⟩
  | .hbm, ⟨3, _⟩ => ⟨S128x8x128, .f32⟩
  | .hbm, ⟨4, _⟩ => ⟨S128x128x512, .f32⟩
  | .hbm, ⟨5, _⟩ => ⟨S2x128x512x2x4x64, .f32⟩
  | .hbm, ⟨6, _⟩ => ⟨S2x2560x128x4x4x64, .f32⟩
  | .hbm, ⟨7, _⟩ => ⟨S128x128, .f32⟩
  | .hbm, ⟨8, _⟩ => ⟨S128x2176, .f32⟩
  | .hbm, ⟨9, _⟩ => ⟨S128x640, .f32⟩
  | .hbm, ⟨10, _⟩ => ⟨S40x128, .f32⟩
  | .hbm, ⟨11, _⟩ => ⟨S2x128x2x4x64x512, .f32⟩
  | .hbm, ⟨12, _⟩ => ⟨S2x2560x4x4x64x128, .f32⟩
  | .hbm, ⟨13, _⟩ => ⟨S40x128, .bf16⟩
  | .hbm, ⟨14, _⟩ => ⟨S128x8x1024, .f32⟩
  | .hbm, ⟨15, _⟩ => ⟨S128x2x4x64x512, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x512, .f32⟩
  | .local _ .vmem, ⟨5, _⟩ => ⟨S1x8x512, .f32⟩
  | .local _ .vmem, ⟨6, _⟩ => ⟨S1x8x128, .f32⟩
  | .local _ .vmem, ⟨7, _⟩ => ⟨S1x8x128, .f32⟩
  | .local _ .vmem, ⟨8, _⟩ => ⟨S1x128x512, .f32⟩
  | .local _ .vmem, ⟨9, _⟩ => ⟨S1x128x512, .f32⟩
  | .local _ .vmem, ⟨10, _⟩ => ⟨S1x1x2x4x64x512, .f32⟩
  | .local _ .vmem, ⟨11, _⟩ => ⟨S1x1x2x4x64x512, .f32⟩
  | .local _ .vmem, ⟨12, _⟩ => ⟨S128x128, .f32⟩
  | .local _ .vmem, ⟨13, _⟩ => ⟨S128x2176, .f32⟩
  | .local _ .vmem, ⟨14, _⟩ => ⟨S128x640, .f32⟩
  | .local _ .vmem, ⟨15, _⟩ => ⟨S40x128, .bf16⟩
  | .local _ .vmem, ⟨16, _⟩ => ⟨S1x1x2x4x64x128, .f32⟩
  | .local _ .vmem, ⟨17, _⟩ => ⟨S1x1x2x4x64x128, .f32⟩
  | .local _ .vmem, ⟨18, _⟩ => ⟨S1x1x2x4x64x128, .f32⟩
  | .local _ .vmem, ⟨19, _⟩ => ⟨S1x1x2x4x64x128, .f32⟩
  | .local _ .vmem, ⟨20, _⟩ => ⟨S1x1x2x4x64x128, .f32⟩
  | .local _ .vmem, ⟨21, _⟩ => ⟨S1x1x2x4x64x128, .f32⟩
  | .local _ .vmem, ⟨22, _⟩ => ⟨S1x1x2x4x64x128, .f32⟩
  | .local _ .vmem, ⟨23, _⟩ => ⟨S1x1x2x4x64x128, .f32⟩
  | .local _ .vmem, ⟨24, _⟩ => ⟨S1x1x2x4x64x128, .f32⟩
  | .local _ .vmem, ⟨25, _⟩ => ⟨S1x1x2x4x64x128, .f32⟩
  | .local _ .vmem, ⟨26, _⟩ => ⟨S1x1x2x4x64x128, .f32⟩
  | .local _ .vmem, ⟨27, _⟩ => ⟨S1x1x2x4x64x128, .f32⟩
  | .local _ .vmem, ⟨28, _⟩ => ⟨S1x1x2x4x64x128, .f32⟩
  | .local _ .vmem, ⟨29, _⟩ => ⟨S1x1x2x4x64x128, .f32⟩
  | .local _ .vmem, ⟨30, _⟩ => ⟨S1x1x2x4x64x128, .f32⟩
  | .local _ .vmem, ⟨31, _⟩ => ⟨S1x1x2x4x64x128, .f32⟩
  | .local _ .vmem, ⟨32, _⟩ => ⟨S1x1x2x4x64x128, .f32⟩
  | .local _ .vmem, ⟨33, _⟩ => ⟨S1x1x2x4x64x128, .f32⟩
  | .local _ .vmem, ⟨34, _⟩ => ⟨S1x1x2x4x64x128, .f32⟩
  | .local _ .vmem, ⟨35, _⟩ => ⟨S1x1x2x4x64x128, .f32⟩
  | .local _ .vmem, ⟨36, _⟩ => ⟨S1x1x2x4x64x128, .f32⟩
  | .local _ .vmem, ⟨37, _⟩ => ⟨S1x1x2x4x64x128, .f32⟩
  | .local _ .vmem, ⟨38, _⟩ => ⟨S1x1x2x4x64x128, .f32⟩
  | .local _ .vmem, ⟨39, _⟩ => ⟨S1x1x2x4x64x128, .f32⟩
  | .local _ .vmem, ⟨40, _⟩ => ⟨S1x1x2x4x64x128, .f32⟩
  | .local _ .vmem, ⟨41, _⟩ => ⟨S1x1x2x4x64x128, .f32⟩
  | .local _ .vmem, ⟨42, _⟩ => ⟨S1x1x2x4x64x128, .f32⟩
  | .local _ .vmem, ⟨43, _⟩ => ⟨S1x1x2x4x64x128, .f32⟩
  | .local _ .vmem, ⟨44, _⟩ => ⟨S1x1x2x4x64x128, .f32⟩
  | .local _ .vmem, ⟨45, _⟩ => ⟨S1x1x2x4x64x128, .f32⟩
  | .local _ .vmem, ⟨46, _⟩ => ⟨S1x1x2x4x64x128, .f32⟩
  | .local _ .vmem, ⟨47, _⟩ => ⟨S1x1x2x4x64x128, .f32⟩
  | .local _ .vmem, ⟨48, _⟩ => ⟨S1x8x1024, .f32⟩
  | .local _ .vmem, ⟨49, _⟩ => ⟨S1x8x1024, .f32⟩
  | .local _ .vmem, ⟨50, _⟩ => ⟨S1x2x4x64x512, .f32⟩
  | .local _ .vmem, ⟨51, _⟩ => ⟨S1x2x4x64x512, .f32⟩
  | .local _ .vmem, ⟨52, _⟩ => ⟨S128x2048, .f32⟩
  | .local _ .smem, ⟨0, _⟩ => ⟨S128x16, .i32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_stg26_0 : Ref sig .tc := ⟨.vmem, 48, rfl⟩
abbrev cc0_stg26_1 : Ref sig .tc := ⟨.vmem, 49, rfl⟩
abbrev cc0_stg27_0 : Ref sig .tc := ⟨.vmem, 50, rfl⟩
abbrev cc0_stg27_1 : Ref sig .tc := ⟨.vmem, 51, rfl⟩
abbrev cc0_scratch0 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47
abbrev cc0_sem26_0 : DmaSem sig := 48
abbrev cc0_sem26_1 : DmaSem sig := 49
abbrev cc0_sem27_0 : DmaSem sig := 50
abbrev cc0_sem27_1 : DmaSem sig := 51

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, arg0.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (k0_off1_inb : ∀ i : grid0.Coords, ∀ a, (k0_off1 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_11 (k0_off2_inb : ∀ i : grid0.Coords, ∀ a, (k0_off2 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_12 (k0_off3_inb : ∀ i : grid0.Coords, ∀ a, (k0_off3 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_13 (k0_off4_inb : ∀ i : grid0.Coords, ∀ a, (k0_off4 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_14 (k0_off5_inb : ∀ i : grid0.Coords, ∀ a, (k0_off5 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_15 (k0_off6_inb : ∀ i : grid0.Coords, ∀ a, (k0_off6 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_16 (k0_off7_inb : ∀ i : grid0.Coords, ∀ a, (k0_off7 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_17 (k0_off8_inb : ∀ i : grid0.Coords, ∀ a, (k0_off8 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_18 (k0_off9_inb : ∀ i : grid0.Coords, ∀ a, (k0_off9 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_19 (k0_off10_inb : ∀ i : grid0.Coords, ∀ a, (k0_off10 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_20 (k0_off11_inb : ∀ i : grid0.Coords, ∀ a, (k0_off11 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_21 (k0_off12_inb : ∀ i : grid0.Coords, ∀ a, (k0_off12 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_22 (k0_off13_inb : ∀ i : grid0.Coords, ∀ a, (k0_off13 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_23 (k0_off14_inb : ∀ i : grid0.Coords, ∀ a, (k0_off14 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_24 (k0_off15_inb : ∀ i : grid0.Coords, ∀ a, (k0_off15 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_25 (k0_off16_inb : ∀ i : grid0.Coords, ∀ a, (k0_off16 i) a + S1x1.size a ≤ S128x16.size a) (numel1_S1x1 : S1x1.numel = 1) (pf : pre0.Contents (Elt F)) (i : grid0.Coords) : Fin 6 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, v1.toNat, c1_i32.toNat, c0_i32_0.toNat, c0_i32_1.toNat, c0_i32_2.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2x4x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2176 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2x4x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2x4x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x2x4x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x2x4x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x2x4x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x2x4x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x2x4x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x2x4x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x2x4x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x2x4x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x2x4x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x2x4x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x2x4x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x2x4x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x2x4x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x8x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x2x4x64x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== WinSRefIdeal.lean ====
abbrev S128x8x1024 : Shape := ⟨3, ![128, 8, 1024]⟩
abbrev S128x8x512 : Shape := ⟨3, ![128, 8, 512]⟩
abbrev S128x8x128 : Shape := ⟨3, ![128, 8, 128]⟩
abbrev S128x128x512 : Shape := ⟨3, ![128, 128, 512]⟩
abbrev S2x128x512x2x4x64 : Shape := ⟨6, ![2, 128, 512, 2, 4, 64]⟩
abbrev S2x2560x128x4x4x64 : Shape := ⟨6, ![2, 2560, 128, 4, 4, 64]⟩
abbrev S128x16 : Shape := ⟨2, ![128, 16]⟩
abbrev S128x128 : Shape := ⟨2, ![128, 128]⟩
abbrev S128x2176 : Shape := ⟨2, ![128, 2176]⟩
abbrev S128x640 : Shape := ⟨2, ![128, 640]⟩
abbrev S40x128 : Shape := ⟨2, ![40, 128]⟩
abbrev S128x8x2x4x64 : Shape := ⟨5, ![128, 8, 2, 4, 64]⟩
abbrev S1x128x512x2x4x64 : Shape := ⟨6, ![1, 128, 512, 2, 4, 64]⟩
abbrev S128x512x2x4x64 : Shape := ⟨5, ![128, 512, 2, 4, 64]⟩
abbrev S128x520x2x4x64 : Shape := ⟨5, ![128, 520, 2, 4, 64]⟩
abbrev S128x2x4x64x512 : Shape := ⟨5, ![128, 2, 4, 64, 512]⟩

abbrev nBuf : Space → Nat
  | .hbm => 18
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S128x8x512, .f32⟩
  | .hbm, ⟨3, _⟩ => ⟨S128x8x128, .f32⟩
  | .hbm, ⟨4, _⟩ => ⟨S128x128x512, .f32⟩
  | .hbm, ⟨5, _⟩ => ⟨S2x128x512x2x4x64, .f32⟩
  | .hbm, ⟨6, _⟩ => ⟨S2x2560x128x4x4x64, .f32⟩
  | .hbm, ⟨7, _⟩ => ⟨S128x16, .i32⟩
  | .hbm, ⟨8, _⟩ => ⟨S128x128, .f32⟩
  | .hbm, ⟨9, _⟩ => ⟨S128x2176, .f32⟩
  | .hbm, ⟨10, _⟩ => ⟨S128x640, .f32⟩
  | .hbm, ⟨11, _⟩ => ⟨S40x128, .f32⟩
  | .hbm, ⟨12, _⟩ => ⟨S128x8x2x4x64, .f32⟩
  | .hbm, ⟨13, _⟩ => ⟨S1x128x512x2x4x64, .f32⟩
  | .hbm, ⟨14, _⟩ => ⟨S128x512x2x4x64, .f32⟩
  | .hbm, ⟨15, _⟩ => ⟨S128x520x2x4x64, .f32⟩
  | .hbm, ⟨16, _⟩ => ⟨S128x512x2x4x64, .f32⟩
  | .hbm, ⟨17, _⟩ => ⟨S128x2x4x64x512, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Proof.Common.lean ====
/- Facts about extended-real matrix products shared by the three calls' proofs: a product with one contracted axis, read at a
   row and a column, is the sum over that axis of the two operands' products. -/
module

public import Idealize.ShloMosaic.Lib.Pipeline.Value
public import Idealize.ShloMosaic.Lib.ValueIdx
public import Idealize.ShloMosaic.PureOps.Ideal.Laws

@[expose] public section

noncomputable section

namespace Cert.Proof.Common

open Idealize.ShloMosaic Idealize.ShloMosaic.ValueIdx

/-- The dimension numbers of a plain product of an `M` by `K` and a `K` by `N` matrix. -/
structure IsNN {M K N : ℕ} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The dimension numbers of a product of an `M` by `K` matrix with the transpose of an `N` by `K` matrix. -/
structure IsNT {M K N : ℕ} (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

/-- A plain product read at a row and a column: the sum over the contracted axis. -/
theorem sum_nn {M K N : ℕ} {R : Type*} [AddCommMonoid R] (D : DotDims ⟨2, ![M, K]⟩ ⟨2, ![K, N]⟩ ⟨2, ![M, N]⟩) (hD : IsNN D)
    (f : (⟨2, ![M, K]⟩ : Shape).Idx → (⟨2, ![K, N]⟩ : Shape).Idx → R) (j : (⟨2, ![M, N]⟩ : Shape).Idx) :
    ∑ k : D.contr.Idx, f (D.lhsIdx j k) (D.rhsIdx j k) = ∑ k : Fin K, f (ix2 (j 0) k) (ix2 k (j 1)) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 _ K rfl rfl).symm]
  refine Finset.sum_congr rfl fun k _ => ?_
  have hk := contrEquiv1_symm_val (DotDims.mk [1] [0] [0] [1] [] [] wf : DotDims ⟨2, ![M, K]⟩ ⟨2, ![K, N]⟩ ⟨2, ![M, N]⟩) K rfl rfl k
  congr 1
  · funext a
    apply Fin.ext
    match a with
    | ⟨0, _⟩ => rfl
    | ⟨1, _⟩ => exact (DotDims.lhsIdx_val_of_single _ rfl j _).trans hk
  · funext a
    apply Fin.ext
    match a with
    | ⟨0, _⟩ => exact (DotDims.rhsIdx_val_of_single _ rfl j _).trans hk
    | ⟨1, _⟩ => rfl

/-- A product with a transposed right operand read at a row and a column: the sum over the contracted axis. -/
theorem sum_nt {M K N : ℕ} {R : Type*} [AddCommMonoid R] (D : DotDims ⟨2, ![M, K]⟩ ⟨2, ![N, K]⟩ ⟨2, ![M, N]⟩) (hD : IsNT D)
    (f : (⟨2, ![M, K]⟩ : Shape).Idx → (⟨2, ![N, K]⟩ : Shape).Idx → R) (j : (⟨2, ![M, N]⟩ : Shape).Idx) :
    ∑ k : D.contr.Idx, f (D.lhsIdx j k) (D.rhsIdx j k) = ∑ k : Fin K, f (ix2 (j 0) k) (ix2 (j 1) k) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 _ K rfl rfl).symm]
  refine Finset.sum_congr rfl fun k _ => ?_
  have hk := contrEquiv1_symm_val (DotDims.mk [1] [1] [0] [0] [] [] wf : DotDims ⟨2, ![M, K]⟩ ⟨2, ![N, K]⟩ ⟨2, ![M, N]⟩) K rfl rfl k
  congr 1
  · funext a
    apply Fin.ext
    match a with
    | ⟨0, _⟩ => rfl
    | ⟨1, _⟩ => exact (DotDims.lhsIdx_val_of_single _ rfl j _).trans hk
  · funext a
    apply Fin.ext
    match a with
    | ⟨0, _⟩ => rfl
    | ⟨1, _⟩ => exact (DotDims.rhsIdx_val_of_single _ rfl j _).trans hk

/-- A plain matrix product into zeros, read at a row and a column. -/
theorem matmul_nn {M K N : ℕ} {φ₁ φ₂ : FTy} (D : DotDims ⟨2, ![M, K]⟩ ⟨2, ![K, N]⟩ ⟨2, ![M, N]⟩) (hD : IsNN D)
    (p : Option ContractPrecision) (a : FVec Ideal ⟨2, ![M, K]⟩ φ₁) (b : FVec Ideal ⟨2, ![K, N]⟩ φ₂) (j : (⟨2, ![M, N]⟩ : Shape).Idx) :
    FloatOps.matmul D p a b (constant ⟨2, ![M, N]⟩ .f32 0x00000000#32) j
      = ∑ k : Fin K, a (ix2 (j 0) k) * b (ix2 k (j 1)) := by
  rw [Ideal.matmul_constant_zero_apply]
  exact sum_nn D hD (fun x y => a x * b y) j

/-- A matrix product with a transposed right operand into zeros, read at a row and a column. -/
theorem matmul_nt {M K N : ℕ} {φ₁ φ₂ : FTy} (D : DotDims ⟨2, ![M, K]⟩ ⟨2, ![N, K]⟩ ⟨2, ![M, N]⟩) (hD : IsNT D)
    (p : Option ContractPrecision) (a : FVec Ideal ⟨2, ![M, K]⟩ φ₁) (b : FVec Ideal ⟨2, ![N, K]⟩ φ₂) (j : (⟨2, ![M, N]⟩ : Shape).Idx) :
    FloatOps.matmul D p a b (constant ⟨2, ![M, N]⟩ .f32 0x00000000#32) j
      = ∑ k : Fin K, a (ix2 (j 0) k) * b (ix2 (j 1) k) := by
  rw [Ideal.matmul_constant_zero_apply]
  exact sum_nt D hD (fun x y => a x * b y) j

/-- A sum over 4096 terms, by quarters. -/
theorem sum_quarters (f : Fin 4096 → EReal) :
    ∑ k : Fin 4096, f k = ∑ q : Fin 4, ∑ b : Fin 1024, f ⟨q.val * 1024 + b.val, by omega⟩ := by
  rw [← Fintype.sum_prod_type' (fun (q : Fin 4) (b : Fin 1024) => f ⟨q.val * 1024 + b.val, by omega⟩),
    ← Equiv.sum_comp (finProdFinEquiv : Fin 4 × Fin 1024 ≃ Fin 4096)]
  refine Finset.sum_congr rfl fun p _ => congrArg f (Fin.ext ?_)
  show p.2.val + 1024 * p.1.val = p.1.val * 1024 + p.2.val
  omega

end Cert.Proof.Common

end
-- ==== Proof.ProjValue.lean ====
/- The projection call. Each grid point multiplies a block of 512 rows of the input with three blocks of the weights' columns: two
   products are stored as they are, the third transposed. The arrays after the run, element by element, are the reference's. -/
module

public import proofs.«01_k».proof.Defs
public import proofs.«01_k».proof.Proof.Common
public import proofs.«01_k».proof.Proof.Gen.ProjIdeal.Value
public import proofs.«01_k».proof.Proof.Gen.ProjRefIdeal.Read

@[expose] public section

noncomputable section

namespace Cert.Proof.ProjValue

open Cert.ProjIdeal Cert.ProjIdeal.Gen Idealize.ShloMosaic Idealize.ShloMosaic.TcCoe Idealize.SL.Sem
open Idealize.ShloMosaic.ValueIdx Cert.Proof.Common
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The input and the weights as launched. -/
abbrev X (c : Dev nD) : Buf (Elt Ideal) ((c : Thread nD τ).loc main_arg0) := m ((c : Thread nD τ).loc main_arg0)
abbrev Wt (c : Dev nD) : Buf (Elt Ideal) ((c : Thread nD τ).loc main_arg1) := m ((c : Thread nD τ).loc main_arg1)

/-- The projection's element: row `r` of the input by column `n` of the weights. -/
def proj (x : S16384x1024.Idx → EReal) (w : S1024x3072.Idx → EReal) (r : Fin 16384) (n : Fin 3072) : EReal :=
  ∑ k : Fin 1024, x (ix2 r k) * w (ix2 k n)

/-- Where the windows' blocks lie at each grid point. -/
theorem idx_facts : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val / 8 ∧ win0_6.index t 1 = 0 ∧ win0_6.index t 2 = t.val % 8) :=
  (by decide +kernel : ∀ t : Fin grid0.N, _)

theorem V_v1 (c : Dev nD) : V m c main_v1 = (truncf (F := Ideal) .bf16 (extractStridedSlice S1024x1024 ![0, 0] (Wt m c) slices_S1024x3072_S1024x1024_0_0) bitsLt_bf16_f32 : FVec Ideal S1024x1024 .bf16) := by
  show StableHlo.after hostOps0 (fun b => m (c, b)) (Proc.devRef .tc main_v1) = _
  after_results
theorem V_v3 (c : Dev nD) : V m c main_v3 = (truncf (F := Ideal) .bf16 (extractStridedSlice S1024x1024 ![0, 2048] (Wt m c) slices_S1024x3072_S1024x1024_0_2048) bitsLt_bf16_f32 : FVec Ideal S1024x1024 .bf16) := by
  show StableHlo.after hostOps0 (fun b => m (c, b)) (Proc.devRef .tc main_v3) = _
  after_results
theorem V_v6 (c : Dev nD) : V m c main_v6 = (truncf (F := Ideal) .bf16 (transpose S1024x1024 [1, 0] (extractStridedSlice S1024x1024 ![0, 1024] (Wt m c) slices_S1024x3072_S1024x1024_0_1024) transposes_S1024x1024_S1024x1024_1_0) bitsLt_bf16_f32 : FVec Ideal S1024x1024 .bf16) := by
  show StableHlo.after hostOps0 (fun b => m (c, b)) (Proc.devRef .tc main_v6) = _
  after_results

/-- The input's block at point `t` holds rows `512 t` onwards. -/
theorem blk0 (c : Dev nD) (t : Fin cfg0.N) (i : Fin 512) (k : Fin 1024) (r : Fin 16384) (hr : r.val = t.val * 512 + i.val) :
    iblk m c 0 t (ix2 i k) = X m c (ix2 r k) := by
  obtain ⟨⟨h0, h1⟩, -⟩ := idx_facts t
  unfold iblk
  rw [View.read_apply]
  show V m c main_arg0 _ = _
  rw [V_main_arg0]
  show m _ _ = m _ _
  congr 1
  funext a
  apply Fin.ext
  match a with
  | ⟨0, _⟩ => show win0_0.index t 0 * 512 + 1 * i.val = r.val; rw [h0, hr]; omega
  | ⟨1, _⟩ => show win0_0.index t 1 * 1024 + 1 * k.val = k.val; rw [h1]; omega

/-- The weights' first block is their columns from 0, -/
theorem blk1 (c : Dev nD) (t : Fin cfg0.N) (k n : Fin 1024) (p : Fin 3072) (hp : p.val = n.val) :
    iblk m c 1 t (ix2 k n) = Wt m c (ix2 k p) := by
  obtain ⟨-, ⟨h0, h1⟩, -⟩ := idx_facts t
  unfold iblk
  rw [View.read_apply]
  show V m c main_v1 _ = _
  rw [V_v1]
  refine extractStridedSlice_apply _ _ slices_S1024x3072_S1024x1024_0_0 _ (ix2 k p) fun a => ?_
  match a with
  | ⟨0, _⟩ => show k.val = 0 + (win0_1.index t 0 * 1024 + 1 * k.val); rw [h0]; omega
  | ⟨1, _⟩ => show p.val = 0 + (win0_1.index t 1 * 1024 + 1 * n.val); rw [h1, hp]; omega

/-- the second their columns from 2048, -/
theorem blk2 (c : Dev nD) (t : Fin cfg0.N) (k n : Fin 1024) (p : Fin 3072) (hp : p.val = 2048 + n.val) :
    iblk m c 2 t (ix2 k n) = Wt m c (ix2 k p) := by
  obtain ⟨-, -, ⟨h0, h1⟩, -⟩ := idx_facts t
  unfold iblk
  rw [View.read_apply]
  show V m c main_v3 _ = _
  rw [V_v3]
  refine extractStridedSlice_apply _ _ slices_S1024x3072_S1024x1024_0_2048 _ (ix2 k p) fun a => ?_
  match a with
  | ⟨0, _⟩ => show k.val = 0 + (win0_2.index t 0 * 1024 + 1 * k.val); rw [h0]; omega
  | ⟨1, _⟩ => show p.val = 2048 + (win0_2.index t 1 * 1024 + 1 * n.val); rw [h1, hp]; omega

/-- and the third their columns from 1024, transposed. -/
theorem blk3 (c : Dev nD) (t : Fin cfg0.N) (n k : Fin 1024) (p : Fin 3072) (hp : p.val = 1024 + n.val) :
    iblk m c 3 t (ix2 n k) = Wt m c (ix2 k p) := by
  obtain ⟨-, -, -, ⟨h0, h1⟩, -⟩ := idx_facts t
  unfold iblk
  rw [View.read_apply]
  show V m c main_v6 _ = _
  rw [V_v6]
  refine (transpose_apply _ _ transposes_S1024x1024_S1024x1024_1_0 _ (ix2 k n) fun b => ?_).trans (extractStridedSlice_apply _ _ slices_S1024x3072_S1024x1024_0_1024 _ (ix2 k p) fun a => ?_)
  · match b with
    | ⟨0, _⟩ => show n.val = win0_3.index t 0 * 1024 + 1 * n.val; rw [h0]; omega
    | ⟨1, _⟩ => show k.val = win0_3.index t 1 * 1024 + 1 * k.val; rw [h1]; omega
  · match a with
    | ⟨0, _⟩ => show k.val = 0 + k.val; omega
    | ⟨1, _⟩ => show p.val = 1024 + n.val; omega

theorem nn : IsNN dot_S512x1024_S1024x1024_S512x1024_1_0_0_1_n_n := ⟨rfl, rfl, rfl, rfl, rfl, rfl⟩
theorem nt : IsNT dot_S1024x1024_S512x1024_S1024x512_1_1_0_0_n_n := ⟨rfl, rfl, rfl, rfl, rfl, rfl⟩

/-- The two plain products of a block, and the transposed one, read at an element. -/
theorem pay2_apply (x : Vec Ideal S512x1024 .f32) (w : Vec Ideal S1024x1024 .bf16) (i : Fin 512) (n : Fin 1024) :
    k0_pay2 x w (ix2 i n) = ∑ k : Fin 1024, x (ix2 i k) * w (ix2 k n) := by
  unfold k0_pay2
  simp only [shapeCast_self]
  exact matmul_nn _ nn none _ _ _
theorem pay3_apply (x : Vec Ideal S512x1024 .f32) (w : Vec Ideal S1024x1024 .bf16) (i : Fin 512) (n : Fin 1024) :
    k0_pay3 x w (ix2 i n) = ∑ k : Fin 1024, x (ix2 i k) * w (ix2 k n) := by
  unfold k0_pay3
  simp only [shapeCast_self]
  exact matmul_nn _ nn none _ _ _
set_option maxHeartbeats 1000000 in
theorem pay4_apply (x : Vec Ideal S512x1024 .f32) (w : Vec Ideal S1024x1024 .bf16) (z : Fin 1) (n : Fin 1024) (i : Fin 512) :
    k0_pay4 x w (ix3 z n i) = ∑ k : Fin 1024, w (ix2 n k) * x (ix2 i k) := by
  unfold k0_pay4
  simp only [shapeCast_self]
  refine (shapeCast_addUnit_apply ![1024, 512] _ _ (ix3 z n i)).trans ?_
  have e : (fun a : Fin 2 => (ix3 z n i : S1x1024x512.Idx) a.succ) = (ix2 n i : S1024x512.Idx) := by
    funext a
    match a with
    | ⟨0, _⟩ => rfl
    | ⟨1, _⟩ => rfl
  exact (congrArg _ e).trans (matmul_nt _ nt none _ _ (ix2 n i))

/-- The three results, as functions of the arguments. -/
def G4 (c : Dev nD) : Buf (Elt Ideal) ((c : Thread nD τ).loc main_v7_0) := fun i : S16384x1024.Idx =>
  proj (X m c) (Wt m c) (i 0) ⟨(i 1).val, by have := idx2_lt1 i; omega⟩
def G5 (c : Dev nD) : Buf (Elt Ideal) ((c : Thread nD τ).loc main_v7_1) := fun i : S16384x1024.Idx =>
  proj (X m c) (Wt m c) (i 0) ⟨2048 + (i 1).val, by have := idx2_lt1 i; omega⟩
def G6 (c : Dev nD) : Buf (Elt Ideal) ((c : Thread nD τ).loc main_v7_2) := fun i : S4x1024x4096.Idx =>
  proj (X m c) (Wt m c) ⟨(i 0).val * 4096 + (i 2).val, by have h0 : (i 0).val < 4 := (i 0).isLt; have h2 : (i 2).val < 4096 := (i 2).isLt; omega⟩
    ⟨1024 + (i 1).val, by have h1 : (i 1).val < 1024 := (i 1).isLt; omega⟩

theorem flushed4_eq (c : Dev nD) (t : Fin cfg0.N) (hf : (cfg0.win 4).flush t = true) :
    (dats m 0 c).flushed 4 t = ((cfg0.win 4).blk t).view.read (Elt Ideal) (G4 m c) := by
  obtain ⟨-, -, -, -, ⟨h0, h1⟩, -⟩ := idx_facts t
  have hN : cfg0.N = 32 := by decide
  have ht : t.val < 32 := hN ▸ t.isLt
  rw [Cert.ProjIdeal.Value.flushed4]
  funext j
  obtain ⟨i, n, rfl⟩ : ∃ (i : Fin 512) (n : Fin 1024), j = ix2 i n := ⟨j 0, j 1, eq_ix2 j⟩
  rw [View.read_apply]
  show out0_4 _ _ _ _ (ix2 i n) = G4 m c _
  unfold out0_4
  rw [View.canon_unit_zero hz2, View.ld_unit_zero (S := S512x1024) hz2, View.ld_unit_zero (S := S1024x1024) hz2]
  rw [pay2_apply]
  have e : (((cfg0.win 4).blk t).view.emb (ix2 i n) : S16384x1024.Idx) = ix2 ⟨t.val * 512 + i.val, by omega⟩ n := by
    funext a
    apply Fin.ext
    match a with
    | ⟨0, _⟩ => show win0_4.index t 0 * 512 + 1 * i.val = t.val * 512 + i.val; rw [h0]; omega
    | ⟨1, _⟩ => show win0_4.index t 1 * 1024 + 1 * n.val = n.val; rw [h1]; omega
  show _ = G4 m c (((cfg0.win 4).blk t).view.emb (ix2 i n) : S16384x1024.Idx)
  rw [e]
  unfold G4 proj
  show @Eq EReal (∑ k : Fin 1024, _) (∑ k : Fin 1024, _)
  refine Finset.sum_congr rfl fun k _ => ?_
  rw [blk0 m c t i k ⟨t.val * 512 + i.val, by omega⟩ rfl, blk1 m c t k n ⟨n.val, by omega⟩ rfl]

theorem flushed5_eq (c : Dev nD) (t : Fin cfg0.N) (hf : (cfg0.win 5).flush t = true) :
    (dats m 0 c).flushed 5 t = ((cfg0.win 5).blk t).view.read (Elt Ideal) (G5 m c) := by
  obtain ⟨-, -, -, -, -, ⟨h0, h1⟩, -⟩ := idx_facts t
  have hN : cfg0.N = 32 := by decide
  have ht : t.val < 32 := hN ▸ t.isLt
  rw [Cert.ProjIdeal.Value.flushed5]
  funext j
  obtain ⟨i, n, rfl⟩ : ∃ (i : Fin 512) (n : Fin 1024), j = ix2 i n := ⟨j 0, j 1, eq_ix2 j⟩
  rw [View.read_apply]
  show out0_5 _ _ _ _ (ix2 i n) = G5 m c _
  unfold out0_5
  rw [View.canon_unit_zero hz2, View.ld_unit_zero (S := S512x1024) hz2, View.ld_unit_zero (S := S1024x1024) hz2]
  rw [pay3_apply]
  have e : (((cfg0.win 5).blk t).view.emb (ix2 i n) : S16384x1024.Idx) = ix2 ⟨t.val * 512 + i.val, by omega⟩ n := by
    funext a
    apply Fin.ext
    match a with
    | ⟨0, _⟩ => show win0_5.index t 0 * 512 + 1 * i.val = t.val * 512 + i.val; rw [h0]; omega
    | ⟨1, _⟩ => show win0_5.index t 1 * 1024 + 1 * n.val = n.val; rw [h1]; omega
  show _ = G5 m c (((cfg0.win 5).blk t).view.emb (ix2 i n) : S16384x1024.Idx)
  rw [e]
  unfold G5 proj
  show @Eq EReal (∑ k : Fin 1024, _) (∑ k : Fin 1024, _)
  refine Finset.sum_congr rfl fun k _ => ?_
  rw [blk0 m c t i k ⟨t.val * 512 + i.val, by omega⟩ rfl, blk2 m c t k n ⟨2048 + n.val, by omega⟩ rfl]

theorem flushed6_eq (c : Dev nD) (t : Fin cfg0.N) (hf : (cfg0.win 6).flush t = true) :
    (dats m 0 c).flushed 6 t = ((cfg0.win 6).blk t).view.read (Elt Ideal) (G6 m c) := by
  obtain ⟨-, -, -, -, -, -, ⟨h0, h1, h2⟩⟩ := idx_facts t
  have hN : cfg0.N = 32 := by decide
  have ht : t.val < 32 := hN ▸ t.isLt
  rw [Cert.ProjIdeal.Value.flushed6]
  funext j
  obtain ⟨z, n, i, rfl⟩ : ∃ (z : Fin 1) (n : Fin 1024) (i : Fin 512), j = ix3 z n i := ⟨j 0, j 1, j 2, eq_ix3 j⟩
  rw [View.read_apply]
  show out0_6 _ _ _ _ (ix3 z n i) = G6 m c _
  unfold out0_6
  rw [View.canon_unit_zero hz3, View.ld_unit_zero (S := S512x1024) hz2, View.ld_unit_zero (S := S1024x1024) hz2]
  rw [pay4_apply]
  have e : (((cfg0.win 6).blk t).view.emb (ix3 z n i) : S4x1024x4096.Idx) = ix3 ⟨t.val / 8, by omega⟩ n ⟨t.val % 8 * 512 + i.val, by omega⟩ := by
    funext a
    apply Fin.ext
    match a with
    | ⟨0, _⟩ => show win0_6.index t 0 * 1 + 1 * z.val = t.val / 8; rw [h0]; omega
    | ⟨1, _⟩ => show win0_6.index t 1 * 1024 + 1 * n.val = n.val; rw [h1]; omega
    | ⟨2, _⟩ => show win0_6.index t 2 * 512 + 1 * i.val = t.val % 8 * 512 + i.val; rw [h2]; omega
  show _ = G6 m c (((cfg0.win 6).blk t).view.emb (ix3 z n i) : S4x1024x4096.Idx)
  rw [e]
  unfold G6 proj
  show @Eq EReal (∑ k : Fin 1024, _) (∑ k : Fin 1024, _)
  refine Finset.sum_congr rfl fun k _ => ?_
  rw [blk0 m c t i k ⟨t.val / 8 * 4096 + (t.val % 8 * 512 + i.val), by omega⟩ (by show t.val / 8 * 4096 + (t.val % 8 * 512 + i.val) = _; omega),
    blk3 m c t n k ⟨1024 + n.val, by omega⟩ rfl, mul_comm]

/-- Every element of each result lies in some point's block, so the results are these functions. -/
theorem final4 (c : Dev nD) : (dats m 0 c).arrAt 4 cfg0.N = G4 m c :=
  (dats m 0 c).arrAt_eq_of_cover 4 (G4 m c) (flushed4_eq m c) fun i => by
    have hi0 : (i 0).val < 16384 := (i 0).isLt
    have hi1 : (i 1).val < 1024 := (i 1).isLt
    have hN : cfg0.N = 32 := by decide
    obtain ⟨t, ht⟩ : ∃ t : Fin cfg0.N, t.val = (i 0).val / 512 := ⟨⟨(i 0).val / 512, by omega⟩, rfl⟩
    refine ⟨t, flush0_4 t, ?_⟩
    obtain ⟨-, -, -, -, ⟨h0, h1⟩, -⟩ := idx_facts t
    show i ∈ ((View.whole main_v7_0).slice (win0_4.rect t)).set
    rw [View.set_slice_whole, Rect.mem_set_unit]
    intro a
    match a with
    | ⟨0, _⟩ => show win0_4.index t 0 * 512 ≤ (i 0).val ∧ (i 0).val < win0_4.index t 0 * 512 + 512; rw [h0]; omega
    | ⟨1, _⟩ => show win0_4.index t 1 * 1024 ≤ (i 1).val ∧ (i 1).val < win0_4.index t 1 * 1024 + 1024; rw [h1]; omega
theorem final5 (c : Dev nD) : (dats m 0 c).arrAt 5 cfg0.N = G5 m c :=
  (dats m 0 c).arrAt_eq_of_cover 5 (G5 m c) (flushed5_eq m c) fun i => by
    have hi0 : (i 0).val < 16384 := (i 0).isLt
    have hi1 : (i 1).val < 1024 := (i 1).isLt
    have hN : cfg0.N = 32 := by decide
    obtain ⟨t, ht⟩ : ∃ t : Fin cfg0.N, t.val = (i 0).val / 512 := ⟨⟨(i 0).val / 512, by omega⟩, rfl⟩
    refine ⟨t, flush0_5 t, ?_⟩
    obtain ⟨-, -, -, -, -, ⟨h0, h1⟩, -⟩ := idx_facts t
    show i ∈ ((View.whole main_v7_1).slice (win0_5.rect t)).set
    rw [View.set_slice_whole, Rect.mem_set_unit]
    intro a
    match a with
    | ⟨0, _⟩ => show win0_5.index t 0 * 512 ≤ (i 0).val ∧ (i 0).val < win0_5.index t 0 * 512 + 512; rw [h0]; omega
    | ⟨1, _⟩ => show win0_5.index t 1 * 1024 ≤ (i 1).val ∧ (i 1).val < win0_5.index t 1 * 1024 + 1024; rw [h1]; omega
theorem final6 (c : Dev nD) : (dats m 0 c).arrAt 6 cfg0.N = G6 m c :=
  (dats m 0 c).arrAt_eq_of_cover 6 (G6 m c) (flushed6_eq m c) fun i => by
    have hi0 : (i 0).val < 4 := (i 0).isLt
    have hi1 : (i 1).val < 1024 := (i 1).isLt
    have hi2 : (i 2).val < 4096 := (i 2).isLt
    have hN : cfg0.N = 32 := by decide
    obtain ⟨t, ht⟩ : ∃ t : Fin cfg0.N, t.val = (i 0).val * 8 + (i 2).val / 512 := ⟨⟨(i 0).val * 8 + (i 2).val / 512, by omega⟩, rfl⟩
    refine ⟨t, flush0_6 t, ?_⟩
    obtain ⟨-, -, -, -, -, -, ⟨h0, h1, h2⟩⟩ := idx_facts t
    show i ∈ ((View.whole main_v7_2).slice (win0_6.rect t)).set
    rw [View.set_slice_whole, Rect.mem_set_unit]
    intro a
    match a with
    | ⟨0, _⟩ => show win0_6.index t 0 * 1 ≤ (i 0).val ∧ (i 0).val < win0_6.index t 0 * 1 + 1; rw [h0]; omega
    | ⟨1, _⟩ => show win0_6.index t 1 * 1024 ≤ (i 1).val ∧ (i 1).val < win0_6.index t 1 * 1024 + 1024; rw [h1]; omega
    | ⟨2, _⟩ => show win0_6.index t 2 * 512 ≤ (i 2).val ∧ (i 2).val < win0_6.index t 2 * 512 + 512; rw [h2]; omega

open Cert.ProjRefIdeal.Read in
/-- The reference's three results are the same functions of the arguments. -/
theorem ref4 (c : Dev nD) : val_main_v1 (F := Ideal) (X m c) (Wt m c) = G4 m c := by
  funext i
  rw [val_main_v1_apply, val_main_v0_apply]
  unfold G4 proj
  refine Finset.sum_congr rfl fun k _ => ?_
  congr 1
  · exact congrArg (X m c) (Shape.idx_ext₂ rfl rfl)
  · exact congrArg (Wt m c) (Shape.idx_ext₂ rfl rfl)
open Cert.ProjRefIdeal.Read in
theorem ref5 (c : Dev nD) : val_main_v3 (F := Ideal) (X m c) (Wt m c) = G5 m c := by
  funext i
  rw [val_main_v3_apply, val_main_v0_apply]
  unfold G5 proj
  refine Finset.sum_congr rfl fun k _ => ?_
  congr 1
  · exact congrArg (X m c) (Shape.idx_ext₂ rfl rfl)
  · exact congrArg (Wt m c) (Shape.idx_ext₂ rfl rfl)
open Cert.ProjRefIdeal.Read in
theorem ref6 (c : Dev nD) : val_main_v5 (F := Ideal) (X m c) (Wt m c) = G6 m c := by
  funext i
  have hi0 : (i 0).val < 4 := (i 0).isLt
  have hi1 : (i 1).val < 1024 := (i 1).isLt
  have hi2 : (i 2).val < 4096 := (i 2).isLt
  rw [val_main_v5_apply, val_main_v4_apply, val_main_v2_apply, val_main_v0_apply]
  unfold G6 proj
  refine Finset.sum_congr rfl fun k _ => ?_
  congr 1
  · refine congrArg (X m c) (Shape.idx_ext₂ ?_ rfl)
    show ((((i 0).val * 4096 + (i 2).val) * 1024 + (i 1).val) / 1024) = (i 0).val * 4096 + (i 2).val
    omega
  · refine congrArg (Wt m c) (Shape.idx_ext₂ rfl ?_)
    show 1024 + ((((i 0).val * 4096 + (i 2).val) * 1024 + (i 1).val) % 1024) = 1024 + (i 1).val
    omega

/-- The projection call and its reference end with the same three arrays. -/
theorem algebraic : Cert.algebraic_ProjIdeal_ProjRefIdeal := by
  intro m g m' g' _ hagree
  refine ⟨fun c => G4 m c, fun c => G5 m c, fun c => G6 m c, ?_, ?_⟩
  · refine (θ_run Cert.ProjIdeal.defs _ _).mono (fun r h c => ?_) (Cert.ProjIdeal.Value.run_blocks m g)
    obtain ⟨e4, e5, e6, k0, k1⟩ := h c
    exact ⟨e4.trans (final4 m c), e5.trans (final5 m c), e6.trans (final6 m c), k0, k1⟩
  · refine (θ_run Cert.ProjRefIdeal.defs _ _).mono (fun r h c => ?_) (Cert.ProjRefIdeal.Value.run m' g')
    obtain ⟨e4, e5, e6, k0, k1⟩ := h c
    obtain ⟨a0, a1⟩ := hagree c
    rw [a0, a1] at e4 e5 e6
    refine ⟨e4.trans ((Cert.ProjRefIdeal.Read.val_main_v1_eq _ _).trans (ref4 m c)),
      e5.trans ((Cert.ProjRefIdeal.Read.val_main_v3_eq _ _).trans (ref5 m c)),
      e6.trans ((Cert.ProjRefIdeal.Read.val_main_v5_eq _ _).trans (ref6 m c)), k0, k1⟩

end Cert.Proof.ProjValue

end
-- ==== Proof.PostValue.lean ====
/- The call after the mixer. Four grid points share a block of 512 rows: the first multiplies the mixer's output with the output weights
   and normalizes, each adds one quarter of the feed-forward sum, and the last normalizes again. -/
module

public import proofs.«01_k».proof.Defs
public import proofs.«01_k».proof.Proof.Common
public import proofs.«01_k».proof.Proof.ProjValue
public import proofs.«01_k».proof.Proof.Gen.PostIdeal.Value
public import proofs.«01_k».proof.Proof.Gen.PostRefIdeal.Read

@[expose] public section

noncomputable section

namespace Cert.Proof.PostValue

open Cert.PostIdeal Cert.PostIdeal.Gen Idealize.ShloMosaic Idealize.ShloMosaic.TcCoe Idealize.SL.Sem
open Idealize.ShloMosaic.ValueIdx Cert.Proof.Common
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- The arguments as launched: the mixer's output, the output weights, the layer's input, the two norms' gains and offsets, and the
    feed-forward's weights. -/
abbrev O (c : Dev nD) : Buf (Elt Ideal) ((c : Thread nD τ).loc main_arg0) := m ((c : Thread nD τ).loc main_arg0)
abbrev Wo (c : Dev nD) : Buf (Elt Ideal) ((c : Thread nD τ).loc main_arg1) := m ((c : Thread nD τ).loc main_arg1)
abbrev X (c : Dev nD) : Buf (Elt Ideal) ((c : Thread nD τ).loc main_arg2) := m ((c : Thread nD τ).loc main_arg2)
abbrev Lg (c : Dev nD) : Buf (Elt Ideal) ((c : Thread nD τ).loc main_arg3) := m ((c : Thread nD τ).loc main_arg3)
abbrev Lb (c : Dev nD) : Buf (Elt Ideal) ((c : Thread nD τ).loc main_arg4) := m ((c : Thread nD τ).loc main_arg4)
abbrev Wu (c : Dev nD) : Buf (Elt Ideal) ((c : Thread nD τ).loc main_arg5) := m ((c : Thread nD τ).loc main_arg5)
abbrev Wd (c : Dev nD) : Buf (Elt Ideal) ((c : Thread nD τ).loc main_arg6) := m ((c : Thread nD τ).loc main_arg6)

/-- The words of the programs: the residual's scale, the row's length, the norm's floor and zero. -/
abbrev al : EReal := Ideal.ofBits .f32 0x3FD744FD#32
abbrev dm : EReal := Ideal.ofBits .f32 0x44800000#32
abbrev ep : EReal := Ideal.ofBits .f32 0x3727C5AC#32
abbrev ze : EReal := Ideal.ofBits .f32 0x00000000#32

/-- The mean of a row. -/
def mean (z : Fin 1024 → EReal) : EReal := Ideal.div (∑ k : Fin 1024, z k) dm
/-- The layer norm of a row with gains `g` and offsets `b`. -/
def ln (g b z : Fin 1024 → EReal) (n : Fin 1024) : EReal :=
  (z n - mean z) * Ideal.rsqrt (mean (fun k => (z k - mean z) * (z k - mean z)) + ep) * g n + b n

/-- The sums of a block's rows, as a column. -/
def colsum (z : FVec Ideal S512x1024 .f32) : FVec Ideal S512x1 .f32 := shapeCast S512x1 (multiReduction .add [1] S512 z 0x00000000#32 reduces_S512x1024_S512 (.inl rfl) rfl) shapeCasts_S512_S512x1

/-- The layer norm of a block, as the kernel writes it. -/
def lnT (z : FVec Ideal S512x1024 .f32) (g b : FVec Ideal S1x1024 .f32) : FVec Ideal S512x1024 .f32 :=
  let mu := broadcastTo S512x1024 (divf (colsum z) (broadcast S512x1 (Scalar.ofBits .f32 0x44800000#32))) broadcasts_S512x1_S512x1024
  let zc := subf z mu
  let va := divf (colsum (mulf zc zc)) (broadcast S512x1 (Scalar.ofBits .f32 0x44800000#32))
  addf (mulf (mulf zc (broadcastTo S512x1024 (rsqrt (addf va (broadcast S512x1 (Scalar.ofBits .f32 0x3727C5AC#32)))) broadcasts_S512x1_S512x1024))
    (broadcastTo S512x1024 g broadcasts_S1x1024_S512x1024)) (broadcastTo S512x1024 b broadcasts_S1x1024_S512x1024)

/-- A row's sum, kept as a column. -/
theorem rowsum_apply (z : FVec Ideal S512x1024 .f32) (i : Fin 512) (o : Fin 1) :
    colsum z (ix2 i o) = ∑ k : Fin 1024, z (ix2 i k) := by
  unfold colsum
  refine (shapeCast_apply _ _ _ (ix1 i) ?_).trans ?_
  · have ho : o.val = 0 := by omega
    simp [Shape.rowMajor_val_two, Shape.rowMajor_val_one, ix1, ix2, ho]
  · refine (Ideal.multiReduction_add_single z _ _ _ _ _).trans ?_
    show @Eq EReal (∑ k : Fin 1024, _) (∑ k : Fin 1024, _)
    refine Finset.sum_congr rfl fun k _ => congrArg z (Shape.idx_ext₂ rfl rfl)

theorem col_apply (x : FVec Ideal S512x1 .f32) (i : Fin 512) (n : Fin 1024) :
    broadcastTo S512x1024 x broadcasts_S512x1_S512x1024 (ix2 i n) = x (ix2 i 0) :=
  broadcastTo_apply _ _ _ _ fun a => by
    match a with
    | ⟨0, _⟩ => rfl
    | ⟨1, _⟩ => rfl
theorem row_apply (x : FVec Ideal S1x1024 .f32) (i : Fin 512) (n : Fin 1024) :
    broadcastTo S512x1024 x broadcasts_S1x1024_S512x1024 (ix2 i n) = x (ix2 0 n) :=
  broadcastTo_apply _ _ _ _ fun a => by
    match a with
    | ⟨0, _⟩ => rfl
    | ⟨1, _⟩ => rfl

theorem lnT_apply (z : FVec Ideal S512x1024 .f32) (g b : FVec Ideal S1x1024 .f32) (i : Fin 512) (n : Fin 1024) :
    lnT z g b (ix2 i n) = ln (fun n => g (ix2 0 n)) (fun n => b (ix2 0 n)) (fun k => z (ix2 i k)) n := by
  unfold lnT
  simp only [addf_apply, mulf_apply, subf_apply, col_apply, row_apply, divf_apply, rowsum_apply, broadcast_apply]
  show (z (ix2 i n) - _) * Ideal.rsqrt _ * _ + _ = _
  simp only [addf_apply, divf_apply, rowsum_apply, mulf_apply, subf_apply, col_apply, broadcast_apply]
  rfl

/-- The first norm's block, and the last one's. -/
theorem pay5_eq (o : Vec Ideal S512x1024 .f32) (w : Vec Ideal S1024x1024 .bf16) (x : Vec Ideal S512x1024 .f32) (g b : Vec Ideal S1x1024 .f32) :
    k0_pay5 o w x g b = lnT (addf (mulf (broadcast S512x1024 (Scalar.ofBits .f32 0x3FD744FD#32)) x)
      (matmul (φ₂ := .bf16) dot_S512x1024_S1024x1024_S512x1024_1_0_0_1_n_n none (truncf .bf16 o bitsLt_bf16_f32) w (constant S512x1024 .f32 0x00000000#32))) g b := by
  unfold k0_pay5
  simp only [shapeCast_self]
  rfl
theorem pay4_eq (x acc : Vec Ideal S512x1024 .f32) (g b : Vec Ideal S1x1024 .f32) :
    k0_pay4 x acc g b = lnT (addf (mulf (broadcast S512x1024 (Scalar.ofBits .f32 0x3FD744FD#32)) x) acc) g b := by
  unfold k0_pay4
  simp only [shapeCast_self]
  rfl

theorem nn : IsNN dot_S512x1024_S1024x1024_S512x1024_1_0_0_1_n_n := ⟨rfl, rfl, rfl, rfl, rfl, rfl⟩
theorem mm {φ φ' : FTy} (a : FVec Ideal S512x1024 φ) (b : FVec Ideal S1024x1024 φ') (i : Fin 512) (n : Fin 1024) :
    matmul dot_S512x1024_S1024x1024_S512x1024_1_0_0_1_n_n none a b (constant S512x1024 .f32 0x00000000#32) (ix2 i n)
      = ∑ k : Fin 1024, a (ix2 i k) * b (ix2 k n) := matmul_nn _ nn none a b _

theorem pay5_apply (o : Vec Ideal S512x1024 .f32) (w : Vec Ideal S1024x1024 .bf16) (x : Vec Ideal S512x1024 .f32) (g b : Vec Ideal S1x1024 .f32)
    (i : Fin 512) (n : Fin 1024) :
    k0_pay5 o w x g b (ix2 i n) = ln (fun n => g (ix2 0 n)) (fun n => b (ix2 0 n))
      (fun k => al * x (ix2 i k) + ∑ j : Fin 1024, o (ix2 i j) * w (ix2 j k)) n := by
  rw [pay5_eq, lnT_apply]
  congr 1
  funext k
  rw [addf_apply, mulf_apply, broadcast_apply, mm]
  rfl
theorem pay4_apply (x acc : Vec Ideal S512x1024 .f32) (g b : Vec Ideal S1x1024 .f32) (i : Fin 512) (n : Fin 1024) :
    k0_pay4 x acc g b (ix2 i n) = ln (fun n => g (ix2 0 n)) (fun n => b (ix2 0 n)) (fun k => al * x (ix2 i k) + acc (ix2 i k)) n := by
  rw [pay4_eq, lnT_apply]
  rfl
/-- One quarter of the feed-forward sum added to the accumulator. -/
theorem pay3_apply (xb : Vec Ideal S512x1024 .bf16) (wu : Vec Ideal S1024x1024 .bf16) (acc : Vec Ideal S512x1024 .f32) (wd : Vec Ideal S1024x1024 .bf16)
    (i : Fin 512) (n : Fin 1024) :
    k0_pay3 xb wu acc wd (ix2 i n) = acc (ix2 i n) + ∑ f : Fin 1024,
      (max (∑ j : Fin 1024, xb (ix2 i j) * wu (ix2 j f)) ze * max (∑ j : Fin 1024, xb (ix2 i j) * wu (ix2 j f)) ze) * wd (ix2 f n) := by
  unfold k0_pay3
  simp only [shapeCast_self]
  rw [addf_apply, mm]
  congr 1
  refine Finset.sum_congr rfl fun f _ => ?_
  rw [truncf_apply, mulf_apply, maximumf_apply, mm]
  rfl

/-- The four rows of the norms' gains and offsets in the block of the fourth window. -/
abbrev row0 (c : Dev nD) (t : Fin cfg0.N) : Vec Ideal S1x1024 .f32 := View.ld (iblk m c 3 t) (Rect.unit ![0, 0] S1x1024.size inb_S4x1024_S1x1024_0_0)
abbrev row1 (c : Dev nD) (t : Fin cfg0.N) : Vec Ideal S1x1024 .f32 := View.ld (iblk m c 3 t) (Rect.unit ![1, 0] S1x1024.size inb_S4x1024_S1x1024_1_0)
abbrev row2 (c : Dev nD) (t : Fin cfg0.N) : Vec Ideal S1x1024 .f32 := View.ld (iblk m c 3 t) (Rect.unit ![2, 0] S1x1024.size inb_S4x1024_S1x1024_2_0)
abbrev row3 (c : Dev nD) (t : Fin cfg0.N) : Vec Ideal S1x1024 .f32 := View.ld (iblk m c 3 t) (Rect.unit ![3, 0] S1x1024.size inb_S4x1024_S1x1024_3_0)

/-- The state after the first point of a block of rows: the normalized rows (twice), and the first quarter of the feed-forward sum. -/
theorem x1_A (c : Dev nD) (t : Fin cfg0.N) (h0 : t.val % 4 = 0) (h1 : ¬t.val % 4 = 3) :
    (outsAt0 m c t.val t.isLt).2.1 = k0_pay5 (iblk m c 0 t) (iblk m c 1 t) (iblk m c 2 t) (row0 m c t) (row1 m c t) := by
  rw [outsAt0_A m c t h0 h1]
  dsimp only
  unfold sout0_A_0
  rw [View.read_writes_eq_canon _ _ _ (scover0_A_0 _ _ _ _ _ _ _ _ _ _ _ _ _ _ _ _ _ _ _ _ _ _ _ _ _ _ _ _ _ _)]
  unfold kernelRun0_A
  dsimp only
  sl_unfold_words
  rw [View.canon_unit_zero hz2]
  unfold k0_pay6
  simp only [View.readAt_eq_ld, shapeCast_self, (hs0_0 t).read_unread, (hs0_1 t).read_unread, (hs0_2 t).read_unread, (hs0_3 t).read_unread,
    View.ld_unit_zero (S := S512x1024) hz2, View.ld_unit_zero (S := S1024x1024) hz2]
  rfl
theorem xb_A (c : Dev nD) (t : Fin cfg0.N) (h0 : t.val % 4 = 0) (h1 : ¬t.val % 4 = 3) :
    (outsAt0 m c t.val t.isLt).2.2.1 = k0_pay7 (iblk m c 0 t) (iblk m c 1 t) (iblk m c 2 t) (row0 m c t) (row1 m c t) := by
  rw [outsAt0_A m c t h0 h1]
  dsimp only
  unfold sout0_A_1
  rw [View.read_writes_eq_canon _ _ _ (scover0_A_1 _ _ _ _ _ _ _ _ _ _ _ _ _ _ _ _ _ _ _ _ _ _ _ _ _ _ _ _ _ _)]
  unfold kernelRun0_A
  dsimp only
  sl_unfold_words
  rw [View.canon_unit_zero hz2]
  unfold k0_pay1
  simp only [View.readAt_eq_ld, shapeCast_self, (hs0_0 t).read_unread, (hs0_1 t).read_unread, (hs0_2 t).read_unread, (hs0_3 t).read_unread,
    View.ld_unit_zero (S := S512x1024) hz2, View.ld_unit_zero (S := S1024x1024) hz2]
  rfl
theorem acc_A (c : Dev nD) (t : Fin cfg0.N) (h0 : t.val % 4 = 0) (h1 : ¬t.val % 4 = 3) :
    (outsAt0 m c t.val t.isLt).2.2.2 = k0_pay3 (k0_pay7 (iblk m c 0 t) (iblk m c 1 t) (iblk m c 2 t) (row0 m c t) (row1 m c t)) (iblk m c 4 t)
      (k0_pay2 (F := Ideal)) (iblk m c 5 t) := by
  rw [outsAt0_A m c t h0 h1]
  dsimp only
  unfold sout0_A_2
  rw [View.read_writes_eq_canon _ _ _ (scover0_A_2 _ _ _ _ _ _ _ _ _ _ _ _ _ _ _ _ _ _ _ _ _ _ _ _ _ _ _ _ _ _)]
  unfold kernelRun0_A
  dsimp only
  sl_unfold_words
  rw [View.canon_cons_unit_zero (S := S512x1024) hz2]
  simp only [View.readCov_unit_zero (S := S512x1024) _ hz2]
  unfold k0_pay1
  simp only [View.readAt_eq_ld, shapeCast_self, (hs0_0 t).read_unread, (hs0_1 t).read_unread, (hs0_2 t).read_unread, (hs0_3 t).read_unread,
    (hs0_4 t).read_unread, (hs0_5 t).read_unread, View.ld_unit_zero (S := S512x1024) hz2, View.ld_unit_zero (S := S1024x1024) hz2]
  rfl

theorem rs0 (x : Vec Ideal S512x1024 .f32) : View.read (Elt Ideal) (View.whole cc0_scratch0) ((Memref.isWhole_whole cc0_scratch0).unread x) = x :=
  (Memref.isWhole_whole cc0_scratch0).read_unread x
theorem rs1 (x : Vec Ideal S512x1024 .bf16) : View.read (Elt Ideal) (View.whole cc0_scratch1) ((Memref.isWhole_whole cc0_scratch1).unread x) = x :=
  (Memref.isWhole_whole cc0_scratch1).read_unread x
theorem rs2 (x : Vec Ideal S512x1024 .f32) : View.read (Elt Ideal) (View.whole cc0_scratch2) ((Memref.isWhole_whole cc0_scratch2).unread x) = x :=
  (Memref.isWhole_whole cc0_scratch2).read_unread x

/-- At the other points the normalized rows stay and another quarter is added; -/
abbrev prev (c : Dev nD) (t : Fin cfg0.N) := outsAt0 m c (t.val - 1) (Nat.lt_of_le_of_lt (Nat.sub_le _ _) t.isLt)
theorem x1_B (c : Dev nD) (t : Fin cfg0.N) (h0 : ¬t.val % 4 = 0) :
    (outsAt0 m c t.val t.isLt).2.1 = (prev m c t).2.1 ∧ (outsAt0 m c t.val t.isLt).2.2.1 = (prev m c t).2.2.1 := by
  by_cases h1 : t.val % 4 = 3
  · rw [outsAt0_C m c t h0 h1]
    exact ⟨rfl, rfl⟩
  · rw [outsAt0_B m c t h0 h1]
    exact ⟨rfl, rfl⟩
theorem acc_B (c : Dev nD) (t : Fin cfg0.N) (h0 : ¬t.val % 4 = 0) :
    (outsAt0 m c t.val t.isLt).2.2.2 = k0_pay3 (prev m c t).2.2.1 (iblk m c 4 t) (prev m c t).2.2.2 (iblk m c 5 t) := by
  by_cases h1 : t.val % 4 = 3
  · rw [outsAt0_C m c t h0 h1]
    dsimp only
    unfold sout0_C_2
    rw [View.read_writes_eq_canon _ _ _ (scover0_C_2 _ _ _ _ _ _ _ _ _ _ _ _ _ _ _ _ _ _ _ _ _ _ _ _ _ _ _ _ _ _ _ _ _)]
    unfold kernelRun0_C
    dsimp only
    sl_unfold_words
    rw [View.canon_unit_zero hz2]
    simp only [View.readAt_eq_ld, (hs0_4 t).read_unread, (hs0_5 t).read_unread, rs0, rs1, rs2,
      View.ld_unit_zero (S := S512x1024) hz2, View.ld_unit_zero (S := S1024x1024) hz2]
  · rw [outsAt0_B m c t h0 h1]
    dsimp only
    unfold sout0_B_2
    rw [View.read_writes_eq_canon _ _ _ (scover0_B_2 _ _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_4 t).read_unread, (hs0_5 t).read_unread, rs0, rs1, rs2,
      View.ld_unit_zero (S := S512x1024) hz2, View.ld_unit_zero (S := S1024x1024) hz2]
/-- and the last point writes the second norm. -/
theorem out_C (c : Dev nD) (t : Fin cfg0.N) (h1 : t.val % 4 = 3) :
    (outsAt0 m c t.val t.isLt).1 = k0_pay4 (outsAt0 m c t.val t.isLt).2.1 (outsAt0 m c t.val t.isLt).2.2.2 (row2 m c t) (row3 m c t) := by
  have h0 : ¬t.val % 4 = 0 := by omega
  rw [acc_B m c t h0, (x1_B m c t h0).1]
  rw [outsAt0_C m c t h0 h1]
  dsimp only
  unfold out0_C_6
  rw [View.read_writes_eq_canon _ _ _ (cover0_C_6 _ _ _ _ _ _ _ _ _ _ _ _ _ _ _ _ _ _ _ _ _ _ _ _ _ _ _ _ _ _ _ _ _)]
  unfold kernelRun0_C
  dsimp only
  sl_unfold_words
  rw [View.canon_unit_zero hz2]
  simp only [View.readCov_unit_zero (S := S512x1024) _ hz2, View.readAt_eq_ld, (hs0_3 t).read_unread, (hs0_4 t).read_unread, (hs0_5 t).read_unread, rs0, rs1, rs2,
    View.ld_unit_zero (S := S512x1024) hz2, View.ld_unit_zero (S := S1024x1024) hz2]
  rfl

theorem V_v13 (c : Dev nD) : V m c main_v13 = (truncf (F := Ideal) .bf16 (Wo m c) bitsLt_bf16_f32 : FVec Ideal S1024x1024 .bf16) := by
  show StableHlo.after hostOps0 (fun b => m (c, b)) (Proc.devRef .tc main_v13) = _
  after_results
theorem V_v14 (c : Dev nD) : V m c main_v14 = (truncf (F := Ideal) .bf16 (Wu m c) bitsLt_bf16_f32 : FVec Ideal S1024x4096 .bf16) := by
  show StableHlo.after hostOps0 (fun b => m (c, b)) (Proc.devRef .tc main_v14) = _
  after_results
theorem V_v15 (c : Dev nD) : V m c main_v15 = (truncf (F := Ideal) .bf16 (Wd m c) bitsLt_bf16_f32 : FVec Ideal S4096x1024 .bf16) := by
  show StableHlo.after hostOps0 (fun b => m (c, b)) (Proc.devRef .tc main_v15) = _
  after_results
/-- One row of a two-row array, as the host cuts it out. -/
def cut (off : Fin 2 → Nat) (h : S2x1024.Slices off S1x1024) (x : FVec Ideal S2x1024 .f32) : FVec Ideal S1x1024 .f32 :=
  broadcastInDim S1x1024 ![1] bcast_S1024_S1x1024_1 (shapeCast S1024 (extractStridedSlice S1x1024 off x h) shapeCasts_S1x1024_S1024)
theorem cut_apply (off : Fin 2 → Nat) (h : S2x1024.Slices off S1x1024) (x : FVec Ideal S2x1024 .f32) (o : Fin 1) (n : Fin 1024) (r : Fin 2)
    (hr : off 0 = r.val) (h1 : off 1 = 0) : cut off h x (ix2 o n) = x (ix2 r n) := by
  unfold cut
  refine (broadcastInDim_apply _ _ _ _ (ix1 n) fun a => ?_).trans ((shapeCast_apply _ _ _ (ix2 0 n) ?_).trans (extractStridedSlice_apply _ _ _ _ (ix2 r n) fun a => ?_))
  · match a with
    | ⟨0, _⟩ => rfl
  · simp [Shape.rowMajor_val_two, Shape.rowMajor_val_one, ix1, ix2]
  · match a with
    | ⟨0, _⟩ => show r.val = off 0 + 0; omega
    | ⟨1, _⟩ => show n.val = off 1 + n.val; omega
theorem V_v12 (c : Dev nD) : V m c main_v12 = (concatenate S4x1024 0 [⟨S1x1024, cut ![0, 0] slices_S2x1024_S1x1024_0_0 (Lg m c)⟩,
    ⟨S1x1024, cut ![0, 0] slices_S2x1024_S1x1024_0_0 (Lb m c)⟩, ⟨S1x1024, cut ![1, 0] slices_S2x1024_S1x1024_1_0 (Lg m c)⟩,
    ⟨S1x1024, cut ![1, 0] slices_S2x1024_S1x1024_1_0 (Lb m c)⟩] concatenates_S1x1024_S1x1024_S1x1024_S1x1024_S4x1024_d0 : FVec Ideal S4x1024 .f32) := by
  show StableHlo.after hostOps0 (fun b => m (c, b)) (Proc.devRef .tc main_v12) = _
  simp only [hostOps0, StableHlo.after_cons, StableHlo.after_nil]
  after_results_steps
  rfl

/-- Where the windows' blocks lie at each grid point. -/
theorem idx_facts : ∀ t : Fin cfg0.N, (win0_0.index t 0 = t.val / 4 ∧ win0_0.index t 1 = 0) ∧ (win0_1.index t 0 = 0 ∧ win0_1.index t 1 = 0)
    ∧ (win0_2.index t 0 = t.val / 4 ∧ win0_2.index t 1 = 0) ∧ (win0_3.index t 0 = 0 ∧ win0_3.index t 1 = 0)
    ∧ (win0_4.index t 0 = 0 ∧ win0_4.index t 1 = t.val % 4) ∧ (win0_5.index t 0 = t.val % 4 ∧ win0_5.index t 1 = 0) :=
  (by decide +kernel : ∀ t : Fin grid0.N, _)

theorem blk0 (c : Dev nD) (t : Fin cfg0.N) (i : Fin 512) (k : Fin 1024) (r : Fin 16384) (hr : r.val = t.val / 4 * 512 + i.val) :
    iblk m c 0 t (ix2 i k) = O m c (ix2 r k) := by
  obtain ⟨⟨h0, h1⟩, -⟩ := idx_facts t
  unfold iblk
  rw [View.read_apply]
  show V m c main_arg0 _ = _
  rw [V_main_arg0]
  show m _ _ = m _ _
  congr 1
  funext a
  apply Fin.ext
  match a with
  | ⟨0, _⟩ => show win0_0.index t 0 * 512 + 1 * i.val = r.val; rw [h0, hr]; omega
  | ⟨1, _⟩ => show win0_0.index t 1 * 1024 + 1 * k.val = k.val; rw [h1]; omega
theorem blk1 (c : Dev nD) (t : Fin cfg0.N) (k n : Fin 1024) : iblk m c 1 t (ix2 k n) = Wo m c (ix2 k n) := by
  obtain ⟨-, ⟨h0, h1⟩, -⟩ := idx_facts t
  unfold iblk
  rw [View.read_apply]
  show V m c main_v13 _ = _
  rw [V_v13]
  show m _ _ = m _ _
  congr 1
  funext a
  apply Fin.ext
  match a with
  | ⟨0, _⟩ => show win0_1.index t 0 * 1024 + 1 * k.val = k.val; rw [h0]; omega
  | ⟨1, _⟩ => show win0_1.index t 1 * 1024 + 1 * n.val = n.val; rw [h1]; omega
theorem blk2 (c : Dev nD) (t : Fin cfg0.N) (i : Fin 512) (k : Fin 1024) (r : Fin 16384) (hr : r.val = t.val / 4 * 512 + i.val) :
    iblk m c 2 t (ix2 i k) = X m c (ix2 r k) := by
  obtain ⟨-, -, ⟨h0, h1⟩, -⟩ := idx_facts t
  unfold iblk
  rw [View.read_apply]
  show V m c main_arg2 _ = _
  rw [V_main_arg2]
  show m _ _ = m _ _
  congr 1
  funext a
  apply Fin.ext
  match a with
  | ⟨0, _⟩ => show win0_2.index t 0 * 512 + 1 * i.val = r.val; rw [h0, hr]; omega
  | ⟨1, _⟩ => show win0_2.index t 1 * 1024 + 1 * k.val = k.val; rw [h1]; omega
theorem blk3 (c : Dev nD) (t : Fin cfg0.N) : iblk m c 3 t = V m c main_v12 := by
  obtain ⟨-, -, -, ⟨h0, h1⟩, -⟩ := idx_facts t
  funext j
  unfold iblk
  rw [View.read_apply]
  show V m c main_v12 _ = V m c main_v12 _
  congr 1
  funext a
  apply Fin.ext
  match a with
  | ⟨0, _⟩ => show win0_3.index t 0 * 4 + 1 * (j 0).val = (j 0).val; rw [h0]; omega
  | ⟨1, _⟩ => show win0_3.index t 1 * 1024 + 1 * (j 1).val = (j 1).val; rw [h1]; omega
theorem blk4 (c : Dev nD) (t : Fin cfg0.N) (k n : Fin 1024) (p : Fin 4096) (hp : p.val = t.val % 4 * 1024 + n.val) :
    iblk m c 4 t (ix2 k n) = Wu m c (ix2 k p) := by
  obtain ⟨-, -, -, -, ⟨h0, h1⟩, -⟩ := idx_facts t
  unfold iblk
  rw [View.read_apply]
  show V m c main_v14 _ = _
  rw [V_v14]
  show m _ _ = m _ _
  congr 1
  funext a
  apply Fin.ext
  match a with
  | ⟨0, _⟩ => show win0_4.index t 0 * 1024 + 1 * k.val = k.val; rw [h0]; omega
  | ⟨1, _⟩ => show win0_4.index t 1 * 1024 + 1 * n.val = p.val; rw [h1]; omega
theorem blk5 (c : Dev nD) (t : Fin cfg0.N) (k n : Fin 1024) (p : Fin 4096) (hp : p.val = t.val % 4 * 1024 + k.val) :
    iblk m c 5 t (ix2 k n) = Wd m c (ix2 p n) := by
  obtain ⟨-, -, -, -, -, ⟨h0, h1⟩⟩ := idx_facts t
  unfold iblk
  rw [View.read_apply]
  show V m c main_v15 _ = _
  rw [V_v15]
  show m _ _ = m _ _
  congr 1
  funext a
  apply Fin.ext
  match a with
  | ⟨0, _⟩ => show win0_5.index t 0 * 1024 + 1 * k.val = p.val; rw [h0]; omega
  | ⟨1, _⟩ => show win0_5.index t 1 * 1024 + 1 * n.val = n.val; rw [h1]; omega

theorem ld_row (x : Vec Ideal S4x1024 .f32) (o : Nat) (inb : ∀ a, (![o, 0] : Fin 2 → Nat) a + S1x1024.size a ≤ S4x1024.size a) (q : Fin 4)
    (hq : q.val = o) (n : Fin 1024) : View.ld x (Rect.unit ![o, 0] S1x1024.size inb) (ix2 0 n) = x (ix2 q n) :=
  congrArg x (funext fun a => Fin.ext (by
    match a with
    | ⟨0, _⟩ => show o + 1 * 0 = q.val; omega
    | ⟨1, _⟩ => show 0 + 1 * n.val = n.val; omega))

/-- The fourth window's rows are the two norms' gains and offsets. -/
theorem rows_apply (c : Dev nD) (t : Fin cfg0.N) (n : Fin 1024) :
    row0 m c t (ix2 0 n) = Lg m c (ix2 0 n) ∧ row1 m c t (ix2 0 n) = Lb m c (ix2 0 n)
    ∧ row2 m c t (ix2 0 n) = Lg m c (ix2 1 n) ∧ row3 m c t (ix2 0 n) = Lb m c (ix2 1 n) := by
  unfold row0 row1 row2 row3
  rw [blk3, V_v12]
  refine ⟨?_, ?_, ?_, ?_⟩
  · refine (ld_row _ 0 _ (0 : Fin 4) rfl n).trans ?_
    exact Eq.trans (concatenate_apply_piece (t := S4x1024) 0 _ _ _ 0 (by simp) S1x1024 (cut ![0, 0] slices_S2x1024_S1x1024_0_0 (Lg m c)) rfl rfl 0 rfl (ix2 0 n)
      (fun b hb => by match b with | ⟨0, _⟩ => exact absurd rfl hb | ⟨1, _⟩ => rfl) rfl) (cut_apply ![0, 0] slices_S2x1024_S1x1024_0_0 (Lg m c) 0 n 0 rfl rfl)
  · refine (ld_row _ 1 _ (1 : Fin 4) rfl n).trans ?_
    exact Eq.trans (concatenate_apply_piece (t := S4x1024) 0 _ _ _ 1 (by simp) S1x1024 (cut ![0, 0] slices_S2x1024_S1x1024_0_0 (Lb m c)) rfl rfl 1 rfl (ix2 0 n)
      (fun b hb => by match b with | ⟨0, _⟩ => exact absurd rfl hb | ⟨1, _⟩ => rfl) rfl) (cut_apply ![0, 0] slices_S2x1024_S1x1024_0_0 (Lb m c) 0 n 0 rfl rfl)
  · refine (ld_row _ 2 _ (2 : Fin 4) rfl n).trans ?_
    exact Eq.trans (concatenate_apply_piece (t := S4x1024) 0 _ _ _ 2 (by simp) S1x1024 (cut ![1, 0] slices_S2x1024_S1x1024_1_0 (Lg m c)) rfl rfl 2 rfl (ix2 0 n)
      (fun b hb => by match b with | ⟨0, _⟩ => exact absurd rfl hb | ⟨1, _⟩ => rfl) rfl) (cut_apply ![1, 0] slices_S2x1024_S1x1024_1_0 (Lg m c) 0 n 1 rfl rfl)
  · refine (ld_row _ 3 _ (3 : Fin 4) rfl n).trans ?_
    exact Eq.trans (concatenate_apply_piece (t := S4x1024) 0 _ _ _ 3 (by simp) S1x1024 (cut ![1, 0] slices_S2x1024_S1x1024_1_0 (Lb m c)) rfl rfl 3 rfl (ix2 0 n)
      (fun b hb => by match b with | ⟨0, _⟩ => exact absurd rfl hb | ⟨1, _⟩ => rfl) rfl) (cut_apply ![1, 0] slices_S2x1024_S1x1024_1_0 (Lb m c) 0 n 1 rfl rfl)

/-- The rows after the first norm. -/
def H (c : Dev nD) (r : Fin 16384) (n : Fin 1024) : EReal :=
  ln (fun n => Lg m c (ix2 0 n)) (fun n => Lb m c (ix2 0 n))
    (fun k => al * X m c (ix2 r k) + ∑ j : Fin 1024, @HMul.hMul EReal EReal EReal _ (O m c (ix2 r j)) (Wo m c (ix2 j k))) n
/-- The feed-forward's hidden value, rectified and squared. -/
def U (c : Dev nD) (r : Fin 16384) (f : Fin 4096) : EReal :=
  max (∑ j : Fin 1024, H m c r j * Wu m c (ix2 j f)) ze * max (∑ j : Fin 1024, H m c r j * Wu m c (ix2 j f)) ze
/-- The part of the feed-forward sum over the quarter `q` of the hidden values, and the sum of the first quarters. -/
def Q (c : Dev nD) (r : Fin 16384) (n : Fin 1024) (q : Fin 4) : EReal :=
  ∑ f : Fin 1024, U m c r ⟨q.val * 1024 + f.val, by omega⟩ * Wd m c (ix2 ⟨q.val * 1024 + f.val, by omega⟩ n)
def acc (c : Dev nD) (r : Fin 16384) (n : Fin 1024) : (q : Nat) → q < 4 → EReal
  | 0, h => ze + Q m c r n ⟨0, h⟩
  | q + 1, h => acc c r n q (by omega) + Q m c r n ⟨q + 1, h⟩

/-- The quarter added at a point. -/
theorem quarter (c : Dev nD) (t : Fin cfg0.N) (xb : Vec Ideal S512x1024 .bf16) (a : Vec Ideal S512x1024 .f32) (i : Fin 512) (n : Fin 1024)
    (r : Fin 16384) (q : Fin 4) (hq : q.val = t.val % 4) (hx : ∀ j : Fin 1024, xb (ix2 i j) = H m c r j) :
    k0_pay3 xb (iblk m c 4 t) a (iblk m c 5 t) (ix2 i n) = a (ix2 i n) + Q m c r n q := by
  rw [pay3_apply]
  congr 1
  unfold Q U
  refine Finset.sum_congr rfl fun f _ => ?_
  rw [blk5 m c t f n ⟨q.val * 1024 + f.val, by omega⟩ (by rw [← hq])]
  simp only [hx, blk4 m c t _ f ⟨q.val * 1024 + f.val, by omega⟩ (by rw [← hq])]

/-- What the carried state is after each point. -/
theorem state (c : Dev nD) (n : Nat) (hn : n < cfg0.N) (i : Fin 512) (k : Fin 1024) (r : Fin 16384) (hr : r.val = n / 4 * 512 + i.val) :
    (∀ j : Fin 1024, (outsAt0 m c n hn).2.1 (ix2 i j) = H m c r j) ∧ (∀ j : Fin 1024, (outsAt0 m c n hn).2.2.1 (ix2 i j) = H m c r j)
    ∧ (outsAt0 m c n hn).2.2.2 (ix2 i k) = acc m c r k (n % 4) (Nat.mod_lt _ (by decide)) := by
  have hA : ∀ (t : Fin cfg0.N), t.val % 4 = 0 → r.val = t.val / 4 * 512 + i.val → ∀ j : Fin 1024,
      k0_pay5 (iblk m c 0 t) (iblk m c 1 t) (iblk m c 2 t) (row0 m c t) (row1 m c t) (ix2 i j) = H m c r j := by
    intro t h0 hr j
    rw [pay5_apply]
    unfold H
    simp only [(rows_apply m c t _).1, (rows_apply m c t _).2.1, blk0 m c t i _ r hr, blk2 m c t i _ r hr, blk1]
  induction n with
  | zero =>
    have h0 : (⟨0, hn⟩ : Fin cfg0.N).val % 4 = 0 := rfl
    have h1 : ¬(⟨0, hn⟩ : Fin cfg0.N).val % 4 = 3 := by show ¬0 % 4 = 3; omega
    have e1 := x1_A m c ⟨0, hn⟩ h0 h1
    have e2 := xb_A m c ⟨0, hn⟩ h0 h1
    have e3 := acc_A m c ⟨0, hn⟩ h0 h1
    dsimp only at e1 e2 e3
    rw [e1, e2, e3]
    refine ⟨hA ⟨0, hn⟩ h0 hr, hA ⟨0, hn⟩ h0 hr, ?_⟩
    refine (quarter m c ⟨0, hn⟩ _ _ i k r ⟨0, by omega⟩ rfl (hA ⟨0, hn⟩ h0 hr)).trans ?_
    rfl
  | succ n ih =>
    by_cases h0 : (n + 1) % 4 = 0
    · have h1 : ¬(n + 1) % 4 = 3 := by omega
      have e1 := x1_A m c ⟨n + 1, hn⟩ h0 h1
      have e2 := xb_A m c ⟨n + 1, hn⟩ h0 h1
      have e3 := acc_A m c ⟨n + 1, hn⟩ h0 h1
      dsimp only at e1 e2 e3
      rw [e1, e2, e3]
      refine ⟨hA ⟨n + 1, hn⟩ h0 hr, hA ⟨n + 1, hn⟩ h0 hr, ?_⟩
      refine (quarter m c ⟨n + 1, hn⟩ _ _ i k r ⟨0, by omega⟩ h0.symm (hA ⟨n + 1, hn⟩ h0 hr)).trans ?_
      simp only [h0]
      rfl
    · have hd : (n + 1) / 4 = n / 4 := by omega
      obtain ⟨i1, i2, i3⟩ := ih (by omega) (by rw [hr, hd])
      have e1 := x1_B m c ⟨n + 1, hn⟩ h0
      have e3 := acc_B m c ⟨n + 1, hn⟩ h0
      dsimp only at e1 e3
      rw [e1.1, e1.2, e3]
      refine ⟨i1, i2, ?_⟩
      have hm : (n + 1) % 4 = n % 4 + 1 := by omega
      refine (quarter m c ⟨n + 1, hn⟩ _ _ i k r ⟨n % 4 + 1, by omega⟩ hm.symm i2).trans ?_
      simp only [hm, acc]
      exact congrArg (· + _) i3

/-- The feed-forward sum is the four quarters'. -/
theorem acc_eq (c : Dev nD) (r : Fin 16384) (n : Fin 1024) : acc m c r n 3 (by decide) = ∑ f : Fin 4096, U m c r f * Wd m c (ix2 f n) := by
  have e : ∑ f : Fin 4096, U m c r f * Wd m c (ix2 f n) = ∑ q : Fin 4, Q m c r n q := by
    unfold Q
    exact sum_quarters fun f => U m c r f * Wd m c (ix2 f n)
  rw [e, Fin.sum_univ_four]
  have z : ze = 0 := by simp [ze, Ideal.ofBits, Ideal.ieee]
  simp only [acc, z, zero_add]
  rfl

/-- The result. -/
def G (c : Dev nD) (r : Fin 16384) (n : Fin 1024) : EReal :=
  ln (fun n => Lg m c (ix2 1 n)) (fun n => Lb m c (ix2 1 n))
    (fun k => al * H m c r k + ∑ f : Fin 4096, U m c r f * Wd m c (ix2 f k)) n

theorem G6_apply (c : Dev nD) (i : S16384x1024.Idx) : Cert.PostIdeal.Value.G6 m c i = G m c (i 0) (i 1) := by
  have hi0 : (i 0).val < 16384 := (i 0).isLt
  have hi1 : (i 1).val < 1024 := (i 1).isLt
  have hN : cfg0.N = 128 := by decide
  have hp : Cert.PostIdeal.Value.pt6Of i = 4 * ((i 0).val / 512) + 3 := by
    show 4 * (1 * ((i 0).val / 512 - 0) + 1 * ((i 1).val / 1024 - 0)) + 3 = _
    omega
  unfold Cert.PostIdeal.Value.G6
  have hlt : Cert.PostIdeal.Value.pt6Of i < cfg0.N := by rw [hp, hN]; omega
  rw [dif_pos hlt, ← Cert.PostIdeal.Value.outsAt0_sweep m c _ hlt]
  have h3 : (⟨Cert.PostIdeal.Value.pt6Of i, hlt⟩ : Fin cfg0.N).val % 4 = 3 := by show Cert.PostIdeal.Value.pt6Of i % 4 = 3; rw [hp]; omega
  have e := out_C m c ⟨Cert.PostIdeal.Value.pt6Of i, hlt⟩ h3
  dsimp only at e
  rw [e]
  have hl : (Cert.PostIdeal.Value.loc6Of i : S512x1024.Idx) = ix2 ⟨(i 0).val % 512, by omega⟩ ⟨(i 1).val, hi1⟩ := by
    refine Shape.idx_ext₂ rfl ?_
    show (i 1).val % 1024 = (i 1).val
    omega
  rw [hl, pay4_apply]
  have hr : (i 0).val = Cert.PostIdeal.Value.pt6Of i / 4 * 512 + (⟨(i 0).val % 512, by omega⟩ : Fin 512).val := by rw [hp]; dsimp only; omega
  have hs := fun k => state m c _ hlt ⟨(i 0).val % 512, by omega⟩ k (i 0) hr
  have h3' : Cert.PostIdeal.Value.pt6Of i % 4 = 3 := h3
  unfold G
  simp only [(rows_apply m c _ _).2.2.1, (rows_apply m c _ _).2.2.2]
  congr 1
  funext k
  rw [(hs k).1 k, (hs k).2.2]
  simp only [h3']
  exact congrArg (_ + ·) (acc_eq m c (i 0) k)

/-! The reference, read the same way. -/
section Ref
open Cert.PostRefIdeal.Read

theorem ze_eq : ze = 0 := by simp [ze, Ideal.ofBits, Ideal.ieee]

theorem ref3 (c : Dev nD) (i : S16384x1024.Idx) : val_main_v3 (F := Ideal) (O m c) (Wo m c) (X m c) i
    = al * X m c (ix2 (i 0) (i 1)) + ∑ j : Fin 1024, @HMul.hMul EReal EReal EReal _ (O m c (ix2 (i 0) j)) (Wo m c (ix2 j (i 1))) := by
  rw [val_main_v3_apply, val_main_v1_apply, val_main_v0_apply, val_main_cst_apply, val_main_v2_apply]
  refine congrArg₂ (· + ·) (congrArg (al * ·) (congrArg (X m c) (eq_ix2 i))) (Finset.sum_congr rfl fun j _ => ?_)
  exact congrArg₂ (@HMul.hMul EReal EReal EReal _) (congrArg (O m c) (Shape.idx_ext₂ rfl rfl)) (congrArg (Wo m c) (Shape.idx_ext₂ rfl rfl))
theorem ref11 (c : Dev nD) (i : Cert.PostRefIdeal.S16384x1.Idx) : val_main_v11 (F := Ideal) (O m c) (Wo m c) (X m c) i
    = mean fun k => val_main_v3 (F := Ideal) (O m c) (Wo m c) (X m c) (ix2 (i 0) k) := by
  rw [val_main_v11_apply, val_main_v9_apply, val_main_v10_apply, val_main_cst_1_apply, val_main_v8_apply, val_main_cst_0_apply]
  show Ideal.div (ze + _) dm = _
  rw [ze_eq, zero_add]
  refine congrArg (Ideal.div · dm) (Finset.sum_congr rfl fun k _ => congrArg _ (Shape.idx_ext₂ rfl rfl))
theorem ref13 (c : Dev nD) (i : S16384x1024.Idx) : val_main_v13 (F := Ideal) (O m c) (Wo m c) (X m c) i
    = val_main_v3 (F := Ideal) (O m c) (Wo m c) (X m c) i - mean fun k => val_main_v3 (F := Ideal) (O m c) (Wo m c) (X m c) (ix2 (i 0) k) := by
  rw [val_main_v13_apply, val_main_v12_apply, ref11]
  rfl
theorem ref20 (c : Dev nD) (i : S16384x1024.Idx) : val_main_v20 (F := Ideal) (O m c) (Wo m c) (X m c) i
    = val_main_v3 (F := Ideal) (O m c) (Wo m c) (X m c) i - mean fun k => val_main_v3 (F := Ideal) (O m c) (Wo m c) (X m c) (ix2 (i 0) k) := by
  rw [val_main_v20_apply, val_main_v19_apply, ref11]
  rfl
theorem ref18 (c : Dev nD) (i : Cert.PostRefIdeal.S16384x1.Idx) : val_main_v18 (F := Ideal) (O m c) (Wo m c) (X m c) i
    = mean fun k => val_main_v13 (F := Ideal) (O m c) (Wo m c) (X m c) (ix2 (i 0) k) * val_main_v13 (F := Ideal) (O m c) (Wo m c) (X m c) (ix2 (i 0) k) := by
  rw [val_main_v18_apply, val_main_v16_apply, val_main_v17_apply, val_main_cst_3_apply, val_main_v15_apply, val_main_cst_2_apply]
  show Ideal.div (ze + _) dm = _
  rw [ze_eq, zero_add]
  refine congrArg (Ideal.div · dm) (Finset.sum_congr rfl fun k _ => ?_)
  rw [val_main_v14_apply]
  have e : idx_main_v15 (idx_main_v16 i) k = ix2 (i 0) k := Shape.idx_ext₂ rfl rfl
  rw [e]
  rfl
theorem ref_g0 (c : Dev nD) (i : S16384x1024.Idx) : val_main_v27 (F := Ideal) (Lg m c) i = Lg m c (ix2 0 (i 1)) := by
  rw [val_main_v27_apply, val_main_v26_apply, val_main_v5_apply, val_main_v4_apply]
  exact congrArg (Lg m c) (Shape.idx_ext₂ rfl (Nat.mod_eq_of_lt (idx2_lt1 i)))
theorem ref_b0 (c : Dev nD) (i : S16384x1024.Idx) : val_main_v30 (F := Ideal) (Lb m c) i = Lb m c (ix2 0 (i 1)) := by
  rw [val_main_v30_apply, val_main_v29_apply, val_main_v7_apply, val_main_v6_apply]
  exact congrArg (Lb m c) (Shape.idx_ext₂ rfl (Nat.mod_eq_of_lt (idx2_lt1 i)))
theorem ref_g1 (c : Dev nD) (i : S16384x1024.Idx) : val_main_v62 (F := Ideal) (Lg m c) i = Lg m c (ix2 1 (i 1)) := by
  rw [val_main_v62_apply, val_main_v61_apply, val_main_v40_apply, val_main_v39_apply]
  exact congrArg (Lg m c) (Shape.idx_ext₂ rfl (Nat.mod_eq_of_lt (idx2_lt1 i)))
theorem ref_b1 (c : Dev nD) (i : S16384x1024.Idx) : val_main_v65 (F := Ideal) (Lb m c) i = Lb m c (ix2 1 (i 1)) := by
  rw [val_main_v65_apply, val_main_v64_apply, val_main_v42_apply, val_main_v41_apply]
  exact congrArg (Lb m c) (Shape.idx_ext₂ rfl (Nat.mod_eq_of_lt (idx2_lt1 i)))
/-- The first norm's rows are the kernel's. -/
theorem ref31 (c : Dev nD) (i : S16384x1024.Idx) : val_main_v31 (F := Ideal) (O m c) (Wo m c) (X m c) (Lg m c) (Lb m c) i = H m c (i 0) (i 1) := by
  rw [val_main_v31_apply, val_main_v28_apply, val_main_v25_apply, val_main_v24_apply, val_main_v23_apply, val_main_v22_apply, val_main_v21_apply,
    val_main_cst_4_apply, ref_g0, ref_b0, ref18, ref20]
  simp only [ref13, ref3]
  rfl
theorem ref34 (c : Dev nD) (i : Cert.PostRefIdeal.S16384x4096.Idx) : val_main_v36 (F := Ideal) (O m c) (Wo m c) (X m c) (Lg m c) (Lb m c) (Wu m c) i = U m c (i 0) (i 1) := by
  rw [val_main_v36_apply, val_main_v35_apply, val_main_call0_v0_apply, val_main_call0_cst_apply, val_main_v34_apply]
  have e : (∑ k : Fin 1024, val_main_v31 (F := Ideal) (O m c) (Wo m c) (X m c) (Lg m c) (Lb m c) (lidx_main_v34 i k) * Wu m c (ridx_main_v34 i k))
      = ∑ j : Fin 1024, H m c (i 0) j * Wu m c (ix2 j (i 1)) := by
    refine Finset.sum_congr rfl fun k _ => ?_
    rw [ref31]
    exact congrArg (H m c (i 0) k * ·) (congrArg (Wu m c) (Shape.idx_ext₂ rfl rfl))
  rw [e]
  rfl
theorem ref38 (c : Dev nD) (i : S16384x1024.Idx) : val_main_v38 (F := Ideal) (O m c) (Wo m c) (X m c) (Lg m c) (Lb m c) (Wu m c) (Wd m c) i
    = al * H m c (i 0) (i 1) + ∑ f : Fin 4096, U m c (i 0) f * Wd m c (ix2 f (i 1)) := by
  rw [val_main_v38_apply, val_main_v33_apply, val_main_v32_apply, val_main_cst_5_apply, ref31, val_main_v37_apply]
  refine congrArg (al * H m c (i 0) (i 1) + ·) (Finset.sum_congr rfl fun f _ => ?_)
  rw [ref34]
  exact congrArg (U m c (i 0) f * ·) (congrArg (Wd m c) (Shape.idx_ext₂ rfl rfl))
/-- The rows that the second norm takes. -/
abbrev Y (c : Dev nD) : S16384x1024.Idx → EReal := val_main_v38 (F := Ideal) (O m c) (Wo m c) (X m c) (Lg m c) (Lb m c) (Wu m c) (Wd m c)
theorem ref46 (c : Dev nD) (i : Cert.PostRefIdeal.S16384x1.Idx) : val_main_v46 (F := Ideal) (O m c) (Wo m c) (X m c) (Lg m c) (Lb m c) (Wu m c) (Wd m c) i
    = mean fun k => Y m c (ix2 (i 0) k) := by
  rw [val_main_v46_apply, val_main_v44_apply, val_main_v45_apply, val_main_cst_7_apply, val_main_v43_apply, val_main_cst_6_apply]
  show Ideal.div (ze + _) dm = _
  rw [ze_eq, zero_add]
  refine congrArg (Ideal.div · dm) (Finset.sum_congr rfl fun k _ => congrArg _ (Shape.idx_ext₂ rfl rfl))
theorem ref48 (c : Dev nD) (i : S16384x1024.Idx) : val_main_v48 (F := Ideal) (O m c) (Wo m c) (X m c) (Lg m c) (Lb m c) (Wu m c) (Wd m c) i
    = Y m c i - mean fun k => Y m c (ix2 (i 0) k) := by
  rw [val_main_v48_apply, val_main_v47_apply, ref46]
  rfl
theorem ref55 (c : Dev nD) (i : S16384x1024.Idx) : val_main_v55 (F := Ideal) (O m c) (Wo m c) (X m c) (Lg m c) (Lb m c) (Wu m c) (Wd m c) i
    = Y m c i - mean fun k => Y m c (ix2 (i 0) k) := by
  rw [val_main_v55_apply, val_main_v54_apply, ref46]
  rfl
theorem ref53 (c : Dev nD) (i : Cert.PostRefIdeal.S16384x1.Idx) : val_main_v53 (F := Ideal) (O m c) (Wo m c) (X m c) (Lg m c) (Lb m c) (Wu m c) (Wd m c) i
    = mean fun k => (Y m c (ix2 (i 0) k) - mean fun k => Y m c (ix2 (i 0) k)) * (Y m c (ix2 (i 0) k) - mean fun k => Y m c (ix2 (i 0) k)) := by
  rw [val_main_v53_apply, val_main_v51_apply, val_main_v52_apply, val_main_cst_9_apply, val_main_v50_apply, val_main_cst_8_apply]
  show Ideal.div (ze + _) dm = _
  rw [ze_eq, zero_add]
  refine congrArg (Ideal.div · dm) (Finset.sum_congr rfl fun k _ => ?_)
  rw [val_main_v49_apply]
  have e : idx_main_v50 (idx_main_v51 i) k = ix2 (i 0) k := Shape.idx_ext₂ rfl rfl
  rw [e]
  exact congrArg₂ (@HMul.hMul EReal EReal EReal _) (ref48 m c _) (ref48 m c _)
theorem ref66 (c : Dev nD) : val_main_v66 (F := Ideal) (O m c) (Wo m c) (X m c) (Lg m c) (Lb m c) (Wu m c) (Wd m c) = Cert.PostIdeal.Value.G6 m c := by
  funext i
  rw [G6_apply, val_main_v66_apply, val_main_v63_apply, val_main_v60_apply, val_main_v59_apply, val_main_v58_apply, val_main_v57_apply, val_main_v56_apply,
    val_main_cst_10_apply, ref_g1, ref_b1, ref53, ref55]
  simp only [Y, ref38]
  rfl
end Ref

/-- The call and its reference end with the same array. -/
theorem algebraic : Cert.algebraic_PostIdeal_PostRefIdeal := by
  intro m g m' g' _ hagree
  refine ⟨fun c => Cert.PostIdeal.Value.G6 m c, Cert.PostIdeal.Value.run m g, ?_⟩
  refine (θ_run Cert.PostRefIdeal.defs _ _).mono (fun r h c => ?_) (Cert.PostRefIdeal.Value.run m' g')
  obtain ⟨e, k⟩ := h c
  obtain ⟨a0, a1, a2, a3, a4, a5, a6⟩ := hagree c
  refine ⟨e.trans ?_, k⟩
  refine (Cert.PostRefIdeal.Read.val_main_v66_eq _ _).trans ?_
  rw [a0, a1, a2, a3, a4, a5, a6]
  exact ref66 m c

end Cert.Proof.PostValue

end
-- ==== Proof.Frames.lean ====
/- The runs of the reference programs, which consist of host operations only, and the values of the constants the
   attention kernel names. -/
module

public import proofs.«01_k».proof.Defs
public import proofs.«01_k».proof.Proof.PostValue
public import proofs.«01_k».proof.Proof.Gen.Diff.Frame
public import proofs.«01_k».proof.Proof.Gen.DiffIdeal.Frame
public import proofs.«01_k».proof.Proof.Gen.Post.Frame
public import proofs.«01_k».proof.Proof.Gen.PostIdeal.Frame
public import proofs.«01_k».proof.Proof.Gen.Proj.Frame
public import proofs.«01_k».proof.Proof.Gen.ProjIdeal.Frame
public import proofs.«01_k».proof.Proof.Gen.DiffRefIdeal.Run
public import proofs.«01_k».proof.Proof.Gen.DiffRef.Run
public import proofs.«01_k».proof.Proof.Gen.PostRefIdeal.Run
public import proofs.«01_k».proof.Proof.Gen.ProjRefIdeal.Run
public import Idealize.ShloMosaic.Lib.Quiescent

@[expose] public section

noncomputable section

namespace Cert.Proof.Frames

open Idealize.ShloMosaic Idealize.SL.Sem

/-- The attention reference's idealization runs and changes none of its arguments. -/
theorem diffRefIdeal : Cert.quiescent_DiffRefIdeal := fun m ρ _ =>
  (θ_run _ _ _).mono (fun r h => ⟨fun c => (h c).2, sem_eq_zero_of_no_sems (by decide) r.2⟩)
    (Cert.DiffRefIdeal.Value.run (F := Ideal) m ρ)

/-- The attention reference runs and changes none of its arguments. -/
theorem diffRef : Cert.quiescent_DiffRef := fun m ρ _ =>
  (θ_run _ _ _).mono (fun r h => ⟨fun c => (h c).2, sem_eq_zero_of_no_sems (by decide) r.2⟩)
    (Cert.DiffRef.Value.run (F := Bits) m ρ)

/-- The feed-forward reference runs and changes none of its arguments. -/
theorem postRefIdeal : Cert.quiescent_PostRefIdeal := fun m ρ _ =>
  (θ_run _ _ _).mono (fun r h => ⟨fun c => (h c).2, sem_eq_zero_of_no_sems (by decide) r.2⟩)
    (Cert.PostRefIdeal.Value.run (F := Ideal) m ρ)

/-- The projection reference runs and changes none of its arguments. -/
theorem projRefIdeal : Cert.quiescent_ProjRefIdeal := fun m ρ _ =>
  (θ_run _ _ _).mono (fun r h => ⟨fun c => (h c).2.2.2, sem_eq_zero_of_no_sems (by decide) r.2⟩)
    (Cert.ProjRefIdeal.Value.run (F := Ideal) m ρ)

/-- The three constants the attention kernel names stand for the values claimed of them. -/
theorem preservesDiff : Cert.preserves_Diff_DiffIdeal :=
  ⟨IdealRules.named_const.statement Cert.DiffIdeal.κ "scale_log2e" .f32 0x3E38AA3B#32 _ rfl,
    IdealRules.named_const.statement Cert.DiffIdeal.κ "mask" .f32 0xF149F2CA#32 _ rfl,
    IdealRules.named_const.statement Cert.DiffIdeal.κ "log2e" .f32 0x3FB8AA3B#32 _ rfl⟩

end Cert.Proof.Frames
-- ==== Proof.DiffMath.lean ====
module

public import proofs.«01_k».proof.Proof.Common
public import proofs.«01_k».proof.Proof.Frames
public import Idealize.ShloMosaic.Lib.WordCmp
public import Mathlib.Analysis.SpecialFunctions.Pow.Real

@[expose] public section

/-!
# The mathematics of the differential attention

Over the extended reals: one step of the running softmax in base two and what a finished run divides to, the softmax of a
masked row as the reference takes it, and the bucket of a distance.
-/

noncomputable section

namespace Cert.Proof.DiffMath

open Idealize Idealize.ShloMosaic
open scoped BigOperators

/-! ## The running softmax -/

/-- The state of a running softmax: nothing seen, or a shift `μ` with the sum `L` of the weights and the weighted sum `W`,
each scaled by `2 ^ (-μ)`. -/
def Fl (m l a : EReal) (L W : ℝ) : Prop :=
  (m = ⊥ ∧ l = 0 ∧ a = 0 ∧ L = 0 ∧ W = 0) ∨
    ∃ μ : ℝ, m = (μ : EReal) ∧ l = (((2 : ℝ) ^ (-μ) * L : ℝ) : EReal) ∧ a = (((2 : ℝ) ^ (-μ) * W : ℝ) : EReal)

theorem exp2_real (r : ℝ) : Ideal.exp2 (r : EReal) = (((2 : ℝ) ^ r : ℝ) : EReal) := rfl

theorem coe_sum {ι : Type*} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

/-- The larger of a state's maximum and the maximum of a nonempty tile is a real number. -/
theorem max_real {n : ℕ} (m : EReal) (s : Fin n → EReal) (hm : m ≠ ⊤) (hs : ∀ b, s b ≠ ⊤) (hne : ∃ b, s b ≠ ⊥) :
    ∃ μ : ℝ, max m (Finset.univ.fold max ⊥ s) = (μ : EReal) := by
  have h1 : max m (Finset.univ.fold max ⊥ s) < ⊤ := by
    refine max_lt (lt_top_iff_ne_top.2 hm) ?_
    exact (Finset.fold_max_lt _).2 ⟨bot_lt_top, fun b _ => lt_top_iff_ne_top.2 (hs b)⟩
  have h2 : ⊥ < max m (Finset.univ.fold max ⊥ s) := by
    obtain ⟨b, hb⟩ := hne
    exact lt_max_of_lt_right ((Finset.lt_fold_max _).2 (Or.inr ⟨b, Finset.mem_univ _, bot_lt_iff_ne_bot.2 hb⟩))
  exact ⟨_, (EReal.coe_toReal h1.ne h2.ne').symm⟩

/-- One step of the running softmax over a tile whose scores are real on `A` and `⊥` off it: the sums grow by the tile's. -/
theorem Fl.step {n : ℕ} {m l a : EReal} {L W : ℝ} (h : Fl m l a L W) (A : Fin n → Prop) [DecidablePred A] (σ ν : Fin n → ℝ)
    (s v : Fin n → EReal) (hs : ∀ b, s b = if A b then (σ b : EReal) else ⊥) (hA : ∃ b, A b) (hv : ∀ b, v b = (ν b : EReal))
    (m' : EReal) (hm' : m' = max m (Finset.univ.fold max ⊥ s)) :
    Fl m' (Ideal.exp2 (m - m') * l + ∑ b, Ideal.exp2 (s b - m')) (Ideal.exp2 (m - m') * a + ∑ b, Ideal.exp2 (s b - m') * v b)
      (L + ∑ b, if A b then (2 : ℝ) ^ σ b else 0) (W + ∑ b, (if A b then (2 : ℝ) ^ σ b else 0) * ν b) := by
  have hmt : m ≠ ⊤ := by
    rcases h with ⟨h, -⟩ | ⟨μ, h, -⟩
    · rw [h]; exact bot_ne_top
    · rw [h]; exact EReal.coe_ne_top μ
  obtain ⟨μ', hμ'⟩ := max_real m s hmt
    (fun b => by rw [hs b]; split <;> simp)
    (by obtain ⟨b, hb⟩ := hA; exact ⟨b, by rw [hs b, if_pos hb]; simp⟩)
  rw [← hm'] at hμ'
  subst hμ'
  have hw : ∀ b, Ideal.exp2 (s b - (μ' : EReal)) = (((2 : ℝ) ^ (-μ') * (if A b then (2 : ℝ) ^ σ b else 0) : ℝ) : EReal) := by
    intro b
    rw [hs b]
    split
    · rw [← EReal.coe_sub, exp2_real, sub_eq_neg_add, Real.rpow_add (by norm_num)]
    · rw [EReal.bot_sub, mul_zero]; rfl
  have hsum : ∑ b, Ideal.exp2 (s b - (μ' : EReal)) = (((2 : ℝ) ^ (-μ') * ∑ b, (if A b then (2 : ℝ) ^ σ b else 0) : ℝ) : EReal) := by
    rw [Finset.mul_sum, coe_sum]
    exact Finset.sum_congr rfl fun b _ => hw b
  have hsumv : ∑ b, Ideal.exp2 (s b - (μ' : EReal)) * v b
      = (((2 : ℝ) ^ (-μ') * ∑ b, (if A b then (2 : ℝ) ^ σ b else 0) * ν b : ℝ) : EReal) := by
    rw [Finset.mul_sum, coe_sum]
    refine Finset.sum_congr rfl fun b _ => ?_
    rw [hw b, hv b, ← EReal.coe_mul, mul_assoc]
  refine Or.inr ⟨μ', rfl, ?_, ?_⟩
  · rw [hsum]
    rcases h with ⟨h1, h2, h3, h4, h5⟩ | ⟨μ, h1, h2, h3⟩
    · rw [h2, h4, mul_zero, zero_add, zero_add]
    · rw [h1, h2, ← EReal.coe_sub, exp2_real, ← EReal.coe_mul, ← EReal.coe_add, mul_add, ← mul_assoc,
        ← Real.rpow_add (by norm_num)]
      congr 4; ring
  · rw [hsumv]
    rcases h with ⟨h1, h2, h3, h4, h5⟩ | ⟨μ, h1, h2, h3⟩
    · rw [h3, h5, mul_zero, zero_add, zero_add]
    · rw [h1, h3, ← EReal.coe_sub, exp2_real, ← EReal.coe_mul, ← EReal.coe_add, mul_add, ← mul_assoc,
        ← Real.rpow_add (by norm_num)]
      congr 4; ring

/-- The state before any tile. -/
theorem Fl.init : Fl ⊥ 0 0 0 0 := Or.inl ⟨rfl, rfl, rfl, rfl, rfl⟩

/-- A finished run whose weights have a positive sum divides to the weighted mean. -/
theorem Fl.div {m l a : EReal} {L W : ℝ} (h : Fl m l a L W) (hL : 0 < L) : Ideal.div a l = ((W / L : ℝ) : EReal) := by
  rcases h with ⟨-, -, -, h, -⟩ | ⟨μ, -, h2, h3⟩
  · exact absurd h hL.ne'
  · have hp : (0 : ℝ) < (2 : ℝ) ^ (-μ) := Real.rpow_pos_of_pos (by norm_num) _
    rw [h2, h3, Ideal.div_coe (mul_pos hp hL).ne', ← EReal.coe_mul]
    congr 1
    field_simp

/-! ## The masked softmax of the reference -/

/-- The maximum of a masked row whose unmasked scores lie above the masked value is an unmasked score. -/
theorem max_attained {n : ℕ} (P : Fin n → Prop) [DecidablePred P] (s : Fin n → ℝ) (c : ℝ) (hc : ∀ j, P j → c < s j) (hP : ∃ j, P j)
    (x : Fin n → EReal) (hx : ∀ j, x j = if P j then (s j : EReal) else (c : EReal)) :
    ∃ j, P j ∧ Finset.univ.fold max ⊥ x = (s j : EReal) ∧ ∀ k, P k → s k ≤ s j := by
  obtain ⟨j0, hj0⟩ := hP
  obtain ⟨j, hj, hmax⟩ := Finset.exists_max_image (Finset.univ.filter P) s ⟨j0, by simp [hj0]⟩
  have hPj : P j := by simpa using hj
  have hmax' : ∀ k, P k → s k ≤ s j := fun k hk => hmax k (by simp [hk])
  refine ⟨j, hPj, le_antisymm ?_ ?_, hmax'⟩
  · refine Finset.fold_max_le _ |>.2 ⟨bot_le, fun k _ => ?_⟩
    rw [hx k]
    split
    · exact EReal.coe_le_coe_iff.2 (hmax' k ‹_›)
    · exact EReal.coe_le_coe_iff.2 (hc j hPj).le
  · refine (Finset.le_fold_max _).2 (Or.inr ⟨j, Finset.mem_univ _, ?_⟩)
    rw [hx j, if_pos hPj]

/-- The masked softmax, its denominator bounded below by a constant below one, is the quotient of the exponentials. -/
theorem softmax_real {n : ℕ} (P : Fin n → Prop) [DecidablePred P] (s : Fin n → ℝ) (c ε : ℝ) (hc : ∀ j, P j → c < s j) (hP : ∃ j, P j)
    (hε : ε ≤ 1) (x : Fin n → EReal) (hx : ∀ j, x j = if P j then (s j : EReal) else (c : EReal))
    (w : Fin n → EReal) (hw : ∀ j, w j = if P j then Ideal.exp (x j - Finset.univ.fold max ⊥ x) else 0) (j : Fin n) :
    Ideal.div (w j) (max (∑ k, w k) (ε : EReal))
      = (((if P j then Real.exp (s j) else 0) / ∑ k, (if P k then Real.exp (s k) else 0) : ℝ) : EReal) := by
  obtain ⟨i, hi, hm, hmax⟩ := max_attained P s c hc hP x hx
  have hw' : ∀ j, w j = (((if P j then Real.exp (s j) else 0) * Real.exp (-s i) : ℝ) : EReal) := by
    intro j
    rw [hw j, hm]
    split
    · rw [hx j, if_pos ‹_›, ← EReal.coe_sub, sub_eq_add_neg, ← Real.exp_add]; rfl
    · rw [zero_mul]; rfl
  have hsum : ∑ k, w k = (((∑ k, (if P k then Real.exp (s k) else 0)) * Real.exp (-s i) : ℝ) : EReal) := by
    rw [Finset.sum_mul, coe_sum]
    exact Finset.sum_congr rfl fun k _ => hw' k
  have hpos : (0 : ℝ) < Real.exp (-s i) := Real.exp_pos _
  have hge : Real.exp (s i) ≤ ∑ k, (if P k then Real.exp (s k) else 0) := by
    refine le_trans (le_of_eq (if_pos hi).symm) (Finset.single_le_sum (f := fun k => if P k then Real.exp (s k) else 0)
      (fun k _ => ?_) (Finset.mem_univ i))
    split
    · exact (Real.exp_pos _).le
    · exact le_rfl
  have h1 : (1 : ℝ) ≤ (∑ k, (if P k then Real.exp (s k) else 0)) * Real.exp (-s i) := by
    calc (1 : ℝ) = Real.exp (s i) * Real.exp (-s i) := by rw [← Real.exp_add, add_neg_cancel, Real.exp_zero]
      _ ≤ _ := mul_le_mul_of_nonneg_right hge hpos.le
  have hS : (0 : ℝ) < ∑ k, (if P k then Real.exp (s k) else 0) := lt_of_lt_of_le (Real.exp_pos _) hge
  rw [hsum, hw' j, max_eq_left (EReal.coe_le_coe_iff.2 (hε.trans h1)), Ideal.div_coe (lt_of_lt_of_le one_pos h1).ne', ← EReal.coe_mul]
  congr 1
  field_simp

/-! ## Buckets of distances -/

/-- The bucket of a relative distance, as both programs compute it from the distance's word. -/
def bucket (d : BitVec 32) : BitVec 32 :=
  Scalar.select (IntOp.cmpi .slt (IntOp.maxsi d 0#32) 16#32) (IntOp.maxsi d 0#32)
    (IntOp.minsi
      (IntOp.addi 16#32
        (Ideal.fptosi 32
          (Ideal.div
              (Ideal.log (Ideal.div (((IntOp.maxsi (IntOp.maxsi d 0#32) 16#32).toInt : ℝ) : EReal) (Ideal.ofBits .f32 0x41800000#32)))
              (Ideal.ofBits .f32 0x40051592#32)
            * Ideal.ofBits .f32 0x41800000#32)))
      31#32)

/-- The logarithmic part of the bucket of a distance of at least sixteen is a small natural number, at least fifteen from
a distance of 256 on. -/
theorem bucket_log (n : ℕ) (h16 : 16 ≤ n) (hn : n < 4096) :
    ∃ z : ℕ, z ≤ 4096 ∧ (256 ≤ n → 15 ≤ z) ∧
      Ideal.fptosi 32
          (Ideal.div
              (Ideal.log (Ideal.div (((n : ℤ) : ℝ) : EReal) (Ideal.ofBits .f32 0x41800000#32)))
              (Ideal.ofBits .f32 0x40051592#32)
            * Ideal.ofBits .f32 0x41800000#32) = BitVec.ofNat 32 z := by
  have e16 : Ideal.ofBits .f32 0x41800000#32 = ((16 : ℝ) : EReal) := by
    simp [Ideal.ofBits, Ideal.ieee, -EReal.coe_mul]; norm_num
  have ec : Ideal.ofBits .f32 0x40051592#32 = ((4360905 / 2097152 : ℝ) : EReal) := by
    simp [Ideal.ofBits, Ideal.ieee, -EReal.coe_mul]; norm_num
  have hn1 : (1 : ℝ) ≤ (n : ℝ) / 16 := by
    rw [le_div_iff₀ (by norm_num)]; simpa using (by exact_mod_cast h16 : (16 : ℝ) ≤ (n : ℝ))
  have hn2 : (n : ℝ) / 16 ≤ 256 := by
    rw [div_le_iff₀ (by norm_num)]
    have : (n : ℝ) ≤ 4096 := by exact_mod_cast hn.le
    linarith
  have hlog0 : 0 ≤ Real.log ((n : ℝ) / 16) := Real.log_nonneg hn1
  have hlog1 : Real.log ((n : ℝ) / 16) ≤ 255 := by
    have := Real.log_le_sub_one_of_pos (lt_of_lt_of_le one_pos hn1)
    linarith
  set r : ℝ := Real.log ((n : ℝ) / 16) * (1 / (4360905 / 2097152)) * 16 with hr
  have hr0 : 0 ≤ r := by positivity
  have hr1 : r ≤ 4000 := by rw [hr]; nlinarith
  have hz0 : 0 ≤ ⌊r⌋ := Int.floor_nonneg.2 hr0
  have hz1 : ⌊r⌋ ≤ 4000 := by
    have : (⌊r⌋ : ℝ) ≤ 4000 := (Int.floor_le r).trans hr1
    exact_mod_cast this
  refine ⟨⌊r⌋.toNat, by omega, fun h => ?_, ?_⟩
  · have h4 : (16 : ℝ) ≤ (n : ℝ) / 16 := by
      rw [le_div_iff₀ (by norm_num)]
      have : (256 : ℝ) ≤ (n : ℝ) := by exact_mod_cast h
      linarith
    have h5 : Real.log 16 ≤ Real.log ((n : ℝ) / 16) := Real.log_le_log (by norm_num) h4
    have h6 : Real.log 16 = 4 * Real.log 2 := by
      rw [show (16 : ℝ) = 2 ^ 4 by norm_num, Real.log_pow]; norm_num
    have h7 := Real.one_sub_inv_le_log_of_pos (show (0 : ℝ) < 2 by norm_num)
    have h8 : (15 : ℝ) ≤ r := by rw [hr]; nlinarith
    have h9 : (15 : ℤ) ≤ ⌊r⌋ := Int.le_floor.2 (by exact_mod_cast h8)
    omega
  · have hne : ¬ ((n : ℝ) / 16 = 0) := (lt_of_lt_of_le one_pos hn1).ne'
    rw [e16, ec, Ideal.div_coe (by norm_num : (16 : ℝ) ≠ 0), ← EReal.coe_mul]
    have hl : Ideal.log ((((n : ℤ) : ℝ) * (1 / 16) : ℝ) : EReal) = ((Real.log ((n : ℝ) / 16) : ℝ) : EReal) := by
      have : (((n : ℤ) : ℝ) * (1 / 16) : ℝ) = (n : ℝ) / 16 := by push_cast; ring
      rw [this]
      show (if (n : ℝ) / 16 ≤ 0 then (⊥ : EReal) else ((Real.log ((n : ℝ) / 16) : ℝ) : EReal)) = _
      rw [if_neg (not_le.2 (lt_of_lt_of_le one_pos hn1))]
    rw [hl, Ideal.div_coe (by norm_num : (4360905 / 2097152 : ℝ) ≠ 0), ← EReal.coe_mul, ← EReal.coe_mul]
    show BitVec.ofInt 32 (Ideal.toIntClamped _ _ ((r : ℝ) : EReal)) = _
    rw [Ideal.toIntClamped_coe, if_pos hr0]
    have : max (-(((2 ^ (32 - 1) : ℕ)) : ℤ)) (min (((2 ^ (32 - 1) : ℕ) : ℤ) - 1) ⌊r⌋) = ((⌊r⌋.toNat : ℕ) : ℤ) := by
      norm_num; omega
    rw [this]
    exact BitVec.ofInt_natCast 32 _

/-- A small natural number's word reads as that number. -/
theorem toInt_small (k : ℕ) (hk : k < 10000) : (BitVec.ofNat 32 k).toInt = k := by
  have h : (BitVec.ofNat 32 k).toNat = k := by rw [BitVec.toNat_ofNat]; omega
  rw [BitVec.toInt_eq_toNat_of_lt (by omega), h]

/-- The larger of a distance's word and zero is that word. -/
theorem maxsi_zero_ofNat (n : ℕ) (hn : n < 4096) : IntOp.maxsi (BitVec.ofNat 32 n) 0#32 = BitVec.ofNat 32 n := by
  have h := toInt_small n (by omega)
  unfold IntOp.maxsi
  rw [BitVec.slt_eq_decide, h]
  split
  · rfl
  · rename_i h0
    have : n = 0 := by simpa using h0
    subst this; rfl

/-- The bucket of a word that reads as a distance below 4096 is below thirty-two, and thirty-one from 256 on. -/
theorem bucket_of (d : BitVec 32) (n : ℕ) (hn : n < 4096) (hd : IntOp.maxsi d 0#32 = BitVec.ofNat 32 n) :
    (bucket d).toNat < 32 ∧ (256 ≤ n → bucket d = 31#32) := by
  have hi : ∀ k : ℕ, k < 10000 → (BitVec.ofNat 32 k).toInt = k := toInt_small
  unfold bucket
  rw [hd, WordCmp.cmpi_slt_eq, hi n (by omega), show (16#32).toInt = 16 from rfl]
  by_cases h16 : n < 16
  · rw [show decide ((n : ℤ) < 16) = true by simpa using by exact_mod_cast h16]
    refine ⟨?_, fun h => by omega⟩
    show (BitVec.ofNat 32 n).toNat < 32
    rw [BitVec.toNat_ofNat]; omega
  · rw [show decide ((n : ℤ) < 16) = false by simp; omega]
    have hm : IntOp.maxsi (BitVec.ofNat 32 n) 16#32 = BitVec.ofNat 32 n := by
      unfold IntOp.maxsi
      rw [BitVec.slt_eq_decide, hi n (by omega), show (16#32).toInt = 16 from rfl]
      split
      · rfl
      · rename_i h0
        have : n = 16 := by
          have : ¬ ((16 : ℤ) < n) := by simpa using h0
          omega
        subst this; rfl
    obtain ⟨z, hz, hz15, e⟩ := bucket_log n (by omega) hn
    rw [hm, hi n (by omega), e]
    show (IntOp.minsi (16#32 + BitVec.ofNat 32 z) 31#32).toNat < 32 ∧ (256 ≤ n → IntOp.minsi (16#32 + BitVec.ofNat 32 z) 31#32 = 31#32)
    rw [show (16#32 + BitVec.ofNat 32 z) = BitVec.ofNat 32 (16 + z) by
      apply BitVec.eq_of_toNat_eq; simp [BitVec.toNat_add]]
    unfold IntOp.minsi
    rw [BitVec.slt_eq_decide, hi _ (by omega), show (31#32).toInt = 31 from rfl]
    split
    · rename_i h0
      have h0 : ((16 + z : ℕ) : ℤ) < 31 := by simpa using h0
      refine ⟨?_, fun h => ?_⟩
      · rw [BitVec.toNat_ofNat]; omega
      · have := hz15 h; omega
    · exact ⟨by decide, fun _ => rfl⟩

end Cert.Proof.DiffMath

end
-- ==== Proof.DiffHost.lean ====
/- The table the attention's host code makes of the relative biases: for a head, a tile offset and a pair of positions, the bias of
   the distance's bucket less the bias of the last bucket. -/
module

public import proofs.«01_k».proof.Defs
public import proofs.«01_k».proof.Proof.DiffMath
public import proofs.«01_k».proof.Proof.Gen.DiffIdeal.Value

@[expose] public section

noncomputable section

namespace Cert.Proof.DiffHost

open Cert.DiffIdeal Cert.DiffIdeal.Gen Idealize.ShloMosaic Idealize.ShloMosaic.TcCoe Idealize.SL.Sem
open Idealize.ShloMosaic.ValueIdx Cert.Proof.Common Cert.Proof.DiffMath

abbrev St := Valuation τ sig (Elt Ideal)

theorem after_append (a b : List (HloOp τ sig (Elt Ideal))) (W : St) :
    StableHlo.after (a ++ b) W = StableHlo.after b (StableHlo.after a W) := by
  induction a generalizing W with
  | nil => rfl
  | cons x a ih => exact ih _

theorem after_flatten_cons (a : List (HloOp τ sig (Elt Ideal))) (l : List (List (HloOp τ sig (Elt Ideal)))) (W : St) :
    StableHlo.after (List.flatten (a :: l)) W = StableHlo.after (List.flatten l) (StableHlo.after a W) := by
  rw [List.flatten_cons, after_append]

theorem after_flatten_nil (W : St) : StableHlo.after (List.flatten ([] : List (List (HloOp τ sig (Elt Ideal))))) W = W := rfl

/-- One selection of the table: where the bucket is `n`, row `n` of the biases, elsewhere the table so far. -/
def pick (n : ℕ) (h : S32x16.Slices ![n, 0] S1x16) (X : IVec S1x2x512x512 32) (R : FVec Ideal S32x16 .f32)
    (P : FVec Ideal S16x2x512x512 .f32) : FVec Ideal S16x2x512x512 .f32 :=
  select (broadcastInDim S16x2x512x512 ![0, 1, 2, 3] bcast_S1x2x512x512_S16x2x512x512_0_1_2_3
      (cmpi .eq X (broadcastInDim S1x2x512x512 ![] bcast_S_S1x2x512x512 (constantI S_ 32 (BitVec.ofNat 32 n)))))
    (broadcastInDim S16x2x512x512 ![0, 1, 2, 3] bcast_S16x1x1x1_S16x2x512x512_0_1_2_3
      (shapeCast S16x1x1x1 (shapeCast S16 (extractStridedSlice S1x16 ![n, 0] R h) shapeCasts_S1x16_S16) shapeCasts_S16_S16x1x1x1)) P

/-- A selection at an index. -/
theorem pick_apply (n : ℕ) (hn : n < 32) (h : S32x16.Slices ![n, 0] S1x16) (X : IVec S1x2x512x512 32) (R : FVec Ideal S32x16 .f32)
    (P : FVec Ideal S16x2x512x512 .f32) (a : Fin 16) (o : Fin 2) (i j : Fin 512) :
    pick n h X R P (ix4 a o i j)
      = if X (ix4 (0 : Fin 1) o i j) = BitVec.ofNat 32 n then R (ix2 ⟨n, hn⟩ a) else P (ix4 a o i j) := by
  unfold pick
  rw [select_apply]
  rw [broadcastInDim_apply _ _ _ _ (ix4 (0 : Fin 1) o i j) (fun b => by match b with | ⟨0, _⟩ => rfl | ⟨1, _⟩ => rfl | ⟨2, _⟩ => rfl | ⟨3, _⟩ => rfl)]
  rw [broadcastInDim_apply _ _ _ _ (ix4 a (0 : Fin 1) (0 : Fin 1) (0 : Fin 1)) (fun b => by match b with | ⟨0, _⟩ => rfl | ⟨1, _⟩ => rfl | ⟨2, _⟩ => rfl | ⟨3, _⟩ => rfl)]
  have e1 : shapeCast S16x1x1x1 (shapeCast S16 (extractStridedSlice S1x16 ![n, 0] R h) shapeCasts_S1x16_S16) shapeCasts_S16_S16x1x1x1
      (ix4 a (0 : Fin 1) (0 : Fin 1) (0 : Fin 1)) = R (ix2 ⟨n, hn⟩ a) := by
    rw [shapeCast_apply _ _ _ (ix1 a) (by simp [Shape.rowMajor_val_four, Shape.rowMajor_val_one, ix1, ix4]),
      shapeCast_apply _ _ _ (ix2 (0 : Fin 1) a) (by simp [Shape.rowMajor_val_two, Shape.rowMajor_val_one, ix1, ix2])]
    exact extractStridedSlice_apply _ _ _ _ (ix2 ⟨n, hn⟩ a) (fun b => by match b with | ⟨0, _⟩ => rfl | ⟨1, _⟩ => simp [ix2])
  rw [e1]
  show Scalar.select (IntOp.cmpi .eq (X (ix4 (0 : Fin 1) o i j)) (BitVec.ofNat 32 n)) _ _ = _
  rw [WordCmp.cmpi_eq_eq]
  by_cases hx : X (ix4 (0 : Fin 1) o i j) = BitVec.ofNat 32 n
  · rw [if_pos hx, decide_eq_true hx]; rfl
  · rw [if_neg hx, decide_eq_false hx]; rfl

/-- A table right for the buckets below `n` is, after the selection of `n`, right for those below `n + 1`. -/
theorem pick_good (n : ℕ) (hn : n < 32) (h : S32x16.Slices ![n, 0] S1x16) (X : IVec S1x2x512x512 32) (R : FVec Ideal S32x16 .f32)
    (P : FVec Ideal S16x2x512x512 .f32)
    (hP : ∀ (a : Fin 16) (o : Fin 2) (i j : Fin 512) (k : Fin 32), k.val < n → X (ix4 (0 : Fin 1) o i j) = BitVec.ofNat 32 k.val →
      P (ix4 a o i j) = R (ix2 k a)) :
    ∀ (a : Fin 16) (o : Fin 2) (i j : Fin 512) (k : Fin 32), k.val < n + 1 → X (ix4 (0 : Fin 1) o i j) = BitVec.ofNat 32 k.val →
      pick n h X R P (ix4 a o i j) = R (ix2 k a) := by
  intro a o i j k hk hX
  rw [pick_apply n hn, hX]
  by_cases hkn : k.val = n
  · obtain ⟨k, hk'⟩ := k
    dsimp only at hkn
    subst hkn
    rw [if_pos rfl]
  · rw [if_neg (fun e => hkn (by
      have := congrArg BitVec.toNat e
      rw [BitVec.toNat_ofNat, BitVec.toNat_ofNat, Nat.mod_eq_of_lt (by omega), Nat.mod_eq_of_lt (by omega)] at this
      exact this))]
    exact hP a o i j k (by omega) hX

variable (m : (ℓ : Loc nD τ sig) → Buf (Elt Ideal) ℓ) (ρ : Dev nD → PrngReg)

/-- The bucket words of the two tiles, as the host computes them. -/
def words : IVec S2x512x512 32 :=
  subi (addi (muli (iotaInDim S2x512x512 32 0) (broadcastInDim S2x512x512 ![] bcast_S_S2x512x512 (constantI S_ 32 512#32))) (iotaInDim S2x512x512 32 1))
    (iotaInDim S2x512x512 32 2)

/-- The buckets of the two tiles, as the host computes them. -/
def bkts0 : IVec S2x512x512 32 :=
  let k (w : BitVec 32) : IVec S2x512x512 32 := broadcastInDim S2x512x512 ![] bcast_S_S2x512x512 (constantI S_ 32 w)
  let f (w : BitVec 32) : FVec Ideal S2x512x512 .f32 := broadcastInDim S2x512x512 ![] bcast_S_S2x512x512 (constant S_ .f32 w)
  let d := maxsi words (k 0#32)
  let l := addi (k 16#32) (fptosi 32 (mulf (Host.divf (Host.log (Host.divf (sitofp .f32 (maxsi d (k 16#32))) (f 0x41800000#32))) (f 0x40051592#32)) (f 0x41800000#32)))
  select (cmpi .slt d (k 16#32)) d (minsi l (k 31#32))

/-- The same under a leading axis of one. -/
def bkts : IVec S1x2x512x512 32 := broadcastInDim S1x2x512x512 ![1, 2, 3] bcast_S2x512x512_S1x2x512x512_1_2_3 bkts0

/-- A bucket at an index is the bucket of the distance's word. -/
theorem bkts_apply (o : Fin 2) (i j : Fin 512) :
    bkts (ix4 (0 : Fin 1) o i j) = bucket (BitVec.ofNat 32 o.val * 512#32 + BitVec.ofNat 32 i.val - BitVec.ofNat 32 j.val) := by
  unfold bkts
  rw [broadcastInDim_apply _ _ _ _ (ix3 o i j) (fun b => by match b with | ⟨0, _⟩ => rfl | ⟨1, _⟩ => rfl | ⟨2, _⟩ => rfl)]
  rfl

/-- The state after the buckets are computed. -/
def B0 (c : Dev nD) : St := StableHlo.after hostOps0_1 (StableHlo.after hostOps0 (fun b => m (c, b)))
/-- The state after the selection of bucket 0. -/
def U0 (c : Dev nD) : St := StableHlo.after hostOps0_3 (StableHlo.after hostOps0_2 (B0 m c))

theorem B0_bkts (c : Dev nD) : B0 m c main_v30 = bkts0 := by
  show StableHlo.after hostOps0_1 (StableHlo.after hostOps0 (fun b => m (c, b))) (Proc.devRef .tc main_v30) = _
  after_results
  rfl
theorem B0_kt (c : Dev nD) : B0 m c main_v0 = (transpose S4x1024x4096 [0, 2, 1] (m ((c : Thread nD τ).loc main_arg1)) transposes_S4x4096x1024_S4x1024x4096_0_2_1 : FVec Ideal S4x1024x4096 .f32) := by
  show StableHlo.after hostOps0_1 (StableHlo.after hostOps0 (fun b => m (c, b))) (Proc.devRef .tc main_v0) = _
  after_results
theorem B0_last (c : Dev nD) : B0 m c main_v3 = (broadcastInDim S16x1x1x1 ![0] bcast_S16_S16x1x1x1_0 (shapeCast S16 (extractStridedSlice S1x16 ![31, 0] (m ((c : Thread nD τ).loc main_arg3)) slices_S32x16_S1x16_31_0) shapeCasts_S1x16_S16) : FVec Ideal S16x1x1x1 .f32) := by
  show StableHlo.after hostOps0_1 (StableHlo.after hostOps0 (fun b => m (c, b))) (Proc.devRef .tc main_v3) = _
  after_results
  rfl
theorem B0_rel (c : Dev nD) : B0 m c main_arg3 = m ((c : Thread nD τ).loc main_arg3) := by
  show StableHlo.after hostOps0_1 (StableHlo.after hostOps0 (fun b => m (c, b))) (Proc.devRef .tc main_arg3) = _
  after_results
theorem B0_g (c : Dev nD) : B0 m c main_arg5 = m ((c : Thread nD τ).loc main_arg5) := by
  show StableHlo.after hostOps0_1 (StableHlo.after hostOps0 (fun b => m (c, b))) (Proc.devRef .tc main_arg5) = _
  after_results

theorem base_keep (W : St) (r : Ref sig .tc) (h : r ∉ [main_v31, main_cst_7, main_v32, main_c_8, main_v33, main_v34, main_v35, main_v36, main_v37, main_call1_v0, main_call1_v1, main_v38]) :
    StableHlo.after hostOps0_3 (StableHlo.after hostOps0_2 W) r = W r := by
  rw [← after_append]
  exact StableHlo.after_of_writes_sub _ _ (StableHlo.forall_writes_sub_of_map rfl) h
theorem base_tab (W : St) : StableHlo.after hostOps0_3 (StableHlo.after hostOps0_2 W) (Proc.devRef .tc main_v38)
    = pick 0 slices_S32x16_S1x16_0_0 (broadcastInDim S1x2x512x512 ![1, 2, 3] bcast_S2x512x512_S1x2x512x512_1_2_3 (W main_v30)) (W main_arg3) (broadcastInDim S16x2x512x512 ![] bcast_S_S16x2x512x512 (constant S_ .f32 0x00000000#32)) := by
  after_results
  rfl
theorem base_bkts (W : St) : StableHlo.after hostOps0_3 (StableHlo.after hostOps0_2 W) (Proc.devRef .tc main_v31)
    = (broadcastInDim S1x2x512x512 ![1, 2, 3] bcast_S2x512x512_S1x2x512x512_1_2_3 (W main_v30) : IVec S1x2x512x512 32) := by
  after_results

theorem U0_kt (c : Dev nD) : U0 m c main_v0 = (transpose S4x1024x4096 [0, 2, 1] (m ((c : Thread nD τ).loc main_arg1)) transposes_S4x4096x1024_S4x1024x4096_0_2_1 : FVec Ideal S4x1024x4096 .f32) :=
  (base_keep (B0 m c) main_v0 (by decide)).trans (B0_kt m c)
theorem U0_last (c : Dev nD) : U0 m c main_v3 = (broadcastInDim S16x1x1x1 ![0] bcast_S16_S16x1x1x1_0 (shapeCast S16 (extractStridedSlice S1x16 ![31, 0] (m ((c : Thread nD τ).loc main_arg3)) slices_S32x16_S1x16_31_0) shapeCasts_S1x16_S16) : FVec Ideal S16x1x1x1 .f32) :=
  (base_keep (B0 m c) main_v3 (by decide)).trans (B0_last m c)
theorem U0_bkts (c : Dev nD) : U0 m c main_v31 = bkts := by
  refine (base_bkts (B0 m c)).trans ?_
  rw [B0_bkts]
  rfl
theorem U0_rel (c : Dev nD) : U0 m c main_arg3 = m ((c : Thread nD τ).loc main_arg3) :=
  (base_keep (B0 m c) main_arg3 (by decide)).trans (B0_rel m c)
theorem U0_g (c : Dev nD) : U0 m c main_arg5 = m ((c : Thread nD τ).loc main_arg5) :=
  (base_keep (B0 m c) main_arg5 (by decide)).trans (B0_g m c)
theorem U0_tab (c : Dev nD) : U0 m c main_v38 = pick 0 slices_S32x16_S1x16_0_0 bkts (m ((c : Thread nD τ).loc main_arg3)) (broadcastInDim S16x2x512x512 ![] bcast_S_S16x2x512x512 (constant S_ .f32 0x00000000#32)) := by
  refine (base_tab (B0 m c)).trans ?_
  rw [B0_bkts, B0_rel]
  rfl

/-- The state after the selection of bucket 1. -/
@[irreducible] def U1 (c : Dev nD) : St := StableHlo.after hostOps0_5 (StableHlo.after hostOps0_4 (U0 m c))
theorem U1_keep (c : Dev nD) (r : Ref sig .tc) (h : r ∉ [main_c_9, main_v39, main_v40, main_v41, main_v42, main_v43, main_call2_v0, main_call2_v1, main_v44]) : U1 m c r = U0 m c r := by
  unfold U1
  rw [← after_append]
  exact StableHlo.after_of_writes_sub _ _ (StableHlo.forall_writes_sub_of_map rfl) h
theorem tab1 (W : St) : StableHlo.after hostOps0_5 (StableHlo.after hostOps0_4 W) (Proc.devRef .tc main_v44)
    = pick 1 slices_S32x16_S1x16_1_0 (W main_v31) (W main_arg3) (W main_v38) := by
  after_results
  rfl
theorem U1_tab (c : Dev nD) : U1 m c main_v44 = pick 1 slices_S32x16_S1x16_1_0 (U0 m c main_v31) (U0 m c main_arg3) (U0 m c main_v38) := by
  unfold U1
  exact tab1 (U0 m c)

/-- The state after the selection of bucket 2. -/
@[irreducible] def U2 (c : Dev nD) : St := StableHlo.after hostOps0_7 (StableHlo.after hostOps0_6 (U1 m c))
theorem U2_keep (c : Dev nD) (r : Ref sig .tc) (h : r ∉ [main_c_10, main_v45, main_v46, main_v47, main_v48, main_v49, main_call3_v0, main_call3_v1, main_v50]) : U2 m c r = U1 m c r := by
  unfold U2
  rw [← after_append]
  exact StableHlo.after_of_writes_sub _ _ (StableHlo.forall_writes_sub_of_map rfl) h
theorem tab2 (W : St) : StableHlo.after hostOps0_7 (StableHlo.after hostOps0_6 W) (Proc.devRef .tc main_v50)
    = pick 2 slices_S32x16_S1x16_2_0 (W main_v31) (W main_arg3) (W main_v44) := by
  after_results
  rfl
theorem U2_tab (c : Dev nD) : U2 m c main_v50 = pick 2 slices_S32x16_S1x16_2_0 (U1 m c main_v31) (U1 m c main_arg3) (U1 m c main_v44) := by
  unfold U2
  exact tab2 (U1 m c)

/-- The state after the selection of bucket 3. -/
@[irreducible] def U3 (c : Dev nD) : St := StableHlo.after hostOps0_9 (StableHlo.after hostOps0_8 (U2 m c))
theorem U3_keep (c : Dev nD) (r : Ref sig .tc) (h : r ∉ [main_c_11, main_v51, main_v52, main_v53, main_v54, main_v55, main_call4_v0, main_call4_v1, main_v56]) : U3 m c r = U2 m c r := by
  unfold U3
  rw [← after_append]
  exact StableHlo.after_of_writes_sub _ _ (StableHlo.forall_writes_sub_of_map rfl) h
theorem tab3 (W : St) : StableHlo.after hostOps0_9 (StableHlo.after hostOps0_8 W) (Proc.devRef .tc main_v56)
    = pick 3 slices_S32x16_S1x16_3_0 (W main_v31) (W main_arg3) (W main_v50) := by
  after_results
  rfl
theorem U3_tab (c : Dev nD) : U3 m c main_v56 = pick 3 slices_S32x16_S1x16_3_0 (U2 m c main_v31) (U2 m c main_arg3) (U2 m c main_v50) := by
  unfold U3
  exact tab3 (U2 m c)

/-- The state after the selection of bucket 4. -/
@[irreducible] def U4 (c : Dev nD) : St := StableHlo.after hostOps0_11 (StableHlo.after hostOps0_10 (U3 m c))
theorem U4_keep (c : Dev nD) (r : Ref sig .tc) (h : r ∉ [main_c_12, main_v57, main_v58, main_v59, main_v60, main_v61, main_call5_v0, main_call5_v1, main_v62]) : U4 m c r = U3 m c r := by
  unfold U4
  rw [← after_append]
  exact StableHlo.after_of_writes_sub _ _ (StableHlo.forall_writes_sub_of_map rfl) h
theorem tab4 (W : St) : StableHlo.after hostOps0_11 (StableHlo.after hostOps0_10 W) (Proc.devRef .tc main_v62)
    = pick 4 slices_S32x16_S1x16_4_0 (W main_v31) (W main_arg3) (W main_v56) := by
  after_results
  rfl
theorem U4_tab (c : Dev nD) : U4 m c main_v62 = pick 4 slices_S32x16_S1x16_4_0 (U3 m c main_v31) (U3 m c main_arg3) (U3 m c main_v56) := by
  unfold U4
  exact tab4 (U3 m c)

/-- The state after the selection of bucket 5. -/
@[irreducible] def U5 (c : Dev nD) : St := StableHlo.after hostOps0_13 (StableHlo.after hostOps0_12 (U4 m c))
theorem U5_keep (c : Dev nD) (r : Ref sig .tc) (h : r ∉ [main_c_13, main_v63, main_v64, main_v65, main_v66, main_v67, main_call6_v0, main_call6_v1, main_v68]) : U5 m c r = U4 m c r := by
  unfold U5
  rw [← after_append]
  exact StableHlo.after_of_writes_sub _ _ (StableHlo.forall_writes_sub_of_map rfl) h
theorem tab5 (W : St) : StableHlo.after hostOps0_13 (StableHlo.after hostOps0_12 W) (Proc.devRef .tc main_v68)
    = pick 5 slices_S32x16_S1x16_5_0 (W main_v31) (W main_arg3) (W main_v62) := by
  after_results
  rfl
theorem U5_tab (c : Dev nD) : U5 m c main_v68 = pick 5 slices_S32x16_S1x16_5_0 (U4 m c main_v31) (U4 m c main_arg3) (U4 m c main_v62) := by
  unfold U5
  exact tab5 (U4 m c)

/-- The state after the selection of bucket 6. -/
@[irreducible] def U6 (c : Dev nD) : St := StableHlo.after hostOps0_15 (StableHlo.after hostOps0_14 (U5 m c))
theorem U6_keep (c : Dev nD) (r : Ref sig .tc) (h : r ∉ [main_c_14, main_v69, main_v70, main_v71, main_v72, main_v73, main_call7_v0, main_call7_v1, main_v74]) : U6 m c r = U5 m c r := by
  unfold U6
  rw [← after_append]
  exact StableHlo.after_of_writes_sub _ _ (StableHlo.forall_writes_sub_of_map rfl) h
theorem tab6 (W : St) : StableHlo.after hostOps0_15 (StableHlo.after hostOps0_14 W) (Proc.devRef .tc main_v74)
    = pick 6 slices_S32x16_S1x16_6_0 (W main_v31) (W main_arg3) (W main_v68) := by
  after_results
  rfl
theorem U6_tab (c : Dev nD) : U6 m c main_v74 = pick 6 slices_S32x16_S1x16_6_0 (U5 m c main_v31) (U5 m c main_arg3) (U5 m c main_v68) := by
  unfold U6
  exact tab6 (U5 m c)

/-- The state after the selection of bucket 7. -/
@[irreducible] def U7 (c : Dev nD) : St := StableHlo.after hostOps0_17 (StableHlo.after hostOps0_16 (U6 m c))
theorem U7_keep (c : Dev nD) (r : Ref sig .tc) (h : r ∉ [main_c_15, main_v75, main_v76, main_v77, main_v78, main_v79, main_call8_v0, main_call8_v1, main_v80]) : U7 m c r = U6 m c r := by
  unfold U7
  rw [← after_append]
  exact StableHlo.after_of_writes_sub _ _ (StableHlo.forall_writes_sub_of_map rfl) h
theorem tab7 (W : St) : StableHlo.after hostOps0_17 (StableHlo.after hostOps0_16 W) (Proc.devRef .tc main_v80)
    = pick 7 slices_S32x16_S1x16_7_0 (W main_v31) (W main_arg3) (W main_v74) := by
  after_results
  rfl
theorem U7_tab (c : Dev nD) : U7 m c main_v80 = pick 7 slices_S32x16_S1x16_7_0 (U6 m c main_v31) (U6 m c main_arg3) (U6 m c main_v74) := by
  unfold U7
  exact tab7 (U6 m c)

/-- The state after the selection of bucket 8. -/
@[irreducible] def U8 (c : Dev nD) : St := StableHlo.after hostOps0_19 (StableHlo.after hostOps0_18 (U7 m c))
theorem U8_keep (c : Dev nD) (r : Ref sig .tc) (h : r ∉ [main_c_16, main_v81, main_v82, main_v83, main_v84, main_v85, main_call9_v0, main_call9_v1, main_v86]) : U8 m c r = U7 m c r := by
  unfold U8
  rw [← after_append]
  exact StableHlo.after_of_writes_sub _ _ (StableHlo.forall_writes_sub_of_map rfl) h
theorem tab8 (W : St) : StableHlo.after hostOps0_19 (StableHlo.after hostOps0_18 W) (Proc.devRef .tc main_v86)
    = pick 8 slices_S32x16_S1x16_8_0 (W main_v31) (W main_arg3) (W main_v80) := by
  after_results
  rfl
theorem U8_tab (c : Dev nD) : U8 m c main_v86 = pick 8 slices_S32x16_S1x16_8_0 (U7 m c main_v31) (U7 m c main_arg3) (U7 m c main_v80) := by
  unfold U8
  exact tab8 (U7 m c)

/-- The state after the selection of bucket 9. -/
@[irreducible] def U9 (c : Dev nD) : St := StableHlo.after hostOps0_21 (StableHlo.after hostOps0_20 (U8 m c))
theorem U9_keep (c : Dev nD) (r : Ref sig .tc) (h : r ∉ [main_c_17, main_v87, main_v88, main_v89, main_v90, main_v91, main_call10_v0, main_call10_v1, main_v92]) : U9 m c r = U8 m c r := by
  unfold U9
  rw [← after_append]
  exact StableHlo.after_of_writes_sub _ _ (StableHlo.forall_writes_sub_of_map rfl) h
theorem tab9 (W : St) : StableHlo.after hostOps0_21 (StableHlo.after hostOps0_20 W) (Proc.devRef .tc main_v92)
    = pick 9 slices_S32x16_S1x16_9_0 (W main_v31) (W main_arg3) (W main_v86) := by
  after_results
  rfl
theorem U9_tab (c : Dev nD) : U9 m c main_v92 = pick 9 slices_S32x16_S1x16_9_0 (U8 m c main_v31) (U8 m c main_arg3) (U8 m c main_v86) := by
  unfold U9
  exact tab9 (U8 m c)

/-- The state after the selection of bucket 10. -/
@[irreducible] def U10 (c : Dev nD) : St := StableHlo.after hostOps0_23 (StableHlo.after hostOps0_22 (U9 m c))
theorem U10_keep (c : Dev nD) (r : Ref sig .tc) (h : r ∉ [main_c_18, main_v93, main_v94, main_v95, main_v96, main_v97, main_call11_v0, main_call11_v1, main_v98]) : U10 m c r = U9 m c r := by
  unfold U10
  rw [← after_append]
  exact StableHlo.after_of_writes_sub _ _ (StableHlo.forall_writes_sub_of_map rfl) h
theorem tab10 (W : St) : StableHlo.after hostOps0_23 (StableHlo.after hostOps0_22 W) (Proc.devRef .tc main_v98)
    = pick 10 slices_S32x16_S1x16_10_0 (W main_v31) (W main_arg3) (W main_v92) := by
  after_results
  rfl
theorem U10_tab (c : Dev nD) : U10 m c main_v98 = pick 10 slices_S32x16_S1x16_10_0 (U9 m c main_v31) (U9 m c main_arg3) (U9 m c main_v92) := by
  unfold U10
  exact tab10 (U9 m c)

/-- The state after the selection of bucket 11. -/
@[irreducible] def U11 (c : Dev nD) : St := StableHlo.after hostOps0_25 (StableHlo.after hostOps0_24 (U10 m c))
theorem U11_keep (c : Dev nD) (r : Ref sig .tc) (h : r ∉ [main_c_19, main_v99, main_v100, main_v101, main_v102, main_v103, main_call12_v0, main_call12_v1, main_v104]) : U11 m c r = U10 m c r := by
  unfold U11
  rw [← after_append]
  exact StableHlo.after_of_writes_sub _ _ (StableHlo.forall_writes_sub_of_map rfl) h
theorem tab11 (W : St) : StableHlo.after hostOps0_25 (StableHlo.after hostOps0_24 W) (Proc.devRef .tc main_v104)
    = pick 11 slices_S32x16_S1x16_11_0 (W main_v31) (W main_arg3) (W main_v98) := by
  after_results
  rfl
theorem U11_tab (c : Dev nD) : U11 m c main_v104 = pick 11 slices_S32x16_S1x16_11_0 (U10 m c main_v31) (U10 m c main_arg3) (U10 m c main_v98) := by
  unfold U11
  exact tab11 (U10 m c)

/-- The state after the selection of bucket 12. -/
@[irreducible] def U12 (c : Dev nD) : St := StableHlo.after hostOps0_27 (StableHlo.after hostOps0_26 (U11 m c))
theorem U12_keep (c : Dev nD) (r : Ref sig .tc) (h : r ∉ [main_c_20, main_v105, main_v106, main_v107, main_v108, main_v109, main_call13_v0, main_call13_v1, main_v110]) : U12 m c r = U11 m c r := by
  unfold U12
  rw [← after_append]
  exact StableHlo.after_of_writes_sub _ _ (StableHlo.forall_writes_sub_of_map rfl) h
theorem tab12 (W : St) : StableHlo.after hostOps0_27 (StableHlo.after hostOps0_26 W) (Proc.devRef .tc main_v110)
    = pick 12 slices_S32x16_S1x16_12_0 (W main_v31) (W main_arg3) (W main_v104) := by
  after_results
  rfl
theorem U12_tab (c : Dev nD) : U12 m c main_v110 = pick 12 slices_S32x16_S1x16_12_0 (U11 m c main_v31) (U11 m c main_arg3) (U11 m c main_v104) := by
  unfold U12
  exact tab12 (U11 m c)

/-- The state after the selection of bucket 13. -/
@[irreducible] def U13 (c : Dev nD) : St := StableHlo.after hostOps0_29 (StableHlo.after hostOps0_28 (U12 m c))
theorem U13_keep (c : Dev nD) (r : Ref sig .tc) (h : r ∉ [main_c_21, main_v111, main_v112, main_v113, main_v114, main_v115, main_call14_v0, main_call14_v1, main_v116]) : U13 m c r = U12 m c r := by
  unfold U13
  rw [← after_append]
  exact StableHlo.after_of_writes_sub _ _ (StableHlo.forall_writes_sub_of_map rfl) h
theorem tab13 (W : St) : StableHlo.after hostOps0_29 (StableHlo.after hostOps0_28 W) (Proc.devRef .tc main_v116)
    = pick 13 slices_S32x16_S1x16_13_0 (W main_v31) (W main_arg3) (W main_v110) := by
  after_results
  rfl
theorem U13_tab (c : Dev nD) : U13 m c main_v116 = pick 13 slices_S32x16_S1x16_13_0 (U12 m c main_v31) (U12 m c main_arg3) (U12 m c main_v110) := by
  unfold U13
  exact tab13 (U12 m c)

/-- The state after the selection of bucket 14. -/
@[irreducible] def U14 (c : Dev nD) : St := StableHlo.after hostOps0_31 (StableHlo.after hostOps0_30 (U13 m c))
theorem U14_keep (c : Dev nD) (r : Ref sig .tc) (h : r ∉ [main_c_22, main_v117, main_v118, main_v119, main_v120, main_v121, main_call15_v0, main_call15_v1, main_v122]) : U14 m c r = U13 m c r := by
  unfold U14
  rw [← after_append]
  exact StableHlo.after_of_writes_sub _ _ (StableHlo.forall_writes_sub_of_map rfl) h
theorem tab14 (W : St) : StableHlo.after hostOps0_31 (StableHlo.after hostOps0_30 W) (Proc.devRef .tc main_v122)
    = pick 14 slices_S32x16_S1x16_14_0 (W main_v31) (W main_arg3) (W main_v116) := by
  after_results
  rfl
theorem U14_tab (c : Dev nD) : U14 m c main_v122 = pick 14 slices_S32x16_S1x16_14_0 (U13 m c main_v31) (U13 m c main_arg3) (U13 m c main_v116) := by
  unfold U14
  exact tab14 (U13 m c)

/-- The state after the selection of bucket 15. -/
@[irreducible] def U15 (c : Dev nD) : St := StableHlo.after hostOps0_33 (StableHlo.after hostOps0_32 (U14 m c))
theorem U15_keep (c : Dev nD) (r : Ref sig .tc) (h : r ∉ [main_c_23, main_v123, main_v124, main_v125, main_v126, main_v127, main_call16_v0, main_call16_v1, main_v128]) : U15 m c r = U14 m c r := by
  unfold U15
  rw [← after_append]
  exact StableHlo.after_of_writes_sub _ _ (StableHlo.forall_writes_sub_of_map rfl) h
theorem tab15 (W : St) : StableHlo.after hostOps0_33 (StableHlo.after hostOps0_32 W) (Proc.devRef .tc main_v128)
    = pick 15 slices_S32x16_S1x16_15_0 (W main_v31) (W main_arg3) (W main_v122) := by
  after_results
  rfl
theorem U15_tab (c : Dev nD) : U15 m c main_v128 = pick 15 slices_S32x16_S1x16_15_0 (U14 m c main_v31) (U14 m c main_arg3) (U14 m c main_v122) := by
  unfold U15
  exact tab15 (U14 m c)

/-- The state after the selection of bucket 16. -/
@[irreducible] def U16 (c : Dev nD) : St := StableHlo.after hostOps0_35 (StableHlo.after hostOps0_34 (U15 m c))
theorem U16_keep (c : Dev nD) (r : Ref sig .tc) (h : r ∉ [main_c_24, main_v129, main_v130, main_v131, main_v132, main_v133, main_call17_v0, main_call17_v1, main_v134]) : U16 m c r = U15 m c r := by
  unfold U16
  rw [← after_append]
  exact StableHlo.after_of_writes_sub _ _ (StableHlo.forall_writes_sub_of_map rfl) h
theorem tab16 (W : St) : StableHlo.after hostOps0_35 (StableHlo.after hostOps0_34 W) (Proc.devRef .tc main_v134)
    = pick 16 slices_S32x16_S1x16_16_0 (W main_v31) (W main_arg3) (W main_v128) := by
  after_results
  rfl
theorem U16_tab (c : Dev nD) : U16 m c main_v134 = pick 16 slices_S32x16_S1x16_16_0 (U15 m c main_v31) (U15 m c main_arg3) (U15 m c main_v128) := by
  unfold U16
  exact tab16 (U15 m c)

/-- The state after the selection of bucket 17. -/
@[irreducible] def U17 (c : Dev nD) : St := StableHlo.after hostOps0_37 (StableHlo.after hostOps0_36 (U16 m c))
theorem U17_keep (c : Dev nD) (r : Ref sig .tc) (h : r ∉ [main_c_25, main_v135, main_v136, main_v137, main_v138, main_v139, main_call18_v0, main_call18_v1, main_v140]) : U17 m c r = U16 m c r := by
  unfold U17
  rw [← after_append]
  exact StableHlo.after_of_writes_sub _ _ (StableHlo.forall_writes_sub_of_map rfl) h
theorem tab17 (W : St) : StableHlo.after hostOps0_37 (StableHlo.after hostOps0_36 W) (Proc.devRef .tc main_v140)
    = pick 17 slices_S32x16_S1x16_17_0 (W main_v31) (W main_arg3) (W main_v134) := by
  after_results
  rfl
theorem U17_tab (c : Dev nD) : U17 m c main_v140 = pick 17 slices_S32x16_S1x16_17_0 (U16 m c main_v31) (U16 m c main_arg3) (U16 m c main_v134) := by
  unfold U17
  exact tab17 (U16 m c)

/-- The state after the selection of bucket 18. -/
@[irreducible] def U18 (c : Dev nD) : St := StableHlo.after hostOps0_39 (StableHlo.after hostOps0_38 (U17 m c))
theorem U18_keep (c : Dev nD) (r : Ref sig .tc) (h : r ∉ [main_c_26, main_v141, main_v142, main_v143, main_v144, main_v145, main_call19_v0, main_call19_v1, main_v146]) : U18 m c r = U17 m c r := by
  unfold U18
  rw [← after_append]
  exact StableHlo.after_of_writes_sub _ _ (StableHlo.forall_writes_sub_of_map rfl) h
theorem tab18 (W : St) : StableHlo.after hostOps0_39 (StableHlo.after hostOps0_38 W) (Proc.devRef .tc main_v146)
    = pick 18 slices_S32x16_S1x16_18_0 (W main_v31) (W main_arg3) (W main_v140) := by
  after_results
  rfl
theorem U18_tab (c : Dev nD) : U18 m c main_v146 = pick 18 slices_S32x16_S1x16_18_0 (U17 m c main_v31) (U17 m c main_arg3) (U17 m c main_v140) := by
  unfold U18
  exact tab18 (U17 m c)

/-- The state after the selection of bucket 19. -/
@[irreducible] def U19 (c : Dev nD) : St := StableHlo.after hostOps0_41 (StableHlo.after hostOps0_40 (U18 m c))
theorem U19_keep (c : Dev nD) (r : Ref sig .tc) (h : r ∉ [main_c_27, main_v147, main_v148, main_v149, main_v150, main_v151, main_call20_v0, main_call20_v1, main_v152]) : U19 m c r = U18 m c r := by
  unfold U19
  rw [← after_append]
  exact StableHlo.after_of_writes_sub _ _ (StableHlo.forall_writes_sub_of_map rfl) h
theorem tab19 (W : St) : StableHlo.after hostOps0_41 (StableHlo.after hostOps0_40 W) (Proc.devRef .tc main_v152)
    = pick 19 slices_S32x16_S1x16_19_0 (W main_v31) (W main_arg3) (W main_v146) := by
  after_results
  rfl
theorem U19_tab (c : Dev nD) : U19 m c main_v152 = pick 19 slices_S32x16_S1x16_19_0 (U18 m c main_v31) (U18 m c main_arg3) (U18 m c main_v146) := by
  unfold U19
  exact tab19 (U18 m c)

/-- The state after the selection of bucket 20. -/
@[irreducible] def U20 (c : Dev nD) : St := StableHlo.after hostOps0_43 (StableHlo.after hostOps0_42 (U19 m c))
theorem U20_keep (c : Dev nD) (r : Ref sig .tc) (h : r ∉ [main_c_28, main_v153, main_v154, main_v155, main_v156, main_v157, main_call21_v0, main_call21_v1, main_v158]) : U20 m c r = U19 m c r := by
  unfold U20
  rw [← after_append]
  exact StableHlo.after_of_writes_sub _ _ (StableHlo.forall_writes_sub_of_map rfl) h
theorem tab20 (W : St) : StableHlo.after hostOps0_43 (StableHlo.after hostOps0_42 W) (Proc.devRef .tc main_v158)
    = pick 20 slices_S32x16_S1x16_20_0 (W main_v31) (W main_arg3) (W main_v152) := by
  after_results
  rfl
theorem U20_tab (c : Dev nD) : U20 m c main_v158 = pick 20 slices_S32x16_S1x16_20_0 (U19 m c main_v31) (U19 m c main_arg3) (U19 m c main_v152) := by
  unfold U20
  exact tab20 (U19 m c)

/-- The state after the selection of bucket 21. -/
@[irreducible] def U21 (c : Dev nD) : St := StableHlo.after hostOps0_45 (StableHlo.after hostOps0_44 (U20 m c))
theorem U21_keep (c : Dev nD) (r : Ref sig .tc) (h : r ∉ [main_c_29, main_v159, main_v160, main_v161, main_v162, main_v163, main_call22_v0, main_call22_v1, main_v164]) : U21 m c r = U20 m c r := by
  unfold U21
  rw [← after_append]
  exact StableHlo.after_of_writes_sub _ _ (StableHlo.forall_writes_sub_of_map rfl) h
theorem tab21 (W : St) : StableHlo.after hostOps0_45 (StableHlo.after hostOps0_44 W) (Proc.devRef .tc main_v164)
    = pick 21 slices_S32x16_S1x16_21_0 (W main_v31) (W main_arg3) (W main_v158) := by
  after_results
  rfl
theorem U21_tab (c : Dev nD) : U21 m c main_v164 = pick 21 slices_S32x16_S1x16_21_0 (U20 m c main_v31) (U20 m c main_arg3) (U20 m c main_v158) := by
  unfold U21
  exact tab21 (U20 m c)

/-- The state after the selection of bucket 22. -/
@[irreducible] def U22 (c : Dev nD) : St := StableHlo.after hostOps0_47 (StableHlo.after hostOps0_46 (U21 m c))
theorem U22_keep (c : Dev nD) (r : Ref sig .tc) (h : r ∉ [main_c_30, main_v165, main_v166, main_v167, main_v168, main_v169, main_call23_v0, main_call23_v1, main_v170]) : U22 m c r = U21 m c r := by
  unfold U22
  rw [← after_append]
  exact StableHlo.after_of_writes_sub _ _ (StableHlo.forall_writes_sub_of_map rfl) h
theorem tab22 (W : St) : StableHlo.after hostOps0_47 (StableHlo.after hostOps0_46 W) (Proc.devRef .tc main_v170)
    = pick 22 slices_S32x16_S1x16_22_0 (W main_v31) (W main_arg3) (W main_v164) := by
  after_results
  rfl
theorem U22_tab (c : Dev nD) : U22 m c main_v170 = pick 22 slices_S32x16_S1x16_22_0 (U21 m c main_v31) (U21 m c main_arg3) (U21 m c main_v164) := by
  unfold U22
  exact tab22 (U21 m c)

/-- The state after the selection of bucket 23. -/
@[irreducible] def U23 (c : Dev nD) : St := StableHlo.after hostOps0_49 (StableHlo.after hostOps0_48 (U22 m c))
theorem U23_keep (c : Dev nD) (r : Ref sig .tc) (h : r ∉ [main_c_31, main_v171, main_v172, main_v173, main_v174, main_v175, main_call24_v0, main_call24_v1, main_v176]) : U23 m c r = U22 m c r := by
  unfold U23
  rw [← after_append]
  exact StableHlo.after_of_writes_sub _ _ (StableHlo.forall_writes_sub_of_map rfl) h
theorem tab23 (W : St) : StableHlo.after hostOps0_49 (StableHlo.after hostOps0_48 W) (Proc.devRef .tc main_v176)
    = pick 23 slices_S32x16_S1x16_23_0 (W main_v31) (W main_arg3) (W main_v170) := by
  after_results
  rfl
theorem U23_tab (c : Dev nD) : U23 m c main_v176 = pick 23 slices_S32x16_S1x16_23_0 (U22 m c main_v31) (U22 m c main_arg3) (U22 m c main_v170) := by
  unfold U23
  exact tab23 (U22 m c)

/-- The state after the selection of bucket 24. -/
@[irreducible] def U24 (c : Dev nD) : St := StableHlo.after hostOps0_51 (StableHlo.after hostOps0_50 (U23 m c))
theorem U24_keep (c : Dev nD) (r : Ref sig .tc) (h : r ∉ [main_c_32, main_v177, main_v178, main_v179, main_v180, main_v181, main_call25_v0, main_call25_v1, main_v182]) : U24 m c r = U23 m c r := by
  unfold U24
  rw [← after_append]
  exact StableHlo.after_of_writes_sub _ _ (StableHlo.forall_writes_sub_of_map rfl) h
theorem tab24 (W : St) : StableHlo.after hostOps0_51 (StableHlo.after hostOps0_50 W) (Proc.devRef .tc main_v182)
    = pick 24 slices_S32x16_S1x16_24_0 (W main_v31) (W main_arg3) (W main_v176) := by
  after_results
  rfl
theorem U24_tab (c : Dev nD) : U24 m c main_v182 = pick 24 slices_S32x16_S1x16_24_0 (U23 m c main_v31) (U23 m c main_arg3) (U23 m c main_v176) := by
  unfold U24
  exact tab24 (U23 m c)

/-- The state after the selection of bucket 25. -/
@[irreducible] def U25 (c : Dev nD) : St := StableHlo.after hostOps0_53 (StableHlo.after hostOps0_52 (U24 m c))
theorem U25_keep (c : Dev nD) (r : Ref sig .tc) (h : r ∉ [main_c_33, main_v183, main_v184, main_v185, main_v186, main_v187, main_call26_v0, main_call26_v1, main_v188]) : U25 m c r = U24 m c r := by
  unfold U25
  rw [← after_append]
  exact StableHlo.after_of_writes_sub _ _ (StableHlo.forall_writes_sub_of_map rfl) h
theorem tab25 (W : St) : StableHlo.after hostOps0_53 (StableHlo.after hostOps0_52 W) (Proc.devRef .tc main_v188)
    = pick 25 slices_S32x16_S1x16_25_0 (W main_v31) (W main_arg3) (W main_v182) := by
  after_results
  rfl
theorem U25_tab (c : Dev nD) : U25 m c main_v188 = pick 25 slices_S32x16_S1x16_25_0 (U24 m c main_v31) (U24 m c main_arg3) (U24 m c main_v182) := by
  unfold U25
  exact tab25 (U24 m c)

/-- The state after the selection of bucket 26. -/
@[irreducible] def U26 (c : Dev nD) : St := StableHlo.after hostOps0_55 (StableHlo.after hostOps0_54 (U25 m c))
theorem U26_keep (c : Dev nD) (r : Ref sig .tc) (h : r ∉ [main_c_34, main_v189, main_v190, main_v191, main_v192, main_v193, main_call27_v0, main_call27_v1, main_v194]) : U26 m c r = U25 m c r := by
  unfold U26
  rw [← after_append]
  exact StableHlo.after_of_writes_sub _ _ (StableHlo.forall_writes_sub_of_map rfl) h
theorem tab26 (W : St) : StableHlo.after hostOps0_55 (StableHlo.after hostOps0_54 W) (Proc.devRef .tc main_v194)
    = pick 26 slices_S32x16_S1x16_26_0 (W main_v31) (W main_arg3) (W main_v188) := by
  after_results
  rfl
theorem U26_tab (c : Dev nD) : U26 m c main_v194 = pick 26 slices_S32x16_S1x16_26_0 (U25 m c main_v31) (U25 m c main_arg3) (U25 m c main_v188) := by
  unfold U26
  exact tab26 (U25 m c)

/-- The state after the selection of bucket 27. -/
@[irreducible] def U27 (c : Dev nD) : St := StableHlo.after hostOps0_57 (StableHlo.after hostOps0_56 (U26 m c))
theorem U27_keep (c : Dev nD) (r : Ref sig .tc) (h : r ∉ [main_c_35, main_v195, main_v196, main_v197, main_v198, main_v199, main_call28_v0, main_call28_v1, main_v200]) : U27 m c r = U26 m c r := by
  unfold U27
  rw [← after_append]
  exact StableHlo.after_of_writes_sub _ _ (StableHlo.forall_writes_sub_of_map rfl) h
theorem tab27 (W : St) : StableHlo.after hostOps0_57 (StableHlo.after hostOps0_56 W) (Proc.devRef .tc main_v200)
    = pick 27 slices_S32x16_S1x16_27_0 (W main_v31) (W main_arg3) (W main_v194) := by
  after_results
  rfl
theorem U27_tab (c : Dev nD) : U27 m c main_v200 = pick 27 slices_S32x16_S1x16_27_0 (U26 m c main_v31) (U26 m c main_arg3) (U26 m c main_v194) := by
  unfold U27
  exact tab27 (U26 m c)

/-- The state after the selection of bucket 28. -/
@[irreducible] def U28 (c : Dev nD) : St := StableHlo.after hostOps0_59 (StableHlo.after hostOps0_58 (U27 m c))
theorem U28_keep (c : Dev nD) (r : Ref sig .tc) (h : r ∉ [main_c_36, main_v201, main_v202, main_v203, main_v204, main_v205, main_call29_v0, main_call29_v1, main_v206]) : U28 m c r = U27 m c r := by
  unfold U28
  rw [← after_append]
  exact StableHlo.after_of_writes_sub _ _ (StableHlo.forall_writes_sub_of_map rfl) h
theorem tab28 (W : St) : StableHlo.after hostOps0_59 (StableHlo.after hostOps0_58 W) (Proc.devRef .tc main_v206)
    = pick 28 slices_S32x16_S1x16_28_0 (W main_v31) (W main_arg3) (W main_v200) := by
  after_results
  rfl
theorem U28_tab (c : Dev nD) : U28 m c main_v206 = pick 28 slices_S32x16_S1x16_28_0 (U27 m c main_v31) (U27 m c main_arg3) (U27 m c main_v200) := by
  unfold U28
  exact tab28 (U27 m c)

/-- The state after the selection of bucket 29. -/
@[irreducible] def U29 (c : Dev nD) : St := StableHlo.after hostOps0_61 (StableHlo.after hostOps0_60 (U28 m c))
theorem U29_keep (c : Dev nD) (r : Ref sig .tc) (h : r ∉ [main_c_37, main_v207, main_v208, main_v209, main_v210, main_v211, main_call30_v0, main_call30_v1, main_v212]) : U29 m c r = U28 m c r := by
  unfold U29
  rw [← after_append]
  exact StableHlo.after_of_writes_sub _ _ (StableHlo.forall_writes_sub_of_map rfl) h
theorem tab29 (W : St) : StableHlo.after hostOps0_61 (StableHlo.after hostOps0_60 W) (Proc.devRef .tc main_v212)
    = pick 29 slices_S32x16_S1x16_29_0 (W main_v31) (W main_arg3) (W main_v206) := by
  after_results
  rfl
theorem U29_tab (c : Dev nD) : U29 m c main_v212 = pick 29 slices_S32x16_S1x16_29_0 (U28 m c main_v31) (U28 m c main_arg3) (U28 m c main_v206) := by
  unfold U29
  exact tab29 (U28 m c)

/-- The state after the selection of bucket 30. -/
@[irreducible] def U30 (c : Dev nD) : St := StableHlo.after hostOps0_63 (StableHlo.after hostOps0_62 (U29 m c))
theorem U30_keep (c : Dev nD) (r : Ref sig .tc) (h : r ∉ [main_c_38, main_v213, main_v214, main_v215, main_v216, main_v217, main_call31_v0, main_call31_v1, main_v218]) : U30 m c r = U29 m c r := by
  unfold U30
  rw [← after_append]
  exact StableHlo.after_of_writes_sub _ _ (StableHlo.forall_writes_sub_of_map rfl) h
theorem tab30 (W : St) : StableHlo.after hostOps0_63 (StableHlo.after hostOps0_62 W) (Proc.devRef .tc main_v218)
    = pick 30 slices_S32x16_S1x16_30_0 (W main_v31) (W main_arg3) (W main_v212) := by
  after_results
  rfl
theorem U30_tab (c : Dev nD) : U30 m c main_v218 = pick 30 slices_S32x16_S1x16_30_0 (U29 m c main_v31) (U29 m c main_arg3) (U29 m c main_v212) := by
  unfold U30
  exact tab30 (U29 m c)

/-- The state after the selection of bucket 31. -/
@[irreducible] def U31 (c : Dev nD) : St := StableHlo.after hostOps0_65 (StableHlo.after hostOps0_64 (U30 m c))
theorem U31_keep (c : Dev nD) (r : Ref sig .tc) (h : r ∉ [main_c_39, main_v219, main_v220, main_v221, main_v222, main_v223, main_call32_v0, main_call32_v1, main_v224]) : U31 m c r = U30 m c r := by
  unfold U31
  rw [← after_append]
  exact StableHlo.after_of_writes_sub _ _ (StableHlo.forall_writes_sub_of_map rfl) h
theorem tab31 (W : St) : StableHlo.after hostOps0_65 (StableHlo.after hostOps0_64 W) (Proc.devRef .tc main_v224)
    = pick 31 slices_S32x16_S1x16_31_0 (W main_v31) (W main_arg3) (W main_v218) := by
  after_results
  rfl
theorem U31_tab (c : Dev nD) : U31 m c main_v224 = pick 31 slices_S32x16_S1x16_31_0 (U30 m c main_v31) (U30 m c main_arg3) (U30 m c main_v218) := by
  unfold U31
  exact tab31 (U30 m c)

/-- The buffers the selections leave as they are. -/
theorem U31_keep0 (c : Dev nD) (r : Ref sig .tc) (h : r ∈ [main_v0, main_v3, main_v31, main_arg3, main_arg5]) : U31 m c r = U0 m c r := by
  fin_cases h
  · exact ((U31_keep m c main_v0 (by decide)).trans <| (U30_keep m c main_v0 (by decide)).trans <| (U29_keep m c main_v0 (by decide)).trans <| (U28_keep m c main_v0 (by decide)).trans <| (U27_keep m c main_v0 (by decide)).trans <| (U26_keep m c main_v0 (by decide)).trans <| (U25_keep m c main_v0 (by decide)).trans <| (U24_keep m c main_v0 (by decide)).trans <| (U23_keep m c main_v0 (by decide)).trans <| (U22_keep m c main_v0 (by decide)).trans <| (U21_keep m c main_v0 (by decide)).trans <| (U20_keep m c main_v0 (by decide)).trans <| (U19_keep m c main_v0 (by decide)).trans <| (U18_keep m c main_v0 (by decide)).trans <| (U17_keep m c main_v0 (by decide)).trans <| (U16_keep m c main_v0 (by decide)).trans <| (U15_keep m c main_v0 (by decide)).trans <| (U14_keep m c main_v0 (by decide)).trans <| (U13_keep m c main_v0 (by decide)).trans <| (U12_keep m c main_v0 (by decide)).trans <| (U11_keep m c main_v0 (by decide)).trans <| (U10_keep m c main_v0 (by decide)).trans <| (U9_keep m c main_v0 (by decide)).trans <| (U8_keep m c main_v0 (by decide)).trans <| (U7_keep m c main_v0 (by decide)).trans <| (U6_keep m c main_v0 (by decide)).trans <| (U5_keep m c main_v0 (by decide)).trans <| (U4_keep m c main_v0 (by decide)).trans <| (U3_keep m c main_v0 (by decide)).trans <| (U2_keep m c main_v0 (by decide)).trans <| U1_keep m c main_v0 (by decide))
  · exact ((U31_keep m c main_v3 (by decide)).trans <| (U30_keep m c main_v3 (by decide)).trans <| (U29_keep m c main_v3 (by decide)).trans <| (U28_keep m c main_v3 (by decide)).trans <| (U27_keep m c main_v3 (by decide)).trans <| (U26_keep m c main_v3 (by decide)).trans <| (U25_keep m c main_v3 (by decide)).trans <| (U24_keep m c main_v3 (by decide)).trans <| (U23_keep m c main_v3 (by decide)).trans <| (U22_keep m c main_v3 (by decide)).trans <| (U21_keep m c main_v3 (by decide)).trans <| (U20_keep m c main_v3 (by decide)).trans <| (U19_keep m c main_v3 (by decide)).trans <| (U18_keep m c main_v3 (by decide)).trans <| (U17_keep m c main_v3 (by decide)).trans <| (U16_keep m c main_v3 (by decide)).trans <| (U15_keep m c main_v3 (by decide)).trans <| (U14_keep m c main_v3 (by decide)).trans <| (U13_keep m c main_v3 (by decide)).trans <| (U12_keep m c main_v3 (by decide)).trans <| (U11_keep m c main_v3 (by decide)).trans <| (U10_keep m c main_v3 (by decide)).trans <| (U9_keep m c main_v3 (by decide)).trans <| (U8_keep m c main_v3 (by decide)).trans <| (U7_keep m c main_v3 (by decide)).trans <| (U6_keep m c main_v3 (by decide)).trans <| (U5_keep m c main_v3 (by decide)).trans <| (U4_keep m c main_v3 (by decide)).trans <| (U3_keep m c main_v3 (by decide)).trans <| (U2_keep m c main_v3 (by decide)).trans <| U1_keep m c main_v3 (by decide))
  · exact ((U31_keep m c main_v31 (by decide)).trans <| (U30_keep m c main_v31 (by decide)).trans <| (U29_keep m c main_v31 (by decide)).trans <| (U28_keep m c main_v31 (by decide)).trans <| (U27_keep m c main_v31 (by decide)).trans <| (U26_keep m c main_v31 (by decide)).trans <| (U25_keep m c main_v31 (by decide)).trans <| (U24_keep m c main_v31 (by decide)).trans <| (U23_keep m c main_v31 (by decide)).trans <| (U22_keep m c main_v31 (by decide)).trans <| (U21_keep m c main_v31 (by decide)).trans <| (U20_keep m c main_v31 (by decide)).trans <| (U19_keep m c main_v31 (by decide)).trans <| (U18_keep m c main_v31 (by decide)).trans <| (U17_keep m c main_v31 (by decide)).trans <| (U16_keep m c main_v31 (by decide)).trans <| (U15_keep m c main_v31 (by decide)).trans <| (U14_keep m c main_v31 (by decide)).trans <| (U13_keep m c main_v31 (by decide)).trans <| (U12_keep m c main_v31 (by decide)).trans <| (U11_keep m c main_v31 (by decide)).trans <| (U10_keep m c main_v31 (by decide)).trans <| (U9_keep m c main_v31 (by decide)).trans <| (U8_keep m c main_v31 (by decide)).trans <| (U7_keep m c main_v31 (by decide)).trans <| (U6_keep m c main_v31 (by decide)).trans <| (U5_keep m c main_v31 (by decide)).trans <| (U4_keep m c main_v31 (by decide)).trans <| (U3_keep m c main_v31 (by decide)).trans <| (U2_keep m c main_v31 (by decide)).trans <| U1_keep m c main_v31 (by decide))
  · exact ((U31_keep m c main_arg3 (by decide)).trans <| (U30_keep m c main_arg3 (by decide)).trans <| (U29_keep m c main_arg3 (by decide)).trans <| (U28_keep m c main_arg3 (by decide)).trans <| (U27_keep m c main_arg3 (by decide)).trans <| (U26_keep m c main_arg3 (by decide)).trans <| (U25_keep m c main_arg3 (by decide)).trans <| (U24_keep m c main_arg3 (by decide)).trans <| (U23_keep m c main_arg3 (by decide)).trans <| (U22_keep m c main_arg3 (by decide)).trans <| (U21_keep m c main_arg3 (by decide)).trans <| (U20_keep m c main_arg3 (by decide)).trans <| (U19_keep m c main_arg3 (by decide)).trans <| (U18_keep m c main_arg3 (by decide)).trans <| (U17_keep m c main_arg3 (by decide)).trans <| (U16_keep m c main_arg3 (by decide)).trans <| (U15_keep m c main_arg3 (by decide)).trans <| (U14_keep m c main_arg3 (by decide)).trans <| (U13_keep m c main_arg3 (by decide)).trans <| (U12_keep m c main_arg3 (by decide)).trans <| (U11_keep m c main_arg3 (by decide)).trans <| (U10_keep m c main_arg3 (by decide)).trans <| (U9_keep m c main_arg3 (by decide)).trans <| (U8_keep m c main_arg3 (by decide)).trans <| (U7_keep m c main_arg3 (by decide)).trans <| (U6_keep m c main_arg3 (by decide)).trans <| (U5_keep m c main_arg3 (by decide)).trans <| (U4_keep m c main_arg3 (by decide)).trans <| (U3_keep m c main_arg3 (by decide)).trans <| (U2_keep m c main_arg3 (by decide)).trans <| U1_keep m c main_arg3 (by decide))
  · exact ((U31_keep m c main_arg5 (by decide)).trans <| (U30_keep m c main_arg5 (by decide)).trans <| (U29_keep m c main_arg5 (by decide)).trans <| (U28_keep m c main_arg5 (by decide)).trans <| (U27_keep m c main_arg5 (by decide)).trans <| (U26_keep m c main_arg5 (by decide)).trans <| (U25_keep m c main_arg5 (by decide)).trans <| (U24_keep m c main_arg5 (by decide)).trans <| (U23_keep m c main_arg5 (by decide)).trans <| (U22_keep m c main_arg5 (by decide)).trans <| (U21_keep m c main_arg5 (by decide)).trans <| (U20_keep m c main_arg5 (by decide)).trans <| (U19_keep m c main_arg5 (by decide)).trans <| (U18_keep m c main_arg5 (by decide)).trans <| (U17_keep m c main_arg5 (by decide)).trans <| (U16_keep m c main_arg5 (by decide)).trans <| (U15_keep m c main_arg5 (by decide)).trans <| (U14_keep m c main_arg5 (by decide)).trans <| (U13_keep m c main_arg5 (by decide)).trans <| (U12_keep m c main_arg5 (by decide)).trans <| (U11_keep m c main_arg5 (by decide)).trans <| (U10_keep m c main_arg5 (by decide)).trans <| (U9_keep m c main_arg5 (by decide)).trans <| (U8_keep m c main_arg5 (by decide)).trans <| (U7_keep m c main_arg5 (by decide)).trans <| (U6_keep m c main_arg5 (by decide)).trans <| (U5_keep m c main_arg5 (by decide)).trans <| (U4_keep m c main_arg5 (by decide)).trans <| (U3_keep m c main_arg5 (by decide)).trans <| (U2_keep m c main_arg5 (by decide)).trans <| U1_keep m c main_arg5 (by decide))

/-- The table after the last selection holds the bias of the bucket. -/
theorem U31_good (c : Dev nD) (a : Fin 16) (o : Fin 2) (i j : Fin 512) (k : Fin 32) (hk : bkts (ix4 (0 : Fin 1) o i j) = BitVec.ofNat 32 k.val) :
    U31 m c main_v224 (ix4 a o i j) = m ((c : Thread nD τ).loc main_arg3) (ix2 k a) := by
  have x0 : U0 m c main_v31 = bkts := U0_bkts m c
  have r0 : U0 m c main_arg3 = m ((c : Thread nD τ).loc main_arg3) := U0_rel m c
  have g0 : ∀ (a : Fin 16) (o : Fin 2) (i j : Fin 512) (k : Fin 32), k.val < 1 → bkts (ix4 (0 : Fin 1) o i j) = BitVec.ofNat 32 k.val →
      U0 m c main_v38 (ix4 a o i j) = m ((c : Thread nD τ).loc main_arg3) (ix2 k a) := by
    rw [U0_tab]
    exact pick_good 0 (by omega) _ _ _ _ (fun a o i j k h => absurd h (Nat.not_lt_zero _))
  have g1 : ∀ (a : Fin 16) (o : Fin 2) (i j : Fin 512) (k : Fin 32), k.val < 2 → bkts (ix4 (0 : Fin 1) o i j) = BitVec.ofNat 32 k.val →
      U1 m c main_v44 (ix4 a o i j) = m ((c : Thread nD τ).loc main_arg3) (ix2 k a) := by
    rw [U1_tab, x0, r0]
    exact pick_good 1 (by omega) _ _ _ _ g0
  have x1 : U1 m c main_v31 = bkts := (U1_keep m c main_v31 (by decide)).trans x0
  have r1 : U1 m c main_arg3 = m ((c : Thread nD τ).loc main_arg3) := (U1_keep m c main_arg3 (by decide)).trans r0
  have g2 : ∀ (a : Fin 16) (o : Fin 2) (i j : Fin 512) (k : Fin 32), k.val < 3 → bkts (ix4 (0 : Fin 1) o i j) = BitVec.ofNat 32 k.val →
      U2 m c main_v50 (ix4 a o i j) = m ((c : Thread nD τ).loc main_arg3) (ix2 k a) := by
    rw [U2_tab, x1, r1]
    exact pick_good 2 (by omega) _ _ _ _ g1
  have x2 : U2 m c main_v31 = bkts := (U2_keep m c main_v31 (by decide)).trans x1
  have r2 : U2 m c main_arg3 = m ((c : Thread nD τ).loc main_arg3) := (U2_keep m c main_arg3 (by decide)).trans r1
  have g3 : ∀ (a : Fin 16) (o : Fin 2) (i j : Fin 512) (k : Fin 32), k.val < 4 → bkts (ix4 (0 : Fin 1) o i j) = BitVec.ofNat 32 k.val →
      U3 m c main_v56 (ix4 a o i j) = m ((c : Thread nD τ).loc main_arg3) (ix2 k a) := by
    rw [U3_tab, x2, r2]
    exact pick_good 3 (by omega) _ _ _ _ g2
  have x3 : U3 m c main_v31 = bkts := (U3_keep m c main_v31 (by decide)).trans x2
  have r3 : U3 m c main_arg3 = m ((c : Thread nD τ).loc main_arg3) := (U3_keep m c main_arg3 (by decide)).trans r2
  have g4 : ∀ (a : Fin 16) (o : Fin 2) (i j : Fin 512) (k : Fin 32), k.val < 5 → bkts (ix4 (0 : Fin 1) o i j) = BitVec.ofNat 32 k.val →
      U4 m c main_v62 (ix4 a o i j) = m ((c : Thread nD τ).loc main_arg3) (ix2 k a) := by
    rw [U4_tab, x3, r3]
    exact pick_good 4 (by omega) _ _ _ _ g3
  have x4 : U4 m c main_v31 = bkts := (U4_keep m c main_v31 (by decide)).trans x3
  have r4 : U4 m c main_arg3 = m ((c : Thread nD τ).loc main_arg3) := (U4_keep m c main_arg3 (by decide)).trans r3
  have g5 : ∀ (a : Fin 16) (o : Fin 2) (i j : Fin 512) (k : Fin 32), k.val < 6 → bkts (ix4 (0 : Fin 1) o i j) = BitVec.ofNat 32 k.val →
      U5 m c main_v68 (ix4 a o i j) = m ((c : Thread nD τ).loc main_arg3) (ix2 k a) := by
    rw [U5_tab, x4, r4]
    exact pick_good 5 (by omega) _ _ _ _ g4
  have x5 : U5 m c main_v31 = bkts := (U5_keep m c main_v31 (by decide)).trans x4
  have r5 : U5 m c main_arg3 = m ((c : Thread nD τ).loc main_arg3) := (U5_keep m c main_arg3 (by decide)).trans r4
  have g6 : ∀ (a : Fin 16) (o : Fin 2) (i j : Fin 512) (k : Fin 32), k.val < 7 → bkts (ix4 (0 : Fin 1) o i j) = BitVec.ofNat 32 k.val →
      U6 m c main_v74 (ix4 a o i j) = m ((c : Thread nD τ).loc main_arg3) (ix2 k a) := by
    rw [U6_tab, x5, r5]
    exact pick_good 6 (by omega) _ _ _ _ g5
  have x6 : U6 m c main_v31 = bkts := (U6_keep m c main_v31 (by decide)).trans x5
  have r6 : U6 m c main_arg3 = m ((c : Thread nD τ).loc main_arg3) := (U6_keep m c main_arg3 (by decide)).trans r5
  have g7 : ∀ (a : Fin 16) (o : Fin 2) (i j : Fin 512) (k : Fin 32), k.val < 8 → bkts (ix4 (0 : Fin 1) o i j) = BitVec.ofNat 32 k.val →
      U7 m c main_v80 (ix4 a o i j) = m ((c : Thread nD τ).loc main_arg3) (ix2 k a) := by
    rw [U7_tab, x6, r6]
    exact pick_good 7 (by omega) _ _ _ _ g6
  have x7 : U7 m c main_v31 = bkts := (U7_keep m c main_v31 (by decide)).trans x6
  have r7 : U7 m c main_arg3 = m ((c : Thread nD τ).loc main_arg3) := (U7_keep m c main_arg3 (by decide)).trans r6
  have g8 : ∀ (a : Fin 16) (o : Fin 2) (i j : Fin 512) (k : Fin 32), k.val < 9 → bkts (ix4 (0 : Fin 1) o i j) = BitVec.ofNat 32 k.val →
      U8 m c main_v86 (ix4 a o i j) = m ((c : Thread nD τ).loc main_arg3) (ix2 k a) := by
    rw [U8_tab, x7, r7]
    exact pick_good 8 (by omega) _ _ _ _ g7
  have x8 : U8 m c main_v31 = bkts := (U8_keep m c main_v31 (by decide)).trans x7
  have r8 : U8 m c main_arg3 = m ((c : Thread nD τ).loc main_arg3) := (U8_keep m c main_arg3 (by decide)).trans r7
  have g9 : ∀ (a : Fin 16) (o : Fin 2) (i j : Fin 512) (k : Fin 32), k.val < 10 → bkts (ix4 (0 : Fin 1) o i j) = BitVec.ofNat 32 k.val →
      U9 m c main_v92 (ix4 a o i j) = m ((c : Thread nD τ).loc main_arg3) (ix2 k a) := by
    rw [U9_tab, x8, r8]
    exact pick_good 9 (by omega) _ _ _ _ g8
  have x9 : U9 m c main_v31 = bkts := (U9_keep m c main_v31 (by decide)).trans x8
  have r9 : U9 m c main_arg3 = m ((c : Thread nD τ).loc main_arg3) := (U9_keep m c main_arg3 (by decide)).trans r8
  have g10 : ∀ (a : Fin 16) (o : Fin 2) (i j : Fin 512) (k : Fin 32), k.val < 11 → bkts (ix4 (0 : Fin 1) o i j) = BitVec.ofNat 32 k.val →
      U10 m c main_v98 (ix4 a o i j) = m ((c : Thread nD τ).loc main_arg3) (ix2 k a) := by
    rw [U10_tab, x9, r9]
    exact pick_good 10 (by omega) _ _ _ _ g9
  have x10 : U10 m c main_v31 = bkts := (U10_keep m c main_v31 (by decide)).trans x9
  have r10 : U10 m c main_arg3 = m ((c : Thread nD τ).loc main_arg3) := (U10_keep m c main_arg3 (by decide)).trans r9
  have g11 : ∀ (a : Fin 16) (o : Fin 2) (i j : Fin 512) (k : Fin 32), k.val < 12 → bkts (ix4 (0 : Fin 1) o i j) = BitVec.ofNat 32 k.val →
      U11 m c main_v104 (ix4 a o i j) = m ((c : Thread nD τ).loc main_arg3) (ix2 k a) := by
    rw [U11_tab, x10, r10]
    exact pick_good 11 (by omega) _ _ _ _ g10
  have x11 : U11 m c main_v31 = bkts := (U11_keep m c main_v31 (by decide)).trans x10
  have r11 : U11 m c main_arg3 = m ((c : Thread nD τ).loc main_arg3) := (U11_keep m c main_arg3 (by decide)).trans r10
  have g12 : ∀ (a : Fin 16) (o : Fin 2) (i j : Fin 512) (k : Fin 32), k.val < 13 → bkts (ix4 (0 : Fin 1) o i j) = BitVec.ofNat 32 k.val →
      U12 m c main_v110 (ix4 a o i j) = m ((c : Thread nD τ).loc main_arg3) (ix2 k a) := by
    rw [U12_tab, x11, r11]
    exact pick_good 12 (by omega) _ _ _ _ g11
  have x12 : U12 m c main_v31 = bkts := (U12_keep m c main_v31 (by decide)).trans x11
  have r12 : U12 m c main_arg3 = m ((c : Thread nD τ).loc main_arg3) := (U12_keep m c main_arg3 (by decide)).trans r11
  have g13 : ∀ (a : Fin 16) (o : Fin 2) (i j : Fin 512) (k : Fin 32), k.val < 14 → bkts (ix4 (0 : Fin 1) o i j) = BitVec.ofNat 32 k.val →
      U13 m c main_v116 (ix4 a o i j) = m ((c : Thread nD τ).loc main_arg3) (ix2 k a) := by
    rw [U13_tab, x12, r12]
    exact pick_good 13 (by omega) _ _ _ _ g12
  have x13 : U13 m c main_v31 = bkts := (U13_keep m c main_v31 (by decide)).trans x12
  have r13 : U13 m c main_arg3 = m ((c : Thread nD τ).loc main_arg3) := (U13_keep m c main_arg3 (by decide)).trans r12
  have g14 : ∀ (a : Fin 16) (o : Fin 2) (i j : Fin 512) (k : Fin 32), k.val < 15 → bkts (ix4 (0 : Fin 1) o i j) = BitVec.ofNat 32 k.val →
      U14 m c main_v122 (ix4 a o i j) = m ((c : Thread nD τ).loc main_arg3) (ix2 k a) := by
    rw [U14_tab, x13, r13]
    exact pick_good 14 (by omega) _ _ _ _ g13
  have x14 : U14 m c main_v31 = bkts := (U14_keep m c main_v31 (by decide)).trans x13
  have r14 : U14 m c main_arg3 = m ((c : Thread nD τ).loc main_arg3) := (U14_keep m c main_arg3 (by decide)).trans r13
  have g15 : ∀ (a : Fin 16) (o : Fin 2) (i j : Fin 512) (k : Fin 32), k.val < 16 → bkts (ix4 (0 : Fin 1) o i j) = BitVec.ofNat 32 k.val →
      U15 m c main_v128 (ix4 a o i j) = m ((c : Thread nD τ).loc main_arg3) (ix2 k a) := by
    rw [U15_tab, x14, r14]
    exact pick_good 15 (by omega) _ _ _ _ g14
  have x15 : U15 m c main_v31 = bkts := (U15_keep m c main_v31 (by decide)).trans x14
  have r15 : U15 m c main_arg3 = m ((c : Thread nD τ).loc main_arg3) := (U15_keep m c main_arg3 (by decide)).trans r14
  have g16 : ∀ (a : Fin 16) (o : Fin 2) (i j : Fin 512) (k : Fin 32), k.val < 17 → bkts (ix4 (0 : Fin 1) o i j) = BitVec.ofNat 32 k.val →
      U16 m c main_v134 (ix4 a o i j) = m ((c : Thread nD τ).loc main_arg3) (ix2 k a) := by
    rw [U16_tab, x15, r15]
    exact pick_good 16 (by omega) _ _ _ _ g15
  have x16 : U16 m c main_v31 = bkts := (U16_keep m c main_v31 (by decide)).trans x15
  have r16 : U16 m c main_arg3 = m ((c : Thread nD τ).loc main_arg3) := (U16_keep m c main_arg3 (by decide)).trans r15
  have g17 : ∀ (a : Fin 16) (o : Fin 2) (i j : Fin 512) (k : Fin 32), k.val < 18 → bkts (ix4 (0 : Fin 1) o i j) = BitVec.ofNat 32 k.val →
      U17 m c main_v140 (ix4 a o i j) = m ((c : Thread nD τ).loc main_arg3) (ix2 k a) := by
    rw [U17_tab, x16, r16]
    exact pick_good 17 (by omega) _ _ _ _ g16
  have x17 : U17 m c main_v31 = bkts := (U17_keep m c main_v31 (by decide)).trans x16
  have r17 : U17 m c main_arg3 = m ((c : Thread nD τ).loc main_arg3) := (U17_keep m c main_arg3 (by decide)).trans r16
  have g18 : ∀ (a : Fin 16) (o : Fin 2) (i j : Fin 512) (k : Fin 32), k.val < 19 → bkts (ix4 (0 : Fin 1) o i j) = BitVec.ofNat 32 k.val →
      U18 m c main_v146 (ix4 a o i j) = m ((c : Thread nD τ).loc main_arg3) (ix2 k a) := by
    rw [U18_tab, x17, r17]
    exact pick_good 18 (by omega) _ _ _ _ g17
  have x18 : U18 m c main_v31 = bkts := (U18_keep m c main_v31 (by decide)).trans x17
  have r18 : U18 m c main_arg3 = m ((c : Thread nD τ).loc main_arg3) := (U18_keep m c main_arg3 (by decide)).trans r17
  have g19 : ∀ (a : Fin 16) (o : Fin 2) (i j : Fin 512) (k : Fin 32), k.val < 20 → bkts (ix4 (0 : Fin 1) o i j) = BitVec.ofNat 32 k.val →
      U19 m c main_v152 (ix4 a o i j) = m ((c : Thread nD τ).loc main_arg3) (ix2 k a) := by
    rw [U19_tab, x18, r18]
    exact pick_good 19 (by omega) _ _ _ _ g18
  have x19 : U19 m c main_v31 = bkts := (U19_keep m c main_v31 (by decide)).trans x18
  have r19 : U19 m c main_arg3 = m ((c : Thread nD τ).loc main_arg3) := (U19_keep m c main_arg3 (by decide)).trans r18
  have g20 : ∀ (a : Fin 16) (o : Fin 2) (i j : Fin 512) (k : Fin 32), k.val < 21 → bkts (ix4 (0 : Fin 1) o i j) = BitVec.ofNat 32 k.val →
      U20 m c main_v158 (ix4 a o i j) = m ((c : Thread nD τ).loc main_arg3) (ix2 k a) := by
    rw [U20_tab, x19, r19]
    exact pick_good 20 (by omega) _ _ _ _ g19
  have x20 : U20 m c main_v31 = bkts := (U20_keep m c main_v31 (by decide)).trans x19
  have r20 : U20 m c main_arg3 = m ((c : Thread nD τ).loc main_arg3) := (U20_keep m c main_arg3 (by decide)).trans r19
  have g21 : ∀ (a : Fin 16) (o : Fin 2) (i j : Fin 512) (k : Fin 32), k.val < 22 → bkts (ix4 (0 : Fin 1) o i j) = BitVec.ofNat 32 k.val →
      U21 m c main_v164 (ix4 a o i j) = m ((c : Thread nD τ).loc main_arg3) (ix2 k a) := by
    rw [U21_tab, x20, r20]
    exact pick_good 21 (by omega) _ _ _ _ g20
  have x21 : U21 m c main_v31 = bkts := (U21_keep m c main_v31 (by decide)).trans x20
  have r21 : U21 m c main_arg3 = m ((c : Thread nD τ).loc main_arg3) := (U21_keep m c main_arg3 (by decide)).trans r20
  have g22 : ∀ (a : Fin 16) (o : Fin 2) (i j : Fin 512) (k : Fin 32), k.val < 23 → bkts (ix4 (0 : Fin 1) o i j) = BitVec.ofNat 32 k.val →
      U22 m c main_v170 (ix4 a o i j) = m ((c : Thread nD τ).loc main_arg3) (ix2 k a) := by
    rw [U22_tab, x21, r21]
    exact pick_good 22 (by omega) _ _ _ _ g21
  have x22 : U22 m c main_v31 = bkts := (U22_keep m c main_v31 (by decide)).trans x21
  have r22 : U22 m c main_arg3 = m ((c : Thread nD τ).loc main_arg3) := (U22_keep m c main_arg3 (by decide)).trans r21
  have g23 : ∀ (a : Fin 16) (o : Fin 2) (i j : Fin 512) (k : Fin 32), k.val < 24 → bkts (ix4 (0 : Fin 1) o i j) = BitVec.ofNat 32 k.val →
      U23 m c main_v176 (ix4 a o i j) = m ((c : Thread nD τ).loc main_arg3) (ix2 k a) := by
    rw [U23_tab, x22, r22]
    exact pick_good 23 (by omega) _ _ _ _ g22
  have x23 : U23 m c main_v31 = bkts := (U23_keep m c main_v31 (by decide)).trans x22
  have r23 : U23 m c main_arg3 = m ((c : Thread nD τ).loc main_arg3) := (U23_keep m c main_arg3 (by decide)).trans r22
  have g24 : ∀ (a : Fin 16) (o : Fin 2) (i j : Fin 512) (k : Fin 32), k.val < 25 → bkts (ix4 (0 : Fin 1) o i j) = BitVec.ofNat 32 k.val →
      U24 m c main_v182 (ix4 a o i j) = m ((c : Thread nD τ).loc main_arg3) (ix2 k a) := by
    rw [U24_tab, x23, r23]
    exact pick_good 24 (by omega) _ _ _ _ g23
  have x24 : U24 m c main_v31 = bkts := (U24_keep m c main_v31 (by decide)).trans x23
  have r24 : U24 m c main_arg3 = m ((c : Thread nD τ).loc main_arg3) := (U24_keep m c main_arg3 (by decide)).trans r23
  have g25 : ∀ (a : Fin 16) (o : Fin 2) (i j : Fin 512) (k : Fin 32), k.val < 26 → bkts (ix4 (0 : Fin 1) o i j) = BitVec.ofNat 32 k.val →
      U25 m c main_v188 (ix4 a o i j) = m ((c : Thread nD τ).loc main_arg3) (ix2 k a) := by
    rw [U25_tab, x24, r24]
    exact pick_good 25 (by omega) _ _ _ _ g24
  have x25 : U25 m c main_v31 = bkts := (U25_keep m c main_v31 (by decide)).trans x24
  have r25 : U25 m c main_arg3 = m ((c : Thread nD τ).loc main_arg3) := (U25_keep m c main_arg3 (by decide)).trans r24
  have g26 : ∀ (a : Fin 16) (o : Fin 2) (i j : Fin 512) (k : Fin 32), k.val < 27 → bkts (ix4 (0 : Fin 1) o i j) = BitVec.ofNat 32 k.val →
      U26 m c main_v194 (ix4 a o i j) = m ((c : Thread nD τ).loc main_arg3) (ix2 k a) := by
    rw [U26_tab, x25, r25]
    exact pick_good 26 (by omega) _ _ _ _ g25
  have x26 : U26 m c main_v31 = bkts := (U26_keep m c main_v31 (by decide)).trans x25
  have r26 : U26 m c main_arg3 = m ((c : Thread nD τ).loc main_arg3) := (U26_keep m c main_arg3 (by decide)).trans r25
  have g27 : ∀ (a : Fin 16) (o : Fin 2) (i j : Fin 512) (k : Fin 32), k.val < 28 → bkts (ix4 (0 : Fin 1) o i j) = BitVec.ofNat 32 k.val →
      U27 m c main_v200 (ix4 a o i j) = m ((c : Thread nD τ).loc main_arg3) (ix2 k a) := by
    rw [U27_tab, x26, r26]
    exact pick_good 27 (by omega) _ _ _ _ g26
  have x27 : U27 m c main_v31 = bkts := (U27_keep m c main_v31 (by decide)).trans x26
  have r27 : U27 m c main_arg3 = m ((c : Thread nD τ).loc main_arg3) := (U27_keep m c main_arg3 (by decide)).trans r26
  have g28 : ∀ (a : Fin 16) (o : Fin 2) (i j : Fin 512) (k : Fin 32), k.val < 29 → bkts (ix4 (0 : Fin 1) o i j) = BitVec.ofNat 32 k.val →
      U28 m c main_v206 (ix4 a o i j) = m ((c : Thread nD τ).loc main_arg3) (ix2 k a) := by
    rw [U28_tab, x27, r27]
    exact pick_good 28 (by omega) _ _ _ _ g27
  have x28 : U28 m c main_v31 = bkts := (U28_keep m c main_v31 (by decide)).trans x27
  have r28 : U28 m c main_arg3 = m ((c : Thread nD τ).loc main_arg3) := (U28_keep m c main_arg3 (by decide)).trans r27
  have g29 : ∀ (a : Fin 16) (o : Fin 2) (i j : Fin 512) (k : Fin 32), k.val < 30 → bkts (ix4 (0 : Fin 1) o i j) = BitVec.ofNat 32 k.val →
      U29 m c main_v212 (ix4 a o i j) = m ((c : Thread nD τ).loc main_arg3) (ix2 k a) := by
    rw [U29_tab, x28, r28]
    exact pick_good 29 (by omega) _ _ _ _ g28
  have x29 : U29 m c main_v31 = bkts := (U29_keep m c main_v31 (by decide)).trans x28
  have r29 : U29 m c main_arg3 = m ((c : Thread nD τ).loc main_arg3) := (U29_keep m c main_arg3 (by decide)).trans r28
  have g30 : ∀ (a : Fin 16) (o : Fin 2) (i j : Fin 512) (k : Fin 32), k.val < 31 → bkts (ix4 (0 : Fin 1) o i j) = BitVec.ofNat 32 k.val →
      U30 m c main_v218 (ix4 a o i j) = m ((c : Thread nD τ).loc main_arg3) (ix2 k a) := by
    rw [U30_tab, x29, r29]
    exact pick_good 30 (by omega) _ _ _ _ g29
  have x30 : U30 m c main_v31 = bkts := (U30_keep m c main_v31 (by decide)).trans x29
  have r30 : U30 m c main_arg3 = m ((c : Thread nD τ).loc main_arg3) := (U30_keep m c main_arg3 (by decide)).trans r29
  have g31 : ∀ (a : Fin 16) (o : Fin 2) (i j : Fin 512) (k : Fin 32), k.val < 32 → bkts (ix4 (0 : Fin 1) o i j) = BitVec.ofNat 32 k.val →
      U31 m c main_v224 (ix4 a o i j) = m ((c : Thread nD τ).loc main_arg3) (ix2 k a) := by
    rw [U31_tab, x30, r30]
    exact pick_good 31 (by omega) _ _ _ _ g30
  exact g31 a o i j k k.isLt hk

/-- What the region finds is what the last lines of the host code leave. -/
theorem V_eq (c : Dev nD) (r : Ref sig .tc) : V m c r = StableHlo.after hostOps0_66 (U31 m c) r := by
  unfold V
  simp only [after_flatten_cons, after_flatten_nil]
  unfold U31 U30 U29 U28 U27 U26 U25 U24 U23 U22 U21 U20 U19 U18 U17 U16 U15 U14 U13 U12 U11 U10 U9 U8 U7 U6 U5 U4 U3 U2 U1 U0 B0
  rfl

theorem V_kt (c : Dev nD) : V m c main_v0 = (transpose S4x1024x4096 [0, 2, 1] (m ((c : Thread nD τ).loc main_arg1)) transposes_S4x4096x1024_S4x1024x4096_0_2_1 : FVec Ideal S4x1024x4096 .f32) := by
  rw [V_eq]
  refine (show StableHlo.after hostOps0_66 (U31 m c) main_v0 = U31 m c main_v0 from
    StableHlo.after_of_writes_sub (W := [main_v225, main_v226, main_v227, main_v228, main_v229, main_v230]) _ _ (StableHlo.forall_writes_sub_of_map rfl) (by decide)).trans ?_
  exact (U31_keep0 m c main_v0 (by simp)).trans (U0_kt m c)

theorem last_g (W : St) : StableHlo.after hostOps0_66 W (Proc.devRef .tc main_v230) = (shapeCast S1x128 (W main_arg5) shapeCasts_S128_S1x128 : FVec Ideal S1x128 .f32) := by
  after_results
  rfl

theorem last_toe (W : St) : StableHlo.after hostOps0_66 W (Proc.devRef .tc main_v229) =
    (concatenate S8x2x1024x512 2
      [⟨S8x2x512x512, extractStridedSlice S8x2x512x512 ![0, 0, 0, 0] (subf (W main_v224) (broadcastInDim S16x2x512x512 ![0, 1, 2, 3] bcast_S16x1x1x1_S16x2x512x512_0_1_2_3 (W main_v3))) slices_S16x2x512x512_S8x2x512x512_0_0_0_0⟩,
       ⟨S8x2x512x512, extractStridedSlice S8x2x512x512 ![8, 0, 0, 0] (subf (W main_v224) (broadcastInDim S16x2x512x512 ![0, 1, 2, 3] bcast_S16x1x1x1_S16x2x512x512_0_1_2_3 (W main_v3))) slices_S16x2x512x512_S8x2x512x512_8_0_0_0⟩]
      concatenates_S8x2x512x512_S8x2x512x512_S8x2x1024x512_d2 : FVec Ideal S8x2x1024x512 .f32) := by
  after_results

theorem V_g (c : Dev nD) : V m c main_v230 = (shapeCast S1x128 (m ((c : Thread nD τ).loc main_arg5)) shapeCasts_S128_S1x128 : FVec Ideal S1x128 .f32) := by
  rw [V_eq]
  refine (last_g (U31 m c)).trans ?_
  exact congrArg (fun x => (shapeCast S1x128 x shapeCasts_S128_S1x128 : FVec Ideal S1x128 .f32)) ((U31_keep0 m c main_arg5 (by simp)).trans (U0_g m c))

/-- The table less the last bucket's biases, heads of the first map over heads of the second. -/
theorem V_toe (c : Dev nD) : V m c main_v229 =
    (concatenate S8x2x1024x512 2
      [⟨S8x2x512x512, extractStridedSlice S8x2x512x512 ![0, 0, 0, 0] (subf (U31 m c main_v224) (broadcastInDim S16x2x512x512 ![0, 1, 2, 3] bcast_S16x1x1x1_S16x2x512x512_0_1_2_3 (U31 m c main_v3))) slices_S16x2x512x512_S8x2x512x512_0_0_0_0⟩,
       ⟨S8x2x512x512, extractStridedSlice S8x2x512x512 ![8, 0, 0, 0] (subf (U31 m c main_v224) (broadcastInDim S16x2x512x512 ![0, 1, 2, 3] bcast_S16x1x1x1_S16x2x512x512_0_1_2_3 (U31 m c main_v3))) slices_S16x2x512x512_S8x2x512x512_8_0_0_0⟩]
      concatenates_S8x2x512x512_S8x2x512x512_S8x2x1024x512_d2 : FVec Ideal S8x2x1024x512 .f32) := by
  rw [V_eq]
  exact last_toe (U31 m c)

/-- The table of differences at an index. -/
theorem diff_apply (c : Dev nD) (a : Fin 16) (o : Fin 2) (i j : Fin 512) (k : Fin 32) (hk : bkts (ix4 (0 : Fin 1) o i j) = BitVec.ofNat 32 k.val) :
    (subf (U31 m c main_v224) (broadcastInDim S16x2x512x512 ![0, 1, 2, 3] bcast_S16x1x1x1_S16x2x512x512_0_1_2_3 (U31 m c main_v3)) : FVec Ideal S16x2x512x512 .f32) (ix4 a o i j)
      = @HSub.hSub EReal EReal EReal _ (m ((c : Thread nD τ).loc main_arg3) (ix2 k a)) (m ((c : Thread nD τ).loc main_arg3) (ix2 (31 : Fin 32) a)) := by
  rw [subf_apply, U31_good m c a o i j k hk]
  rw [broadcastInDim_apply _ _ _ _ (ix4 a (0 : Fin 1) (0 : Fin 1) (0 : Fin 1)) (fun b => by match b with | ⟨0, _⟩ => rfl | ⟨1, _⟩ => rfl | ⟨2, _⟩ => rfl | ⟨3, _⟩ => rfl)]
  refine congrArg (@HSub.hSub EReal EReal EReal _ _) ?_
  rw [(U31_keep0 m c main_v3 (by simp)).trans (U0_last m c)]
  rw [broadcastInDim_apply _ _ _ _ (ix1 a) (fun b => by match b with | ⟨0, _⟩ => rfl),
    shapeCast_apply _ _ _ (ix2 (0 : Fin 1) a) (by simp [Shape.rowMajor_val_two, Shape.rowMajor_val_one, ix1, ix2])]
  exact extractStridedSlice_apply _ _ _ _ (ix2 (31 : Fin 32) a) (fun b => by match b with | ⟨0, _⟩ => rfl | ⟨1, _⟩ => simp [ix2])

/-- The table the kernel reads, at row `i` of map `u` (rows 0 to 511 the first map, 512 to 1023 the second). -/
theorem toe_apply (c : Dev nD) (h : Fin 8) (o : Fin 2) (u : Fin 2) (i j : Fin 512) (r : Fin 1024) (hr : r.val = u.val * 512 + i.val)
    (a : Fin 16) (ha : a.val = u.val * 8 + h.val) (k : Fin 32)
    (hk : bucket (BitVec.ofNat 32 o.val * 512#32 + BitVec.ofNat 32 i.val - BitVec.ofNat 32 j.val) = BitVec.ofNat 32 k.val) :
    V m c main_v229 (ix4 h o r j)
      = @HSub.hSub EReal EReal EReal _ (m ((c : Thread nD τ).loc main_arg3) (ix2 k a)) (m ((c : Thread nD τ).loc main_arg3) (ix2 (31 : Fin 32) a)) := by
  have hk' : bkts (ix4 (0 : Fin 1) o i j) = BitVec.ofNat 32 k.val := (bkts_apply o i j).trans hk
  clear hk
  refine (congrFun (V_toe m c) (ix4 h o r j)).trans ?_
  have e := diff_apply m c a o i j k hk'
  generalize (subf (U31 m c main_v224) (broadcastInDim S16x2x512x512 ![0, 1, 2, 3] bcast_S16x1x1x1_S16x2x512x512_0_1_2_3 (U31 m c main_v3)) : FVec Ideal S16x2x512x512 .f32) = T at e ⊢
  rw [← e]
  by_cases h0 : u.val = 0
  · refine (concatenate_pair_apply_left (t := S8x2x1024x512) (s₁ := S8x2x512x512) (s₂ := S8x2x512x512) 2 _ _ _ (ix4 h o r j) rfl (ix4 h o i j) (fun b => by
      match b with | ⟨0, _⟩ => rfl | ⟨1, _⟩ => rfl | ⟨2, _⟩ => show i.val = r.val; omega | ⟨3, _⟩ => rfl)).trans ?_
    exact extractStridedSlice_apply _ _ _ _ (ix4 a o i j) (fun b => by
      match b with
      | ⟨0, _⟩ => show a.val = 0 + h.val; omega
      | ⟨1, _⟩ => show o.val = 0 + o.val; omega
      | ⟨2, _⟩ => show i.val = 0 + i.val; omega
      | ⟨3, _⟩ => show j.val = 0 + j.val; omega)
  · refine (concatenate_pair_apply_right (t := S8x2x1024x512) (s₁ := S8x2x512x512) (s₂ := S8x2x512x512) 2 _ _ _ (ix4 h o r j) rfl rfl (ix4 h o i j) (fun b hb => by
      match b with | ⟨0, _⟩ => rfl | ⟨1, _⟩ => rfl | ⟨2, _⟩ => exact absurd rfl hb | ⟨3, _⟩ => rfl) (by show i.val + 512 = r.val; omega)).trans ?_
    exact extractStridedSlice_apply _ _ _ _ (ix4 a o i j) (fun b => by
      match b with
      | ⟨0, _⟩ => show a.val = 8 + h.val; omega
      | ⟨1, _⟩ => show o.val = 0 + o.val; omega
      | ⟨2, _⟩ => show i.val = 0 + i.val; omega
      | ⟨3, _⟩ => show j.val = 0 + j.val; omega)

end Cert.Proof.DiffHost

end
-- ==== Proof.DiffStep.lean ====
/- The arithmetic of one tile of the differential attention's kernel: the scores of the three kinds of tiles, and the step of the
   running softmax that all three share. -/
module

public import proofs.«01_k».proof.Defs
public import proofs.«01_k».proof.Proof.Common
public import proofs.«01_k».proof.Proof.DiffHost

@[expose] public section

noncomputable section

namespace Cert.Proof.DiffStep

open Cert.DiffIdeal Cert.DiffIdeal.Gen Idealize.ShloMosaic Idealize.ShloMosaic.TcCoe Idealize.SL.Sem
open Idealize.ShloMosaic.ValueIdx Cert.Proof.Common Cert.Proof.DiffMath
open Idealize.ShloMosaic.Pipeline (Dat)

/-- The reciprocal of `log 2`. -/
abbrev il2 : ℝ := (Real.log 2)⁻¹

theorem mask_val : Named.named (F := Ideal) Cert.DiffIdeal.κ "mask" (φ := .f32) 0xF149F2CA#32 = (⊥ : EReal) :=
  IdealRules.named_const.ideal_named_scalar _ _ _ _ rfl
theorem log2e_val : Named.named (F := Ideal) Cert.DiffIdeal.κ "log2e" (φ := .f32) 0x3FB8AA3B#32 = ((il2 : ℝ) : EReal) :=
  IdealRules.named_const.ideal_named_scalar _ _ _ _ rfl
theorem scale_val : Named.named (F := Ideal) Cert.DiffIdeal.κ "scale_log2e" (φ := .f32) 0x3E38AA3B#32 = ((1 / 8 * il2 : ℝ) : EReal) :=
  IdealRules.named_const.ideal_named_scalar _ _ _ _ rfl
theorem zero_val : (FloatOps.ofBits .f32 0x00000000#32 : Ideal .f32) = (0 : EReal) := by
  show Ideal.ofBits .f32 0x00000000#32 = 0
  simp [Ideal.ofBits, Ideal.ieee]
theorem ninf_val : (FloatOps.ofBits .f32 0xFF800000#32 : Ideal .f32) = (⊥ : EReal) := by
  show Ideal.ofBits .f32 0xFF800000#32 = ⊥
  simp [Ideal.ofBits, Ideal.ieee]

/-! ## Reading the small operations -/

/-- The maxima of a tile's rows, as a column. -/
def colmax (s : FVec Ideal S1024x512 .f32) : FVec Ideal S1024x1 .f32 :=
  shapeCast S1024x1 (multiReduction .maximumf [1] S1024 s 0xFF800000#32 reduces_S1024x512_S1024 (.inl rfl) rfl) shapeCasts_S1024_S1024x1
/-- The sums of a tile's rows, as a column. -/
def colsum (s : FVec Ideal S1024x512 .f32) : FVec Ideal S1024x1 .f32 :=
  shapeCast S1024x1 (multiReduction .add [1] S1024 s 0x00000000#32 reduces_S1024x512_S1024 (.inl rfl) rfl) shapeCasts_S1024_S1024x1

theorem colmax_apply (s : FVec Ideal S1024x512 .f32) (r : Fin 1024) :
    colmax s (ix2 r 0) = Finset.univ.fold max (⊥ : EReal) (fun b : Fin 512 => s (ix2 r b)) := by
  unfold colmax
  refine (shapeCast_apply _ _ _ (ix1 r) (by simp [Shape.rowMajor_val_two, Shape.rowMajor_val_one, ix1, ix2])).trans ?_
  refine (Ideal.multiReduction_maximumf_single s _ _ _ _ _).trans ?_
  rw [ninf_val]
  show Finset.univ.fold max (⊥ : EReal) (fun b : Fin 512 => _) = _
  congr 1
  funext b
  exact congrArg s (Shape.idx_ext₂ rfl rfl)

theorem colsum_apply (s : FVec Ideal S1024x512 .f32) (r : Fin 1024) :
    colsum s (ix2 r 0) = ∑ b : Fin 512, s (ix2 r b) := by
  unfold colsum
  refine (shapeCast_apply _ _ _ (ix1 r) (by simp [Shape.rowMajor_val_two, Shape.rowMajor_val_one, ix1, ix2])).trans ?_
  refine (Ideal.multiReduction_add_single s _ _ _ _ _).trans ?_
  show @Eq EReal (∑ b : Fin 512, _) (∑ b : Fin 512, _)
  exact Finset.sum_congr rfl fun b _ => congrArg s (Shape.idx_ext₂ rfl rfl)

theorem col512_apply (x : FVec Ideal S1024x1 .f32) (r : Fin 1024) (b : Fin 512) :
    broadcastTo S1024x512 x broadcasts_S1024x1_S1024x512 (ix2 r b) = x (ix2 r 0) :=
  broadcastTo_apply _ _ _ _ fun a => by match a with | ⟨0, _⟩ => rfl | ⟨1, _⟩ => rfl

theorem col128_apply (x : FVec Ideal S1024x1 .f32) (r : Fin 1024) (e : Fin 128) :
    broadcastTo S1024x128 x broadcasts_S1024x1_S1024x128 (ix2 r e) = x (ix2 r 0) :=
  broadcastTo_apply _ _ _ _ fun a => by match a with | ⟨0, _⟩ => rfl | ⟨1, _⟩ => rfl

theorem nnS : IsNN dot_S1024x128_S128x512_S1024x512_1_0_0_1_n_n := ⟨rfl, rfl, rfl, rfl, rfl, rfl⟩
theorem nnV : IsNN dot_S1024x512_S512x128_S1024x128_1_0_0_1_n_n := ⟨rfl, rfl, rfl, rfl, rfl, rfl⟩

theorem mmS {φ φ' : FTy} (a : FVec Ideal S1024x128 φ) (b : FVec Ideal S128x512 φ') (r : Fin 1024) (n : Fin 512) :
    matmul dot_S1024x128_S128x512_S1024x512_1_0_0_1_n_n none a b (constant S1024x512 .f32 0x00000000#32) (ix2 r n)
      = ∑ k : Fin 128, a (ix2 r k) * b (ix2 k n) := matmul_nn _ nnS none a b _
theorem mmV {φ φ' : FTy} (a : FVec Ideal S1024x512 φ) (b : FVec Ideal S512x128 φ') (r : Fin 1024) (n : Fin 128) :
    matmul dot_S1024x512_S512x128_S1024x128_1_0_0_1_n_n none a b (constant S1024x128 .f32 0x00000000#32) (ix2 r n)
      = ∑ k : Fin 512, a (ix2 r k) * b (ix2 k n) := matmul_nn _ nnV none a b _

/-! ## The step -/

/-- The carried values: the rows' maxima, the rows' sums and the weighted sums of the values. -/
abbrev T3 := FVec Ideal S1024x1 .f32 × FVec Ideal S1024x1 .f32 × FVec Ideal S1024x128 .f32

/-- The weights of a tile under new maxima. -/
def wts (s : FVec Ideal S1024x512 .f32) (m' : FVec Ideal S1024x1 .f32) : FVec Ideal S1024x512 .f32 :=
  exp2 (subf s (broadcastTo S1024x512 m' broadcasts_S1024x1_S1024x512))

/-- One step of the running softmax, as the kernel writes it for all three kinds of tiles. -/
def stepA (s : FVec Ideal S1024x512 .f32) (v : FVec Ideal S512x128 .bf16) (a : T3) : T3 :=
  (maximumf a.1 (colmax s),
   addf (mulf (exp2 (subf a.1 (maximumf a.1 (colmax s)))) a.2.1) (colsum (wts s (maximumf a.1 (colmax s)))),
   addf (mulf (broadcastTo S1024x128 (exp2 (subf a.1 (maximumf a.1 (colmax s)))) broadcasts_S1024x1_S1024x128) a.2.2)
     (matmul dot_S1024x512_S512x128_S1024x128_1_0_0_1_n_n none (truncf .bf16 (wts s (maximumf a.1 (colmax s))) bitsLt_bf16_f32) v (constant S1024x128 .f32 0x00000000#32)))

/-- The tile of values as the step takes it. -/
abbrev vtile (v : Vec Ideal S1x512x128 .f32) : FVec Ideal S512x128 .bf16 :=
  truncf .bf16 (shapeCast S512x128 v shapeCasts_S1x512x128_S512x128) bitsLt_bf16_f32

theorem far_eq (x : Vec Ideal S1x512x128 .f32) (a : T3) (k : Vec Ideal S1x128x512 .f32) (v : Vec Ideal S1x512x128 .f32) :
    (k0_pay7 x a.1 k, k0_pay10 x a.1 a.2.1 k, k0_pay11 x a.1 a.2.2 k v) = stepA (k0_pay6 x k) (vtile v) a := rfl
theorem near_eq (x : Vec Ideal S1x512x128 .f32) (a : T3) (t : Vec Ideal S1x1x1024x512 .f32) (k : Vec Ideal S1x128x512 .f32) (v : Vec Ideal S1x512x128 .f32) :
    (k0_pay19 x a.1 t k, k0_pay22 x a.1 a.2.1 t k, k0_pay23 x a.1 a.2.2 t k v) = stepA (k0_pay18 x t k) (vtile v) a := rfl
theorem diag_eq (x : FVec Ideal S1024x128 .bf16) (a : T3) (t : Vec Ideal S1x1x1024x512 .f32) (k : Vec Ideal S1x128x512 .f32) (v : Vec Ideal S1x512x128 .f32) :
    (k0_pay31 x a.1 t k, k0_pay34 x a.1 a.2.1 t k, k0_pay35 x a.1 a.2.2 t k v) = stepA (k0_pay30 x t k) (vtile v) a := rfl

theorem stepA_max (s : FVec Ideal S1024x512 .f32) (v : FVec Ideal S512x128 .bf16) (a : T3) (r : Fin 1024) :
    (stepA s v a).1 (ix2 r 0) = max (a.1 (ix2 r 0)) (Finset.univ.fold max (⊥ : EReal) (fun b : Fin 512 => s (ix2 r b))) := by
  show max _ (colmax s (ix2 r 0)) = _
  rw [colmax_apply]

theorem wts_apply (s : FVec Ideal S1024x512 .f32) (m' : FVec Ideal S1024x1 .f32) (r : Fin 1024) (b : Fin 512) :
    wts s m' (ix2 r b) = Ideal.exp2 (@HSub.hSub EReal EReal EReal _ (s (ix2 r b)) (m' (ix2 r 0))) := by
  show Ideal.exp2 (@HSub.hSub EReal EReal EReal _ (s (ix2 r b)) (broadcastTo S1024x512 m' broadcasts_S1024x1_S1024x512 (ix2 r b))) = _
  rw [col512_apply]

/-- A state of the kernel holds the sums `L` and `W`. -/
def Inv (a : T3) (L : Fin 1024 → ℝ) (W : Fin 1024 → Fin 128 → ℝ) : Prop :=
  ∀ r e, Fl (a.1 (ix2 r 0)) (a.2.1 (ix2 r 0)) (a.2.2 (ix2 r e)) (L r) (W r e)

/-- One step adds the tile's weights and weighted values to the sums. -/
theorem Inv.step {a : T3} {L : Fin 1024 → ℝ} {W : Fin 1024 → Fin 128 → ℝ} (h : Inv a L W) (s : FVec Ideal S1024x512 .f32) (v : FVec Ideal S512x128 .bf16)
    (A : Fin 1024 → Fin 512 → Prop) [∀ r b, Decidable (A r b)] (σ : Fin 1024 → Fin 512 → ℝ) (ν : Fin 512 → Fin 128 → ℝ)
    (hs : ∀ r b, s (ix2 r b) = if A r b then ((σ r b : ℝ) : EReal) else ⊥) (hA : ∀ r, ∃ b, A r b)
    (hv : ∀ b e, v (ix2 b e) = ((ν b e : ℝ) : EReal)) :
    Inv (stepA s v a) (fun r => L r + ∑ b, if A r b then (2 : ℝ) ^ σ r b else 0)
      (fun r e => W r e + ∑ b, (if A r b then (2 : ℝ) ^ σ r b else 0) * ν b e) := by
  intro r e
  have key := (h r e).step (A r) (σ r) (fun b => ν b e) (fun b => s (ix2 r b)) (fun b => v (ix2 b e)) (hs r) (hA r)
    (fun b => hv b e) _ (stepA_max s v a r)
  have e1 : (stepA s v a).2.1 (ix2 r 0) = @HAdd.hAdd EReal EReal EReal _ (@HMul.hMul EReal EReal EReal _ (Ideal.exp2 (@HSub.hSub EReal EReal EReal _ (a.1 (ix2 r 0)) ((stepA s v a).1 (ix2 r 0)))) (a.2.1 (ix2 r 0)))
      (∑ b : Fin 512, Ideal.exp2 (@HSub.hSub EReal EReal EReal _ (s (ix2 r b)) ((stepA s v a).1 (ix2 r 0)))) := by
    show @HAdd.hAdd EReal EReal EReal _ _ (colsum (wts s (maximumf a.1 (colmax s))) (ix2 r 0)) = _
    rw [colsum_apply]
    refine congrArg₂ (@HAdd.hAdd EReal EReal EReal _) rfl ?_
    exact Finset.sum_congr rfl fun b _ => wts_apply _ _ _ _
  have e2 : (stepA s v a).2.2 (ix2 r e) = @HAdd.hAdd EReal EReal EReal _ (@HMul.hMul EReal EReal EReal _ (Ideal.exp2 (@HSub.hSub EReal EReal EReal _ (a.1 (ix2 r 0)) ((stepA s v a).1 (ix2 r 0)))) (a.2.2 (ix2 r e)))
      (∑ b : Fin 512, @HMul.hMul EReal EReal EReal _ (Ideal.exp2 (@HSub.hSub EReal EReal EReal _ (s (ix2 r b)) ((stepA s v a).1 (ix2 r 0)))) (v (ix2 b e))) := by
    show @HAdd.hAdd EReal EReal EReal _ (@HMul.hMul EReal EReal EReal _ (broadcastTo S1024x128 _ broadcasts_S1024x1_S1024x128 (ix2 r e)) _)
      (matmul dot_S1024x512_S512x128_S1024x128_1_0_0_1_n_n none _ v (constant S1024x128 .f32 0x00000000#32) (ix2 r e)) = _
    rw [col128_apply, mmV]
    refine congrArg₂ (@HAdd.hAdd EReal EReal EReal _) rfl ?_
    exact Finset.sum_congr rfl fun b _ => congrArg (· * _) (wts_apply _ _ _ _)
  rw [e1, e2]
  exact key

/-! ## The scores -/

/-- Row `i` of the map `u`, of the two maps' rows stacked. -/
abbrev hi (u : Fin 2) (i : Fin 512) : Fin 1024 := ⟨u.val * 512 + i.val, by omega⟩

/-- The lanes of the map `u`: the lower half of the 128 for the first map, the upper for the second. -/
def lane (u : Fin 2) (d : Fin 128) : Prop := d.val < 64 ↔ u.val = 0
instance (u : Fin 2) (d : Fin 128) : Decidable (lane u d) := by unfold lane; infer_instance

theorem drop3_apply {M N : ℕ} {α : Type} (v : (⟨3, ![1, M, N]⟩ : Shape).Idx → α) (h : (⟨3, ![1, M, N]⟩ : Shape).ShapeCasts ⟨2, ![M, N]⟩)
    (i : Fin M) (d : Fin N) : shapeCast ⟨2, ![M, N]⟩ v h (ix2 i d) = v (ix3 0 i d) := by
  refine (shapeCast_dropUnit_apply ![M, N] v h (ix2 i d)).trans (congrArg v ?_)
  funext a
  match a with | ⟨0, _⟩ => rfl | ⟨1, _⟩ => rfl | ⟨2, _⟩ => rfl

theorem lt64 (d : Fin 128) : IntOp.cmpi .slt (BitVec.ofNat 32 d.val) 64#32 = BitVec.ofBool (decide (d.val < 64)) := by
  revert d; decide +kernel
theorem ge64 (d : Fin 128) : IntOp.cmpi .sge (BitVec.ofNat 32 d.val) 64#32 = BitVec.ofBool (decide (64 ≤ d.val)) := by
  revert d; decide +kernel

theorem sel_ofBool {α : Type} (p : Prop) [Decidable p] (x y : α) : Scalar.select (BitVec.ofBool (decide p)) x y = if p then x else y := by
  by_cases h : p <;> simp [Scalar.select, h]

/-- The stacked queries: each map's rows hold its half of the lanes, scaled, and zeros. -/
theorem pay2_apply (x : Vec Ideal S1x512x128 .f32) (u : Fin 2) (i : Fin 512) (d : Fin 128) :
    k0_pay2 x (ix2 (hi u i) d) = if lane u d then @HMul.hMul EReal EReal EReal _ (x (ix3 0 i d)) ((1 / 8 * il2 : ℝ) : EReal) else 0 := by
  have e : (mulf (shapeCast S512x128 x shapeCasts_S1x512x128_S512x128) (broadcast S512x128 (Named.named (F := Ideal) Cert.DiffIdeal.κ "scale_log2e" (φ := .f32) 0x3E38AA3B#32)) : FVec Ideal S512x128 .f32) (ix2 i d)
      = @HMul.hMul EReal EReal EReal _ (x (ix3 0 i d)) ((1 / 8 * il2 : ℝ) : EReal) := by
    show @HMul.hMul EReal EReal EReal _ (shapeCast S512x128 x shapeCasts_S1x512x128_S512x128 (ix2 i d)) (Named.named (F := Ideal) Cert.DiffIdeal.κ "scale_log2e" (φ := .f32) 0x3E38AA3B#32) = _
    rw [scale_val]
    exact congrArg (fun z : EReal => z * _) (drop3_apply (M := 512) (N := 128) x _ i d)
  unfold k0_pay2
  dsimp only
  by_cases hu : u.val = 0
  · refine (concatenate_pair_apply_left (t := S1024x128) (s₁ := S512x128) (s₂ := S512x128) 0 _ _ concatenates_S512x128_S512x128_S1024x128_d0 (ix2 (hi u i) d) rfl (ix2 i d) (fun b => by
      match b with | ⟨0, _⟩ => (show i.val = u.val * 512 + i.val; omega) | ⟨1, _⟩ => rfl)).trans ?_
    show Scalar.select (IntOp.cmpi .slt (iota .tc S512x128 32 [1] iota_S512x128_d1_w32 (ix2 i d)) 64#32) ((mulf _ _ : FVec Ideal S512x128 .f32) (ix2 i d)) (FloatOps.ofBits .f32 0x00000000#32 : Ideal .f32) = _
    rw [e, zero_val, iota_single_apply]
    show Scalar.select (IntOp.cmpi .slt (BitVec.ofNat 32 d.val) 64#32) _ _ = _
    rw [lt64, sel_ofBool]
    exact if_congr (by simp [lane, hu]) rfl rfl
  · refine (concatenate_pair_apply_right (t := S1024x128) (s₁ := S512x128) (s₂ := S512x128) 0 _ _ concatenates_S512x128_S512x128_S1024x128_d0 (ix2 (hi u i) d) rfl rfl (ix2 i d) (fun b hb => by
      match b with | ⟨0, _⟩ => exact absurd rfl hb | ⟨1, _⟩ => rfl) (by show i.val + 512 = u.val * 512 + i.val; omega)).trans ?_
    show Scalar.select (IntOp.cmpi .sge (iota .tc S512x128 32 [1] iota_S512x128_d1_w32 (ix2 i d)) 64#32) ((mulf _ _ : FVec Ideal S512x128 .f32) (ix2 i d)) (FloatOps.ofBits .f32 0x00000000#32 : Ideal .f32) = _
    rw [e, zero_val, iota_single_apply]
    show Scalar.select (IntOp.cmpi .sge (BitVec.ofNat 32 d.val) 64#32) _ _ = _
    rw [ge64, sel_ofBool]
    exact if_congr (by simp [lane, hu]) rfl rfl

/-- The product of a row's queries and a column of keys, in units of `log 2`. -/
def dotR (Q : Fin 512 → Fin 128 → ℝ) (u : Fin 2) (i : Fin 512) (k : Fin 128 → ℝ) : ℝ :=
  ∑ d, (if lane u d then Q i d * (1 / 8 * il2) else 0) * k d

variable (x : Vec Ideal S1x512x128 .f32) (Q : Fin 512 → Fin 128 → ℝ) (hx : ∀ i d, x (ix3 0 i d) = ((Q i d : ℝ) : EReal))
  (kt : Vec Ideal S1x128x512 .f32) (K : Fin 128 → Fin 512 → ℝ) (hk : ∀ d b, kt (ix3 0 d b) = ((K d b : ℝ) : EReal))
  (t : Vec Ideal S1x1x1024x512 .f32) (T : Fin 2 → Fin 512 → Fin 512 → ℝ)
  (ht : ∀ u i b, t (ix4 0 0 (hi u i) b) = ((T u i b : ℝ) : EReal))

include hx hk in
/-- The scores of a tile more than one tile below the diagonal. -/
theorem far_apply (u : Fin 2) (i : Fin 512) (b : Fin 512) :
    k0_pay6 x kt (ix2 (hi u i) b) = ((dotR Q u i (fun d => K d b) : ℝ) : EReal) := by
  unfold k0_pay6
  rw [mmS]
  unfold dotR
  rw [coe_sum]
  refine Finset.sum_congr rfl fun d _ => ?_
  rw [pay2_apply, hx]
  show @HMul.hMul EReal EReal EReal _ _ (shapeCast S128x512 kt shapeCasts_S1x128x512_S128x512 (ix2 d b)) = _
  refine (congrArg₂ (@HMul.hMul EReal EReal EReal _) ?_ ((drop3_apply (M := 128) (N := 512) kt _ d b).trans (hk d b))).trans (EReal.coe_mul _ _).symm
  by_cases h : lane u d
  · rw [if_pos h, if_pos h]; exact (EReal.coe_mul _ _).symm
  · rw [if_neg h, if_neg h]; exact EReal.coe_zero.symm

include ht in
theorem toe_tile (u : Fin 2) (i : Fin 512) (b : Fin 512) :
    (mulf (shapeCast S1024x512 t shapeCasts_S1x1x1024x512_S1024x512) (broadcast S1024x512 (Named.named (F := Ideal) Cert.DiffIdeal.κ "log2e" (φ := .f32) 0x3FB8AA3B#32)) : FVec Ideal S1024x512 .f32) (ix2 (hi u i) b)
      = ((T u i b * il2 : ℝ) : EReal) := by
  show @HMul.hMul EReal EReal EReal _ (shapeCast S1024x512 t shapeCasts_S1x1x1024x512_S1024x512 (ix2 (hi u i) b)) (Named.named (F := Ideal) Cert.DiffIdeal.κ "log2e" (φ := .f32) 0x3FB8AA3B#32) = _
  rw [log2e_val, EReal.coe_mul]
  refine congrArg (fun z : EReal => z * _) ?_
  refine (shapeCast_apply _ _ _ (ix4 0 0 (hi u i) b) ?_).trans (ht u i b)
  simp [Shape.rowMajor_val_two, Shape.rowMajor_val_four, ix2, ix4]

include hx hk ht in
/-- The scores of the tile just below the diagonal. -/
theorem near_apply (u : Fin 2) (i : Fin 512) (b : Fin 512) :
    k0_pay18 x t kt (ix2 (hi u i) b) = ((dotR Q u i (fun d => K d b) + T u i b * il2 : ℝ) : EReal) := by
  show @HAdd.hAdd EReal EReal EReal _ (k0_pay6 x kt (ix2 (hi u i) b)) ((mulf _ _ : FVec Ideal S1024x512 .f32) (ix2 (hi u i) b)) = _
  rw [far_apply x Q hx kt K hk, toe_tile t T ht, EReal.coe_add]

theorem sle_iota (i b : Fin 512) : IntOp.cmpi .sle (BitVec.ofNat 32 b.val) (BitVec.ofNat 32 i.val) = BitVec.ofBool (decide (b.val ≤ i.val)) := by
  rw [WordCmp.cmpi_sle_eq]
  congr 1
  rw [decide_eq_decide, toInt_small _ (by omega), toInt_small _ (by omega)]
  omega

include hx hk ht in
/-- The scores of the tile on the diagonal: nothing beyond it. -/
theorem diag_apply (u : Fin 2) (i : Fin 512) (b : Fin 512) :
    k0_pay30 (k0_pay2 x) t kt (ix2 (hi u i) b) = if b.val ≤ i.val then ((dotR Q u i (fun d => K d b) + T u i b * il2 : ℝ) : EReal) else ⊥ := by
  unfold k0_pay30
  dsimp only
  show @HAdd.hAdd EReal EReal EReal _ (k0_pay6 x kt (ix2 (hi u i) b)) (shapeCast S1024x512 _ shapeCasts_S2x512x512_S1024x512 (ix2 (hi u i) b)) = _
  have e : (hi u i).val = u.val * 512 + i.val := rfl
  rw [far_apply x Q hx kt K hk, shapeCast_apply _ _ _ (ix3 u i b) (by simp [Shape.rowMajor_val_two, Shape.rowMajor_val_three, ix2, ix3])]
  show @HAdd.hAdd EReal EReal EReal _ _ (@HAdd.hAdd EReal EReal EReal _ (shapeCast S2x512x512 _ shapeCasts_S1024x512_S2x512x512 (ix3 u i b)) (broadcastTo S2x512x512 _ broadcasts_S1x512x512_S2x512x512 (ix3 u i b))) = _
  rw [shapeCast_apply _ _ _ (ix2 (hi u i) b) (by simp [Shape.rowMajor_val_two, Shape.rowMajor_val_three, ix2, ix3]), toe_tile t T ht,
    broadcastTo_apply _ _ (ix3 u i b) (ix3 0 i b) (fun a => by match a with | ⟨0, _⟩ => rfl | ⟨1, _⟩ => rfl | ⟨2, _⟩ => rfl),
    shapeCast_apply _ _ _ (ix2 i b) (by simp [Shape.rowMajor_val_two, Shape.rowMajor_val_three, ix2, ix3])]
  show @HAdd.hAdd EReal EReal EReal _ _ (@HAdd.hAdd EReal EReal EReal _ _ (Scalar.select (IntOp.cmpi .sle (iota .tc S512x512 32 [1] iota_S512x512_d1_w32 (ix2 i b)) (iota .tc S512x512 32 [0] iota_S512x512_d0_w32 (ix2 i b)))
    (FloatOps.ofBits .f32 0x00000000#32 : Ideal .f32) (Named.named (F := Ideal) Cert.DiffIdeal.κ "mask" (φ := .f32) 0xF149F2CA#32))) = _
  rw [iota_single_apply, iota_single_apply, zero_val, mask_val]
  show @HAdd.hAdd EReal EReal EReal _ _ (@HAdd.hAdd EReal EReal EReal _ _ (Scalar.select (IntOp.cmpi .sle (BitVec.ofNat 32 b.val) (BitVec.ofNat 32 i.val)) _ _)) = _
  rw [sle_iota, sel_ofBool]
  by_cases h : b.val ≤ i.val
  · rw [if_pos h, if_pos h, add_zero, EReal.coe_add]
  · rw [if_neg h, if_neg h, EReal.add_bot, EReal.add_bot]

end Cert.Proof.DiffStep

end
-- ==== Proof.DiffValue.lean ====
/- The differential attention of the kernel: what one point of the grid leaves in its block, and the array the run leaves. -/
module

public import proofs.«01_k».proof.Defs
public import proofs.«01_k».proof.Proof.DiffStep
public import proofs.«01_k».proof.Proof.Gen.DiffIdeal.Value

@[expose] public section

noncomputable section

namespace Cert.Proof.DiffValue

open Cert.DiffIdeal Cert.DiffIdeal.Gen Idealize.ShloMosaic Idealize.ShloMosaic.TcCoe Idealize.SL.Sem
open Idealize.ShloMosaic.ValueIdx Cert.Proof.Common Cert.Proof.DiffMath Cert.Proof.DiffStep
open Idealize.ShloMosaic.Pipeline (Dat)

/-! ## What follows the last tile -/

/-- The words of the programs: the constant part of the subtracted map's factor, the row's length, the norm's floor and the output's factor. -/
abbrev lamC : EReal := Ideal.ofBits .f32 0x3EB60549#32
abbrev cLen : EReal := Ideal.ofBits .f32 0x43000000#32
abbrev cEps : EReal := Ideal.ofBits .f32 0x3727C5AC#32
abbrev cOut : EReal := Ideal.ofBits .f32 0x3F24FD5C#32

/-- The factor of the subtracted map, of the four rows of learned numbers. -/
def lamE (lam : Fin 4 → Fin 64 → EReal) : EReal :=
  Ideal.exp (∑ k, lam 0 k * lam 1 k) - Ideal.exp (∑ k, lam 2 k * lam 3 k) + lamC

/-- The norm of a row of the output, with its gains and its factor. -/
def rmsn (o g : Fin 128 → EReal) (e : Fin 128) : EReal :=
  o e * Ideal.rsqrt (Ideal.div (∑ k, o k * o k) cLen + cEps) * g e * cOut

/-- The sum of a row of products, kept as one number. -/
def lsum (a b : FVec Ideal S1x64 .f32) : FVec Ideal S1x1 .f32 :=
  shapeCast S1x1 (multiReduction .add [1] S1 (mulf a b) 0x00000000#32 reduces_S1x64_S1 (.inl rfl) rfl) shapeCasts_S1_S1x1

theorem lsum_apply (a b : FVec Ideal S1x64 .f32) : lsum a b (ix2 0 0) = ∑ k : Fin 64, @HMul.hMul EReal EReal EReal _ (a (ix2 0 k)) (b (ix2 0 k)) := by
  unfold lsum
  refine (shapeCast_apply _ _ _ (ix1 0) (by simp [Shape.rowMajor_val_two, Shape.rowMajor_val_one, ix1, ix2])).trans ?_
  refine (Ideal.multiReduction_add_single (mulf a b) _ _ _ _ _).trans ?_
  show @Eq EReal (∑ k : Fin 64, _) (∑ k : Fin 64, _)
  refine Finset.sum_congr rfl fun k _ => ?_
  exact congrArg (mulf a b) (Shape.idx_ext₂ (y := ix2 (0 : Fin 1) k) rfl rfl)

/-- The sums of a block's rows of squares, as a column. -/
def sqsum (o : FVec Ideal S512x128 .f32) : FVec Ideal S512x1 .f32 :=
  shapeCast S512x1 (multiReduction .add [1] S512 (mulf o o) 0x00000000#32 reduces_S512x128_S512 (.inl rfl) rfl) shapeCasts_S512_S512x1

theorem sqsum_apply (o : FVec Ideal S512x128 .f32) (i : Fin 512) : sqsum o (ix2 i 0) = ∑ k : Fin 128, @HMul.hMul EReal EReal EReal _ (o (ix2 i k)) (o (ix2 i k)) := by
  unfold sqsum
  refine (shapeCast_apply _ _ _ (ix1 i) (by simp [Shape.rowMajor_val_two, Shape.rowMajor_val_one, ix1, ix2])).trans ?_
  refine (Ideal.multiReduction_add_single (mulf o o) _ _ _ _ _).trans ?_
  show @Eq EReal (∑ k : Fin 128, _) (∑ k : Fin 128, _)
  refine Finset.sum_congr rfl fun k _ => ?_
  exact congrArg (mulf o o) (Shape.idx_ext₂ (y := ix2 i k) rfl rfl)

/-- The factor of the subtracted map, as the kernel writes it. -/
def lamT (lam : Vec Ideal S4x64 .f32) : FVec Ideal S1x1 .f32 :=
  addf (subf (exp (lsum (extractStridedSlice S1x64 ![0, 0] lam slices_S4x64_o0_0_S1x64) (extractStridedSlice S1x64 ![1, 0] lam slices_S4x64_o1_0_S1x64)))
    (exp (lsum (extractStridedSlice S1x64 ![2, 0] lam slices_S4x64_o2_0_S1x64) (extractStridedSlice S1x64 ![3, 0] lam slices_S4x64_o3_0_S1x64))))
    (broadcast S1x1 (Scalar.ofBits .f32 0x3EB60549#32))

theorem row_apply (lam : Vec Ideal S4x64 .f32) (n : Fin 4) (hs : S4x64.Slices ![n.val, 0] S1x64) (k : Fin 64) :
    extractStridedSlice S1x64 ![n.val, 0] lam hs (ix2 0 k) = lam (ix2 n k) :=
  extractStridedSlice_apply _ _ _ _ (ix2 n k) (fun a => by
    match a with
    | ⟨0, _⟩ => rfl
    | ⟨1, _⟩ => show k.val = 0 + k.val; omega)

theorem lamT_apply (lam : Vec Ideal S4x64 .f32) : lamT lam (ix2 0 0) = lamE (fun n k => lam (ix2 n k)) := by
  show Ideal.exp (lsum _ _ (ix2 0 0)) - Ideal.exp (lsum _ _ (ix2 0 0)) + lamC = _
  rw [lsum_apply, lsum_apply]
  unfold lamE
  congr 2
  · refine congrArg Ideal.exp (Finset.sum_congr rfl fun k _ => ?_)
    exact congrArg₂ (@HMul.hMul EReal EReal EReal _) (row_apply lam 0 _ k) (row_apply lam 1 _ k)
  · refine congrArg Ideal.exp (Finset.sum_congr rfl fun k _ => ?_)
    exact congrArg₂ (@HMul.hMul EReal EReal EReal _) (row_apply lam 2 _ k) (row_apply lam 3 _ k)

/-- The two maps' outputs combined, as the kernel writes it. -/
def combT (l : FVec Ideal S1024x1 .f32) (acc : FVec Ideal S1024x128 .f32) (lam : Vec Ideal S4x64 .f32) : FVec Ideal S512x128 .f32 :=
  subf (extractStridedSlice S512x128 ![0, 0] (divf acc (broadcastTo S1024x128 l broadcasts_S1024x1_S1024x128)) slices_S1024x128_o0_0_S512x128)
    (mulf (broadcastTo S512x128 (lamT lam) broadcasts_S1x1_S512x128)
      (extractStridedSlice S512x128 ![512, 0] (divf acc (broadcastTo S1024x128 l broadcasts_S1024x1_S1024x128)) slices_S1024x128_o512_0_S512x128))

theorem combT_apply (l : FVec Ideal S1024x1 .f32) (acc : FVec Ideal S1024x128 .f32) (lam : Vec Ideal S4x64 .f32) (i : Fin 512) (e : Fin 128) :
    combT l acc lam (ix2 i e) = Ideal.div (acc (ix2 (hi 0 i) e)) (l (ix2 (hi 0 i) 0))
      - lamE (fun n k => lam (ix2 n k)) * Ideal.div (acc (ix2 (hi 1 i) e)) (l (ix2 (hi 1 i) 0)) := by
  have hd : ∀ r : Fin 1024, (divf acc (broadcastTo S1024x128 l broadcasts_S1024x1_S1024x128) : FVec Ideal S1024x128 .f32) (ix2 r e) = Ideal.div (acc (ix2 r e)) (l (ix2 r 0)) := fun r => by
    show Ideal.div _ (broadcastTo S1024x128 l broadcasts_S1024x1_S1024x128 (ix2 r e)) = _
    rw [col128_apply]
  show @HSub.hSub EReal EReal EReal _ (extractStridedSlice S512x128 ![0, 0] (divf acc (broadcastTo S1024x128 l broadcasts_S1024x1_S1024x128)) slices_S1024x128_o0_0_S512x128 (ix2 i e))
    (@HMul.hMul EReal EReal EReal _ (broadcastTo S512x128 (lamT lam) broadcasts_S1x1_S512x128 (ix2 i e)) (extractStridedSlice S512x128 ![512, 0] (divf acc (broadcastTo S1024x128 l broadcasts_S1024x1_S1024x128)) slices_S1024x128_o512_0_S512x128 (ix2 i e))) = _
  rw [extractStridedSlice_apply _ _ _ (ix2 i e) (ix2 (hi 0 i) e) (fun a => by
      match a with
      | ⟨0, _⟩ => show 0 * 512 + i.val = 0 + i.val; omega
      | ⟨1, _⟩ => show e.val = 0 + e.val; omega),
    extractStridedSlice_apply _ _ _ (ix2 i e) (ix2 (hi 1 i) e) (fun a => by
      match a with
      | ⟨0, _⟩ => show 1 * 512 + i.val = 512 + i.val; omega
      | ⟨1, _⟩ => show e.val = 0 + e.val; omega),
    broadcastTo_apply _ _ (ix2 i e) (ix2 0 0) (fun a => by match a with | ⟨0, _⟩ => rfl | ⟨1, _⟩ => rfl), hd, hd, lamT_apply]

/-- The norm of a block's rows, as the kernel writes it. -/
def rmsT (o : FVec Ideal S512x128 .f32) (g : Vec Ideal S1x128 .f32) : FVec Ideal S512x128 .f32 :=
  mulf (mulf (mulf o (broadcastTo S512x128 (rsqrt (addf (divf (sqsum o) (broadcast S512x1 (Scalar.ofBits .f32 0x43000000#32))) (broadcast S512x1 (Scalar.ofBits .f32 0x3727C5AC#32)))) broadcasts_S512x1_S512x128))
    (broadcastTo S512x128 (shapeCast S1x128 g shapeCasts_S1x128_S1x128) broadcasts_S1x128_S512x128)) (broadcast S512x128 (Scalar.ofBits .f32 0x3F24FD5C#32))

theorem rmsT_apply (o : FVec Ideal S512x128 .f32) (g : Vec Ideal S1x128 .f32) (i : Fin 512) (e : Fin 128) :
    rmsT o g (ix2 i e) = rmsn (fun k => o (ix2 i k)) (fun k => g (ix2 0 k)) e := by
  show @HMul.hMul EReal EReal EReal _ (@HMul.hMul EReal EReal EReal _ (@HMul.hMul EReal EReal EReal _ (o (ix2 i e)) (broadcastTo S512x128 _ broadcasts_S512x1_S512x128 (ix2 i e)))
    (broadcastTo S512x128 _ broadcasts_S1x128_S512x128 (ix2 i e))) cOut = _
  rw [broadcastTo_apply _ broadcasts_S512x1_S512x128 (ix2 i e) (ix2 i 0) (fun a => by match a with | ⟨0, _⟩ => rfl | ⟨1, _⟩ => rfl),
    broadcastTo_apply _ broadcasts_S1x128_S512x128 (ix2 i e) (ix2 0 e) (fun a => by match a with | ⟨0, _⟩ => rfl | ⟨1, _⟩ => rfl), shapeCast_self]
  show @HMul.hMul EReal EReal EReal _ (@HMul.hMul EReal EReal EReal _ (@HMul.hMul EReal EReal EReal _ (o (ix2 i e)) (Ideal.rsqrt (Ideal.div (sqsum o (ix2 i 0)) cLen + cEps)))
    (g (ix2 0 e))) cOut = _
  rw [sqsum_apply]
  rfl

/-- What the body stores, read at a row and a lane. -/
theorem pay1_apply (l : FVec Ideal S1024x1 .f32) (acc : FVec Ideal S1024x128 .f32) (lam : Vec Ideal S4x64 .f32) (g : Vec Ideal S1x128 .f32) (i : Fin 512) (e : Fin 128) :
    k0_pay1 l acc lam g (ix3 0 i e) = rmsn (fun e => Ideal.div (acc (ix2 (hi 0 i) e)) (l (ix2 (hi 0 i) 0))
      - lamE (fun n k => lam (ix2 n k)) * Ideal.div (acc (ix2 (hi 1 i) e)) (l (ix2 (hi 1 i) 0))) (fun k => g (ix2 0 k)) e := by
  have e1 : k0_pay1 l acc lam g = shapeCast S1x512x128 (rmsT (combT l acc lam) g) shapeCasts_S512x128_S1x512x128 := rfl
  rw [e1, shapeCast_apply _ _ _ (ix2 i e) (by simp [Shape.rowMajor_val_two, Shape.rowMajor_val_three, ix2, ix3]), rmsT_apply]
  congr 1
  funext k
  exact combT_apply l acc lam i k

/-! ## The tiles -/

/-- The data of one block, as real numbers: the queries, the keys and values at their positions, the two tiles of biases and the bias of a
    row at a position; the block's rows are the positions from `512 * q` on. -/
structure Blk where
  Q : Fin 512 → Fin 128 → ℝ
  K : Fin 128 → ℕ → ℝ
  V : ℕ → Fin 128 → ℝ
  T : Fin 2 → Fin 2 → Fin 512 → Fin 512 → ℝ
  β : Fin 2 → Fin 512 → ℕ → ℝ
  q : ℕ
  hq : q < 8
  hb0 : ∀ u i b, b.val ≤ i.val → T 0 u i b = β u i (512 * q + b.val)
  hb1 : 0 < q → ∀ u i b, T 1 u i b = β u i (512 * (q - 1) + b.val)
  hb2 : ∀ u i j, j < 512 * (q - 1) → β u i j = 0

namespace Blk
variable (D : Blk)

/-- The score of a row at a position, in units of `log 2`. -/
def s (u : Fin 2) (i : Fin 512) (j : ℕ) : ℝ := dotR D.Q u i (fun d => D.K d j) + D.β u i j * il2
/-- Its weight: nothing beyond the row's own position. -/
def w (u : Fin 2) (i : Fin 512) (j : ℕ) : ℝ := if j ≤ 512 * D.q + i.val then (2 : ℝ) ^ D.s u i j else 0

/-- A stacked row's map and its row. -/
def uo (r : Fin 1024) : Fin 2 := ⟨r.val / 512, by omega⟩
def io (r : Fin 1024) : Fin 512 := ⟨r.val % 512, by omega⟩
theorem hi_uo (r : Fin 1024) : hi (uo r) (io r) = r := Fin.ext (by show r.val / 512 * 512 + r.val % 512 = r.val; omega)
theorem uo_hi (u : Fin 2) (i : Fin 512) : uo (hi u i) = u := Fin.ext (by show (u.val * 512 + i.val) / 512 = u.val; omega)
theorem io_hi (u : Fin 2) (i : Fin 512) : io (hi u i) = i := Fin.ext (by show (u.val * 512 + i.val) % 512 = i.val; omega)

/-- The sums of the weights and of the weighted values over the first `n` tiles. -/
def L (n : ℕ) (r : Fin 1024) : ℝ := ∑ j ∈ Finset.range (512 * n), D.w (uo r) (io r) j
def W (n : ℕ) (r : Fin 1024) (e : Fin 128) : ℝ := ∑ j ∈ Finset.range (512 * n), D.w (uo r) (io r) j * D.V j e

theorem sum_tile (f : ℕ → ℝ) (n : ℕ) : ∑ j ∈ Finset.range (512 * (n + 1)), f j = ∑ j ∈ Finset.range (512 * n), f j + ∑ b : Fin 512, f (512 * n + b.val) := by
  rw [show 512 * (n + 1) = 512 * n + 512 from by ring, Finset.sum_range_add, Finset.sum_range (fun x => f (512 * n + x))]

/-- A tile whose scores are the row's, at most up to its own position, adds its sums. -/
theorem tile {a : T3} (n : ℕ) (hn : n ≤ D.q) (h : Inv a (D.L n) (D.W n)) (sc : FVec Ideal S1024x512 .f32) (v : FVec Ideal S512x128 .bf16)
    (hs : ∀ u i b, sc (ix2 (hi u i) b) = if 512 * n + b.val ≤ 512 * D.q + i.val then ((D.s u i (512 * n + b.val) : ℝ) : EReal) else ⊥)
    (hv : ∀ b e, v (ix2 b e) = ((D.V (512 * n + b.val) e : ℝ) : EReal)) :
    Inv (stepA sc v a) (D.L (n + 1)) (D.W (n + 1)) := by
  have key := h.step sc v (fun r b => 512 * n + b.val ≤ 512 * D.q + (io r).val) (fun r b => D.s (uo r) (io r) (512 * n + b.val))
    (fun b e => D.V (512 * n + b.val) e) (fun r b => by have := hs (uo r) (io r) b; rwa [hi_uo] at this)
    (fun r => ⟨⟨0, by omega⟩, by show 512 * n + 0 ≤ _; omega⟩) hv
  have e1 : D.L (n + 1) = fun r => D.L n r + ∑ b : Fin 512, if 512 * n + b.val ≤ 512 * D.q + (io r).val then (2 : ℝ) ^ D.s (uo r) (io r) (512 * n + b.val) else 0 :=
    funext fun r => sum_tile (D.w (uo r) (io r)) n
  have e2 : D.W (n + 1) = fun r e => D.W n r e + ∑ b : Fin 512, (if 512 * n + b.val ≤ 512 * D.q + (io r).val then (2 : ℝ) ^ D.s (uo r) (io r) (512 * n + b.val) else 0) * D.V (512 * n + b.val) e :=
    funext fun r => funext fun e => sum_tile (fun j => D.w (uo r) (io r) j * D.V j e) n
  rw [e1, e2]
  exact key

theorem init : Inv (k0_pay3 (F := Ideal), k0_pay4 (F := Ideal), k0_pay5 (F := Ideal)) (D.L 0) (D.W 0) := by
  intro r e
  show Fl (Named.named (F := Ideal) Cert.DiffIdeal.κ "mask" (φ := .f32) 0xF149F2CA#32) (FloatOps.ofBits .f32 0x00000000#32 : Ideal .f32) (FloatOps.ofBits .f32 0x00000000#32 : Ideal .f32) _ _
  rw [mask_val, zero_val]
  simpa [L, W] using Fl.init

/-- The tile `n` of the keys and of the values. -/
def kt (x1 : Vec Ideal S1x128x4096 .f32) (n : ℕ) (hn : n < 8) : Vec Ideal S1x128x512 .f32 := fun j => x1 (ix3 0 (j 1) ⟨512 * n + (j 2).val, by have := (j 2).isLt; change _ < 512 at this; omega⟩)
def vt (x2 : Vec Ideal S1x4096x128 .f32) (n : ℕ) (hn : n < 8) : Vec Ideal S1x512x128 .f32 := fun j => x2 (ix3 0 ⟨512 * n + (j 1).val, by have := (j 1).isLt; change _ < 512 at this; omega⟩ (j 2))
def tt (x3 : Vec Ideal S1x2x1024x512 .f32) (o : Fin 2) : Vec Ideal S1x1x1024x512 .f32 := fun j => x3 (ix4 0 o (j 2) (j 3))

variable (x0 : Vec Ideal S1x512x128 .f32) (x1 : Vec Ideal S1x128x4096 .f32) (x2 : Vec Ideal S1x4096x128 .f32) (x3 : Vec Ideal S1x2x1024x512 .f32)
  (h0 : ∀ i d, x0 (ix3 0 i d) = ((D.Q i d : ℝ) : EReal)) (h1 : ∀ d (j : Fin 4096), x1 (ix3 0 d j) = ((D.K d j.val : ℝ) : EReal))
  (h2 : ∀ (j : Fin 4096) e, x2 (ix3 0 j e) = ((D.V j.val e : ℝ) : EReal)) (h3 : ∀ o u i b, x3 (ix4 0 o (hi u i) b) = ((D.T o u i b : ℝ) : EReal))

include h2 in
theorem vt_apply (n : ℕ) (hn : n < 8) (b : Fin 512) (e : Fin 128) : vtile (vt x2 n hn) (ix2 b e) = ((D.V (512 * n + b.val) e : ℝ) : EReal) :=
  (drop3_apply (M := 512) (N := 128) (vt x2 n hn) shapeCasts_S1x512x128_S512x128 b e).trans (h2 _ _)

include h0 h1 h2 in
theorem far (n : ℕ) (hn : n < 8) (hf : n < D.q - 1) {a : T3} (h : Inv a (D.L n) (D.W n)) :
    Inv (stepA (k0_pay6 x0 (kt x1 n hn)) (vtile (vt x2 n hn)) a) (D.L (n + 1)) (D.W (n + 1)) := by
  refine D.tile n (by omega) h _ _ (fun u i b => ?_) (D.vt_apply x2 h2 n hn)
  rw [if_pos (by omega), far_apply x0 D.Q h0 (kt x1 n hn) (fun d b => D.K d (512 * n + b.val)) (fun d b => h1 d _)]
  unfold s
  rw [D.hb2 u i _ (by omega), zero_mul, add_zero]

include h0 h1 h2 h3 in
theorem near (n : ℕ) (hn : n < 8) (hf : n + 1 = D.q) {a : T3} (h : Inv a (D.L n) (D.W n)) :
    Inv (stepA (k0_pay18 x0 (tt x3 1) (kt x1 n hn)) (vtile (vt x2 n hn)) a) (D.L (n + 1)) (D.W (n + 1)) := by
  refine D.tile n (by omega) h _ _ (fun u i b => ?_) (D.vt_apply x2 h2 n hn)
  rw [if_pos (by omega), near_apply x0 D.Q h0 (kt x1 n hn) (fun d b => D.K d (512 * n + b.val)) (fun d b => h1 d _) (tt x3 1) (D.T 1) (fun u i b => h3 1 u i b)]
  unfold s
  rw [D.hb1 (by omega) u i b, show D.q - 1 = n from by omega]

include h0 h1 h2 h3 in
theorem diag {a : T3} (h : Inv a (D.L D.q) (D.W D.q)) :
    Inv (stepA (k0_pay30 (k0_pay2 x0) (tt x3 0) (kt x1 D.q D.hq)) (vtile (vt x2 D.q D.hq)) a) (D.L (D.q + 1)) (D.W (D.q + 1)) := by
  refine D.tile D.q le_rfl h _ _ (fun u i b => ?_) (D.vt_apply x2 h2 D.q D.hq)
  rw [diag_apply x0 D.Q h0 (kt x1 D.q D.hq) (fun d b => D.K d (512 * D.q + b.val)) (fun d b => h1 d _) (tt x3 0) (D.T 0) (fun u i b => h3 0 u i b)]
  unfold s
  by_cases hb : b.val ≤ i.val
  · rw [if_pos hb, if_pos (by omega), D.hb0 u i b hb]
  · rw [if_neg hb, if_neg (by omega)]

end Blk

/-! ## The loops -/

variable (c : Dev nD) (i : grid0.Coords)
  (arg3 : Memref sig .tc .vmem S1x512x128 .f32) (harg3 : arg3.IsWhole) (arg4 : Memref sig .tc .vmem S1x128x4096 .f32) (harg4 : arg4.IsWhole)
  (arg5 : Memref sig .tc .vmem S1x4096x128 .f32) (harg5 : arg5.IsWhole) (arg6 : Memref sig .tc .vmem S1x2x1024x512 .f32) (harg6 : arg6.IsWhole)
  (arg7 : Memref sig .tc .vmem S4x64 .f32) (harg7 : arg7.IsWhole) (arg8 : Memref sig .tc .vmem S1x128 .f32) (harg8 : arg8.IsWhole)
  (arg9 : Memref sig .tc .vmem S1x512x128 .f32) (harg9 : arg9.IsWhole)
  (x0 : Vec Ideal S1x512x128 .f32) (x1 : Vec Ideal S1x128x4096 .f32) (x2 : Vec Ideal S1x4096x128 .f32) (x3 : Vec Ideal S1x2x1024x512 .f32)
  (x4 : Vec Ideal S4x64 .f32) (x5 : Vec Ideal S1x128 .f32)

/-- A point of the grid with its third coordinate alone. -/
def mk (q : Fin 8) : grid0.Coords := fun a => match a with
  | ⟨0, _⟩ => (⟨0, Nat.succ_pos 3⟩ : Fin 4)
  | ⟨1, _⟩ => (⟨0, Nat.succ_pos 7⟩ : Fin 8)
  | ⟨2, _⟩ => q

theorem trips1 : (k0_t1_loop i).trips = (i 2).val - 1 := (by decide +kernel : ∀ q : Fin 8, (k0_t1_loop (mk q)).trips = q.val - 1) (i 2)
theorem trips2 : (k0_t2_loop i).trips = 0 := (by decide +kernel : ∀ q : Fin 8, (k0_t2_loop (mk q)).trips = 0) (i 2)
theorem trips3 : (k0_t3_loop i).trips = min (i 2).val 1 := (by decide +kernel : ∀ q : Fin 8, (k0_t3_loop (mk q)).trips = min q.val 1) (i 2)
theorem trips4 : (k0_t4_loop i).trips = 0 := (by decide +kernel : ∀ q : Fin 8, (k0_t4_loop (mk q)).trips = 0) (i 2)

theorem off1 (k : Fin (k0_t1_loop i).trips) : k0_off1 i k = ![0, 0, 512 * k.val] := by
  have hk : k.val < 8 := by have h := lt_of_lt_of_eq k.isLt (trips1 i); have := (i 2).isLt; change _ < 8 at this; omega
  have e := (by decide +kernel : ∀ n : Fin 8, (Scalar.indexCast (Scalar.muli (Scf.iv 0#32 1#32 n.val) 512#32)).toNat = 512 * n.val) ⟨k.val, hk⟩
  exact congrArg (fun n : ℕ => (![0, 0, n] : Fin 3 → ℕ)) e
theorem off2 (k : Fin (k0_t1_loop i).trips) : k0_off2 i k = ![0, 512 * k.val, 0] := by
  have hk : k.val < 8 := by have h := lt_of_lt_of_eq k.isLt (trips1 i); have := (i 2).isLt; change _ < 8 at this; omega
  have e := (by decide +kernel : ∀ n : Fin 8, (Scalar.indexCast (Scalar.muli (Scf.iv 0#32 1#32 n.val) 512#32)).toNat = 512 * n.val) ⟨k.val, hk⟩
  exact congrArg (fun n : ℕ => (![0, n, 0] : Fin 3 → ℕ)) e

theorem near_word (k : Fin (k0_t3_loop i).trips) :
    (Scalar.indexCast (Scalar.muli (Scf.iv (Scalar.maxsi (Scalar.subi (BitVec.ofNat 32 (i 2).val) 1#32) 0#32) 1#32 k.val) 512#32)).toNat = 512 * ((i 2).val - 1) := by
  have hk : k.val = 0 := by have h := lt_of_lt_of_eq k.isLt (trips3 i); omega
  rw [hk]
  exact (by decide +kernel : ∀ q : Fin 8, (Scalar.indexCast (Scalar.muli (Scf.iv (Scalar.maxsi (Scalar.subi (BitVec.ofNat 32 q.val) 1#32) 0#32) 1#32 0) 512#32)).toNat = 512 * (q.val - 1)) (i 2)
theorem off5 (k : Fin (k0_t3_loop i).trips) : k0_off5 i k = ![0, 0, 512 * ((i 2).val - 1)] :=
  congrArg (fun n : ℕ => (![0, 0, n] : Fin 3 → ℕ)) (near_word i k)
theorem off6 (k : Fin (k0_t3_loop i).trips) : k0_off6 i k = ![0, 512 * ((i 2).val - 1), 0] :=
  congrArg (fun n : ℕ => (![0, n, 0] : Fin 3 → ℕ)) (near_word i k)
theorem diag_word : (Scalar.indexCast (Scalar.muli (BitVec.ofNat 32 (i 2).val) 512#32)).toNat = 512 * (i 2).val :=
  (by decide +kernel : ∀ q : Fin 8, (Scalar.indexCast (Scalar.muli (BitVec.ofNat 32 q.val) 512#32)).toNat = 512 * q.val) (i 2)
theorem off9 : k0_off9 i = ![0, 0, 512 * (i 2).val] := congrArg (fun n : ℕ => (![0, 0, n] : Fin 3 → ℕ)) (diag_word i)
theorem off10 : k0_off10 i = ![0, 512 * (i 2).val, 0] := congrArg (fun n : ℕ => (![0, n, 0] : Fin 3 → ℕ)) (diag_word i)

theorem load_kt (n : ℕ) (hn : n < 8) (off : Fin 3 → ℕ) (ho : off = ![0, 0, 512 * n]) (h : ∀ a, off a + S1x128x512.size a ≤ S1x128x4096.size a) :
    View.readAt (Elt Ideal) arg4.view (Rect.unit (s := S1x128x4096) off S1x128x512.size h).toLoadRect (harg4.unread x1) = Blk.kt x1 n hn := by
  subst ho
  simp only [View.readAt_eq_ld, harg4.read_unread]
  funext j
  show x1 _ = x1 _
  congr 1
  funext a
  apply Fin.ext
  match a with
  | ⟨0, _⟩ => show 0 + 1 * (j 0).val = 0; have := (j 0).isLt; change _ < 1 at this; omega
  | ⟨1, _⟩ => show 0 + 1 * (j 1).val = (j 1).val; omega
  | ⟨2, _⟩ => show 512 * n + 1 * (j 2).val = 512 * n + (j 2).val; omega

theorem load_vt (n : ℕ) (hn : n < 8) (off : Fin 3 → ℕ) (ho : off = ![0, 512 * n, 0]) (h : ∀ a, off a + S1x512x128.size a ≤ S1x4096x128.size a) :
    View.readAt (Elt Ideal) arg5.view (Rect.unit (s := S1x4096x128) off S1x512x128.size h).toLoadRect (harg5.unread x2) = Blk.vt x2 n hn := by
  subst ho
  simp only [View.readAt_eq_ld, harg5.read_unread]
  funext j
  show x2 _ = x2 _
  congr 1
  funext a
  apply Fin.ext
  match a with
  | ⟨0, _⟩ => show 0 + 1 * (j 0).val = 0; have := (j 0).isLt; change _ < 1 at this; omega
  | ⟨1, _⟩ => show 512 * n + 1 * (j 1).val = 512 * n + (j 1).val; omega
  | ⟨2, _⟩ => show 0 + 1 * (j 2).val = (j 2).val; omega

theorem load_tt (o : Fin 2) (h : ∀ a, (![0, o.val, 0, 0] : Fin 4 → ℕ) a + S1x1x1024x512.size a ≤ S1x2x1024x512.size a) :
    View.readAt (Elt Ideal) arg6.view (Rect.unit (s := S1x2x1024x512) ![0, o.val, 0, 0] S1x1x1024x512.size h).toLoadRect (harg6.unread x3) = Blk.tt x3 o := by
  simp only [View.readAt_eq_ld, harg6.read_unread]
  funext j
  show x3 _ = x3 _
  congr 1
  funext a
  apply Fin.ext
  match a with
  | ⟨0, _⟩ => show 0 + 1 * (j 0).val = 0; have := (j 0).isLt; change _ < 1 at this; omega
  | ⟨1, _⟩ => show o.val + 1 * (j 1).val = o.val; have := (j 1).isLt; change _ < 1 at this; omega
  | ⟨2, _⟩ => show 0 + 1 * (j 2).val = (j 2).val; omega
  | ⟨3, _⟩ => show 0 + 1 * (j 3).val = (j 3).val; omega

theorem trip1 (k : Fin (k0_t1_loop i).trips) (hk : k.val < 8) (a : T3) :
    tripR_k0_t1 (F := Ideal) Variants.none c none i arg3 harg3 arg4 harg4 arg5 harg5 arg6 harg6 arg7 harg7 arg8 harg8 arg9 harg9 x0 (harg4.unread x1) (harg5.unread x2) k a
      = stepA (k0_pay6 x0 (Blk.kt x1 k.val hk)) (vtile (Blk.vt x2 k.val hk)) a := by
  rw [← far_eq, ← load_kt arg4 harg4 x1 k.val hk (k0_off1 i k) (off1 i k) (k0_off1_inb i k), ← load_vt arg5 harg5 x2 k.val hk (k0_off2 i k) (off2 i k) (k0_off2_inb i k)]
  unfold tripR_k0_t1
  delta trip_k0_t1
  rfl

theorem trip3 (k : Fin (k0_t3_loop i).trips) (hk : (i 2).val - 1 < 8) (a : T3) :
    tripR_k0_t3 (F := Ideal) Variants.none c none i arg3 harg3 arg4 harg4 arg5 harg5 arg6 harg6 arg7 harg7 arg8 harg8 arg9 harg9 x0 (harg4.unread x1) (harg5.unread x2) (harg6.unread x3) k a
      = stepA (k0_pay18 x0 (Blk.tt x3 1) (Blk.kt x1 ((i 2).val - 1) hk)) (vtile (Blk.vt x2 ((i 2).val - 1) hk)) a := by
  rw [← near_eq, ← load_kt arg4 harg4 x1 ((i 2).val - 1) hk (k0_off5 i k) (off5 i k) (k0_off5_inb i k), ← load_vt arg5 harg5 x2 ((i 2).val - 1) hk (k0_off6 i k) (off6 i k) (k0_off6_inb i k),
    ← load_tt arg6 harg6 x3 1 inb_S1x2x1024x512_S1x1x1024x512_0_1_0_0]
  unfold tripR_k0_t3
  delta trip_k0_t3
  rfl

/-- The carried values after each of the four loops. -/
def s1 (v0 : Vec Ideal S1x512x128 .f32) : T3 :=
  st_k0_t1 (F := Ideal) Variants.none c none i arg3 harg3 arg4 harg4 arg5 harg5 arg6 harg6 arg7 harg7 arg8 harg8 arg9 harg9 v0 (harg4.unread x1) (harg5.unread x2)
    (k0_pay3 (F := Ideal), k0_pay4 (F := Ideal), k0_pay5 (F := Ideal)) (Scf.trips (k0_t1_loop i).lb (k0_t1_loop i).ub (k0_t1_loop i).st)
def s2 (v0 : Vec Ideal S1x512x128 .f32) : T3 :=
  st_k0_t2 (F := Ideal) Variants.none c none i arg3 harg3 arg4 harg4 arg5 harg5 arg6 harg6 arg7 harg7 arg8 harg8 arg9 harg9 v0 (harg4.unread x1) (harg5.unread x2)
    ((s1 c i arg3 harg3 arg4 harg4 arg5 harg5 arg6 harg6 arg7 harg7 arg8 harg8 arg9 harg9 x1 x2 v0).1, (s1 c i arg3 harg3 arg4 harg4 arg5 harg5 arg6 harg6 arg7 harg7 arg8 harg8 arg9 harg9 x1 x2 v0).2.1, (s1 c i arg3 harg3 arg4 harg4 arg5 harg5 arg6 harg6 arg7 harg7 arg8 harg8 arg9 harg9 x1 x2 v0).2.2) (Scf.trips (k0_t2_loop i).lb (k0_t2_loop i).ub (k0_t2_loop i).st)
def s3 (v0 : Vec Ideal S1x512x128 .f32) : T3 :=
  st_k0_t3 (F := Ideal) Variants.none c none i arg3 harg3 arg4 harg4 arg5 harg5 arg6 harg6 arg7 harg7 arg8 harg8 arg9 harg9 v0 (harg4.unread x1) (harg5.unread x2) (harg6.unread x3)
    ((s2 c i arg3 harg3 arg4 harg4 arg5 harg5 arg6 harg6 arg7 harg7 arg8 harg8 arg9 harg9 x1 x2 v0).1, (s2 c i arg3 harg3 arg4 harg4 arg5 harg5 arg6 harg6 arg7 harg7 arg8 harg8 arg9 harg9 x1 x2 v0).2.1, (s2 c i arg3 harg3 arg4 harg4 arg5 harg5 arg6 harg6 arg7 harg7 arg8 harg8 arg9 harg9 x1 x2 v0).2.2) (Scf.trips (k0_t3_loop i).lb (k0_t3_loop i).ub (k0_t3_loop i).st)
def s4 (v0 : Vec Ideal S1x512x128 .f32) : T3 :=
  st_k0_t4 (F := Ideal) Variants.none c none i arg3 harg3 arg4 harg4 arg5 harg5 arg6 harg6 arg7 harg7 arg8 harg8 arg9 harg9 v0 (harg4.unread x1) (harg5.unread x2) (harg6.unread x3)
    ((s3 c i arg3 harg3 arg4 harg4 arg5 harg5 arg6 harg6 arg7 harg7 arg8 harg8 arg9 harg9 x1 x2 x3 v0).1, (s3 c i arg3 harg3 arg4 harg4 arg5 harg5 arg6 harg6 arg7 harg7 arg8 harg8 arg9 harg9 x1 x2 x3 v0).2.1, (s3 c i arg3 harg3 arg4 harg4 arg5 harg5 arg6 harg6 arg7 harg7 arg8 harg8 arg9 harg9 x1 x2 x3 v0).2.2) (Scf.trips (k0_t4_loop i).lb (k0_t4_loop i).ub (k0_t4_loop i).st)

theorem hz2 : (![0, 0] : Fin 2 → Nat) = fun _ => 0 := funext fun a => by fin_cases a <;> rfl
theorem hz3 : (![0, 0, 0] : Fin 3 → Nat) = fun _ => 0 := funext fun a => by fin_cases a <;> rfl

section
attribute [local irreducible] st_k0_t1 st_k0_t2 st_k0_t3 st_k0_t4

theorem carried1 : kernelRun0_A.sl.r_1 (F := Ideal) c i arg3 harg3 arg4 harg4 arg5 harg5 arg6 harg6 arg7 harg7 arg8 harg8 arg9 harg9 x0 x1 x2 x3
      = (s4 c i arg3 harg3 arg4 harg4 arg5 harg5 arg6 harg6 arg7 harg7 arg8 harg8 arg9 harg9 x1 x2 x3 (View.readAt (Elt Ideal) arg3.view (Rect.unit (s := S1x512x128) ![0, 0, 0] S1x512x128.size inb_S1x512x128_S1x512x128_0_0_0).toLoadRect (harg3.unread x0))).1 := by
  delta kernelRun0_A.sl.r_1 s4 s3 s2 s1
  rfl
theorem carried2 : kernelRun0_A.sl.r_2 (F := Ideal) c i arg3 harg3 arg4 harg4 arg5 harg5 arg6 harg6 arg7 harg7 arg8 harg8 arg9 harg9 x0 x1 x2 x3
      = (s4 c i arg3 harg3 arg4 harg4 arg5 harg5 arg6 harg6 arg7 harg7 arg8 harg8 arg9 harg9 x1 x2 x3 (View.readAt (Elt Ideal) arg3.view (Rect.unit (s := S1x512x128) ![0, 0, 0] S1x512x128.size inb_S1x512x128_S1x512x128_0_0_0).toLoadRect (harg3.unread x0))).2.1 := by
  delta kernelRun0_A.sl.r_2 s4 s3 s2 s1
  rfl
theorem carried3 : kernelRun0_A.sl.r_3 (F := Ideal) c i arg3 harg3 arg4 harg4 arg5 harg5 arg6 harg6 arg7 harg7 arg8 harg8 arg9 harg9 x0 x1 x2 x3
      = (s4 c i arg3 harg3 arg4 harg4 arg5 harg5 arg6 harg6 arg7 harg7 arg8 harg8 arg9 harg9 x1 x2 x3 (View.readAt (Elt Ideal) arg3.view (Rect.unit (s := S1x512x128) ![0, 0, 0] S1x512x128.size inb_S1x512x128_S1x512x128_0_0_0).toLoadRect (harg3.unread x0))).2.2 := by
  delta kernelRun0_A.sl.r_3 s4 s3 s2 s1
  rfl
end

/-- What the body leaves in the output's block: the last tile's step and what follows it. -/
theorem out_eq (hq : (i 2).val < 8) :
    out0_A_6 (F := Ideal) c i arg3 harg3 arg4 harg4 arg5 harg5 arg6 harg6 arg7 harg7 arg8 harg8 arg9 harg9 x0 x1 x2 x3 x4 x5
      = k0_pay1 (stepA (k0_pay30 (k0_pay2 x0) (Blk.tt x3 0) (Blk.kt x1 (i 2).val hq)) (vtile (Blk.vt x2 (i 2).val hq)) (s4 c i arg3 harg3 arg4 harg4 arg5 harg5 arg6 harg6 arg7 harg7 arg8 harg8 arg9 harg9 x1 x2 x3 x0)).2.1
          (stepA (k0_pay30 (k0_pay2 x0) (Blk.tt x3 0) (Blk.kt x1 (i 2).val hq)) (vtile (Blk.vt x2 (i 2).val hq)) (s4 c i arg3 harg3 arg4 harg4 arg5 harg5 arg6 harg6 arg7 harg7 arg8 harg8 arg9 harg9 x1 x2 x3 x0)).2.2 x4 x5 := by
  have e0 : View.readAt (Elt Ideal) arg3.view (Rect.unit (s := S1x512x128) ![0, 0, 0] S1x512x128.size inb_S1x512x128_S1x512x128_0_0_0).toLoadRect (harg3.unread x0) = x0 := by
    simp only [View.readAt_eq_ld, harg3.read_unread, View.ld_unit_zero (S := S1x512x128) hz3]
  have e4 : View.readAt (Elt Ideal) arg7.view (Rect.unit (s := S4x64) ![0, 0] S4x64.size inb_S4x64_S4x64_0_0).toLoadRect (harg7.unread x4) = x4 := by
    simp only [View.readAt_eq_ld, harg7.read_unread, View.ld_unit_zero (S := S4x64) hz2]
  have e5 : View.readAt (Elt Ideal) arg8.view (Rect.unit (s := S1x128) ![0, 0] S1x128.size inb_S1x128_S1x128_0_0).toLoadRect (harg8.unread x5) = x5 := by
    simp only [View.readAt_eq_ld, harg8.read_unread, View.ld_unit_zero (S := S1x128) hz2]
  have key : out0_A_6 (F := Ideal) c i arg3 harg3 arg4 harg4 arg5 harg5 arg6 harg6 arg7 harg7 arg8 harg8 arg9 harg9 x0 x1 x2 x3 x4 x5
      = (fun v0 t k v lam g => k0_pay1 (k0_pay34 (k0_pay2 v0) (s4 c i arg3 harg3 arg4 harg4 arg5 harg5 arg6 harg6 arg7 harg7 arg8 harg8 arg9 harg9 x1 x2 x3 v0).1 (s4 c i arg3 harg3 arg4 harg4 arg5 harg5 arg6 harg6 arg7 harg7 arg8 harg8 arg9 harg9 x1 x2 x3 v0).2.1 t k) (k0_pay35 (k0_pay2 v0) (s4 c i arg3 harg3 arg4 harg4 arg5 harg5 arg6 harg6 arg7 harg7 arg8 harg8 arg9 harg9 x1 x2 x3 v0).1 (s4 c i arg3 harg3 arg4 harg4 arg5 harg5 arg6 harg6 arg7 harg7 arg8 harg8 arg9 harg9 x1 x2 x3 v0).2.2 t k v) lam g)
        (View.readAt (Elt Ideal) arg3.view (Rect.unit (s := S1x512x128) ![0, 0, 0] S1x512x128.size inb_S1x512x128_S1x512x128_0_0_0).toLoadRect (harg3.unread x0))
        (View.readAt (Elt Ideal) arg6.view (Rect.unit (s := S1x2x1024x512) ![0, (0 : Fin 2).val, 0, 0] S1x1x1024x512.size inb_S1x2x1024x512_S1x1x1024x512_0_0_0_0).toLoadRect (harg6.unread x3))
        (View.readAt (Elt Ideal) arg4.view (Rect.unit (s := S1x128x4096) (k0_off9 i) S1x128x512.size (k0_off9_inb i)).toLoadRect (harg4.unread x1))
        (View.readAt (Elt Ideal) arg5.view (Rect.unit (s := S1x4096x128) (k0_off10 i) S1x512x128.size (k0_off10_inb i)).toLoadRect (harg5.unread x2))
        (View.readAt (Elt Ideal) arg7.view (Rect.unit (s := S4x64) ![0, 0] S4x64.size inb_S4x64_S4x64_0_0).toLoadRect (harg7.unread x4))
        (View.readAt (Elt Ideal) arg8.view (Rect.unit (s := S1x128) ![0, 0] S1x128.size inb_S1x128_S1x128_0_0).toLoadRect (harg8.unread x5)) := by
    unfold out0_A_6
    rw [View.read_writes_eq_canon _ _ _ (cover0_A_6 c _ _ _ _ _ _ _ _ _ _ _ _ _ _ _ _ _ _ _ _ _)]
    unfold kernelRun0_A
    dsimp only
    rw [View.canon_unit_zero hz3]
    unfold kernelRun0_A.sl.r_4 kernelRun0_A.sl.r_5
    rw [carried1, carried2, carried3]
    rfl
  rw [key]
  dsimp only
  rw [e0, load_tt arg6 harg6 x3 0, load_kt arg4 harg4 x1 (i 2).val hq _ (off9 i), load_vt arg5 harg5 x2 (i 2).val hq _ (off10 i), e4, e5]
  rfl

end Cert.Proof.DiffValue

end
-- ==== Proof.DiffOut.lean ====
/- The differential attention of the kernel: the array the run leaves, as the softmax of the scores over the positions up to a row's own. -/
module

public import proofs.«01_k».proof.Defs
public import proofs.«01_k».proof.Proof.DiffStep
public import proofs.«01_k».proof.Proof.DiffValue
public import proofs.«01_k».proof.Proof.Gen.DiffIdeal.Value

@[expose] public section

noncomputable section

namespace Cert.Proof.DiffOut

open Cert.DiffIdeal Cert.DiffIdeal.Gen Idealize.ShloMosaic Idealize.ShloMosaic.TcCoe Idealize.SL.Sem
open Idealize.ShloMosaic.ValueIdx Cert.Proof.Common Cert.Proof.DiffMath Cert.Proof.DiffStep Cert.Proof.DiffHost Cert.Proof.DiffValue
open Idealize.ShloMosaic.Pipeline (Dat)

/-! ## The loops keep the sums -/

section
variable (c : Dev nD) (i : grid0.Coords)
  (arg3 : Memref sig .tc .vmem S1x512x128 .f32) (harg3 : arg3.IsWhole) (arg4 : Memref sig .tc .vmem S1x128x4096 .f32) (harg4 : arg4.IsWhole)
  (arg5 : Memref sig .tc .vmem S1x4096x128 .f32) (harg5 : arg5.IsWhole) (arg6 : Memref sig .tc .vmem S1x2x1024x512 .f32) (harg6 : arg6.IsWhole)
  (arg7 : Memref sig .tc .vmem S4x64 .f32) (harg7 : arg7.IsWhole) (arg8 : Memref sig .tc .vmem S1x128 .f32) (harg8 : arg8.IsWhole)
  (arg9 : Memref sig .tc .vmem S1x512x128 .f32) (harg9 : arg9.IsWhole)
  (x0 : Vec Ideal S1x512x128 .f32) (x1 : Vec Ideal S1x128x4096 .f32) (x2 : Vec Ideal S1x4096x128 .f32) (x3 : Vec Ideal S1x2x1024x512 .f32)
  (x4 : Vec Ideal S4x64 .f32) (x5 : Vec Ideal S1x128 .f32)
  (D : Blk) (hD : D.q = (i 2).val)
  (h0 : ∀ i d, x0 (ix3 0 i d) = ((D.Q i d : ℝ) : EReal)) (h1 : ∀ d (j : Fin 4096), x1 (ix3 0 d j) = ((D.K d j.val : ℝ) : EReal))
  (h2 : ∀ (j : Fin 4096) e, x2 (ix3 0 j e) = ((D.V j.val e : ℝ) : EReal)) (h3 : ∀ o u i b, x3 (ix4 0 o (hi u i) b) = ((D.T o u i b : ℝ) : EReal))

include hD h0 h1 h2 in
theorem inv1 (n : ℕ) (hn : n ≤ D.q - 1) :
    Inv (st_k0_t1 (F := Ideal) Variants.none c none i arg3 harg3 arg4 harg4 arg5 harg5 arg6 harg6 arg7 harg7 arg8 harg8 arg9 harg9 x0 (harg4.unread x1) (harg5.unread x2) (k0_pay3 (F := Ideal), k0_pay4 (F := Ideal), k0_pay5 (F := Ideal)) n) (D.L n) (D.W n) := by
  have hq := D.hq
  induction n with
  | zero => exact D.init
  | succ n ih =>
    have ht : n < (k0_t1_loop i).trips := by rw [trips1, ← hD]; omega
    have e := st_k0_t1_succ (F := Ideal) Variants.none c none i arg3 harg3 arg4 harg4 arg5 harg5 arg6 harg6 arg7 harg7 arg8 harg8 arg9 harg9 x0 (harg4.unread x1) (harg5.unread x2) (k0_pay3 (F := Ideal), k0_pay4 (F := Ideal), k0_pay5 (F := Ideal)) ⟨n, ht⟩
    rw [trip1 c i arg3 harg3 arg4 harg4 arg5 harg5 arg6 harg6 arg7 harg7 arg8 harg8 arg9 harg9 x0 x1 x2 ⟨n, ht⟩ (by show n < 8; omega)] at e
    rw [e]
    exact D.far x0 x1 x2 h0 h1 h2 n (by omega) (by omega) (ih (by omega))

include hD h0 h1 h2 h3 in
/-- After the four loops the carried values hold the sums over the tiles below the diagonal. -/
theorem inv4 : Inv (s4 c i arg3 harg3 arg4 harg4 arg5 harg5 arg6 harg6 arg7 harg7 arg8 harg8 arg9 harg9 x1 x2 x3 x0) (D.L D.q) (D.W D.q) := by
  have hq := D.hq
  have i1 : Inv (s1 c i arg3 harg3 arg4 harg4 arg5 harg5 arg6 harg6 arg7 harg7 arg8 harg8 arg9 harg9 x1 x2 x0) (D.L (D.q - 1)) (D.W (D.q - 1)) := by
    unfold s1
    rw [show Scf.trips (k0_t1_loop i).lb (k0_t1_loop i).ub (k0_t1_loop i).st = D.q - 1 from (trips1 i).trans (by rw [hD])]
    exact inv1 c i arg3 harg3 arg4 harg4 arg5 harg5 arg6 harg6 arg7 harg7 arg8 harg8 arg9 harg9 x0 x1 x2 D hD h0 h1 h2 _ le_rfl
  have e2 : s2 c i arg3 harg3 arg4 harg4 arg5 harg5 arg6 harg6 arg7 harg7 arg8 harg8 arg9 harg9 x1 x2 x0 = s1 c i arg3 harg3 arg4 harg4 arg5 harg5 arg6 harg6 arg7 harg7 arg8 harg8 arg9 harg9 x1 x2 x0 := by
    conv_lhs => unfold s2
    rw [show Scf.trips (k0_t2_loop i).lb (k0_t2_loop i).ub (k0_t2_loop i).st = 0 from trips2 i]
    exact st_k0_t2_zero ..
  have e4 : s4 c i arg3 harg3 arg4 harg4 arg5 harg5 arg6 harg6 arg7 harg7 arg8 harg8 arg9 harg9 x1 x2 x3 x0 = s3 c i arg3 harg3 arg4 harg4 arg5 harg5 arg6 harg6 arg7 harg7 arg8 harg8 arg9 harg9 x1 x2 x3 x0 := by
    conv_lhs => unfold s4
    rw [show Scf.trips (k0_t4_loop i).lb (k0_t4_loop i).ub (k0_t4_loop i).st = 0 from trips4 i]
    exact st_k0_t4_zero ..
  rw [← e2] at i1
  rw [e4]
  unfold s3
  rw [show Scf.trips (k0_t3_loop i).lb (k0_t3_loop i).ub (k0_t3_loop i).st = min D.q 1 from (trips3 i).trans (by rw [hD])]
  by_cases h : D.q = 0
  · rw [h] at i1 ⊢
    rw [show min 0 1 = 0 from rfl]
    have e := st_k0_t3_zero (F := Ideal) Variants.none c none i arg3 harg3 arg4 harg4 arg5 harg5 arg6 harg6 arg7 harg7 arg8 harg8 arg9 harg9 x0 (harg4.unread x1) (harg5.unread x2) (harg6.unread x3) (s2 c i arg3 harg3 arg4 harg4 arg5 harg5 arg6 harg6 arg7 harg7 arg8 harg8 arg9 harg9 x1 x2 x0)
    exact cast (congrArg (fun a : T3 => Inv a (D.L 0) (D.W 0)) e.symm) i1
  · rw [show min D.q 1 = 0 + 1 from by omega]
    have ht : 0 < (k0_t3_loop i).trips := by rw [trips3, ← hD]; omega
    have e := st_k0_t3_succ (F := Ideal) Variants.none c none i arg3 harg3 arg4 harg4 arg5 harg5 arg6 harg6 arg7 harg7 arg8 harg8 arg9 harg9 x0 (harg4.unread x1) (harg5.unread x2) (harg6.unread x3) (s2 c i arg3 harg3 arg4 harg4 arg5 harg5 arg6 harg6 arg7 harg7 arg8 harg8 arg9 harg9 x1 x2 x0) ⟨0, ht⟩
    rw [trip3 c i arg3 harg3 arg4 harg4 arg5 harg5 arg6 harg6 arg7 harg7 arg8 harg8 arg9 harg9 x0 x1 x2 x3 ⟨0, ht⟩ (by omega)] at e
    refine cast (congrArg₂ (fun (a : T3) (n : ℕ) => Inv a (D.L n) (D.W n)) e.symm (show D.q - 1 + 1 = D.q from by omega)) ?_
    have key : ∀ n (hn : n < 8), n = D.q - 1 → Inv (stepA (k0_pay18 x0 (Blk.tt x3 1) (Blk.kt x1 n hn)) (vtile (Blk.vt x2 n hn)) (s2 c i arg3 harg3 arg4 harg4 arg5 harg5 arg6 harg6 arg7 harg7 arg8 harg8 arg9 harg9 x1 x2 x0)) (D.L (D.q - 1 + 1)) (D.W (D.q - 1 + 1)) := by
      rintro n hn rfl
      exact D.near x0 x1 x2 x3 h0 h1 h2 h3 (D.q - 1) hn (by omega) i1
    exact key _ _ (by rw [hD])

include hD h0 h1 h2 h3 in
/-- What a point leaves in its block: the two maps' quotients combined and normed. -/
theorem out_apply (r : Fin 512) (e : Fin 128) (hL : ∀ u, 0 < D.L (D.q + 1) (hi u r)) :
    out0_A_6 (F := Ideal) c i arg3 harg3 arg4 harg4 arg5 harg5 arg6 harg6 arg7 harg7 arg8 harg8 arg9 harg9 x0 x1 x2 x3 x4 x5 (ix3 0 r e)
      = rmsn (fun e => ((D.W (D.q + 1) (hi 0 r) e / D.L (D.q + 1) (hi 0 r) : ℝ) : EReal)
          - lamE (fun n k => x4 (ix2 n k)) * ((D.W (D.q + 1) (hi 1 r) e / D.L (D.q + 1) (hi 1 r) : ℝ) : EReal)) (fun k => x5 (ix2 0 k)) e := by
  have hq : (i 2).val < 8 := by rw [← hD]; exact D.hq
  rw [out_eq c i arg3 harg3 arg4 harg4 arg5 harg5 arg6 harg6 arg7 harg7 arg8 harg8 arg9 harg9 x0 x1 x2 x3 x4 x5 hq, pay1_apply]
  have key : ∀ n (hn : n < 8), n = D.q → Inv (stepA (k0_pay30 (k0_pay2 x0) (Blk.tt x3 0) (Blk.kt x1 n hn)) (vtile (Blk.vt x2 n hn)) (s4 c i arg3 harg3 arg4 harg4 arg5 harg5 arg6 harg6 arg7 harg7 arg8 harg8 arg9 harg9 x1 x2 x3 x0)) (D.L (D.q + 1)) (D.W (D.q + 1)) := by
    rintro n hn rfl
    exact D.diag x0 x1 x2 x3 h0 h1 h2 h3 (inv4 c i arg3 harg3 arg4 harg4 arg5 harg5 arg6 harg6 arg7 harg7 arg8 harg8 arg9 harg9 x0 x1 x2 x3 D hD h0 h1 h2 h3)
  replace key := key _ hq hD.symm
  congr 1
  funext e
  rw [(key (hi 0 r) e).div (hL 0), (key (hi 1 r) e).div (hL 1)]

end

/-! ## The quotients -/

/-- The softmax over the positions up to `P` of the scores `sc`, applied to the values `v`. -/
def attn (P : ℕ) (sc v : ℕ → ℝ) : ℝ :=
  (∑ j ∈ Finset.range 4096, (if j ≤ P then Real.exp (sc j) else 0) * v j) / ∑ j ∈ Finset.range 4096, if j ≤ P then Real.exp (sc j) else 0

/-- The lane `d` of the map `u`. -/
abbrev ln (u : Fin 2) (d : Fin 64) : Fin 128 := ⟨u.val * 64 + d.val, by omega⟩

theorem dotR_eq (Q : Fin 512 → Fin 128 → ℝ) (u : Fin 2) (i : Fin 512) (k : Fin 128 → ℝ) :
    dotR Q u i k = ((∑ d : Fin 64, Q i (ln u d) * k (ln u d)) / 8) * il2 := by
  have e : dotR Q u i k = ∑ d : Fin 64, Q i (ln u d) * (1 / 8 * il2) * k (ln u d) := by
    unfold dotR
    have hs := Fin.sum_univ_add (a := 64) (b := 64) (fun d : Fin 128 => (if lane u d then Q i d * (1 / 8 * il2) else 0) * k d)
    refine hs.trans ?_
    by_cases hu : u.val = 0
    · rw [Finset.sum_eq_zero (f := fun d : Fin 64 => (if lane u (Fin.natAdd 64 d) then Q i (Fin.natAdd 64 d) * (1 / 8 * il2) else 0) * k (Fin.natAdd 64 d)), add_zero]
      · refine Finset.sum_congr rfl fun d _ => ?_
        have ed : (Fin.castAdd 64 d : Fin 128) = ln u d := Fin.ext (by show d.val = u.val * 64 + d.val; omega)
        rw [if_pos (show lane u (Fin.castAdd 64 d) from by show d.val < 64 ↔ _; simp [hu]), ed]
      · intro d _
        rw [if_neg (show ¬ lane u (Fin.natAdd 64 d) from by show ¬ (64 + d.val < 64 ↔ _); simp [hu]), zero_mul]
    · rw [Finset.sum_eq_zero (f := fun d : Fin 64 => (if lane u (Fin.castAdd 64 d) then Q i (Fin.castAdd 64 d) * (1 / 8 * il2) else 0) * k (Fin.castAdd 64 d)), zero_add]
      · refine Finset.sum_congr rfl fun d _ => ?_
        have ed : (Fin.natAdd 64 d : Fin 128) = ln u d := Fin.ext (by show 64 + d.val = u.val * 64 + d.val; omega)
        rw [if_pos (show lane u (Fin.natAdd 64 d) from by show 64 + d.val < 64 ↔ _; simp [hu]), ed]
      · intro d _
        rw [if_neg (show ¬ lane u (Fin.castAdd 64 d) from by show ¬ (d.val < 64 ↔ _); simp [hu]), zero_mul]
  rw [e, Finset.sum_div, Finset.sum_mul]
  refine Finset.sum_congr rfl fun d _ => ?_
  ring

theorem two_rpow (x : ℝ) : (2 : ℝ) ^ (x * il2) = Real.exp x := by
  rw [Real.rpow_def_of_pos two_pos]
  congr 1
  have : Real.log 2 ≠ 0 := (Real.log_pos one_lt_two).ne'
  unfold il2
  field_simp

theorem L_pos (D : Blk) (u : Fin 2) (r : Fin 512) : 0 < D.L (D.q + 1) (hi u r) := by
  unfold Blk.L
  rw [Blk.uo_hi, Blk.io_hi]
  refine Finset.sum_pos' (fun j _ => ?_) ⟨0, Finset.mem_range.2 (by omega), ?_⟩
  · unfold Blk.w; split
    · exact (Real.rpow_pos_of_pos two_pos _).le
    · exact le_rfl
  · unfold Blk.w; rw [if_pos (Nat.zero_le _)]; exact Real.rpow_pos_of_pos two_pos _

/-- The quotient of a block's sums is the softmax of scores that differ from the block's by a constant. -/
theorem quot_eq (D : Blk) (u : Fin 2) (r : Fin 512) (e : Fin 128) (sc : ℕ → ℝ) (κ : ℝ)
    (hs : ∀ j, j ≤ 512 * D.q + r.val → (∑ d : Fin 64, D.Q r (ln u d) * D.K (ln u d) j) / 8 + D.β u r j = sc j - κ) :
    D.W (D.q + 1) (hi u r) e / D.L (D.q + 1) (hi u r) = attn (512 * D.q + r.val) sc (fun j => D.V j e) := by
  have hq := D.hq
  have hw : ∀ j, D.w u r j = Real.exp (-κ) * (if j ≤ 512 * D.q + r.val then Real.exp (sc j) else 0) := fun j => by
    unfold Blk.w Blk.s
    by_cases h : j ≤ 512 * D.q + r.val
    · rw [if_pos h, if_pos h, dotR_eq, ← add_mul, two_rpow, hs j h, sub_eq_add_neg, Real.exp_add, mul_comm]
    · rw [if_neg h, if_neg h, mul_zero]
  have hr : ∀ f : ℕ → ℝ, (∀ j, ¬ j ≤ 512 * D.q + r.val → f j = 0) → ∑ j ∈ Finset.range (512 * (D.q + 1)), f j = ∑ j ∈ Finset.range 4096, f j := fun f hf =>
    Finset.sum_subset (Finset.range_subset_range.2 (by omega)) (fun j _ hj => hf j (by have := r.isLt; simp only [Finset.mem_range] at hj; omega))
  unfold Blk.W Blk.L attn
  rw [Blk.uo_hi, Blk.io_hi, hr _ (fun j h => by rw [hw, if_neg h, mul_zero, zero_mul]), hr _ (fun j h => by rw [hw, if_neg h, mul_zero])]
  simp only [hw, mul_assoc]
  rw [← Finset.mul_sum, ← Finset.mul_sum, mul_div_mul_left _ _ (Real.exp_pos _).ne']

end Cert.Proof.DiffOut

end
-- ==== Proof.DiffArr.lean ====
/- The differential attention of the kernel: the whole array the run leaves, as a function of the argument arrays. -/
module

public import proofs.«01_k».proof.Defs
public import proofs.«01_k».proof.Proof.DiffOut
public import Idealize.ShloMosaic.Lib.ReduceAll

@[expose] public section

noncomputable section

namespace Cert.Proof.DiffArr

open Cert.DiffIdeal Cert.DiffIdeal.Gen Idealize.ShloMosaic Idealize.ShloMosaic.TcCoe Idealize.SL.Sem
open Idealize.ShloMosaic.ValueIdx Cert.Proof.Common Cert.Proof.DiffMath Cert.Proof.DiffStep Cert.Proof.DiffHost Cert.Proof.DiffValue Cert.Proof.DiffOut
open Idealize.ShloMosaic.Pipeline (Dat)

/-! ## The array -/

/-- The column of lane `d` of head `h`. -/
abbrev col (h : Fin 8) (d : Fin 128) : Fin 1024 := ⟨h.val * 128 + d.val, by omega⟩
/-- The position `j`, of the 4096. -/
abbrev p4 (j : ℕ) : Fin 4096 := ⟨j % 4096, Nat.mod_lt _ (by norm_num)⟩
theorem p4_val (j : Fin 4096) : p4 j.val = j := Fin.ext (Nat.mod_eq_of_lt j.isLt)
/-- The bucket of the distance `n`. -/
def bk (n : ℕ) : Fin 32 := ⟨(bucket (BitVec.ofNat 32 n)).toNat % 32, Nat.mod_lt _ (by norm_num)⟩
/-- The bias table's column of head `h` of the map `u`. -/
abbrev hd (u : Fin 2) (h : Fin 8) : Fin 16 := ⟨u.val * 8 + h.val, by omega⟩

/-- The score of position `j` for row `t`: the scaled product of the map's lanes and the bias of the distance's bucket. -/
def score (A0 A1 : FVec Ideal S4x4096x1024 .f32) (R : FVec Ideal S32x16 .f32) (b : Fin 4) (h : Fin 8) (u : Fin 2) (t : Fin 4096) (j : ℕ) : ℝ :=
  (∑ d : Fin 64, (A0 (ix3 b t (col h (ln u d)))).toReal * (A1 (ix3 b (p4 j) (col h (ln u d)))).toReal) / 8
    + (R (ix2 (bk (t.val - j)) (hd u h))).toReal

/-- The first map's attention less `lam` times the second's, on lane `e`. -/
def comb (A0 A1 A2 : FVec Ideal S4x4096x1024 .f32) (R : FVec Ideal S32x16 .f32) (L : FVec Ideal S4x64 .f32) (b : Fin 4) (h : Fin 8) (t : Fin 4096) (e : Fin 128) : EReal :=
  ((attn t.val (score A0 A1 R b h 0 t) (fun j => (A2 (ix3 b (p4 j) (col h e))).toReal) : ℝ) : EReal)
    - lamE (fun n k => L (ix2 n k)) * ((attn t.val (score A0 A1 R b h 1 t) (fun j => (A2 (ix3 b (p4 j) (col h e))).toReal) : ℝ) : EReal)

/-- The result's element at row `t`, head `h`, lane `e`. -/
def result (A0 A1 A2 : FVec Ideal S4x4096x1024 .f32) (R : FVec Ideal S32x16 .f32) (L : FVec Ideal S4x64 .f32) (g : FVec Ideal S128 .f32) (b : Fin 4) (t : Fin 4096) (h : Fin 8) (e : Fin 128) : EReal :=
  rmsn (fun e => comb A0 A1 A2 R L b h t e) (fun k => g (ix1 k)) e

/-! ## What the precondition gives -/

theorem real_of {x w : EReal} (h : max x (-x) < w) : ((x.toReal : ℝ) : EReal) = x := by
  refine EReal.coe_toReal (fun e => ?_) (fun e => ?_) <;> subst e
  · exact not_top_lt (lt_of_le_of_lt (le_max_left _ _) h)
  · exact not_top_lt (lt_of_le_of_lt (le_max_right _ _) h)

theorem bound_of {x : EReal} {B : ℝ} (h : max x (-x) < (B : EReal)) : |x.toReal| < B := by
  have e := real_of h
  rw [← e, ← EReal.coe_neg] at h
  obtain ⟨h1, h2⟩ := max_lt_iff.1 h
  exact abs_lt.2 ⟨by have := EReal.coe_lt_coe_iff.1 h2; linarith, EReal.coe_lt_coe_iff.1 h1⟩

/-- The arguments are real numbers, and the queries, keys and biases are below a billion. -/
structure Moderate (A0 A1 A2 : FVec Ideal S4x4096x1024 .f32) (R : FVec Ideal S32x16 .f32) (L : FVec Ideal S4x64 .f32) : Prop where
  q : ∀ i, (((A0 i).toReal : ℝ) : EReal) = A0 i
  k : ∀ i, (((A1 i).toReal : ℝ) : EReal) = A1 i
  v : ∀ i, (((A2 i).toReal : ℝ) : EReal) = A2 i
  r : ∀ i, (((R i).toReal : ℝ) : EReal) = R i
  l : ∀ i, (((L i).toReal : ℝ) : EReal) = L i
  qb : ∀ i, |(A0 i).toReal| < 1000000000
  kb : ∀ i, |(A1 i).toReal| < 1000000000
  rb : ∀ i, |(R i).toReal| < 1000000000

theorem billion_val : (FloatOps.ofBits .f32 0x4E6E6B28#32 : Ideal .f32) = ((1000000000 : ℝ) : EReal) := by
  show Ideal.ofBits .f32 0x4E6E6B28#32 = _
  simp [Ideal.ofBits, Ideal.ieee, -EReal.coe_mul]; norm_num

theorem lt_of_cmpf {s : Shape} (A B : FVec Ideal s .f32) (i : s.Idx) (w : EReal) (hB : B i = w) (e : cmpf .olt (Host.absf A) B i = 1#1) : max (A i : EReal) (-(A i : EReal)) < w := by
  have e' : BitVec.ofBool (decide (max (A i : EReal) (-(A i : EReal)) < (B i : EReal))) = 1#1 := e
  rw [hB] at e'
  by_contra h
  rw [decide_eq_false h] at e'
  exact absurd e' (by decide)

theorem moderate_of [Cert.Pre_moderate.Facts] (A0 A1 A2 : FVec Ideal S4x4096x1024 .f32) (R : FVec Ideal S32x16 .f32) (L : FVec Ideal S4x64 .f32) (g : FVec Ideal S128 .f32)
    (h : Cert.Pre_moderate.fn (F := Ideal) A0 A1 A2 R L g = fun _ => 1#1) : Moderate A0 A1 A2 R L := by
  have h' := congrFun h ix0
  dsimp only [Cert.Pre_moderate.fn, Cert.Pre_moderate.fn_part1] at h'
  obtain ⟨h', hL⟩ := IntOp.andi_eq_one.1 h'
  obtain ⟨h', hR⟩ := IntOp.andi_eq_one.1 h'
  obtain ⟨h', h2⟩ := IntOp.andi_eq_one.1 h'
  obtain ⟨h0, h1⟩ := IntOp.andi_eq_one.1 h'
  have a0 : ∀ i, max (A0 i : EReal) (-(A0 i : EReal)) < ((1000000000 : ℝ) : EReal) := fun i => lt_of_cmpf _ _ i _ billion_val (Host.reduce_andi_all _ _ _ _ _ h0 i)
  have a1 : ∀ i, max (A1 i : EReal) (-(A1 i : EReal)) < ((1000000000 : ℝ) : EReal) := fun i => lt_of_cmpf _ _ i _ billion_val (Host.reduce_andi_all _ _ _ _ _ h1 i)
  have aR : ∀ i, max (R i : EReal) (-(R i : EReal)) < ((1000000000 : ℝ) : EReal) := fun i => lt_of_cmpf _ _ i _ billion_val (Host.reduce_andi_all _ _ _ _ _ hR i)
  exact ⟨fun i => real_of (a0 i), fun i => real_of (a1 i), fun i => real_of (lt_of_cmpf _ _ i _ rfl (Host.reduce_andi_all _ _ _ _ _ h2 i)), fun i => real_of (aR i),
    fun i => real_of (lt_of_cmpf _ _ i _ rfl (Host.reduce_andi_all _ _ _ _ _ hL i)), fun i => bound_of (a0 i), fun i => bound_of (a1 i), fun i => bound_of (aR i)⟩

/-! ## The buckets of the table's words -/

theorem word_sub (o : Fin 2) (i j : Fin 512) (h : j.val ≤ o.val * 512 + i.val) :
    BitVec.ofNat 32 o.val * 512#32 + BitVec.ofNat 32 i.val - BitVec.ofNat 32 j.val = BitVec.ofNat 32 (o.val * 512 + i.val - j.val) := by
  apply BitVec.eq_of_toNat_eq
  have := o.isLt
  simp only [BitVec.toNat_sub, BitVec.toNat_add, BitVec.toNat_mul, BitVec.toNat_ofNat]
  omega

theorem maxsi_neg (w : BitVec 32) (h : 2 ^ 31 ≤ w.toNat) : IntOp.maxsi w 0#32 = 0#32 := by
  have ht : w.toInt < 0 := by rw [BitVec.toInt_eq_toNat_cond, if_neg (by omega)]; have := w.isLt; omega
  unfold IntOp.maxsi
  rw [BitVec.slt_eq_decide, show (0#32).toInt = 0 from rfl, decide_eq_false (by omega)]
  rfl

theorem word_max (o : Fin 2) (i j : Fin 512) :
    ∃ n < 4096, IntOp.maxsi (BitVec.ofNat 32 o.val * 512#32 + BitVec.ofNat 32 i.val - BitVec.ofNat 32 j.val) 0#32 = BitVec.ofNat 32 n := by
  by_cases h : j.val ≤ o.val * 512 + i.val
  · exact ⟨o.val * 512 + i.val - j.val, by omega, by rw [word_sub o i j h]; exact maxsi_zero_ofNat _ (by omega)⟩
  · refine ⟨0, by omega, maxsi_neg _ ?_⟩
    have := o.isLt
    simp only [BitVec.toNat_sub, BitVec.toNat_add, BitVec.toNat_mul, BitVec.toNat_ofNat]
    omega

theorem bucket_word (w : BitVec 32) (h : (bucket w).toNat < 32) : bucket w = BitVec.ofNat 32 (bucket w).toNat :=
  (BitVec.ofNat_toNat 32 (bucket w)).symm ▸ by simp

theorem bk_word (n : ℕ) (hn : n < 4096) : bucket (BitVec.ofNat 32 n) = BitVec.ofNat 32 (bk n).val := by
  obtain ⟨h1, -⟩ := bucket_of (BitVec.ofNat 32 n) n hn (maxsi_zero_ofNat n hn)
  show _ = BitVec.ofNat 32 (_ % 32)
  rw [Nat.mod_eq_of_lt h1]
  exact bucket_word _ h1

theorem bk_far (n : ℕ) (hn : n < 4096) (h : 256 ≤ n) : bk n = 31 := by
  obtain ⟨-, h2⟩ := bucket_of (BitVec.ofNat 32 n) n hn (maxsi_zero_ofNat n hn)
  apply Fin.ext
  show (bucket (BitVec.ofNat 32 n)).toNat % 32 = 31
  rw [h2 h]
  rfl

/-! ## The blocks -/

theorem idx_facts : ∀ t : Fin cfg0.N,
    (win0_0.index t 0 = (grid0.coords t 0).val ∧ win0_0.index t 1 = (grid0.coords t 2).val ∧ win0_0.index t 2 = (grid0.coords t 1).val)
    ∧ (win0_1.index t 0 = (grid0.coords t 0).val ∧ win0_1.index t 1 = (grid0.coords t 1).val ∧ win0_1.index t 2 = 0)
    ∧ (win0_2.index t 0 = (grid0.coords t 0).val ∧ win0_2.index t 1 = 0 ∧ win0_2.index t 2 = (grid0.coords t 1).val)
    ∧ (win0_3.index t 0 = (grid0.coords t 1).val ∧ win0_3.index t 1 = 0 ∧ win0_3.index t 2 = 0 ∧ win0_3.index t 3 = 0)
    ∧ (win0_4.index t 0 = 0 ∧ win0_4.index t 1 = 0) ∧ (win0_5.index t 0 = 0 ∧ win0_5.index t 1 = 0)
    ∧ (win0_6.index t 0 = (grid0.coords t 0).val ∧ win0_6.index t 1 = (grid0.coords t 2).val ∧ win0_6.index t 2 = (grid0.coords t 1).val) :=
  (by decide +kernel : ∀ t : Fin grid0.N, _)

/-- Every triple of batch, head and tile is a point's. -/
theorem point_of (b : Fin 4) (h q : Fin 8) : ∃ t : Fin cfg0.N, (grid0.coords t 0).val = b.val ∧ (grid0.coords t 1).val = h.val ∧ (grid0.coords t 2).val = q.val :=
  ⟨⟨(b.val * 8 + h.val) * 8 + q.val, by have hN : cfg0.N = 256 := by decide
                                        omega⟩,
    (by decide +kernel : ∀ (b : Fin 4) (h q : Fin 8) (hh : (b.val * 8 + h.val) * 8 + q.val < grid0.N), (grid0.coords ⟨(b.val * 8 + h.val) * 8 + q.val, hh⟩ 0).val = b.val ∧ (grid0.coords ⟨(b.val * 8 + h.val) * 8 + q.val, hh⟩ 1).val = h.val ∧ (grid0.coords ⟨(b.val * 8 + h.val) * 8 + q.val, hh⟩ 2).val = q.val) b h q _⟩

variable (m : (ℓ : Loc nD τ sig) → Buf (Elt Ideal) ℓ)

abbrev A0 (c : Dev nD) : FVec Ideal S4x4096x1024 .f32 := m ((c : Thread nD τ).loc main_arg0)
abbrev A1 (c : Dev nD) : FVec Ideal S4x4096x1024 .f32 := m ((c : Thread nD τ).loc main_arg1)
abbrev A2 (c : Dev nD) : FVec Ideal S4x4096x1024 .f32 := m ((c : Thread nD τ).loc main_arg2)
abbrev A3 (c : Dev nD) : FVec Ideal S32x16 .f32 := m ((c : Thread nD τ).loc main_arg3)
abbrev A4 (c : Dev nD) : FVec Ideal S4x64 .f32 := m ((c : Thread nD τ).loc main_arg4)
abbrev A5 (c : Dev nD) : FVec Ideal S128 .f32 := m ((c : Thread nD τ).loc main_arg5)

/-- The row `i` of tile `q`. -/
abbrev row (q : Fin 8) (i : Fin 512) : Fin 4096 := ⟨512 * q.val + i.val, by omega⟩

section
variable (c : Dev nD) (t : Fin cfg0.N) (b : Fin 4) (h q : Fin 8)
  (hb : (grid0.coords t 0).val = b.val) (hh : (grid0.coords t 1).val = h.val) (hq : (grid0.coords t 2).val = q.val)

include hb hh hq in
theorem blk0 (i : Fin 512) (d : Fin 128) : iblk m c 0 t (ix3 0 i d) = A0 m c (ix3 b (row q i) (col h d)) := by
  obtain ⟨⟨e0, e1, e2⟩, -⟩ := idx_facts t
  unfold iblk
  rw [View.read_apply]
  show V m c main_arg0 _ = _
  rw [V_main_arg0]
  show m _ _ = m _ _
  congr 1
  funext a
  apply Fin.ext
  match a with
  | ⟨0, _⟩ => show win0_0.index t 0 * 1 + 1 * 0 = b.val; rw [e0, hb]; omega
  | ⟨1, _⟩ => show win0_0.index t 1 * 512 + 1 * i.val = 512 * q.val + i.val; rw [e1, hq]; omega
  | ⟨2, _⟩ => show win0_0.index t 2 * 128 + 1 * d.val = h.val * 128 + d.val; rw [e2, hh]; omega

include hb hh in
theorem blk1 (d : Fin 128) (j : Fin 4096) : iblk m c 1 t (ix3 0 d j) = A1 m c (ix3 b j (col h d)) := by
  obtain ⟨-, ⟨e0, e1, e2⟩, -⟩ := idx_facts t
  unfold iblk
  rw [View.read_apply]
  show V m c main_v0 _ = _
  rw [V_kt]
  refine transpose_apply _ _ transposes_S4x4096x1024_S4x1024x4096_0_2_1 _ (ix3 b j (col h d)) fun a => ?_
  match a with
  | ⟨0, _⟩ => show b.val = win0_1.index t 0 * 1 + 1 * 0; rw [e0, hb]; omega
  | ⟨1, _⟩ => show h.val * 128 + d.val = win0_1.index t 1 * 128 + 1 * d.val; rw [e1, hh]; omega
  | ⟨2, _⟩ => show j.val = win0_1.index t 2 * 4096 + 1 * j.val; rw [e2]; omega

include hb hh in
theorem blk2 (j : Fin 4096) (d : Fin 128) : iblk m c 2 t (ix3 0 j d) = A2 m c (ix3 b j (col h d)) := by
  obtain ⟨-, -, ⟨e0, e1, e2⟩, -⟩ := idx_facts t
  unfold iblk
  rw [View.read_apply]
  show V m c main_arg2 _ = _
  rw [V_main_arg2]
  show m _ _ = m _ _
  congr 1
  funext a
  apply Fin.ext
  match a with
  | ⟨0, _⟩ => show win0_2.index t 0 * 1 + 1 * 0 = b.val; rw [e0, hb]; omega
  | ⟨1, _⟩ => show win0_2.index t 1 * 4096 + 1 * j.val = j.val; rw [e1]; omega
  | ⟨2, _⟩ => show win0_2.index t 2 * 128 + 1 * d.val = h.val * 128 + d.val; rw [e2, hh]; omega

include hh in
theorem blk3 (o : Fin 2) (r : Fin 1024) (j : Fin 512) : iblk m c 3 t (ix4 0 o r j) = V m c main_v229 (ix4 h o r j) := by
  obtain ⟨-, -, -, ⟨e0, e1, e2, e3⟩, -⟩ := idx_facts t
  unfold iblk
  rw [View.read_apply]
  show V m c main_v229 _ = V m c main_v229 _
  congr 1
  funext a
  apply Fin.ext
  match a with
  | ⟨0, _⟩ => show win0_3.index t 0 * 1 + 1 * 0 = h.val; rw [e0, hh]; omega
  | ⟨1, _⟩ => show win0_3.index t 1 * 2 + 1 * o.val = o.val; rw [e1]; omega
  | ⟨2, _⟩ => show win0_3.index t 2 * 1024 + 1 * r.val = r.val; rw [e2]; omega
  | ⟨3, _⟩ => show win0_3.index t 3 * 512 + 1 * j.val = j.val; rw [e3]; omega

theorem blk4 (n : Fin 4) (k : Fin 64) : iblk m c 4 t (ix2 n k) = A4 m c (ix2 n k) := by
  obtain ⟨-, -, -, -, ⟨e0, e1⟩, -⟩ := idx_facts t
  unfold iblk
  rw [View.read_apply]
  show V m c main_arg4 _ = _
  rw [V_main_arg4]
  show m _ _ = m _ _
  congr 1
  funext a
  apply Fin.ext
  match a with
  | ⟨0, _⟩ => show win0_4.index t 0 * 4 + 1 * n.val = n.val; rw [e0]; omega
  | ⟨1, _⟩ => show win0_4.index t 1 * 64 + 1 * k.val = k.val; rw [e1]; omega

theorem blk5 (k : Fin 128) : iblk m c 5 t (ix2 0 k) = A5 m c (ix1 k) := by
  obtain ⟨-, -, -, -, -, ⟨e0, e1⟩, -⟩ := idx_facts t
  unfold iblk
  rw [View.read_apply]
  show V m c main_v230 _ = _
  rw [V_g]
  refine (congrArg _ (Shape.idx_ext₂ (y := ix2 (0 : Fin 1) k) ?_ ?_)).trans (shapeCast_apply _ _ _ (ix1 k) ?_)
  · show win0_5.index t 0 * 1 + 1 * 0 = 0; rw [e0]
  · show win0_5.index t 1 * 128 + 1 * k.val = k.val; rw [e1]; omega
  · rw [Shape.rowMajor_val_two, Shape.rowMajor_val_one]; show k.val = 0 * 128 + k.val; omega

end

/-! ## One block -/

section
variable (c : Dev nD) (b : Fin 4) (h q : Fin 8) (H : Moderate (A0 m c) (A1 m c) (A2 m c) (A3 m c) (A4 m c))

/-- The bias table's entry, with the far bucket's taken off. -/
def bias (u : Fin 2) (n : ℕ) : ℝ := (A3 m c (ix2 (bk n) (hd u h))).toReal - (A3 m c (ix2 31 (hd u h))).toReal

theorem sub_coe {x y : EReal} (hx : ((x.toReal : ℝ) : EReal) = x) (hy : ((y.toReal : ℝ) : EReal) = y) : x - y = ((x.toReal - y.toReal : ℝ) : EReal) := by
  rw [EReal.coe_sub, hx, hy]

include H in
theorem toe_real (o u : Fin 2) (i j : Fin 512) : (((V m c main_v229 (ix4 h o (hi u i) j) : EReal).toReal : ℝ) : EReal) = V m c main_v229 (ix4 h o (hi u i) j) := by
  obtain ⟨n, hn, hw⟩ := word_max o i j
  obtain ⟨h1, -⟩ := bucket_of _ n hn hw
  have e := toe_apply m c h o u i j (hi u i) rfl (hd u h) rfl ⟨_, h1⟩ (bucket_word _ h1)
  refine Eq.trans ?_ (e.trans (sub_coe (H.r _) (H.r _))).symm
  rw [e.trans (sub_coe (H.r _) (H.r _)), EReal.toReal_coe]

include H in
theorem toe_near (o u : Fin 2) (i j : Fin 512) (hj : j.val ≤ o.val * 512 + i.val) :
    (V m c main_v229 (ix4 h o (hi u i) j) : EReal).toReal = bias m c h u (o.val * 512 + i.val - j.val) := by
  have e := toe_apply m c h o u i j (hi u i) rfl (hd u h) rfl (bk (o.val * 512 + i.val - j.val)) (by rw [word_sub o i j hj]; exact bk_word _ (by omega))
  rw [e.trans (sub_coe (H.r _) (H.r _)), EReal.toReal_coe]
  rfl

/-- The block's real data. -/
def blk : Blk where
  Q := fun i d => (A0 m c (ix3 b (row q i) (col h d))).toReal
  K := fun d j => (A1 m c (ix3 b (p4 j) (col h d))).toReal
  V := fun j d => (A2 m c (ix3 b (p4 j) (col h d))).toReal
  T := fun o u i j => (V m c main_v229 (ix4 h o (hi u i) j) : EReal).toReal
  β := fun u i j => bias m c h u (512 * q.val + i.val - j)
  q := q.val
  hq := q.isLt
  hb0 := fun u i j hj => by
    rw [toe_near m c h H 0 u i j (by omega)]
    congr 1
    show 0 * 512 + i.val - j.val = _
    omega
  hb1 := fun hq u i j => by
    rw [toe_near m c h H 1 u i j (by show j.val ≤ 1 * 512 + i.val; omega)]
    congr 1
    show 1 * 512 + i.val - j.val = _
    omega
  hb2 := fun u i j hj => by
    show bias m c h u _ = 0
    unfold bias
    rw [bk_far _ (by omega) (by omega), sub_self]

variable (t : Fin cfg0.N) (hb : (grid0.coords t 0).val = b.val) (hh : (grid0.coords t 1).val = h.val) (hq : (grid0.coords t 2).val = q.val)

include hb hh hq H in
/-- The element a point leaves. -/
theorem outs_apply (i : Fin 512) (e : Fin 128) : outsAt0 m c t (ix3 0 i e) = result (A0 m c) (A1 m c) (A2 m c) (A3 m c) (A4 m c) (A5 m c) b (row q i) h e := by
  have key := out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)
    (blk m c b h q H) hq.symm
    (fun i d => (blk0 m c t b h q hb hh hq i d).trans (H.q _).symm)
    (fun d j => (blk1 m c t b h hb hh d j).trans ((H.k _).symm.trans (congrArg (fun z : Fin 4096 => (((A1 m c (ix3 b z (col h d))).toReal : ℝ) : EReal)) (p4_val j).symm)))
    (fun j e => (blk2 m c t b h hb hh j e).trans ((H.v _).symm.trans (congrArg (fun z : Fin 4096 => (((A2 m c (ix3 b z (col h e))).toReal : ℝ) : EReal)) (p4_val j).symm)))
    (fun o u i j => (blk3 m c t h hh o (hi u i) j).trans (toe_real m c h H o u i j).symm)
    i e (fun u => L_pos _ u i)
  refine Eq.trans ?_ (key.trans ?_)
  · rfl
  · unfold result
    have hg : (fun k => iblk m c 5 t (ix2 0 k)) = fun k => A5 m c (ix1 k) := funext fun k => blk5 m c t k
    have hl : (fun n k => iblk m c 4 t (ix2 n k)) = fun n k => A4 m c (ix2 n k) := funext fun n => funext fun k => blk4 m c t n k
    refine congrFun (congrArg₂ rmsn (funext fun e => ?_) hg) e
    unfold comb
    refine congrArg₂ (fun x y : EReal => x - y) ?_ (congrArg₂ (fun x y : EReal => x * y) (congrArg lamE hl) ?_)
    · exact congrArg _ (quot_eq (blk m c b h q H) 0 i e (score (A0 m c) (A1 m c) (A3 m c) b h 0 (row q i)) (A3 m c (ix2 31 (hd 0 h))).toReal (fun j _ => by
          unfold score; exact (add_sub_assoc _ _ _).symm))
    · exact congrArg _ (quot_eq (blk m c b h q H) 1 i e (score (A0 m c) (A1 m c) (A3 m c) b h 1 (row q i)) (A3 m c (ix2 31 (hd 1 h))).toReal (fun j _ => by
          unfold score; exact (add_sub_assoc _ _ _).symm))

end

/-! ## The array -/

/-- The array the run leaves. -/
def G6 (c : Dev nD) : FVec Ideal S4x4096x1024 .f32 := fun i =>
  result (A0 m c) (A1 m c) (A2 m c) (A3 m c) (A4 m c) (A5 m c) (i 0) (i 1)
    ⟨(i 2).val / 128, by have h1 : (i 2).val < 1024 := (i 2).isLt; omega⟩ ⟨(i 2).val % 128, Nat.mod_lt _ (by norm_num)⟩

section
variable (c : Dev nD) (H : Moderate (A0 m c) (A1 m c) (A2 m c) (A3 m c) (A4 m c))

include H in
theorem flushed6_eq (t : Fin cfg0.N) (hf : (cfg0.win 6).flush t = true) :
    (dats m 0 c).flushed 6 t = ((cfg0.win 6).blk t).view.read (Elt Ideal) (G6 m c) := by
  obtain ⟨-, -, -, -, -, -, ⟨e0, e1, e2⟩⟩ := idx_facts t
  obtain ⟨b, hb⟩ : ∃ b : Fin 4, (grid0.coords t 0).val = b.val := ⟨⟨(grid0.coords t 0).val, (grid0.coords t 0).isLt⟩, rfl⟩
  obtain ⟨h, hh⟩ : ∃ h : Fin 8, (grid0.coords t 1).val = h.val := ⟨⟨(grid0.coords t 1).val, (grid0.coords t 1).isLt⟩, rfl⟩
  obtain ⟨q, hq⟩ : ∃ q : Fin 8, (grid0.coords t 2).val = q.val := ⟨⟨(grid0.coords t 2).val, (grid0.coords t 2).isLt⟩, rfl⟩
  rw [Cert.DiffIdeal.Value.flushed6]
  funext j
  obtain ⟨z, i, e, rfl⟩ : ∃ (z : Fin 1) (i : Fin 512) (e : Fin 128), j = ix3 z i e := ⟨j 0, j 1, j 2, eq_ix3 j⟩
  obtain rfl : z = 0 := Subsingleton.elim _ _
  rw [View.read_apply]
  show outsAt0 m c t (ix3 0 i e) = G6 m c _
  rw [outs_apply m c b h q H t hb hh hq i e]
  have em : (((cfg0.win 6).blk t).view.emb (ix3 0 i e) : S4x4096x1024.Idx) = ix3 b (row q i) (col h e) := by
    funext a
    apply Fin.ext
    match a with
    | ⟨0, _⟩ => show win0_6.index t 0 * 1 + 1 * 0 = b.val; rw [e0, hb]; omega
    | ⟨1, _⟩ => show win0_6.index t 1 * 512 + 1 * i.val = 512 * q.val + i.val; rw [e1, hq]; omega
    | ⟨2, _⟩ => show win0_6.index t 2 * 128 + 1 * e.val = h.val * 128 + e.val; rw [e2, hh]; omega
  refine Eq.trans ?_ (congrArg (G6 m c) em).symm
  unfold G6
  congr 1
  · apply Fin.ext; show h.val = (h.val * 128 + e.val) / 128; omega
  · apply Fin.ext; show e.val = (h.val * 128 + e.val) % 128; omega

include H in
/-- Every element lies in some point's block, so the result is this array. -/
theorem final6 : (dats m 0 c).arrAt 6 cfg0.N = G6 m c :=
  (dats m 0 c).arrAt_eq_of_cover 6 (G6 m c) (flushed6_eq m c H) fun i => by
    have hi0 : (i 0).val < 4 := (i 0).isLt
    have hi1 : (i 1).val < 4096 := (i 1).isLt
    have hi2 : (i 2).val < 1024 := (i 2).isLt
    obtain ⟨t, hb, hh, hq⟩ := point_of ⟨(i 0).val, hi0⟩ ⟨(i 2).val / 128, by omega⟩ ⟨(i 1).val / 512, by omega⟩
    simp only at hb hh hq
    refine ⟨t, flush0_6 t, ?_⟩
    obtain ⟨-, -, -, -, -, -, ⟨e0, e1, e2⟩⟩ := idx_facts t
    show i ∈ ((View.whole main_v231).slice (win0_6.rect t)).set
    rw [View.set_slice_whole, Rect.mem_set_unit]
    intro a
    match a with
    | ⟨0, _⟩ => show win0_6.index t 0 * 1 ≤ (i 0).val ∧ (i 0).val < win0_6.index t 0 * 1 + 1; rw [e0, hb]; omega
    | ⟨1, _⟩ => show win0_6.index t 1 * 512 ≤ (i 1).val ∧ (i 1).val < win0_6.index t 1 * 512 + 512; rw [e1, hq]; omega
    | ⟨2, _⟩ => show win0_6.index t 2 * 128 ≤ (i 2).val ∧ (i 2).val < win0_6.index t 2 * 128 + 128; rw [e2, hh]; omega

end

end Cert.Proof.DiffArr

end
-- ==== Proof.DiffRefValue.lean ====
/- The reference's differential attention, element by element, and the claim that the kernel computes it. -/
module

public import proofs.«01_k».proof.Defs
public import proofs.«01_k».proof.Proof.DiffArr
public import proofs.«01_k».proof.Proof.Gen.DiffRefIdeal.Read

@[expose] public section

noncomputable section

namespace Cert.Proof.DiffRefValue

open Cert.DiffRefIdeal Cert.DiffRefIdeal.Gen Cert.DiffRefIdeal.Read Idealize.ShloMosaic Idealize.ShloMosaic.TcCoe Idealize.SL.Sem
open Idealize.ShloMosaic.ValueIdx Cert.Proof.Common Cert.Proof.DiffMath Cert.Proof.DiffValue Cert.Proof.DiffOut Cert.Proof.DiffArr

/-! ## The buckets -/

/-- The word of the distance from position `j` to row `t`. -/
theorem ref25 (t j : Fin 4096) : val_main_v25 (F := Ideal) (ix2 t j) = BitVec.ofNat 32 t.val - BitVec.ofNat 32 j.val := by
  rw [val_main_v25_apply, val_main_v23_apply, val_main_v24_apply, val_main_v21_apply, val_main_v22_apply, val_main_v20_apply, val_main_v20_apply]
  rfl

theorem ref48 (t j : Fin 4096) : val_main_v48 (F := Ideal) (ix2 t j) = bucket (BitVec.ofNat 32 t.val - BitVec.ofNat 32 j.val) := by
  rw [val_main_v48_apply, val_main_v47_apply, val_main_v45_apply, val_main_v43_apply, val_main_v41_apply, val_main_v40_apply, val_main_v38_apply,
    val_main_v36_apply, val_main_v35_apply, val_main_v33_apply, val_main_v32_apply, val_main_v30_apply, ref25]
  rfl

theorem word_of (t j : Fin 4096) (h : j.val ≤ t.val) : BitVec.ofNat 32 t.val - BitVec.ofNat 32 j.val = BitVec.ofNat 32 (t.val - j.val) := by
  apply BitVec.eq_of_toNat_eq
  simp only [BitVec.toNat_sub, BitVec.toNat_ofNat]
  omega

theorem ref54 (t j : Fin 4096) (h : j.val ≤ t.val) : val_main_v54 (F := Ideal) (ix3 t j (0 : Fin 1)) = BitVec.ofNat 32 (bk (t.val - j.val)).val := by
  have e : val_main_v48 (F := Ideal) (ix2 t j) = BitVec.ofNat 32 (bk (t.val - j.val)).val := by
    rw [ref48, word_of t j h, bk_word _ (by omega)]
  rw [val_main_v54_apply, show idx_main_v54 (ix3 t j (0 : Fin 1)) = ix2 t j from Shape.idx_ext₂ rfl rfl, val_main_v53_apply, val_main_v50_apply, e]
  have hk := (bk (t.val - j.val)).isLt
  have hs : IntOp.cmpi .slt (BitVec.ofNat 32 (bk (t.val - j.val)).val) (val_main_v49 (F := Ideal) (ix2 t j)) = 0#1 := by
    rw [WordCmp.cmpi_slt_eq, toInt_small _ (by omega)]
    show BitVec.ofBool (decide (((bk (t.val - j.val)).val : ℤ) < 0)) = _
    rw [decide_eq_false (by omega)]
    rfl
  rw [hs]
  rfl

/-- The table's row the gather reads. -/
theorem ref55 (R : FVec Ideal S32x16 .f32) (t j : Fin 4096) (u : Fin 2) (h : Fin 8) (k : Fin 32)
    (hk : val_main_v54 (F := Ideal) (ix3 t j (0 : Fin 1)) = BitVec.ofNat 32 k.val) :
    val_main_v55 (F := Ideal) R (ix4 t j u h) = R (ix2 k (hd u h)) := by
  have e : val_main_v55 (F := Ideal) R (ix4 t j u h) = val_main_v3 (F := Ideal) R (ix3 k u h) := by
    unfold val_main_v55
    generalize val_main_v3 (F := Ideal) R = x
    generalize val_main_v54 (F := Ideal) = idx at hk
    unfold Host.gather
    congr 1
    funext a
    refine Fin.ext ?_
    have hkl := k.isLt
    match a with
    | ⟨0, _⟩ =>
      show GatherDims.start _ _ _ 0 + GatherDims.batchCoord _ _ 0 + GatherDims.offCoord _ _ 0 = k.val
      rw [GatherDims.batchCoord_eq_zero _ _ _ List.not_mem_nil,
        GatherDims.offCoord_eq_zero _ _ _ (fun h => ((GatherDims.mem_sKept _ _).mp h).1 (List.mem_singleton.mpr rfl))]
      unfold GatherDims.start
      rw [dif_pos (show (0 : Fin 3) ∈ gather_S32x2x8_S4096x4096x1_S4096x4096x2x8_23_0_n_n_0_2_128.startIndexMap from List.mem_singleton.mpr rfl)]
      have hsi : gather_S32x2x8_S4096x4096x1_S4096x4096x2x8_23_0_n_n_0_2_128.siIdx (ix4 t j u h) ⟨List.idxOf (0 : Fin 3) gather_S32x2x8_S4096x4096x1_S4096x4096x2x8_23_0_n_n_0_2_128.startIndexMap,
          List.idxOf_lt_length_iff.2 (List.mem_singleton.mpr rfl)⟩ = ix3 t j (0 : Fin 1) := by
        funext b; refine Fin.ext ?_
        match b with
        | ⟨0, _⟩ => rfl
        | ⟨1, _⟩ => rfl
        | ⟨2, _⟩ => rfl
      rw [hsi, hk, toInt_small _ (by omega)]
      show min ((k.val : ℤ).toNat) (32 - 1) + 0 + 0 = k.val
      omega
    | ⟨1, _⟩ =>
      show GatherDims.start _ _ _ 1 + GatherDims.batchCoord _ _ 1 + GatherDims.offCoord _ _ 1 = u.val
      rw [GatherDims.batchCoord_eq_zero _ _ _ List.not_mem_nil]
      unfold GatherDims.start GatherDims.offCoord
      rw [dif_neg (by decide), dif_pos (by decide)]
      show 0 + 0 + u.val = u.val
      omega
    | ⟨2, _⟩ =>
      show GatherDims.start _ _ _ 2 + GatherDims.batchCoord _ _ 2 + GatherDims.offCoord _ _ 2 = h.val
      rw [GatherDims.batchCoord_eq_zero _ _ _ List.not_mem_nil]
      unfold GatherDims.start GatherDims.offCoord
      rw [dif_neg (by decide), dif_pos (by decide)]
      show 0 + 0 + h.val = h.val
      omega
  rw [e, val_main_v3_apply]
  refine congrArg R (Shape.idx_ext₂ ?_ ?_)
  · show ((k.val * 2 + u.val) * 8 + h.val) / 16 = k.val; omega
  · show ((k.val * 2 + u.val) * 8 + h.val) % 16 = u.val * 8 + h.val; omega

/-! ## The scores -/

theorem eighth_val : (FloatOps.ofBits .f32 0x3E000000#32 : Ideal .f32) = ((1 / 8 : ℝ) : EReal) := by
  show Ideal.ofBits .f32 0x3E000000#32 = _
  simp [Ideal.ofBits, Ideal.ieee, -EReal.coe_mul]; norm_num

theorem split_idx (b : Fin 4) (t : Fin 4096) (h : Fin 8) (u : Fin 2) (k : Fin 64) : idx_main_v0 (ix5 b t h u k) = ix3 b t (col h (ln u k)) := by
  funext a
  apply Fin.ext
  match a with
  | ⟨0, _⟩ => show ((((b.val * 4096 + t.val) * 8 + h.val) * 2 + u.val) * 64 + k.val) / 4194304 = b.val; omega
  | ⟨1, _⟩ => show ((((b.val * 4096 + t.val) * 8 + h.val) * 2 + u.val) * 64 + k.val) / 1024 % 4096 = t.val; omega
  | ⟨2, _⟩ => show ((((b.val * 4096 + t.val) * 8 + h.val) * 2 + u.val) * 64 + k.val) % 1024 = h.val * 128 + (u.val * 64 + k.val); omega

section
variable (A0 A1 A2 : FVec Ideal S4x4096x1024 .f32) (R : FVec Ideal S32x16 .f32) (L : FVec Ideal S4x64 .f32) (g : FVec Ideal S128 .f32)
  (H : Moderate A0 A1 A2 R L)

theorem ix5_eq {n0 n1 n2 n3 n4 : ℕ} (x : (⟨5, ![n0, n1, n2, n3, n4]⟩ : Shape).Idx) (a : Fin n0) (b : Fin n1) (c : Fin n2) (d : Fin n3) (e : Fin n4)
    (h0 : (x 0).val = a.val) (h1 : (x 1).val = b.val) (h2 : (x 2).val = c.val) (h3 : (x 3).val = d.val) (h4 : (x 4).val = e.val) : x = ix5 a b c d e := by
  funext i
  apply Fin.ext
  match i with
  | ⟨0, _⟩ => exact h0
  | ⟨1, _⟩ => exact h1
  | ⟨2, _⟩ => exact h2
  | ⟨3, _⟩ => exact h3
  | ⟨4, _⟩ => exact h4

include H in
theorem ref28 (b : Fin 4) (h : Fin 8) (u : Fin 2) (t j : Fin 4096) : val_main_v28 (F := Ideal) A0 A1 (ix5 b h u t j)
    = (((∑ d : Fin 64, (A0 (ix3 b t (col h (ln u d)))).toReal * (A1 (ix3 b j (col h (ln u d)))).toReal) / 8 : ℝ) : EReal) := by
  rw [val_main_v28_apply, Finset.sum_div, coe_sum]
  refine Finset.sum_congr rfl fun k _ => ?_
  rw [val_main_v27_apply, val_main_v0_apply, val_main_v1_apply, val_main_v26_apply, val_main_cst_2_apply, eighth_val,
    ix5_eq (lidx_main_v28 (ix5 b h u t j) k) b t h u k rfl rfl rfl rfl rfl, ix5_eq (ridx_main_v28 (ix5 b h u t j) k) b j h u k rfl rfl rfl rfl rfl, split_idx]
  have e1 : idx_main_v1 (ix5 b j h u k) = ix3 b j (col h (ln u k)) := split_idx b j h u k
  rw [e1]
  refine (congrArg₂ (fun x y : EReal => x * ((1 / 8 : ℝ) : EReal) * y) (H.q (ix3 b t (col h (ln u k)))).symm (H.k (ix3 b j (col h (ln u k)))).symm).trans ?_
  rw [← EReal.coe_mul, ← EReal.coe_mul]
  congr 1
  ring

theorem ref58 (b : Fin 4) (h : Fin 8) (u : Fin 2) (t j : Fin 4096) (hj : j.val ≤ t.val) :
    val_main_v58 (F := Ideal) R (ix5 b h u t j) = R (ix2 (bk (t.val - j.val)) (hd u h)) := by
  rw [val_main_v58_apply, val_main_v57_apply, val_main_v56_apply, ← ref55 R t j u h _ (ref54 t j hj)]
  congr 1
  funext a
  match a with
  | ⟨0, _⟩ => rfl
  | ⟨1, _⟩ => rfl
  | ⟨2, _⟩ => rfl
  | ⟨3, _⟩ => rfl

include H in
theorem ref59 (b : Fin 4) (h : Fin 8) (u : Fin 2) (t j : Fin 4096) (hj : j.val ≤ t.val) :
    val_main_v59 (F := Ideal) A0 A1 R (ix5 b h u t j) = ((score A0 A1 R b h u t j.val : ℝ) : EReal) := by
  rw [val_main_v59_apply, ref28 A0 A1 A2 R L H, ref58 R b h u t j hj]
  unfold score
  rw [p4_val, EReal.coe_add]
  exact congrArg _ (H.r _).symm

/-! ## The masked softmax -/

theorem mask_eq (t j : Fin 4096) : val_main_v61 (F := Ideal) (ix2 t j) = BitVec.ofBool (decide (j.val ≤ t.val)) := by
  rw [val_main_v61_apply, ref25, WordCmp.cmpi_sge_eq]
  show BitVec.ofBool (decide ((0#32).toInt ≤ _)) = _
  congr 1
  refine decide_eq_decide.2 ?_
  rw [show (0#32).toInt = 0 from rfl]
  by_cases h : j.val ≤ t.val
  · rw [word_of t j h, toInt_small _ (by omega)]
    omega
  · have e : (BitVec.ofNat 32 t.val - BitVec.ofNat 32 j.val).toNat = 2 ^ 32 - j.val + t.val := by
      simp only [BitVec.toNat_sub, BitVec.toNat_ofNat]
      omega
    rw [BitVec.toInt_eq_toNat_cond, e, if_neg (by omega)]
    omega

/-- The masked scores' value. -/
def low : ℝ := -(13234890 * 2 ^ 76)
theorem low_val : (FloatOps.ofBits .f32 0xF149F2CA#32 : Ideal .f32) = ((low : ℝ) : EReal) := by
  show Ideal.ofBits .f32 0xF149F2CA#32 = _
  unfold low
  simp [Ideal.ofBits, Ideal.ieee, -EReal.coe_mul, -EReal.coe_neg]
/-- The denominator's least value. -/
def least : ℝ := 10633824 / 2 ^ 123
theorem least_val : (FloatOps.ofBits .f32 0x0DA24260#32 : Ideal .f32) = ((least : ℝ) : EReal) := by
  show Ideal.ofBits .f32 0x0DA24260#32 = _
  unfold least
  simp [Ideal.ofBits, Ideal.ieee, -EReal.coe_mul]; norm_num

include H in
theorem low_lt (b : Fin 4) (h : Fin 8) (u : Fin 2) (t : Fin 4096) (j : ℕ) : low < score A0 A1 R b h u t j := by
  have h1 : |∑ d : Fin 64, (A0 (ix3 b t (col h (ln u d)))).toReal * (A1 (ix3 b (p4 j) (col h (ln u d)))).toReal| ≤ ∑ d : Fin 64, (1000000000 * 1000000000 : ℝ) :=
    (Finset.abs_sum_le_sum_abs _ _).trans (Finset.sum_le_sum fun d _ => by
      rw [abs_mul]
      exact mul_le_mul (H.qb _).le (H.kb _).le (abs_nonneg _) (by norm_num))
  have h2 := abs_lt.1 (H.rb (ix2 (bk (t.val - j)) (hd u h)))
  rw [Finset.sum_const, Finset.card_univ, Fintype.card_fin] at h1
  have h3 := (abs_le.1 h1).1
  unfold score low
  norm_num at h3 ⊢
  linarith [h2.1]

include H in
theorem ref62 (b : Fin 4) (h : Fin 8) (u : Fin 2) (t j : Fin 4096) : val_main_v62 (F := Ideal) A0 A1 R (ix5 b h u t j)
    = if j.val ≤ t.val then ((score A0 A1 R b h u t j.val : ℝ) : EReal) else ((low : ℝ) : EReal) := by
  rw [val_main_v62_apply, val_main_call1_v1_apply, show idx_main_call1_v1 (ix5 b h u t j) = ix2 t j from Shape.idx_ext₂ rfl rfl, mask_eq]
  by_cases hj : j.val ≤ t.val
  · rw [if_pos hj, decide_eq_true hj, ← ref59 A0 A1 A2 R L H b h u t j hj]
    rfl
  · rw [if_neg hj, decide_eq_false hj, ← low_val]
    exact (select_zero _ _).trans (by rw [val_main_call1_v2_apply]; rfl)

theorem ref63 (b : Fin 4) (h : Fin 8) (u : Fin 2) (t : Fin 4096) : val_main_v63 (F := Ideal) A0 A1 R (ix4 b h u t)
    = Finset.univ.fold max (⊥ : EReal) (fun j : Fin 4096 => val_main_v62 (F := Ideal) A0 A1 R (ix5 b h u t j)) := by
  unfold val_main_v63
  generalize val_main_v62 (F := Ideal) A0 A1 R = x
  refine (Host.reduce_eq_fold_single (FloatOps.maximumf (F := Ideal) (φ := .f32)) x _ reducesTo_S4x8x2x4096x4096_S4x8x2x4096_d4 (by decide) h_S_ (ix4 b h u t)).trans ?_
  rw [val_main_cst_14_apply, Cert.Proof.DiffStep.ninf_val]
  show Finset.univ.fold max (⊥ : EReal) (fun j : Fin 4096 => _) = _
  congr 1
  funext j
  exact congrArg x (ix5_eq _ b h u t j rfl rfl rfl rfl rfl)

theorem ref68 (b : Fin 4) (h : Fin 8) (u : Fin 2) (t j : Fin 4096) : val_main_v68 (F := Ideal) A0 A1 R (ix5 b h u t j)
    = if j.val ≤ t.val then Ideal.exp (val_main_v62 (F := Ideal) A0 A1 R (ix5 b h u t j)
        - Finset.univ.fold max (⊥ : EReal) (fun j : Fin 4096 => val_main_v62 (F := Ideal) A0 A1 R (ix5 b h u t j))) else (0 : EReal) := by
  rw [val_main_v68_apply, val_main_call2_v1_apply, show idx_main_call2_v1 (ix5 b h u t j) = ix2 t j from Shape.idx_ext₂ rfl rfl, mask_eq]
  by_cases hj : j.val ≤ t.val
  · rw [if_pos hj, decide_eq_true hj, val_main_v67_apply, val_main_v66_apply, val_main_v65_apply, val_main_v64_apply,
      show idx_main_v64 (idx_main_v65 (ix5 b h u t j)) = ix4 b h u t from by
        funext a
        match a with
        | ⟨0, _⟩ => rfl
        | ⟨1, _⟩ => rfl
        | ⟨2, _⟩ => rfl
        | ⟨3, _⟩ => rfl, ref63]
    rfl
  · rw [if_neg hj, decide_eq_false hj]
    refine (select_zero _ _).trans ?_
    rw [val_main_call2_v2_apply]
    exact Cert.Proof.DiffStep.zero_val

/-- A position's share of a row's weight. -/
def share (b : Fin 4) (h : Fin 8) (u : Fin 2) (t j : Fin 4096) : ℝ :=
  (if j.val ≤ t.val then Real.exp (score A0 A1 R b h u t j.val) else 0) / ∑ k : Fin 4096, if k.val ≤ t.val then Real.exp (score A0 A1 R b h u t k.val) else 0

include H in
theorem ref74 (b : Fin 4) (h : Fin 8) (u : Fin 2) (t j : Fin 4096) :
    val_main_v74 (F := Ideal) A0 A1 R (ix5 b h u t j) = ((share A0 A1 R b h u t j : ℝ) : EReal) := by
  rw [val_main_v74_apply, val_main_v73_apply, val_main_v72_apply, val_main_v70_apply, val_main_v69_apply, val_main_cst_16_apply, Cert.Proof.DiffStep.zero_val,
    val_main_v71_apply, val_main_cst_17_apply, least_val, zero_add]
  have hs := softmax_real (n := 4096) (fun j => j.val ≤ t.val) (fun j => score A0 A1 R b h u t j.val) low least (fun j _ => low_lt A0 A1 A2 R L H b h u t j.val) ⟨t, le_rfl⟩
    (by unfold least; norm_num) (fun j => val_main_v62 (F := Ideal) A0 A1 R (ix5 b h u t j)) (fun j => ref62 A0 A1 A2 R L H b h u t j)
    (fun j => val_main_v68 (F := Ideal) A0 A1 R (ix5 b h u t j)) (fun j => ref68 A0 A1 R b h u t j) j
  have hd : (∑ k : Fin 4096, val_main_v68 (F := Ideal) A0 A1 R (idx_main_v69 (idx_main_v70 (idx_main_v73 (ix5 b h u t j))) k) : EReal)
      = ∑ k : Fin 4096, val_main_v68 (F := Ideal) A0 A1 R (ix5 b h u t k) :=
    Finset.sum_congr rfl fun k _ => congrArg _ (ix5_eq _ b h u t k rfl rfl rfl rfl rfl)
  rw [hd]
  exact hs

/-! ## The combination -/

/-- The indices of a line of 64. -/
def line : Fin 64 ≃ S64.Idx where
  toFun := ix1
  invFun := fun x => x 0
  left_inv := fun _ => rfl
  right_inv := fun x => (eq_ix1 x).symm

theorem dot_line (x y : FVec Ideal S64 .f32) (n n' : Fin 4) (hx : ∀ k, x (ix1 k) = L (ix2 n k)) (hy : ∀ k, y (ix1 k) = L (ix2 n' k)) :
    @Eq EReal ((0 : EReal) + ∑ j : S64.Idx, mulf x y j) (∑ k : Fin 64, @HMul.hMul EReal EReal EReal _ (L (ix2 n k)) (L (ix2 n' k))) := by
  rw [zero_add, ← Equiv.sum_comp line]
  refine Finset.sum_congr rfl fun k _ => ?_
  show @HMul.hMul EReal EReal EReal _ (x (ix1 k)) (y (ix1 k)) = _
  rw [hx, hy]

theorem ref19 (i : S_.Idx) : val_main_v19 (F := Ideal) L i = lamE (fun n k => L (ix2 n k)) := by
  have l5 : ∀ k, val_main_v5 (F := Ideal) L (ix1 k) = L (ix2 0 k) := fun k => by
    rw [val_main_v5_apply, val_main_v4_apply]
    exact congrArg L (Shape.idx_ext₂ rfl (by show k.val % 64 = k.val; omega))
  have l7 : ∀ k, val_main_v7 (F := Ideal) L (ix1 k) = L (ix2 1 k) := fun k => by
    rw [val_main_v7_apply, val_main_v6_apply]
    exact congrArg L (Shape.idx_ext₂ rfl (by show k.val % 64 = k.val; omega))
  have l12 : ∀ k, val_main_v12 (F := Ideal) L (ix1 k) = L (ix2 2 k) := fun k => by
    rw [val_main_v12_apply, val_main_v11_apply]
    exact congrArg L (Shape.idx_ext₂ rfl (by show k.val % 64 = k.val; omega))
  have l14 : ∀ k, val_main_v14 (F := Ideal) L (ix1 k) = L (ix2 3 k) := fun k => by
    rw [val_main_v14_apply, val_main_v13_apply]
    exact congrArg L (Shape.idx_ext₂ rfl (by show k.val % 64 = k.val; omega))
  rw [val_main_v19_apply, val_main_v18_apply, val_main_v10_apply, val_main_v17_apply, val_main_v9_apply, val_main_v16_apply,
    val_main_cst_apply, val_main_cst_0_apply, Cert.Proof.DiffStep.zero_val]
  unfold lamE
  rw [← dot_line L _ _ 0 1 l5 l7, ← dot_line L _ _ 2 3 l12 l14]
  rfl

theorem ref81 (b : Fin 4) (h : Fin 8) (t j : Fin 4096) : val_main_v81 (F := Ideal) A0 A1 R L (ix4 b h t j)
    = @HSub.hSub EReal EReal EReal _ (val_main_v74 (F := Ideal) A0 A1 R (ix5 b h 0 t j))
        (@HMul.hMul EReal EReal EReal _ (lamE (fun n k => L (ix2 n k))) (val_main_v74 (F := Ideal) A0 A1 R (ix5 b h 1 t j))) := by
  have i0 : idx_main_v75 (idx_main_v76 (ix4 b h t j)) = ix5 b h 0 t j := ix5_eq _ b h 0 t j
    (by show (((b.val * 8 + h.val) * 4096 + t.val) * 4096 + j.val) / 134217728 = b.val; omega)
    (by show (((b.val * 8 + h.val) * 4096 + t.val) * 4096 + j.val) / 16777216 % 8 = h.val; omega) rfl
    (by show (((b.val * 8 + h.val) * 4096 + t.val) * 4096 + j.val) / 4096 % 4096 = t.val; omega)
    (by show (((b.val * 8 + h.val) * 4096 + t.val) * 4096 + j.val) % 4096 = j.val; omega)
  have i1 : idx_main_v77 (idx_main_v78 (ix4 b h t j)) = ix5 b h 1 t j := ix5_eq _ b h 1 t j
    (by show (((b.val * 8 + h.val) * 4096 + t.val) * 4096 + j.val) / 134217728 = b.val; omega)
    (by show (((b.val * 8 + h.val) * 4096 + t.val) * 4096 + j.val) / 16777216 % 8 = h.val; omega) rfl
    (by show (((b.val * 8 + h.val) * 4096 + t.val) * 4096 + j.val) / 4096 % 4096 = t.val; omega)
    (by show (((b.val * 8 + h.val) * 4096 + t.val) * 4096 + j.val) % 4096 = j.val; omega)
  rw [val_main_v81_apply, val_main_v76_apply, val_main_v75_apply, val_main_v80_apply, val_main_v78_apply, val_main_v77_apply, val_main_v79_apply, ref19, i0, i1]
  rfl

theorem lamC_val : lamC = ((11928905 / 2 ^ 25 : ℝ) : EReal) := by
  show Ideal.ofBits .f32 0x3EB60549#32 = _
  simp [Ideal.ofBits, Ideal.ieee, -EReal.coe_mul]; norm_num

include H in
theorem lam_real : ∃ l : ℝ, lamE (fun n k => L (ix2 n k)) = ((l : ℝ) : EReal) := by
  have hd : ∀ n n' : Fin 4, (∑ k : Fin 64, @HMul.hMul EReal EReal EReal _ (L (ix2 n k)) (L (ix2 n' k)))
      = ((∑ k : Fin 64, (L (ix2 n k)).toReal * (L (ix2 n' k)).toReal : ℝ) : EReal) := fun n n' => by
    rw [coe_sum]
    refine Finset.sum_congr rfl fun k _ => ?_
    rw [EReal.coe_mul, H.l, H.l]
  refine ⟨Real.exp (∑ k : Fin 64, (L (ix2 0 k)).toReal * (L (ix2 1 k)).toReal) - Real.exp (∑ k : Fin 64, (L (ix2 2 k)).toReal * (L (ix2 3 k)).toReal) + 11928905 / 2 ^ 25, ?_⟩
  unfold lamE
  rw [hd 0 1, hd 2 3, lamC_val]
  rfl

theorem attn_eq (b : Fin 4) (h : Fin 8) (u : Fin 2) (t : Fin 4096) (v : ℕ → ℝ) :
    attn t.val (score A0 A1 R b h u t) v = ∑ k : Fin 4096, v k.val * share A0 A1 R b h u t k := by
  unfold attn share
  rw [Finset.sum_range, Finset.sum_range, Finset.sum_div]
  refine Finset.sum_congr rfl fun k _ => ?_
  ring

include H in
theorem ref83 (b : Fin 4) (h : Fin 8) (t : Fin 4096) (e : Fin 128) :
    val_main_v83 (F := Ideal) A0 A1 A2 R L (ix4 b t h e) = comb A0 A1 A2 R L b h t e := by
  obtain ⟨l, hl⟩ := lam_real A0 A1 A2 R L H
  rw [val_main_v83_apply, show idx_main_v83 (ix4 b t h e) = ix4 b h e t from by
    funext a
    match a with
    | ⟨0, _⟩ => rfl
    | ⟨1, _⟩ => rfl
    | ⟨2, _⟩ => rfl
    | ⟨3, _⟩ => rfl, val_main_v82_apply]
  unfold comb
  rw [hl, attn_eq, attn_eq, ← EReal.coe_mul, ← EReal.coe_sub, Finset.mul_sum, ← Finset.sum_sub_distrib, coe_sum]
  refine Finset.sum_congr rfl fun k _ => ?_
  have er : ridx_main_v82 (ix4 b h e t) k = ix4 b h t k := by
    funext a
    match a with
    | ⟨0, _⟩ => rfl
    | ⟨1, _⟩ => rfl
    | ⟨2, _⟩ => rfl
    | ⟨3, _⟩ => rfl
  have el : idx_main_v2 (lidx_main_v82 (ix4 b h e t) k) = ix3 b k (col h e) := by
    funext a
    apply Fin.ext
    match a with
    | ⟨0, _⟩ => show (((b.val * 4096 + k.val) * 8 + h.val) * 128 + e.val) / 4194304 = b.val; omega
    | ⟨1, _⟩ => show (((b.val * 4096 + k.val) * 8 + h.val) * 128 + e.val) / 1024 % 4096 = k.val; omega
    | ⟨2, _⟩ => show (((b.val * 4096 + k.val) * 8 + h.val) * 128 + e.val) % 1024 = h.val * 128 + e.val; omega
  rw [er, ref81, hl, ref74 A0 A1 A2 R L H, ref74 A0 A1 A2 R L H, val_main_v2_apply, el, p4_val]
  refine (congrArg (fun x : EReal => x * (((share A0 A1 R b h 0 t k : ℝ) : EReal) - ((l : ℝ) : EReal) * ((share A0 A1 R b h 1 t k : ℝ) : EReal))) (H.v (ix3 b k (col h e))).symm).trans ?_
  rw [← EReal.coe_mul, ← EReal.coe_sub, ← EReal.coe_mul]
  congr 1
  ring

include H in
/-- The reference's element at row `t`, head `h`, lane `e`. -/
theorem ref98 (b : Fin 4) (h : Fin 8) (t : Fin 4096) (e : Fin 128) :
    val_main_v98 (F := Ideal) A0 A1 A2 R L g (ix4 b t h e) = result A0 A1 A2 R L g b t h e := by
  rw [val_main_v98_apply, val_main_v96_apply, val_main_v93_apply, val_main_v92_apply, val_main_v91_apply, val_main_v90_apply, val_main_v88_apply, val_main_v86_apply,
    val_main_v85_apply, val_main_cst_18_apply, Cert.Proof.DiffStep.zero_val, val_main_v95_apply, val_main_v94_apply, ref83 A0 A1 A2 R L H]
  have es : (∑ k : Fin 128, val_main_v84 (F := Ideal) A0 A1 A2 R L (idx_main_v85 (idx_main_v86 (idx_main_v92 (ix4 b t h e))) k) : EReal)
      = ∑ k : Fin 128, comb A0 A1 A2 R L b h t k * comb A0 A1 A2 R L b h t k := by
    refine Finset.sum_congr rfl fun k _ => ?_
    rw [show idx_main_v85 (idx_main_v86 (idx_main_v92 (ix4 b t h e))) k = ix4 b t h k from by
      funext a
      match a with
      | ⟨0, _⟩ => rfl
      | ⟨1, _⟩ => rfl
      | ⟨2, _⟩ => rfl
      | ⟨3, _⟩ => rfl, val_main_v84_apply, ref83 A0 A1 A2 R L H]
    rfl
  have eg : idx_main_v94 (idx_main_v95 (ix4 b t h e)) = ix1 e := by
    funext a
    match a with
    | ⟨0, _⟩ => rfl
  unfold result rmsn
  rw [eg, ← es, zero_add]
  rfl

include H in
theorem ref99 (i : S4x4096x1024.Idx) : val_main_v99 (F := Ideal) A0 A1 A2 R L g i
    = result A0 A1 A2 R L g (i 0) (i 1) ⟨(i 2).val / 128, by have h1 : (i 2).val < 1024 := (i 2).isLt; omega⟩ ⟨(i 2).val % 128, Nat.mod_lt _ (by norm_num)⟩ := by
  have h0 : (i 0).val < 4 := (i 0).isLt
  have h1 : (i 1).val < 4096 := (i 1).isLt
  have h2 : (i 2).val < 1024 := (i 2).isLt
  rw [val_main_v99_apply]
  refine Eq.trans (congrArg _ ?_) (ref98 A0 A1 A2 R L g H _ _ _ _)
  funext a
  apply Fin.ext
  match a with
  | ⟨0, _⟩ => show (((i 0).val * 4096 + (i 1).val) * 1024 + (i 2).val) / 4194304 = (i 0).val; omega
  | ⟨1, _⟩ => show (((i 0).val * 4096 + (i 1).val) * 1024 + (i 2).val) / 1024 % 4096 = (i 1).val; omega
  | ⟨2, _⟩ => show (((i 0).val * 4096 + (i 1).val) * 1024 + (i 2).val) / 128 % 8 = (i 2).val / 128; omega
  | ⟨3, _⟩ => show (((i 0).val * 4096 + (i 1).val) * 1024 + (i 2).val) % 128 = (i 2).val % 128; omega

end

/-- The side conditions the precondition's operations take. -/
instance preFacts : Cert.Pre_moderate.Facts where
  bcast_S_S4x4096x1024 := by decide
  reducesTo_S4x4096x1024_S_d0_1_2 := by decide
  h_S_ := by decide
  bcast_S_S32x16 := by decide
  reducesTo_S32x16_S_d0_1 := by decide
  bcast_S_S4x64 := by decide
  reducesTo_S4x64_S_d0_1 := by decide

/-- From moderate arguments the differential attention and its reference end with the same array. -/
theorem algebraic [Cert.Pre_moderate.Facts] : Cert.algebraic_DiffIdeal_DiffRefIdeal_pre_moderate := by
  intro m g m' g' hpre hagree
  refine ⟨fun c => G6 m c, ?_, ?_⟩
  · refine (θ_run Cert.DiffIdeal.defs _ _).mono (fun r h c => ?_) (Cert.DiffIdeal.Value.run_blocks m g)
    obtain ⟨e, k⟩ := h c
    exact ⟨e.trans (final6 m c (moderate_of _ _ _ _ _ _ (hpre c))), k⟩
  · refine (θ_run Cert.DiffRefIdeal.defs _ _).mono (fun r h c => ?_) (Cert.DiffRefIdeal.Value.run m' g')
    obtain ⟨e, k⟩ := h c
    obtain ⟨a0, a1, a2, a3, a4, a5⟩ := hagree c
    have e' : r.2.mem (c.tc.loc main_v99) = val_main_v99 (F := Ideal) (m' (c.tc.loc main_arg0)) (m' (c.tc.loc main_arg1)) (m' (c.tc.loc main_arg2))
        (m' (c.tc.loc main_arg3)) (m' (c.tc.loc main_arg4)) (m' (c.tc.loc main_arg5)) := e.trans (Cert.DiffRefIdeal.Read.val_main_v99_eq _)
    refine ⟨e'.trans ?_, k⟩
    rw [a0, a1, a2, a3, a4, a5]
    exact funext fun i => ref99 _ _ _ _ _ _ (moderate_of _ _ _ _ _ _ (hpre c)) i

end Cert.Proof.DiffRefValue

end
-- ==== Proof.ProjCommon.lean ====
/- What the input projections of all layers share: the prepared weights (columns, transposed columns, padded columns) and the
   sample's rows read at an element, and a block's plain and transposed product. -/
module

public import proofs.«01_k».proof.Proof.DiffRefValue
public import Idealize.ShloMosaic.Lib.KernelVsHost

@[expose] public section

noncomputable section

namespace Cert.Proof.ProjCommon

open Idealize.ShloMosaic Idealize.ShloMosaic.ValueIdx Cert.Proof.Common

theorem hz2 : (![0, 0] : Fin 2 → Nat) = fun _ => 0 := funext fun a => by fin_cases a <;> rfl
theorem hz3 : (![0, 0, 0] : Fin 3 → Nat) = fun _ => 0 := funext fun a => by fin_cases a <;> rfl

/-- An array of extended reals. -/
abbrev Arr (s : Shape) := s.Idx → EReal

/-- Columns `off` onwards of the weights. -/
def cols {N : ℕ} (W off : ℕ) (h : off + W ≤ N) (w : Arr ⟨2, ![1024, N]⟩) (k : Fin 1024) (n : Fin W) : EReal := w (ix2 k ⟨off + n.val, by omega⟩)
/-- The 48 columns from 2560, and zeros up to 128. -/
def padded (w : Arr ⟨2, ![1024, 2608]⟩) (k : Fin 1024) (n : Fin 128) : EReal := if h : n.val < 48 then w (ix2 k ⟨2560 + n.val, by omega⟩) else 0
/-- The tokens' rows of the prompt; and of the sample, ordered by query and then sequence. -/
def promptRow (x : Arr ⟨2, ![16384, 1024]⟩) (r : Fin 16384) (k : Fin 1024) : EReal := x (ix2 r k)
def sampleRow (x : Arr ⟨3, ![128, 8, 1024]⟩) (r : Fin 1024) (k : Fin 1024) : EReal := x (ix3 ⟨r.val % 128, by omega⟩ ⟨r.val / 128, by omega⟩ k)

/-- The product of rows and columns, one row per token; and the same with the columns along the second axis. -/
def rowsOf {M W : ℕ} (x : Fin M → Fin 1024 → EReal) (w : Fin 1024 → Fin W → EReal) : Arr ⟨2, ![M, W]⟩ := fun i => ∑ k : Fin 1024, x (i 0) k * w k (i 1)
def colsOf {M W S T : ℕ} (h : S * T ≤ M) (x : Fin M → Fin 1024 → EReal) (w : Fin 1024 → Fin W → EReal) : Arr ⟨3, ![S, W, T]⟩ := fun i =>
  ∑ k : Fin 1024, x ⟨(i 0).val * T + (i 2).val, by
    have h0 : (i 0).val < S := (i 0).isLt
    have h2 : (i 2).val < T := (i 2).isLt
    have : ((i 0).val + 1) * T ≤ S * T := Nat.mul_le_mul_right T h0
    rw [Nat.add_mul] at this
    omega⟩ k * w k (i 1)

/-- The cast and cut weights, read at an element; -/
theorem cols_apply {N W off : ℕ} (ho : off + W ≤ N) (w : FVec Ideal ⟨2, ![1024, N]⟩ .f32) (h : (⟨2, ![1024, N]⟩ : Shape).Slices ![0, off] ⟨2, ![1024, W]⟩)
    (hb : FTy.bf16.bits < FTy.f32.bits) (k : Fin 1024) (n : Fin W) :
    (truncf (F := Ideal) .bf16 (extractStridedSlice ⟨2, ![1024, W]⟩ ![0, off] w h) hb : FVec Ideal ⟨2, ![1024, W]⟩ .bf16) (ix2 k n) = cols W off ho w k n := by
  refine extractStridedSlice_apply _ _ h _ (ix2 k ⟨off + n.val, by omega⟩) fun a => ?_
  match a with
  | ⟨0, _⟩ => show k.val = 0 + k.val; omega
  | ⟨1, _⟩ => rfl
/-- transposed; -/
theorem rows_apply {N W off : ℕ} (ho : off + W ≤ N) (w : FVec Ideal ⟨2, ![1024, N]⟩ .f32) (h : (⟨2, ![1024, N]⟩ : Shape).Slices ![0, off] ⟨2, ![1024, W]⟩)
    (ht : (⟨2, ![1024, W]⟩ : Shape).Transposes [1, 0] ⟨2, ![W, 1024]⟩) (hb : FTy.bf16.bits < FTy.f32.bits) (k : Fin 1024) (n : Fin W) :
    (truncf (F := Ideal) .bf16 (transpose ⟨2, ![W, 1024]⟩ [1, 0] (extractStridedSlice ⟨2, ![1024, W]⟩ ![0, off] w h) ht) hb : FVec Ideal ⟨2, ![W, 1024]⟩ .bf16) (ix2 n k)
      = cols W off ho w k n := by
  refine (transpose_apply _ _ ht _ (ix2 k n) fun b => ?_).trans (cols_apply ho w h hb k n)
  match b with
  | ⟨0, _⟩ => rfl
  | ⟨1, _⟩ => rfl

/-- An array of 48 columns with zeros beside it. -/
theorem pad_zeros {M : ℕ} (x : Arr ⟨2, ![M, 48]⟩) (v : Arr ⟨0, ![]⟩) (h : (⟨2, ![M, 48]⟩ : Shape).Pads (![0, 0] : Fin 2 → Nat) ![0, 80] ![0, 0] ⟨2, ![M, 128]⟩)
    (hu : 0 < (⟨0, ![]⟩ : Shape).numel) (hv : ∀ i, v i = 0) (r : Fin M) (n : Fin 128) :
    pad ⟨2, ![M, 128]⟩ (![0, 0] : Fin 2 → Nat) ![0, 80] ![0, 0] x v h hu (ix2 r n) = if h : n.val < 48 then x (ix2 r ⟨n.val, h⟩) else 0 := by
  by_cases hn : n.val < 48
  · rw [dif_pos hn]
    refine pad_apply_of_inside _ _ _ x v h hu (ix2 r n) (ix2 r ⟨n.val, hn⟩) fun a => ?_
    match a with
    | ⟨0, _⟩ => show r.val = 0 + r.val * (0 + 1); omega
    | ⟨1, _⟩ => show n.val = 0 + n.val * (0 + 1); omega
  · rw [dif_neg hn]
    refine (pad_apply_of_not_inside _ _ _ x v h hu (ix2 r n) (1 : Fin 2) ?_).trans (hv _)
    rintro ⟨-, -, h3⟩
    have h4 : (n.val - 0) / (0 + 1) < 48 := h3
    omega

theorem zero_word (i : (⟨0, ![]⟩ : Shape).Idx) : (sitofp (F := Ideal) .f32 (constantI ⟨0, ![]⟩ 32 0#32) : FVec Ideal ⟨0, ![]⟩ .f32) i = (0 : EReal) := by
  show ((((0#32 : BitVec 32).toInt : ℤ) : ℝ) : EReal) = 0
  simp

/-- The padded weights, read at an element. -/
theorem padded_apply (w : FVec Ideal ⟨2, ![1024, 2608]⟩ .f32) (h : (⟨2, ![1024, 2608]⟩ : Shape).Slices ![0, 2560] ⟨2, ![1024, 48]⟩)
    (hp : (⟨2, ![1024, 48]⟩ : Shape).Pads (![0, 0] : Fin 2 → Nat) ![0, 80] ![0, 0] ⟨2, ![1024, 128]⟩) (hu : 0 < (⟨0, ![]⟩ : Shape).numel)
    (hb : FTy.bf16.bits < FTy.f32.bits) (k : Fin 1024) (n : Fin 128) :
    (truncf (F := Ideal) .bf16 (pad ⟨2, ![1024, 128]⟩ (![0, 0] : Fin 2 → Nat) ![0, 80] ![0, 0] (extractStridedSlice ⟨2, ![1024, 48]⟩ ![0, 2560] w h)
      (sitofp (F := Ideal) .f32 (constantI ⟨0, ![]⟩ 32 0#32)) hp hu : FVec Ideal ⟨2, ![1024, 128]⟩ .f32) hb : FVec Ideal ⟨2, ![1024, 128]⟩ .bf16) (ix2 k n)
      = padded w k n := by
  refine (pad_zeros (M := 1024) _ _ hp hu zero_word k n).trans ?_
  unfold padded
  by_cases hn : n.val < 48
  · rw [dif_pos hn, dif_pos hn]
    refine extractStridedSlice_apply _ _ h _ (ix2 k ⟨2560 + n.val, by omega⟩) fun a => ?_
    match a with
    | ⟨0, _⟩ => show k.val = 0 + k.val; omega
    | ⟨1, _⟩ => rfl
  · rw [dif_neg hn, dif_neg hn]

/-- The sample's rows, reordered and reshaped, read at an element. -/
theorem sample_apply (x : FVec Ideal ⟨3, ![128, 8, 1024]⟩ .f32) (ht : (⟨3, ![128, 8, 1024]⟩ : Shape).Transposes [1, 0, 2] ⟨3, ![8, 128, 1024]⟩)
    (hc : (⟨3, ![8, 128, 1024]⟩ : Shape).ShapeCasts ⟨2, ![1024, 1024]⟩) (r k : Fin 1024) :
    (shapeCast ⟨2, ![1024, 1024]⟩ (transpose ⟨3, ![8, 128, 1024]⟩ [1, 0, 2] x ht) hc : FVec Ideal ⟨2, ![1024, 1024]⟩ .f32) (ix2 r k) = sampleRow x r k := by
  refine (shapeCast_apply _ hc (ix2 r k) (ix3 (⟨r.val / 128, by omega⟩ : Fin 8) (⟨r.val % 128, by omega⟩ : Fin 128) k) ?_).trans
    (transpose_apply _ _ ht _ (ix3 (⟨r.val % 128, by omega⟩ : Fin 128) (⟨r.val / 128, by omega⟩ : Fin 8) k) fun b => ?_)
  · rw [Shape.rowMajor_val_three, Shape.rowMajor_val_two]
    show (r.val / 128 * 128 + r.val % 128) * 1024 + k.val = r.val * 1024 + k.val
    omega
  · match b with
    | ⟨0, _⟩ => rfl
    | ⟨1, _⟩ => rfl
    | ⟨2, _⟩ => rfl

/-- A transposed product with a unit axis in front, read at an element. -/
theorem unit_apply {A B : ℕ} (y : FVec Ideal ⟨2, ![A, B]⟩ .f32) (h : (⟨2, ![A, B]⟩ : Shape).ShapeCasts ⟨3, ![1, A, B]⟩) (z : Fin 1) (n : Fin A) (i : Fin B) :
    (shapeCast ⟨3, ![1, A, B]⟩ y h : FVec Ideal ⟨3, ![1, A, B]⟩ .f32) (ix3 z n i) = y (ix2 n i) := by
  refine (shapeCast_addUnit_apply ![A, B] y h (ix3 z n i)).trans (congrArg y ?_)
  funext a
  match a with
  | ⟨0, _⟩ => rfl
  | ⟨1, _⟩ => rfl

/-- A block's element in the array: a block at a grid point's offset, and the block that is the whole extent. -/
theorem at_point {a t B k r : ℕ} (h : a = t) (hr : r = t * B + k) : a * B + 1 * k = r := by rw [h, hr, Nat.one_mul]
theorem at_zero {a B k : ℕ} (h : a = 0) : a * B + 1 * k = k := by rw [h]; omega

theorem at_prompt {T u a0 a2 t B k : ℕ} (h0 : a0 = t / u) (h2 : a2 = t % u) (z : Fin 1) (hT : u * B = T := by rfl) :
    (a0 * 1 + 1 * z.val) * T + (a2 * B + 1 * k) = t * B + k := by
  have hz : z.val = 0 := by omega
  have e := Nat.div_add_mod t u
  subst hT
  rw [hz, h0, h2]
  calc (t / u * 1 + 1 * 0) * (u * B) + (t % u * B + 1 * k) = (u * (t / u) + t % u) * B + k := by ring
    _ = t * B + k := by rw [e]
/-- The point whose block holds an element: along the rows, along a whole extent, and along the two axes the points are split over. -/
theorem in_rows {a t B i : ℕ} (h : a = t) (ht : t = i / B) (hB : 0 < B) : a * B ≤ i ∧ i < a * B + B := by
  rw [h, ht]
  exact ⟨Nat.div_mul_le_self i B, Nat.lt_div_mul_add hB⟩
theorem in_zero {a B i : ℕ} (h : a = 0) (hi : i < B) : a * B ≤ i ∧ i < a * B + B := by rw [h]; omega
theorem in_batch {a t u q i : ℕ} (h : a = t / u) (ht : t = i * u + q) (hq : q < u) : a * 1 ≤ i ∧ i < a * 1 + 1 := by
  have e : t / u = i := by rw [ht, Nat.mul_comm, Nat.mul_add_div (by omega), Nat.div_eq_of_lt hq, Nat.add_zero]
  omega
theorem in_col {a t u B i j : ℕ} (h : a = t % u) (ht : t = i * u + j / B) (hq : j / B < u) (hB : 0 < B) : a * B ≤ j ∧ j < a * B + B :=
  in_rows (h.trans (by rw [ht, Nat.mul_comm, Nat.mul_add_mod, Nat.mod_eq_of_lt hq])) rfl hB
/-- A term of a product's sum. -/
theorem term {S T : Shape} (x : Arr S) (w : Arr T) {a a' : S.Idx} {b b' : T.Idx} (ha : a = a') (hb : b = b') : x a * w b = x a' * w b' := by rw [ha, hb]
/-- The row and the column of an element, from the element's place in the reshaped array. -/
theorem row_of {r b W : ℕ} (h : b < W) : (r * W + b) / W = r := by
  rw [Nat.mul_comm, Nat.mul_add_div (by omega), Nat.div_eq_of_lt h, Nat.add_zero]
theorem col_of {r b W : ℕ} (h : b < W) : (r * W + b) % W = b := by rw [Nat.mul_comm, Nat.mul_add_mod, Nat.mod_eq_of_lt h]

/-- The same for the sample's rows, one point per query. -/
theorem at_sample {T a0 a2 t B k : ℕ} (h0 : a0 = t) (h2 : a2 = 0) (z : Fin 1) : (a0 * 1 + 1 * z.val) * T + (a2 * B + 1 * k) = t * T + k := by
  have hz : z.val = 0 := by omega
  rw [hz, h0, h2]
  simp
theorem in_query {a t i : ℕ} (h : a = t) (ht : t = i) : a * 1 ≤ i ∧ i < a * 1 + 1 := by omega
theorem seq_of {r b W : ℕ} (h : b < W) : (r * W + b) / W % 128 = r % 128 := by rw [row_of h]
theorem query_of {r b W V : ℕ} (h : b < W) (hV : V = W * 128) : (r * W + b) / V = r / 128 := by rw [hV, ← Nat.div_div_eq_div_mul, row_of h]
theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext <| match a with | ⟨0, _⟩ => h0 | ⟨1, _⟩ => h1 | ⟨2, _⟩ => h2

/-- An element of a block's product is the element of `rowsOf` at the block's place, -/
theorem rows_point {M W tm : ℕ} (D : DotDims ⟨2, ![tm, 1024]⟩ ⟨2, ![1024, W]⟩ ⟨2, ![tm, W]⟩) (hD : IsNN D) (x : FVec Ideal ⟨2, ![tm, 1024]⟩ .bf16)
    (w : FVec Ideal ⟨2, ![1024, W]⟩ .bf16) (xr : Fin M → Fin 1024 → EReal) (wc : Fin 1024 → Fin W → EReal) (t : ℕ)
    (hx : ∀ (i : Fin tm) (k : Fin 1024) (r : Fin M), r.val = t * tm + i.val → x (ix2 i k) = xr r k) (hw : ∀ k n, w (ix2 k n) = wc k n)
    (j : (⟨2, ![tm, W]⟩ : Shape).Idx) (p : (⟨2, ![M, W]⟩ : Shape).Idx) (h0 : (p 0).val = t * tm + (j 0).val) (h1 : (p 1).val = (j 1).val) :
    matmul (F := Ideal) D none x w (constant ⟨2, ![tm, W]⟩ .f32 0x0#32) j = rowsOf xr wc p := by
  have hj : j = ix2 (j 0) (j 1) := eq_ix2 j
  have e : (p 1 : Fin W) = j 1 := Fin.ext h1
  rw [hj]
  refine (matmul_nn _ hD none _ _ _).trans ?_
  unfold rowsOf
  refine Finset.sum_congr rfl fun k _ => ?_
  exact congrArg₂ (· * ·) (hx (j 0) k (p 0) h0) ((hw k (j 1)).trans (congrArg (wc k) e.symm))

/-- and of its transposed product that of `colsOf`. -/
theorem cols_point {M W S T tm : ℕ} (h : S * T ≤ M) (D : DotDims ⟨2, ![W, 1024]⟩ ⟨2, ![tm, 1024]⟩ ⟨2, ![W, tm]⟩) (hD : IsNT D)
    (x : FVec Ideal ⟨2, ![tm, 1024]⟩ .bf16) (w : FVec Ideal ⟨2, ![W, 1024]⟩ .bf16) (hc : (⟨2, ![W, tm]⟩ : Shape).ShapeCasts ⟨3, ![1, W, tm]⟩)
    (xr : Fin M → Fin 1024 → EReal) (wc : Fin 1024 → Fin W → EReal) (t : ℕ)
    (hx : ∀ (i : Fin tm) (k : Fin 1024) (r : Fin M), r.val = t * tm + i.val → x (ix2 i k) = xr r k) (hw : ∀ k n, w (ix2 n k) = wc k n)
    (j : (⟨3, ![1, W, tm]⟩ : Shape).Idx) (p : (⟨3, ![S, W, T]⟩ : Shape).Idx) (h0 : (p 0).val * T + (p 2).val = t * tm + (j 2).val)
    (h1 : (p 1).val = (j 1).val) :
    (shapeCast ⟨3, ![1, W, tm]⟩ (matmul (F := Ideal) D none w x (constant ⟨2, ![W, tm]⟩ .f32 0x0#32)) hc : FVec Ideal ⟨3, ![1, W, tm]⟩ .f32) j = colsOf h xr wc p := by
  have hj : j = ix3 (j 0) (j 1) (j 2) := eq_ix3 j
  have e : (p 1 : Fin W) = j 1 := Fin.ext h1
  rw [hj]
  refine (unit_apply _ hc (j 0) (j 1) (j 2)).trans ((matmul_nt _ hD none _ _ _).trans ?_)
  unfold colsOf
  refine Finset.sum_congr rfl fun k _ => ?_
  exact (congrArg₂ (· * ·) ((hw k (j 1)).trans (congrArg (wc k) e.symm)) (hx (j 2) k _ h0)).trans (mul_comm _ _)

/-- The padded columns of a product are the product with the padded weights. -/
theorem pad_dot {M : ℕ} (y : Arr ⟨2, ![M, 48]⟩) (xr : Fin M → Fin 1024 → EReal) (w : Arr ⟨2, ![1024, 2608]⟩) (v : Arr ⟨0, ![]⟩)
    (h : (⟨2, ![M, 48]⟩ : Shape).Pads (![0, 0] : Fin 2 → Nat) ![0, 80] ![0, 0] ⟨2, ![M, 128]⟩) (hu : 0 < (⟨0, ![]⟩ : Shape).numel) (hv : ∀ i, v i = 0)
    (hy : ∀ r n, y (ix2 r n) = ∑ k : Fin 1024, xr r k * w (ix2 k ⟨2560 + n.val, by omega⟩)) (i : (⟨2, ![M, 128]⟩ : Shape).Idx) :
    pad ⟨2, ![M, 128]⟩ (![0, 0] : Fin 2 → Nat) ![0, 80] ![0, 0] y v h hu i = rowsOf xr (padded w) i := by
  obtain ⟨r, n, rfl⟩ : ∃ (r : Fin M) (n : Fin 128), i = ix2 r n := ⟨i 0, i 1, eq_ix2 i⟩
  refine (pad_zeros (M := M) y v h hu hv r n).trans ?_
  show _ = ∑ k : Fin 1024, xr r k * padded w k n
  unfold padded
  by_cases hn : n.val < 48
  · rw [dif_pos hn, hy]
    exact Finset.sum_congr rfl fun k _ => by rw [dif_pos hn]
  · rw [dif_neg hn]
    exact (Finset.sum_eq_zero fun k _ => (congrArg (xr r k * ·) (dif_neg hn)).trans (mul_zero _)).symm

end Cert.Proof.ProjCommon

end
-- ==== Proof.SbProjValue.lean ====
/- The projections before the stick-breaking attention, on the prompt: the queries as they are, the keys and values transposed. -/
module

public import proofs.«01_k».proof.Proof.ProjCommon
public import proofs.«01_k».proof.Proof.Gen.SbProj.Frame
public import proofs.«01_k».proof.Proof.Gen.SbProjIdeal.Value
public import proofs.«01_k».proof.Proof.Gen.SbProjRefIdeal.Read
public import Idealize.ShloMosaic.Lib.Quiescent

@[expose] public section

noncomputable section

namespace Cert.Proof.SbProjValue

open Cert.SbProjIdeal Cert.SbProjIdeal.Gen Idealize.ShloMosaic Idealize.ShloMosaic.TcCoe Idealize.SL.Sem
open Idealize.ShloMosaic.ValueIdx Cert.Proof.Common Cert.Proof.ProjCommon

variable (m : (ℓ : Loc nD τ sig) → Buf (Elt Ideal) ℓ)

abbrev X (c : Dev nD) : Buf (Elt Ideal) ((c : Thread nD τ).loc main_arg0) := m ((c : Thread nD τ).loc main_arg0)
abbrev Wt (c : Dev nD) : Buf (Elt Ideal) ((c : Thread nD τ).loc main_arg1) := m ((c : Thread nD τ).loc main_arg1)
/-- The columns of the weights that each result takes. -/
abbrev w3 (c : Dev nD) := cols (N := 3072) 1024 0 (by omega) (Wt m c)
abbrev w4 (c : Dev nD) := cols (N := 3072) 2048 1024 (by omega) (Wt m c)
abbrev G3 (c : Dev nD) : Buf (Elt Ideal) ((c : Thread nD τ).loc main_v5_0) := rowsOf (promptRow (X m c)) (w3 m c)
abbrev G4 (c : Dev nD) : Buf (Elt Ideal) ((c : Thread nD τ).loc main_v5_1) := colsOf (M := 16384) (S := 4) (T := 4096) (by omega) (promptRow (X m c)) (w4 m c)

/-- Where the windows' blocks lie at each grid point. -/
theorem idx_facts : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val / 8 ∧ win0_4.index t 1 = 0 ∧ win0_4.index t 2 = t.val % 8) :=
  (by decide +kernel : ∀ t : Fin grid0.N, _)
theorem lt_N (t : Fin cfg0.N) : t.val < 32 := t.isLt

theorem V_v1 (c : Dev nD) : V m c main_v1 = (truncf (F := Ideal) .bf16 (extractStridedSlice S1024x1024 ![0, 0] (Wt m c) slices_S1024x3072_S1024x1024_0_0) bitsLt_bf16_f32 : FVec Ideal S1024x1024 .bf16) := by
  show StableHlo.after hostOps0 (fun b => m (c, b)) (Proc.devRef .tc main_v1) = _
  after_results
theorem V_v4 (c : Dev nD) : V m c main_v4 = (truncf (F := Ideal) .bf16 (transpose S2048x1024 [1, 0] (extractStridedSlice S1024x2048 ![0, 1024] (Wt m c) slices_S1024x3072_S1024x2048_0_1024) transposes_S1024x2048_S2048x1024_1_0) bitsLt_bf16_f32 : FVec Ideal S2048x1024 .bf16) := by
  show StableHlo.after hostOps0 (fun b => m (c, b)) (Proc.devRef .tc main_v4) = _
  after_results

/-- The windows' blocks, read at an element. -/
theorem blk0 (c : Dev nD) (t : Fin cfg0.N) (i : Fin 512) (k : Fin 1024) (r : Fin 16384) (hr : r.val = t.val * 512 + i.val) :
    iblk m c 0 t (ix2 i k) = promptRow (X m c) r k := by
  obtain ⟨⟨h0, h1⟩, -⟩ := idx_facts t
  exact (congrFun (V_main_arg0 m c) _).trans (congrArg (X m c) (Shape.idx_ext₂ (at_point h0 hr) (at_zero h1)))
theorem blk1 (c : Dev nD) (t : Fin cfg0.N) (k n : Fin 1024) : iblk m c 1 t (ix2 k n) = w3 m c k n := by
  obtain ⟨-, ⟨h0, h1⟩, -⟩ := idx_facts t
  exact ((congrArg (V m c main_v1) (Shape.idx_ext₂ (at_zero h0) (at_zero h1))).trans (congrFun (V_v1 m c) (ix2 k n))).trans (cols_apply _ _ _ _ k n)
theorem blk2 (c : Dev nD) (t : Fin cfg0.N) (k : Fin 1024) (n : Fin 2048) : iblk m c 2 t (ix2 n k) = w4 m c k n := by
  obtain ⟨-, -, ⟨h0, h1⟩, -⟩ := idx_facts t
  exact ((congrArg (V m c main_v4) (Shape.idx_ext₂ (at_zero h0) (at_zero h1))).trans (congrFun (V_v4 m c) (ix2 n k))).trans (rows_apply _ _ _ _ _ k n)

/-- Each point writes its block of the results, and the blocks cover them. -/
theorem final3 (c : Dev nD) : (dats m 0 c).arrAt 3 cfg0.N = G3 m c := by
  refine (dats m 0 c).arrAt_eq_of_cover 3 (G3 m c) (fun t _ => ?_) fun i => ?_
  · obtain ⟨-, -, -, ⟨h0, h1⟩, -⟩ := idx_facts t
    rw [Value.flushed3]
    funext j
    rw [View.read_apply]
    show out0_3 _ _ _ j = G3 m c (((cfg0.win 3).blk t).view.emb j : S16384x1024.Idx)
    unfold out0_3
    rw [View.canon_unit_zero hz2, View.ld_unit_zero (S := S512x1024) hz2, View.ld_unit_zero (S := S1024x1024) hz2]
    unfold k0_pay2
    simp only [shapeCast_self]
    exact rows_point _ ⟨rfl, rfl, rfl, rfl, rfl, rfl⟩ _ _ _ _ t.val (blk0 m c t) (blk1 m c t) j _ (at_point h0 rfl) (at_zero h1)
  · have hi0 : (i 0).val < 16384 := (i 0).isLt
    have hi1 : (i 1).val < 1024 := (i 1).isLt
    have hN : cfg0.N = 32 := by decide
    obtain ⟨t, ht⟩ : ∃ t : Fin cfg0.N, t.val = (i 0).val / 512 := ⟨⟨(i 0).val / 512, by omega⟩, rfl⟩
    obtain ⟨-, -, -, ⟨h0, h1⟩, -⟩ := idx_facts t
    refine ⟨t, flush0_3 t, ?_⟩
    show i ∈ ((View.whole main_v5_0).slice (win0_3.rect t)).set
    rw [View.set_slice_whole, Rect.mem_set_unit]
    intro a
    match a with
    | ⟨0, _⟩ => exact in_rows (B := 512) h0 ht (by omega)
    | ⟨1, _⟩ => exact in_zero h1 hi1
theorem final4 (c : Dev nD) : (dats m 0 c).arrAt 4 cfg0.N = G4 m c := by
  refine (dats m 0 c).arrAt_eq_of_cover 4 (G4 m c) (fun t _ => ?_) fun i => ?_
  · obtain ⟨-, -, -, -, ⟨h0, h1, h2⟩⟩ := idx_facts t
    rw [Value.flushed4]
    funext j
    rw [View.read_apply]
    show out0_4 _ _ _ j = G4 m c (((cfg0.win 4).blk t).view.emb j : S4x2048x4096.Idx)
    unfold out0_4
    rw [View.canon_unit_zero hz3, View.ld_unit_zero (S := S512x1024) hz2, View.ld_unit_zero (S := S2048x1024) hz2]
    unfold k0_pay3
    simp only [shapeCast_self]
    exact cols_point _ _ ⟨rfl, rfl, rfl, rfl, rfl, rfl⟩ _ _ _ _ _ t.val (blk0 m c t) (blk2 m c t) j _ (at_prompt h0 h2 (j 0)) (at_zero h1)
  · have hi0 : (i 0).val < 4 := (i 0).isLt
    have hi1 : (i 1).val < 2048 := (i 1).isLt
    have hi2 : (i 2).val < 4096 := (i 2).isLt
    have hN : cfg0.N = 32 := by decide
    obtain ⟨t, ht⟩ : ∃ t : Fin cfg0.N, t.val = (i 0).val * 8 + (i 2).val / 512 := ⟨⟨(i 0).val * 8 + (i 2).val / 512, by omega⟩, rfl⟩
    obtain ⟨-, -, -, -, ⟨h0, h1, h2⟩⟩ := idx_facts t
    refine ⟨t, flush0_4 t, ?_⟩
    show i ∈ ((View.whole main_v5_1).slice (win0_4.rect t)).set
    rw [View.set_slice_whole, Rect.mem_set_unit]
    intro a
    match a with
    | ⟨0, _⟩ => exact in_batch h0 ht (by omega)
    | ⟨1, _⟩ => exact in_zero h1 hi1
    | ⟨2, _⟩ => exact in_col (B := 512) (j := (i 2).val) h2 ht (by omega) (by omega)

open Cert.SbProjRefIdeal.Read in
/-- The reference's results. -/
theorem ref3 (c : Dev nD) : val_main_v1 (F := Ideal) (X m c) (Wt m c) = G3 m c := by
  funext i
  rw [val_main_v1_apply, val_main_v0_apply]
  refine Finset.sum_congr rfl fun k _ => term (S := S16384x1024) (T := S1024x3072) (X m c) (Wt m c) ?_ ?_
  · exact Shape.idx_ext₂ rfl rfl
  · exact Shape.idx_ext₂ rfl (Nat.zero_add _).symm
open Cert.SbProjRefIdeal.Read in
theorem ref4 (c : Dev nD) : val_main_v4 (F := Ideal) (X m c) (Wt m c) = G4 m c := by
  funext i
  have hi1 : (i 1).val < 2048 := (i 1).isLt
  rw [val_main_v4_apply, val_main_v3_apply, val_main_v2_apply, val_main_v0_apply]
  refine Finset.sum_congr rfl fun k _ => term (S := S16384x1024) (T := S1024x3072) (X m c) (Wt m c) ?_ ?_
  · exact Shape.idx_ext₂ (row_of hi1) rfl
  · exact Shape.idx_ext₂ rfl (congrArg (1024 + ·) (col_of hi1))

/-- The call and its reference end with the same arrays. -/
theorem algebraic : Cert.algebraic_SbProjIdeal_SbProjRefIdeal := by
  intro m g m' g' _ hagree
  refine ⟨fun c => G3 m c, fun c => G4 m c, ?_, ?_⟩
  · refine (θ_run Cert.SbProjIdeal.defs _ _).mono (fun r h c => ?_) (Value.run_blocks m g)
    obtain ⟨e3, e4, k0, k1⟩ := h c
    exact ⟨e3.trans (final3 m c), e4.trans (final4 m c), k0, k1⟩
  · refine (θ_run Cert.SbProjRefIdeal.defs _ _).mono (fun r h c => ?_) (Cert.SbProjRefIdeal.Value.run m' g')
    obtain ⟨e3, e4, k0, k1⟩ := h c
    obtain ⟨a0, a1⟩ := hagree c
    rw [a0, a1] at e3 e4
    exact ⟨e3.trans ((Cert.SbProjRefIdeal.Read.val_main_v1_eq _ _).trans (ref3 m c)),
      e4.trans ((Cert.SbProjRefIdeal.Read.val_main_v4_eq _ _).trans (ref4 m c)), k0, k1⟩

/-- The reference runs and changes none of its arguments. -/
theorem frameRef : Cert.quiescent_SbProjRefIdeal := fun m ρ _ =>
  (θ_run _ _ _).mono (fun r h => ⟨fun c => (h c).2.2, sem_eq_zero_of_no_sems (by decide) r.2⟩)
    (Cert.SbProjRefIdeal.Value.run (F := Ideal) m ρ)

end Cert.Proof.SbProjValue

end
-- ==== Proof.NsaProjValue.lean ====
/- The projections before the sparse attention, on the prompt: the queries, the window branch and the gates' logits as they are, the
   keys and values and the window branch transposed. -/
module

public import proofs.«01_k».proof.Proof.SbProjValue
public import proofs.«01_k».proof.Proof.Gen.NsaProj.Frame
public import proofs.«01_k».proof.Proof.Gen.NsaProjIdeal.Value
public import proofs.«01_k».proof.Proof.Gen.NsaProjRefIdeal.Read

@[expose] public section

noncomputable section

namespace Cert.Proof.NsaProjValue

open Cert.NsaProjIdeal Cert.NsaProjIdeal.Gen Idealize.ShloMosaic Idealize.ShloMosaic.TcCoe Idealize.SL.Sem
open Idealize.ShloMosaic.ValueIdx Cert.Proof.Common Cert.Proof.ProjCommon

variable (m : (ℓ : Loc nD τ sig) → Buf (Elt Ideal) ℓ)

abbrev X (c : Dev nD) : Buf (Elt Ideal) ((c : Thread nD τ).loc main_arg0) := m ((c : Thread nD τ).loc main_arg0)
abbrev Wt (c : Dev nD) : Buf (Elt Ideal) ((c : Thread nD τ).loc main_arg1) := m ((c : Thread nD τ).loc main_arg1)
/-- The columns of the weights: the queries', the window branch's, the gates', the keys' and values'. -/
abbrev wq (c : Dev nD) := cols (N := 2608) 1024 0 (by omega) (Wt m c)
abbrev wwin (c : Dev nD) := cols (N := 2608) 512 1024 (by omega) (Wt m c)
abbrev wkv (c : Dev nD) := cols (N := 2608) 1024 1024 (by omega) (Wt m c)
abbrev wlast (c : Dev nD) := cols (N := 2608) 512 2048 (by omega) (Wt m c)
abbrev G6 (c : Dev nD) : Buf (Elt Ideal) ((c : Thread nD τ).loc main_v13_0) := rowsOf (promptRow (X m c)) (wq m c)
abbrev G7 (c : Dev nD) : Buf (Elt Ideal) ((c : Thread nD τ).loc main_v13_1) := rowsOf (promptRow (X m c)) (wwin m c)
abbrev G8 (c : Dev nD) : Buf (Elt Ideal) ((c : Thread nD τ).loc main_v13_2) := rowsOf (promptRow (X m c)) (padded (Wt m c))
abbrev G9 (c : Dev nD) : Buf (Elt Ideal) ((c : Thread nD τ).loc main_v13_3) := colsOf (M := 16384) (S := 4) (T := 4096) (by omega) (promptRow (X m c)) (wkv m c)
abbrev G10 (c : Dev nD) : Buf (Elt Ideal) ((c : Thread nD τ).loc main_v13_4) := colsOf (M := 16384) (S := 4) (T := 4096) (by omega) (promptRow (X m c)) (wlast m c)

/-- Where the windows' blocks lie at each grid point. -/
theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)
theorem idx9 : ∀ t : Fin cfg0.N, win0_9.index t 0 = t.val / 8 ∧ win0_9.index t 1 = 0 ∧ win0_9.index t 2 = t.val % 8 :=
  (by decide +kernel : ∀ t : Fin grid0.N, _)
theorem idx10 : ∀ t : Fin cfg0.N, win0_10.index t 0 = t.val / 8 ∧ win0_10.index t 1 = 0 ∧ win0_10.index t 2 = t.val % 8 :=
  (by decide +kernel : ∀ t : Fin grid0.N, _)
/-- The point that writes a row. -/
theorem point {r : ℕ} (h : r < 16384) : ∃ t : Fin cfg0.N, t.val = r / 512 := ⟨⟨r / 512, by
  have hN : cfg0.N = 32 := by decide
  omega⟩, rfl⟩
theorem point' {a b : ℕ} (ha : a < 4) (hb : b < 4096) : ∃ t : Fin cfg0.N, t.val = a * 8 + b / 512 := ⟨⟨a * 8 + b / 512, by
  have hN : cfg0.N = 32 := by decide
  omega⟩, rfl⟩

/-- The prepared weights. -/
theorem V_v1 (c : Dev nD) : V m c main_v1 = (truncf (F := Ideal) .bf16 (extractStridedSlice S1024x1024 ![0, 0] (Wt m c) slices_S1024x2608_S1024x1024_0_0) bitsLt_bf16_f32 : FVec Ideal S1024x1024 .bf16) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results
theorem V_v3 (c : Dev nD) : V m c main_v3 = (truncf (F := Ideal) .bf16 (extractStridedSlice S1024x512 ![0, 1024] (Wt m c) slices_S1024x2608_S1024x512_0_1024) bitsLt_bf16_f32 : FVec Ideal S1024x512 .bf16) := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append]
  after_results
theorem V_v6 (c : Dev nD) : V m c main_v6 = (truncf (F := Ideal) .bf16 (pad S1024x128 ![0, 0] ![0, 80] ![0, 0] (extractStridedSlice S1024x48 ![0, 2560] (Wt m c) slices_S1024x2608_S1024x48_0_2560) (sitofp (F := Ideal) .f32 (constantI S_ 32 0#32)) pads_S1024x48_S1024x128_000_0800 h_S_) bitsLt_bf16_f32 : FVec Ideal S1024x128 .bf16) := by
  show StableHlo.after (List.flatten [hostOps0, hostOps0_1, hostOps0_2]) (fun b => m (c, b)) (Proc.devRef .tc main_v6) = _
  simp only [hostOps0, hostOps0_1, hostOps0_2, List.flatten_cons, List.flatten_nil, List.append_nil, List.cons_append, List.nil_append]
  after_results
  rfl
theorem V_v9 (c : Dev nD) : V m c main_v9 = (truncf (F := Ideal) .bf16 (transpose S1024x1024 [1, 0] (extractStridedSlice S1024x1024 ![0, 1024] (Wt m c) slices_S1024x2608_S1024x1024_0_1024) transposes_S1024x1024_S1024x1024_1_0) bitsLt_bf16_f32 : FVec Ideal S1024x1024 .bf16) := by
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append, List.nil_append]
  after_results
theorem V_v12 (c : Dev nD) : V m c main_v12 = (truncf (F := Ideal) .bf16 (transpose S512x1024 [1, 0] (extractStridedSlice S1024x512 ![0, 2048] (Wt m c) slices_S1024x2608_S1024x512_0_2048) transposes_S1024x512_S512x1024_1_0) bitsLt_bf16_f32 : FVec Ideal S512x1024 .bf16) := by
  show StableHlo.after (List.flatten [hostOps0, hostOps0_1, hostOps0_2]) (fun b => m (c, b)) (Proc.devRef .tc main_v12) = _
  simp only [hostOps0, hostOps0_1, hostOps0_2, List.flatten_cons, List.flatten_nil, List.append_nil, List.cons_append, List.nil_append]
  after_results

/-- The windows' blocks, read at an element. -/
theorem blk0 (c : Dev nD) (t : Fin cfg0.N) (i : Fin 512) (k : Fin 1024) (r : Fin 16384) (hr : r.val = t.val * 512 + i.val) :
    iblk m c 0 t (ix2 i k) = promptRow (X m c) r k :=
  (congrFun (V_main_arg0 m c) _).trans (congrArg (X m c) (Shape.idx_ext₂ (at_point (idx0 t).1 hr) (at_zero (idx0 t).2)))
theorem blk1 (c : Dev nD) (t : Fin cfg0.N) (k n : Fin 1024) : iblk m c 1 t (ix2 k n) = wq m c k n :=
  ((congrArg (V m c main_v1) (Shape.idx_ext₂ (at_zero (idx1 t).1) (at_zero (idx1 t).2))).trans (congrFun (V_v1 m c) (ix2 k n))).trans (cols_apply _ _ _ _ k n)
theorem blk2 (c : Dev nD) (t : Fin cfg0.N) (k : Fin 1024) (n : Fin 512) : iblk m c 2 t (ix2 k n) = wwin m c k n :=
  ((congrArg (V m c main_v3) (Shape.idx_ext₂ (at_zero (idx2 t).1) (at_zero (idx2 t).2))).trans (congrFun (V_v3 m c) (ix2 k n))).trans (cols_apply _ _ _ _ k n)
theorem blk3 (c : Dev nD) (t : Fin cfg0.N) (k : Fin 1024) (n : Fin 128) : iblk m c 3 t (ix2 k n) = padded (Wt m c) k n :=
  ((congrArg (V m c main_v6) (Shape.idx_ext₂ (at_zero (idx3 t).1) (at_zero (idx3 t).2))).trans (congrFun (V_v6 m c) (ix2 k n))).trans (padded_apply _ _ _ _ _ k n)
theorem blk4 (c : Dev nD) (t : Fin cfg0.N) (k n : Fin 1024) : iblk m c 4 t (ix2 n k) = wkv m c k n :=
  ((congrArg (V m c main_v9) (Shape.idx_ext₂ (at_zero (idx4 t).1) (at_zero (idx4 t).2))).trans (congrFun (V_v9 m c) (ix2 n k))).trans (rows_apply _ _ _ _ _ k n)
theorem blk5 (c : Dev nD) (t : Fin cfg0.N) (k : Fin 1024) (n : Fin 512) : iblk m c 5 t (ix2 n k) = wlast m c k n :=
  ((congrArg (V m c main_v12) (Shape.idx_ext₂ (at_zero (idx5 t).1) (at_zero (idx5 t).2))).trans (congrFun (V_v12 m c) (ix2 n k))).trans (rows_apply _ _ _ _ _ k n)

/-- Each point writes its block of the results, and the blocks cover them. -/
theorem final6 (c : Dev nD) : (dats m 0 c).arrAt 6 cfg0.N = G6 m c := by
  refine (dats m 0 c).arrAt_eq_of_cover 6 (G6 m c) (fun t _ => funext fun j => ?_) fun i => ?_
  · rw [Value.flushed6, View.read_apply]
    show out0_6 _ _ _ _ _ _ j = G6 m c (((cfg0.win 6).blk t).view.emb j : S16384x1024.Idx)
    unfold out0_6
    rw [View.canon_unit_zero hz2, View.ld_unit_zero (S := S512x1024) hz2, View.ld_unit_zero (S := S1024x1024) hz2]
    unfold k0_pay3
    simp only [shapeCast_self]
    exact rows_point _ ⟨rfl, rfl, rfl, rfl, rfl, rfl⟩ _ _ _ _ t.val (blk0 m c t) (blk1 m c t) j _ (at_point (idx6 t).1 rfl) (at_zero (idx6 t).2)
  · obtain ⟨t, ht⟩ := point (i 0).isLt
    refine ⟨t, flush0_6 t, ?_⟩
    show i ∈ ((View.whole main_v13_0).slice (win0_6.rect t)).set
    rw [View.set_slice_whole, Rect.mem_set_unit]
    exact fun a => match a with
      | ⟨0, _⟩ => in_rows (B := 512) (idx6 t).1 ht (by omega)
      | ⟨1, _⟩ => in_zero (idx6 t).2 (i 1).isLt
theorem final7 (c : Dev nD) : (dats m 0 c).arrAt 7 cfg0.N = G7 m c := by
  refine (dats m 0 c).arrAt_eq_of_cover 7 (G7 m c) (fun t _ => funext fun j => ?_) fun i => ?_
  · rw [Value.flushed7, View.read_apply]
    show out0_7 _ _ _ _ _ _ j = G7 m c (((cfg0.win 7).blk t).view.emb j : S16384x512.Idx)
    unfold out0_7
    rw [View.canon_unit_zero hz2, View.ld_unit_zero (S := S512x1024) hz2, View.ld_unit_zero (S := S1024x512) hz2]
    unfold k0_pay4
    simp only [shapeCast_self]
    exact rows_point _ ⟨rfl, rfl, rfl, rfl, rfl, rfl⟩ _ _ _ _ t.val (blk0 m c t) (blk2 m c t) j _ (at_point (idx7 t).1 rfl) (at_zero (idx7 t).2)
  · obtain ⟨t, ht⟩ := point (i 0).isLt
    refine ⟨t, flush0_7 t, ?_⟩
    show i ∈ ((View.whole main_v13_1).slice (win0_7.rect t)).set
    rw [View.set_slice_whole, Rect.mem_set_unit]
    exact fun a => match a with
      | ⟨0, _⟩ => in_rows (B := 512) (idx7 t).1 ht (by omega)
      | ⟨1, _⟩ => in_zero (idx7 t).2 (i 1).isLt
theorem final8 (c : Dev nD) : (dats m 0 c).arrAt 8 cfg0.N = G8 m c := by
  refine (dats m 0 c).arrAt_eq_of_cover 8 (G8 m c) (fun t _ => funext fun j => ?_) fun i => ?_
  · rw [Value.flushed8, View.read_apply]
    show out0_8 _ _ _ _ _ _ j = G8 m c (((cfg0.win 8).blk t).view.emb j : S16384x128.Idx)
    unfold out0_8
    rw [View.canon_unit_zero hz2, View.ld_unit_zero (S := S512x1024) hz2, View.ld_unit_zero (S := S1024x128) hz2]
    unfold k0_pay5
    simp only [shapeCast_self]
    exact rows_point _ ⟨rfl, rfl, rfl, rfl, rfl, rfl⟩ _ _ _ _ t.val (blk0 m c t) (blk3 m c t) j _ (at_point (idx8 t).1 rfl) (at_zero (idx8 t).2)
  · obtain ⟨t, ht⟩ := point (i 0).isLt
    refine ⟨t, flush0_8 t, ?_⟩
    show i ∈ ((View.whole main_v13_2).slice (win0_8.rect t)).set
    rw [View.set_slice_whole, Rect.mem_set_unit]
    exact fun a => match a with
      | ⟨0, _⟩ => in_rows (B := 512) (idx8 t).1 ht (by omega)
      | ⟨1, _⟩ => in_zero (idx8 t).2 (i 1).isLt
theorem final9 (c : Dev nD) : (dats m 0 c).arrAt 9 cfg0.N = G9 m c := by
  refine (dats m 0 c).arrAt_eq_of_cover 9 (G9 m c) (fun t _ => funext fun j => ?_) fun i => ?_
  · rw [Value.flushed9, View.read_apply]
    show out0_9 _ _ _ _ _ _ j = G9 m c (((cfg0.win 9).blk t).view.emb j : S4x1024x4096.Idx)
    unfold out0_9
    rw [View.canon_unit_zero hz3, View.ld_unit_zero (S := S512x1024) hz2, View.ld_unit_zero (S := S1024x1024) hz2]
    unfold k0_pay6
    simp only [shapeCast_self]
    exact cols_point _ _ ⟨rfl, rfl, rfl, rfl, rfl, rfl⟩ _ _ _ _ _ t.val (blk0 m c t) (blk4 m c t) j _ (at_prompt (idx9 t).1 (idx9 t).2.2 (j 0)) (at_zero (idx9 t).2.1)
  · obtain ⟨t, ht⟩ := point' (i 0).isLt (i 2).isLt
    refine ⟨t, flush0_9 t, ?_⟩
    show i ∈ ((View.whole main_v13_3).slice (win0_9.rect t)).set
    rw [View.set_slice_whole, Rect.mem_set_unit]
    have hq : (i 2).val / 512 < 8 := Nat.div_lt_of_lt_mul (i 2).isLt
    exact fun a => match a with
      | ⟨0, _⟩ => in_batch (idx9 t).1 ht hq
      | ⟨1, _⟩ => in_zero (idx9 t).2.1 (i 1).isLt
      | ⟨2, _⟩ => in_col (B := 512) (idx9 t).2.2 ht hq (by omega)
theorem final10 (c : Dev nD) : (dats m 0 c).arrAt 10 cfg0.N = G10 m c := by
  refine (dats m 0 c).arrAt_eq_of_cover 10 (G10 m c) (fun t _ => funext fun j => ?_) fun i => ?_
  · rw [Value.flushed10, View.read_apply]
    show out0_10 _ _ _ _ _ _ j = G10 m c (((cfg0.win 10).blk t).view.emb j : S4x512x4096.Idx)
    unfold out0_10
    rw [View.canon_unit_zero hz3, View.ld_unit_zero (S := S512x1024) hz2, View.ld_unit_zero (S := S512x1024) hz2]
    unfold k0_pay1 k0_pay7
    simp only [shapeCast_self]
    exact cols_point _ _ ⟨rfl, rfl, rfl, rfl, rfl, rfl⟩ _ _ _ _ _ t.val (blk0 m c t) (blk5 m c t) j _ (at_prompt (idx10 t).1 (idx10 t).2.2 (j 0)) (at_zero (idx10 t).2.1)
  · obtain ⟨t, ht⟩ := point' (i 0).isLt (i 2).isLt
    refine ⟨t, flush0_10 t, ?_⟩
    show i ∈ ((View.whole main_v13_4).slice (win0_10.rect t)).set
    rw [View.set_slice_whole, Rect.mem_set_unit]
    have hq : (i 2).val / 512 < 8 := Nat.div_lt_of_lt_mul (i 2).isLt
    exact fun a => match a with
      | ⟨0, _⟩ => in_batch (idx10 t).1 ht hq
      | ⟨1, _⟩ => in_zero (idx10 t).2.1 (i 1).isLt
      | ⟨2, _⟩ => in_col (B := 512) (idx10 t).2.2 ht hq (by omega)

section
open Cert.NsaProjRefIdeal.Read
/-- The reference's results. -/
theorem ref6 (c : Dev nD) : val_main_v4 (F := Ideal) (X m c) (Wt m c) = G6 m c := by
  funext i
  rw [val_main_v4_apply, val_main_v0_apply]
  refine Finset.sum_congr rfl fun k _ => term (S := S16384x1024) (T := S1024x2608) (X m c) (Wt m c) ?_ ?_
  · exact Shape.idx_ext₂ rfl rfl
  · exact Shape.idx_ext₂ rfl (Nat.zero_add _).symm
theorem ref7 (c : Dev nD) : val_main_v5 (F := Ideal) (X m c) (Wt m c) = G7 m c := by
  funext i
  rw [val_main_v5_apply, val_main_v0_apply]
  refine Finset.sum_congr rfl fun k _ => term (S := S16384x1024) (T := S1024x2608) (X m c) (Wt m c) ?_ ?_
  · exact Shape.idx_ext₂ rfl rfl
  · exact Shape.idx_ext₂ rfl rfl
theorem ref8 (c : Dev nD) : val_main_v6 (F := Ideal) (X m c) (Wt m c) = G8 m c := by
  funext i
  refine pad_dot (val_main_v3 (F := Ideal) (X m c) (Wt m c)) (promptRow (X m c)) (Wt m c) _ _ _ zero_word (fun r n => ?_) i
  rw [val_main_v3_apply, val_main_v0_apply]
  refine Finset.sum_congr rfl fun k _ => term (S := S16384x1024) (T := S1024x2608) (X m c) (Wt m c) ?_ ?_
  · exact Shape.idx_ext₂ rfl rfl
  · exact Shape.idx_ext₂ rfl rfl
theorem ref9 (c : Dev nD) : val_main_v8 (F := Ideal) (X m c) (Wt m c) = G9 m c := by
  funext i
  rw [val_main_v8_apply, val_main_v7_apply, val_main_v1_apply, val_main_v0_apply]
  refine Finset.sum_congr rfl fun k _ => term (S := S16384x1024) (T := S1024x2608) (X m c) (Wt m c) ?_ ?_
  · exact Shape.idx_ext₂ (row_of (i 1).isLt) rfl
  · exact Shape.idx_ext₂ rfl (congrArg (1024 + ·) (col_of (i 1).isLt))
theorem ref10 (c : Dev nD) : val_main_v10 (F := Ideal) (X m c) (Wt m c) = G10 m c := by
  funext i
  rw [val_main_v10_apply, val_main_v9_apply, val_main_v2_apply, val_main_v0_apply]
  refine Finset.sum_congr rfl fun k _ => term (S := S16384x1024) (T := S1024x2608) (X m c) (Wt m c) ?_ ?_
  · exact Shape.idx_ext₂ (row_of (i 1).isLt) rfl
  · exact Shape.idx_ext₂ rfl (congrArg (2048 + ·) (col_of (i 1).isLt))
end

/-- The call and its reference end with the same arrays. -/
theorem algebraic : Cert.algebraic_NsaProjIdeal_NsaProjRefIdeal := by
  intro m g m' g' _ hagree
  refine ⟨fun c => G6 m c, fun c => G7 m c, fun c => G8 m c, fun c => G9 m c, fun c => G10 m c, ?_, ?_⟩
  · refine (θ_run Cert.NsaProjIdeal.defs _ _).mono (fun r h c => ?_) (Value.run_blocks m g)
    obtain ⟨e6, e7, e8, e9, e10, k⟩ := h c
    exact ⟨e6.trans (final6 m c), e7.trans (final7 m c), e8.trans (final8 m c), e9.trans (final9 m c), e10.trans (final10 m c), k⟩
  · refine (θ_run Cert.NsaProjRefIdeal.defs _ _).mono (fun r h c => ?_) (Cert.NsaProjRefIdeal.Value.run m' g')
    obtain ⟨e6, e7, e8, e9, e10, k⟩ := h c
    obtain ⟨a0, a1⟩ := hagree c
    rw [a0, a1] at e6 e7 e8 e9 e10
    exact ⟨e6.trans ((Cert.NsaProjRefIdeal.Read.val_main_v4_eq _ _).trans (ref6 m c)),
      e7.trans ((Cert.NsaProjRefIdeal.Read.val_main_v5_eq _ _).trans (ref7 m c)),
      e8.trans ((Cert.NsaProjRefIdeal.Read.val_main_v6_eq _ _).trans (ref8 m c)),
      e9.trans ((Cert.NsaProjRefIdeal.Read.val_main_v8_eq _ _).trans (ref9 m c)),
      e10.trans ((Cert.NsaProjRefIdeal.Read.val_main_v10_eq _ _).trans (ref10 m c)), k⟩

/-- The reference runs and changes none of its arguments. -/
theorem frameRef : Cert.quiescent_NsaProjRefIdeal := fun m ρ _ =>
  (θ_run _ _ _).mono (fun r h => ⟨fun c => (h c).2.2.2.2.2, sem_eq_zero_of_no_sems (by decide) r.2⟩)
    (Cert.NsaProjRefIdeal.Value.run (F := Ideal) m ρ)

end Cert.Proof.NsaProjValue

end
-- ==== Proof.ProjSValue.lean ====
/- The projections before the differential attention, on the sample: the queries, the values and the keys, ordered by query, and the
   keys transposed. -/
module

public import proofs.«01_k».proof.Proof.NsaProjValue
public import proofs.«01_k».proof.Proof.Gen.ProjS.Frame
public import proofs.«01_k».proof.Proof.Gen.ProjSIdeal.Value
public import proofs.«01_k».proof.Proof.Gen.ProjSRefIdeal.Read

@[expose] public section

noncomputable section

namespace Cert.Proof.ProjSValue

open Cert.ProjSIdeal Cert.ProjSIdeal.Gen Idealize.ShloMosaic Idealize.ShloMosaic.TcCoe Idealize.SL.Sem
open Idealize.ShloMosaic.ValueIdx Cert.Proof.Common Cert.Proof.ProjCommon

variable (m : (ℓ : Loc nD τ sig) → Buf (Elt Ideal) ℓ)

abbrev X (c : Dev nD) : Buf (Elt Ideal) ((c : Thread nD τ).loc main_arg0) := m ((c : Thread nD τ).loc main_arg0)
abbrev Wt (c : Dev nD) : Buf (Elt Ideal) ((c : Thread nD τ).loc main_arg1) := m ((c : Thread nD τ).loc main_arg1)
/-- The columns of the weights: the queries', the values', the keys'. -/
abbrev wq (c : Dev nD) := cols (N := 3072) 1024 0 (by omega) (Wt m c)
abbrev wv (c : Dev nD) := cols (N := 3072) 1024 2048 (by omega) (Wt m c)
abbrev wk (c : Dev nD) := cols (N := 3072) 1024 1024 (by omega) (Wt m c)
abbrev G5 (c : Dev nD) : Buf (Elt Ideal) ((c : Thread nD τ).loc main_v11_0) := rowsOf (sampleRow (X m c)) (wq m c)
abbrev G6 (c : Dev nD) : Buf (Elt Ideal) ((c : Thread nD τ).loc main_v11_1) := rowsOf (sampleRow (X m c)) (wv m c)
abbrev G7 (c : Dev nD) : Buf (Elt Ideal) ((c : Thread nD τ).loc main_v11_2) := rowsOf (sampleRow (X m c)) (wk m c)
abbrev G8 (c : Dev nD) : Buf (Elt Ideal) ((c : Thread nD τ).loc main_v11_3) := colsOf (M := 1024) (S := 8) (T := 128) (by omega) (sampleRow (X m c)) (wk m c)

/-- Where the windows' blocks lie at each grid point. -/
theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = t.val ∧ win0_8.index t 1 = 0 ∧ win0_8.index t 2 = 0 := (by decide +kernel : ∀ t : Fin grid0.N, _)
/-- The point that writes a row, and a query. -/
theorem point {r : ℕ} (h : r < 1024) : ∃ t : Fin cfg0.N, t.val = r / 128 := ⟨⟨r / 128, by
  have hN : cfg0.N = 8 := by decide
  omega⟩, rfl⟩
theorem point' {q : ℕ} (h : q < 8) : ∃ t : Fin cfg0.N, t.val = q := ⟨⟨q, h⟩, rfl⟩

/-- The prepared rows and weights. -/
theorem V_v8 (c : Dev nD) : V m c main_v8 = (shapeCast S1024x1024 (transpose S8x128x1024 [1, 0, 2] (X m c) transposes_S128x8x1024_S8x128x1024_1_0_2) shapeCasts_S8x128x1024_S1024x1024 : FVec Ideal S1024x1024 .f32) := by
  show StableHlo.after hostOps0 (fun b => m (c, b)) (Proc.devRef .tc main_v8) = _
  after_results
  rfl
theorem V_v1 (c : Dev nD) : V m c main_v1 = (truncf (F := Ideal) .bf16 (extractStridedSlice S1024x1024 ![0, 0] (Wt m c) slices_S1024x3072_S1024x1024_0_0) bitsLt_bf16_f32 : FVec Ideal S1024x1024 .bf16) := by
  show StableHlo.after hostOps0 (fun b => m (c, b)) (Proc.devRef .tc main_v1) = _
  after_results
theorem V_v3 (c : Dev nD) : V m c main_v3 = (truncf (F := Ideal) .bf16 (extractStridedSlice S1024x1024 ![0, 2048] (Wt m c) slices_S1024x3072_S1024x1024_0_2048) bitsLt_bf16_f32 : FVec Ideal S1024x1024 .bf16) := by
  show StableHlo.after hostOps0 (fun b => m (c, b)) (Proc.devRef .tc main_v3) = _
  after_results
theorem V_v10 (c : Dev nD) : V m c main_v10 = (truncf (F := Ideal) .bf16 (extractStridedSlice S1024x1024 ![0, 1024] (Wt m c) slices_S1024x3072_S1024x1024_0_1024) bitsLt_bf16_f32 : FVec Ideal S1024x1024 .bf16) := by
  show StableHlo.after hostOps0 (fun b => m (c, b)) (Proc.devRef .tc main_v10) = _
  after_results
theorem V_v6 (c : Dev nD) : V m c main_v6 = (truncf (F := Ideal) .bf16 (transpose S1024x1024 [1, 0] (extractStridedSlice S1024x1024 ![0, 1024] (Wt m c) slices_S1024x3072_S1024x1024_0_1024) transposes_S1024x1024_S1024x1024_1_0) bitsLt_bf16_f32 : FVec Ideal S1024x1024 .bf16) := by
  show StableHlo.after hostOps0 (fun b => m (c, b)) (Proc.devRef .tc main_v6) = _
  after_results

/-- The windows' blocks, read at an element. -/
theorem blk0 (c : Dev nD) (t : Fin cfg0.N) (i : Fin 128) (k : Fin 1024) (r : Fin 1024) (hr : r.val = t.val * 128 + i.val) :
    iblk m c 0 t (ix2 i k) = sampleRow (X m c) r k :=
  ((congrArg (V m c main_v8) (Shape.idx_ext₂ (at_point (idx0 t).1 hr) (at_zero (idx0 t).2))).trans (congrFun (V_v8 m c) (ix2 r k))).trans (sample_apply _ _ _ r k)
theorem blk1 (c : Dev nD) (t : Fin cfg0.N) (k n : Fin 1024) : iblk m c 1 t (ix2 k n) = wq m c k n :=
  ((congrArg (V m c main_v1) (Shape.idx_ext₂ (at_zero (idx1 t).1) (at_zero (idx1 t).2))).trans (congrFun (V_v1 m c) (ix2 k n))).trans (cols_apply _ _ _ _ k n)
theorem blk2 (c : Dev nD) (t : Fin cfg0.N) (k n : Fin 1024) : iblk m c 2 t (ix2 k n) = wv m c k n :=
  ((congrArg (V m c main_v3) (Shape.idx_ext₂ (at_zero (idx2 t).1) (at_zero (idx2 t).2))).trans (congrFun (V_v3 m c) (ix2 k n))).trans (cols_apply _ _ _ _ k n)
theorem blk3 (c : Dev nD) (t : Fin cfg0.N) (k n : Fin 1024) : iblk m c 3 t (ix2 k n) = wk m c k n :=
  ((congrArg (V m c main_v10) (Shape.idx_ext₂ (at_zero (idx3 t).1) (at_zero (idx3 t).2))).trans (congrFun (V_v10 m c) (ix2 k n))).trans (cols_apply _ _ _ _ k n)
theorem blk4 (c : Dev nD) (t : Fin cfg0.N) (k n : Fin 1024) : iblk m c 4 t (ix2 n k) = wk m c k n :=
  ((congrArg (V m c main_v6) (Shape.idx_ext₂ (at_zero (idx4 t).1) (at_zero (idx4 t).2))).trans (congrFun (V_v6 m c) (ix2 n k))).trans (rows_apply _ _ _ _ _ k n)

/-- Each point writes its block of the results, and the blocks cover them. -/
theorem final5 (c : Dev nD) : (dats m 0 c).arrAt 5 cfg0.N = G5 m c := by
  refine (dats m 0 c).arrAt_eq_of_cover 5 (G5 m c) (fun t _ => funext fun j => ?_) fun i => ?_
  · rw [Value.flushed5, View.read_apply]
    show out0_5 _ _ _ _ _ j = G5 m c (((cfg0.win 5).blk t).view.emb j : S1024x1024.Idx)
    unfold out0_5
    rw [View.canon_unit_zero hz2, View.ld_unit_zero (S := S128x1024) hz2, View.ld_unit_zero (S := S1024x1024) hz2]
    unfold k0_pay2 k0_pay1
    simp only [shapeCast_self]
    exact rows_point _ ⟨rfl, rfl, rfl, rfl, rfl, rfl⟩ _ _ _ _ t.val (blk0 m c t) (blk1 m c t) j _ (at_point (idx5 t).1 rfl) (at_zero (idx5 t).2)
  · obtain ⟨t, ht⟩ := point (i 0).isLt
    refine ⟨t, flush0_5 t, ?_⟩
    show i ∈ ((View.whole main_v11_0).slice (win0_5.rect t)).set
    rw [View.set_slice_whole, Rect.mem_set_unit]
    exact fun a => match a with
      | ⟨0, _⟩ => in_rows (B := 128) (idx5 t).1 ht (by omega)
      | ⟨1, _⟩ => in_zero (idx5 t).2 (i 1).isLt
theorem final6 (c : Dev nD) : (dats m 0 c).arrAt 6 cfg0.N = G6 m c := by
  refine (dats m 0 c).arrAt_eq_of_cover 6 (G6 m c) (fun t _ => funext fun j => ?_) fun i => ?_
  · rw [Value.flushed6, View.read_apply]
    show out0_6 _ _ _ _ _ j = G6 m c (((cfg0.win 6).blk t).view.emb j : S1024x1024.Idx)
    unfold out0_6
    rw [View.canon_unit_zero hz2, View.ld_unit_zero (S := S128x1024) hz2, View.ld_unit_zero (S := S1024x1024) hz2]
    unfold k0_pay3 k0_pay1
    simp only [shapeCast_self]
    exact rows_point _ ⟨rfl, rfl, rfl, rfl, rfl, rfl⟩ _ _ _ _ t.val (blk0 m c t) (blk2 m c t) j _ (at_point (idx6 t).1 rfl) (at_zero (idx6 t).2)
  · obtain ⟨t, ht⟩ := point (i 0).isLt
    refine ⟨t, flush0_6 t, ?_⟩
    show i ∈ ((View.whole main_v11_1).slice (win0_6.rect t)).set
    rw [View.set_slice_whole, Rect.mem_set_unit]
    exact fun a => match a with
      | ⟨0, _⟩ => in_rows (B := 128) (idx6 t).1 ht (by omega)
      | ⟨1, _⟩ => in_zero (idx6 t).2 (i 1).isLt
theorem final7 (c : Dev nD) : (dats m 0 c).arrAt 7 cfg0.N = G7 m c := by
  refine (dats m 0 c).arrAt_eq_of_cover 7 (G7 m c) (fun t _ => funext fun j => ?_) fun i => ?_
  · rw [Value.flushed7, View.read_apply]
    show out0_7 _ _ _ _ _ j = G7 m c (((cfg0.win 7).blk t).view.emb j : S1024x1024.Idx)
    unfold out0_7
    rw [View.canon_unit_zero hz2, View.ld_unit_zero (S := S128x1024) hz2, View.ld_unit_zero (S := S1024x1024) hz2]
    unfold k0_pay4 k0_pay1
    simp only [shapeCast_self]
    exact rows_point _ ⟨rfl, rfl, rfl, rfl, rfl, rfl⟩ _ _ _ _ t.val (blk0 m c t) (blk3 m c t) j _ (at_point (idx7 t).1 rfl) (at_zero (idx7 t).2)
  · obtain ⟨t, ht⟩ := point (i 0).isLt
    refine ⟨t, flush0_7 t, ?_⟩
    show i ∈ ((View.whole main_v11_2).slice (win0_7.rect t)).set
    rw [View.set_slice_whole, Rect.mem_set_unit]
    exact fun a => match a with
      | ⟨0, _⟩ => in_rows (B := 128) (idx7 t).1 ht (by omega)
      | ⟨1, _⟩ => in_zero (idx7 t).2 (i 1).isLt
theorem final8 (c : Dev nD) : (dats m 0 c).arrAt 8 cfg0.N = G8 m c := by
  refine (dats m 0 c).arrAt_eq_of_cover 8 (G8 m c) (fun t _ => funext fun j => ?_) fun i => ?_
  · rw [Value.flushed8, View.read_apply]
    show out0_8 _ _ _ _ _ j = G8 m c (((cfg0.win 8).blk t).view.emb j : S8x1024x128.Idx)
    unfold out0_8
    rw [View.canon_unit_zero hz3, View.ld_unit_zero (S := S128x1024) hz2, View.ld_unit_zero (S := S1024x1024) hz2]
    unfold k0_pay5 k0_pay1
    simp only [shapeCast_self]
    exact cols_point _ _ ⟨rfl, rfl, rfl, rfl, rfl, rfl⟩ _ _ _ _ _ t.val (blk0 m c t) (blk4 m c t) j _ (at_sample (idx8 t).1 (idx8 t).2.2 (j 0)) (at_zero (idx8 t).2.1)
  · obtain ⟨t, ht⟩ := point' (i 0).isLt
    refine ⟨t, flush0_8 t, ?_⟩
    show i ∈ ((View.whole main_v11_3).slice (win0_8.rect t)).set
    rw [View.set_slice_whole, Rect.mem_set_unit]
    exact fun a => match a with
      | ⟨0, _⟩ => in_query (idx8 t).1 ht
      | ⟨1, _⟩ => in_zero (idx8 t).2.1 (i 1).isLt
      | ⟨2, _⟩ => in_zero (idx8 t).2.2 (i 2).isLt

section
open Cert.ProjSRefIdeal.Read
/-- The reference's results. -/
theorem ref5 (c : Dev nD) : val_main_v5 (F := Ideal) (X m c) (Wt m c) = G5 m c := by
  funext i
  rw [val_main_v5_apply, val_main_v4_apply, val_main_v1_apply, val_main_v0_apply]
  refine Finset.sum_congr rfl fun k _ => term (S := S128x8x1024) (T := S1024x3072) (X m c) (Wt m c) ?_ ?_
  · exact idx_ext₃ (seq_of (i 1).isLt) (query_of (i 1).isLt rfl) rfl
  · exact Shape.idx_ext₂ rfl ((col_of (i 1).isLt).trans (Nat.zero_add _).symm)
theorem ref6 (c : Dev nD) : val_main_v7 (F := Ideal) (X m c) (Wt m c) = G6 m c := by
  funext i
  rw [val_main_v7_apply, val_main_v6_apply, val_main_v3_apply, val_main_v0_apply]
  refine Finset.sum_congr rfl fun k _ => term (S := S128x8x1024) (T := S1024x3072) (X m c) (Wt m c) ?_ ?_
  · exact idx_ext₃ (seq_of (i 1).isLt) (query_of (i 1).isLt rfl) rfl
  · exact Shape.idx_ext₂ rfl (congrArg (2048 + ·) (col_of (i 1).isLt))
theorem ref7 (c : Dev nD) : val_main_v9 (F := Ideal) (X m c) (Wt m c) = G7 m c := by
  funext i
  rw [val_main_v9_apply, val_main_v8_apply, val_main_v2_apply, val_main_v0_apply]
  refine Finset.sum_congr rfl fun k _ => term (S := S128x8x1024) (T := S1024x3072) (X m c) (Wt m c) ?_ ?_
  · exact idx_ext₃ (seq_of (i 1).isLt) (query_of (i 1).isLt rfl) rfl
  · exact Shape.idx_ext₂ rfl (congrArg (1024 + ·) (col_of (i 1).isLt))
theorem ref8 (c : Dev nD) : val_main_v10 (F := Ideal) (X m c) (Wt m c) = G8 m c := by
  funext i
  rw [val_main_v10_apply, val_main_v2_apply, val_main_v0_apply]
  refine Finset.sum_congr rfl fun k _ => term (S := S128x8x1024) (T := S1024x3072) (X m c) (Wt m c) ?_ ?_
  · exact idx_ext₃ (col_of (i 2).isLt).symm (row_of (i 2).isLt).symm rfl
  · exact Shape.idx_ext₂ rfl rfl
end

/-- The call and its reference end with the same arrays. -/
theorem algebraic : Cert.algebraic_ProjSIdeal_ProjSRefIdeal := by
  intro m g m' g' _ hagree
  refine ⟨fun c => G5 m c, fun c => G6 m c, fun c => G7 m c, fun c => G8 m c, ?_, ?_⟩
  · refine (θ_run Cert.ProjSIdeal.defs _ _).mono (fun r h c => ?_) (Value.run_blocks m g)
    obtain ⟨e5, e6, e7, e8, k⟩ := h c
    exact ⟨e5.trans (final5 m c), e6.trans (final6 m c), e7.trans (final7 m c), e8.trans (final8 m c), k⟩
  · refine (θ_run Cert.ProjSRefIdeal.defs _ _).mono (fun r h c => ?_) (Cert.ProjSRefIdeal.Value.run m' g')
    obtain ⟨e5, e6, e7, e8, k⟩ := h c
    obtain ⟨a0, a1⟩ := hagree c
    rw [a0, a1] at e5 e6 e7 e8
    exact ⟨e5.trans ((Cert.ProjSRefIdeal.Read.val_main_v5_eq _ _).trans (ref5 m c)),
      e6.trans ((Cert.ProjSRefIdeal.Read.val_main_v7_eq _ _).trans (ref6 m c)),
      e7.trans ((Cert.ProjSRefIdeal.Read.val_main_v9_eq _ _).trans (ref7 m c)),
      e8.trans ((Cert.ProjSRefIdeal.Read.val_main_v10_eq _ _).trans (ref8 m c)), k⟩

/-- The reference runs and changes none of its arguments. -/
theorem frameRef : Cert.quiescent_ProjSRefIdeal := fun m ρ _ =>
  (θ_run _ _ _).mono (fun r h => ⟨fun c => (h c).2.2.2.2, sem_eq_zero_of_no_sems (by decide) r.2⟩)
    (Cert.ProjSRefIdeal.Value.run (F := Ideal) m ρ)

end Cert.Proof.ProjSValue

end
-- ==== Proof.SbProjSValue.lean ====
/- The projections before the stick-breaking attention, on the sample: the queries, and the keys and values, ordered by query, and the
   keys and values transposed. -/
module

public import proofs.«01_k».proof.Proof.ProjSValue
public import proofs.«01_k».proof.Proof.Gen.SbProjS.Frame
public import proofs.«01_k».proof.Proof.Gen.SbProjSIdeal.Value
public import proofs.«01_k».proof.Proof.Gen.SbProjSRefIdeal.Read

@[expose] public section

noncomputable section

namespace Cert.Proof.SbProjSValue

open Cert.SbProjSIdeal Cert.SbProjSIdeal.Gen Idealize.ShloMosaic Idealize.ShloMosaic.TcCoe Idealize.SL.Sem
open Idealize.ShloMosaic.ValueIdx Cert.Proof.Common Cert.Proof.ProjCommon

variable (m : (ℓ : Loc nD τ sig) → Buf (Elt Ideal) ℓ)

abbrev X (c : Dev nD) : Buf (Elt Ideal) ((c : Thread nD τ).loc main_arg0) := m ((c : Thread nD τ).loc main_arg0)
abbrev Wt (c : Dev nD) : Buf (Elt Ideal) ((c : Thread nD τ).loc main_arg1) := m ((c : Thread nD τ).loc main_arg1)
/-- The columns of the weights: the queries', the keys' and values'. -/
abbrev wq (c : Dev nD) := cols (N := 3072) 1024 0 (by omega) (Wt m c)
abbrev wkv (c : Dev nD) := cols (N := 3072) 2048 1024 (by omega) (Wt m c)
abbrev G4 (c : Dev nD) : Buf (Elt Ideal) ((c : Thread nD τ).loc main_v9_0) := rowsOf (sampleRow (X m c)) (wq m c)
abbrev G5 (c : Dev nD) : Buf (Elt Ideal) ((c : Thread nD τ).loc main_v9_1) := rowsOf (sampleRow (X m c)) (wkv m c)
abbrev G6 (c : Dev nD) : Buf (Elt Ideal) ((c : Thread nD τ).loc main_v9_2) := colsOf (M := 1024) (S := 8) (T := 128) (by omega) (sampleRow (X m c)) (wkv m c)

/-- Where the windows' blocks lie at each grid point. -/
theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)
theorem idx6 : ∀ t : Fin cfg0.N, win0_6.index t 0 = t.val ∧ win0_6.index t 1 = 0 ∧ win0_6.index t 2 = 0 := (by decide +kernel : ∀ t : Fin grid0.N, _)
/-- The point that writes a row, and a query. -/
theorem point {r : ℕ} (h : r < 1024) : ∃ t : Fin cfg0.N, t.val = r / 128 := ⟨⟨r / 128, by
  have hN : cfg0.N = 8 := by decide
  omega⟩, rfl⟩
theorem point' {q : ℕ} (h : q < 8) : ∃ t : Fin cfg0.N, t.val = q := ⟨⟨q, h⟩, rfl⟩

/-- The prepared rows and weights. -/
theorem V_v6 (c : Dev nD) : V m c main_v6 = (shapeCast S1024x1024 (transpose S8x128x1024 [1, 0, 2] (X m c) transposes_S128x8x1024_S8x128x1024_1_0_2) shapeCasts_S8x128x1024_S1024x1024 : FVec Ideal S1024x1024 .f32) := by
  show StableHlo.after hostOps0 (fun b => m (c, b)) (Proc.devRef .tc main_v6) = _
  after_results
  rfl
theorem V_v1 (c : Dev nD) : V m c main_v1 = (truncf (F := Ideal) .bf16 (extractStridedSlice S1024x1024 ![0, 0] (Wt m c) slices_S1024x3072_S1024x1024_0_0) bitsLt_bf16_f32 : FVec Ideal S1024x1024 .bf16) := by
  show StableHlo.after hostOps0 (fun b => m (c, b)) (Proc.devRef .tc main_v1) = _
  after_results
theorem V_v8 (c : Dev nD) : V m c main_v8 = (truncf (F := Ideal) .bf16 (extractStridedSlice S1024x2048 ![0, 1024] (Wt m c) slices_S1024x3072_S1024x2048_0_1024) bitsLt_bf16_f32 : FVec Ideal S1024x2048 .bf16) := by
  show StableHlo.after hostOps0 (fun b => m (c, b)) (Proc.devRef .tc main_v8) = _
  after_results
theorem V_v4 (c : Dev nD) : V m c main_v4 = (truncf (F := Ideal) .bf16 (transpose S2048x1024 [1, 0] (extractStridedSlice S1024x2048 ![0, 1024] (Wt m c) slices_S1024x3072_S1024x2048_0_1024) transposes_S1024x2048_S2048x1024_1_0) bitsLt_bf16_f32 : FVec Ideal S2048x1024 .bf16) := by
  show StableHlo.after hostOps0 (fun b => m (c, b)) (Proc.devRef .tc main_v4) = _
  after_results

/-- The windows' blocks, read at an element. -/
theorem blk0 (c : Dev nD) (t : Fin cfg0.N) (i : Fin 128) (k : Fin 1024) (r : Fin 1024) (hr : r.val = t.val * 128 + i.val) :
    iblk m c 0 t (ix2 i k) = sampleRow (X m c) r k :=
  ((congrArg (V m c main_v6) (Shape.idx_ext₂ (at_point (idx0 t).1 hr) (at_zero (idx0 t).2))).trans (congrFun (V_v6 m c) (ix2 r k))).trans (sample_apply _ _ _ r k)
theorem blk1 (c : Dev nD) (t : Fin cfg0.N) (k n : Fin 1024) : iblk m c 1 t (ix2 k n) = wq m c k n :=
  ((congrArg (V m c main_v1) (Shape.idx_ext₂ (at_zero (idx1 t).1) (at_zero (idx1 t).2))).trans (congrFun (V_v1 m c) (ix2 k n))).trans (cols_apply _ _ _ _ k n)
theorem blk2 (c : Dev nD) (t : Fin cfg0.N) (k : Fin 1024) (n : Fin 2048) : iblk m c 2 t (ix2 k n) = wkv m c k n :=
  ((congrArg (V m c main_v8) (Shape.idx_ext₂ (at_zero (idx2 t).1) (at_zero (idx2 t).2))).trans (congrFun (V_v8 m c) (ix2 k n))).trans (cols_apply _ _ _ _ k n)
theorem blk3 (c : Dev nD) (t : Fin cfg0.N) (k : Fin 1024) (n : Fin 2048) : iblk m c 3 t (ix2 n k) = wkv m c k n :=
  ((congrArg (V m c main_v4) (Shape.idx_ext₂ (at_zero (idx3 t).1) (at_zero (idx3 t).2))).trans (congrFun (V_v4 m c) (ix2 n k))).trans (rows_apply _ _ _ _ _ k n)

/-- Each point writes its block of the results, and the blocks cover them. -/
theorem final4 (c : Dev nD) : (dats m 0 c).arrAt 4 cfg0.N = G4 m c := by
  refine (dats m 0 c).arrAt_eq_of_cover 4 (G4 m c) (fun t _ => funext fun j => ?_) fun i => ?_
  · rw [Value.flushed4, View.read_apply]
    show out0_4 _ _ _ _ j = G4 m c (((cfg0.win 4).blk t).view.emb j : S1024x1024.Idx)
    unfold out0_4
    rw [View.canon_unit_zero hz2, View.ld_unit_zero (S := S128x1024) hz2, View.ld_unit_zero (S := S1024x1024) hz2]
    unfold k0_pay2 k0_pay1
    simp only [shapeCast_self]
    exact rows_point _ ⟨rfl, rfl, rfl, rfl, rfl, rfl⟩ _ _ _ _ t.val (blk0 m c t) (blk1 m c t) j _ (at_point (idx4 t).1 rfl) (at_zero (idx4 t).2)
  · obtain ⟨t, ht⟩ := point (i 0).isLt
    refine ⟨t, flush0_4 t, ?_⟩
    show i ∈ ((View.whole main_v9_0).slice (win0_4.rect t)).set
    rw [View.set_slice_whole, Rect.mem_set_unit]
    exact fun a => match a with
      | ⟨0, _⟩ => in_rows (B := 128) (idx4 t).1 ht (by omega)
      | ⟨1, _⟩ => in_zero (idx4 t).2 (i 1).isLt
theorem final5 (c : Dev nD) : (dats m 0 c).arrAt 5 cfg0.N = G5 m c := by
  refine (dats m 0 c).arrAt_eq_of_cover 5 (G5 m c) (fun t _ => funext fun j => ?_) fun i => ?_
  · rw [Value.flushed5, View.read_apply]
    show out0_5 _ _ _ _ j = G5 m c (((cfg0.win 5).blk t).view.emb j : S1024x2048.Idx)
    unfold out0_5
    rw [View.canon_unit_zero hz2, View.ld_unit_zero (S := S128x1024) hz2, View.ld_unit_zero (S := S1024x2048) hz2]
    unfold k0_pay3 k0_pay1
    simp only [shapeCast_self]
    exact rows_point _ ⟨rfl, rfl, rfl, rfl, rfl, rfl⟩ _ _ _ _ t.val (blk0 m c t) (blk2 m c t) j _ (at_point (idx5 t).1 rfl) (at_zero (idx5 t).2)
  · obtain ⟨t, ht⟩ := point (i 0).isLt
    refine ⟨t, flush0_5 t, ?_⟩
    show i ∈ ((View.whole main_v9_1).slice (win0_5.rect t)).set
    rw [View.set_slice_whole, Rect.mem_set_unit]
    exact fun a => match a with
      | ⟨0, _⟩ => in_rows (B := 128) (idx5 t).1 ht (by omega)
      | ⟨1, _⟩ => in_zero (idx5 t).2 (i 1).isLt
theorem final6 (c : Dev nD) : (dats m 0 c).arrAt 6 cfg0.N = G6 m c := by
  refine (dats m 0 c).arrAt_eq_of_cover 6 (G6 m c) (fun t _ => funext fun j => ?_) fun i => ?_
  · rw [Value.flushed6, View.read_apply]
    show out0_6 _ _ _ _ j = G6 m c (((cfg0.win 6).blk t).view.emb j : S8x2048x128.Idx)
    unfold out0_6
    rw [View.canon_unit_zero hz3, View.ld_unit_zero (S := S128x1024) hz2, View.ld_unit_zero (S := S2048x1024) hz2]
    unfold k0_pay4 k0_pay1
    simp only [shapeCast_self]
    exact cols_point _ _ ⟨rfl, rfl, rfl, rfl, rfl, rfl⟩ _ _ _ _ _ t.val (blk0 m c t) (blk3 m c t) j _ (at_sample (idx6 t).1 (idx6 t).2.2 (j 0)) (at_zero (idx6 t).2.1)
  · obtain ⟨t, ht⟩ := point' (i 0).isLt
    refine ⟨t, flush0_6 t, ?_⟩
    show i ∈ ((View.whole main_v9_2).slice (win0_6.rect t)).set
    rw [View.set_slice_whole, Rect.mem_set_unit]
    exact fun a => match a with
      | ⟨0, _⟩ => in_query (idx6 t).1 ht
      | ⟨1, _⟩ => in_zero (idx6 t).2.1 (i 1).isLt
      | ⟨2, _⟩ => in_zero (idx6 t).2.2 (i 2).isLt

section
open Cert.SbProjSRefIdeal.Read
/-- The reference's results. -/
theorem ref4 (c : Dev nD) : val_main_v4 (F := Ideal) (X m c) (Wt m c) = G4 m c := by
  funext i
  rw [val_main_v4_apply, val_main_v3_apply, val_main_v2_apply, val_main_v0_apply]
  refine Finset.sum_congr rfl fun k _ => term (S := S128x8x1024) (T := S1024x3072) (X m c) (Wt m c) ?_ ?_
  · exact idx_ext₃ (seq_of (i 1).isLt) (query_of (i 1).isLt rfl) rfl
  · exact Shape.idx_ext₂ rfl ((col_of (i 1).isLt).trans (Nat.zero_add _).symm)
theorem ref5 (c : Dev nD) : val_main_v6 (F := Ideal) (X m c) (Wt m c) = G5 m c := by
  funext i
  rw [val_main_v6_apply, val_main_v5_apply, val_main_v1_apply, val_main_v0_apply]
  refine Finset.sum_congr rfl fun k _ => term (S := S128x8x1024) (T := S1024x3072) (X m c) (Wt m c) ?_ ?_
  · exact idx_ext₃ (seq_of (i 1).isLt) (query_of (i 1).isLt rfl) rfl
  · exact Shape.idx_ext₂ rfl (congrArg (1024 + ·) (col_of (i 1).isLt))
theorem ref6 (c : Dev nD) : val_main_v7 (F := Ideal) (X m c) (Wt m c) = G6 m c := by
  funext i
  rw [val_main_v7_apply, val_main_v1_apply, val_main_v0_apply]
  refine Finset.sum_congr rfl fun k _ => term (S := S128x8x1024) (T := S1024x3072) (X m c) (Wt m c) ?_ ?_
  · exact idx_ext₃ (col_of (i 2).isLt).symm (row_of (i 2).isLt).symm rfl
  · exact Shape.idx_ext₂ rfl rfl
end

/-- The call and its reference end with the same arrays. -/
theorem algebraic : Cert.algebraic_SbProjSIdeal_SbProjSRefIdeal := by
  intro m g m' g' _ hagree
  refine ⟨fun c => G4 m c, fun c => G5 m c, fun c => G6 m c, ?_, ?_⟩
  · refine (θ_run Cert.SbProjSIdeal.defs _ _).mono (fun r h c => ?_) (Value.run_blocks m g)
    obtain ⟨e4, e5, e6, k⟩ := h c
    exact ⟨e4.trans (final4 m c), e5.trans (final5 m c), e6.trans (final6 m c), k⟩
  · refine (θ_run Cert.SbProjSRefIdeal.defs _ _).mono (fun r h c => ?_) (Cert.SbProjSRefIdeal.Value.run m' g')
    obtain ⟨e4, e5, e6, k⟩ := h c
    obtain ⟨a0, a1⟩ := hagree c
    rw [a0, a1] at e4 e5 e6
    exact ⟨e4.trans ((Cert.SbProjSRefIdeal.Read.val_main_v4_eq _ _).trans (ref4 m c)),
      e5.trans ((Cert.SbProjSRefIdeal.Read.val_main_v6_eq _ _).trans (ref5 m c)),
      e6.trans ((Cert.SbProjSRefIdeal.Read.val_main_v7_eq _ _).trans (ref6 m c)), k⟩

/-- The reference runs and changes none of its arguments. -/
theorem frameRef : Cert.quiescent_SbProjSRefIdeal := fun m ρ _ =>
  (θ_run _ _ _).mono (fun r h => ⟨fun c => (h c).2.2.2, sem_eq_zero_of_no_sems (by decide) r.2⟩)
    (Cert.SbProjSRefIdeal.Value.run (F := Ideal) m ρ)

end Cert.Proof.SbProjSValue

end
-- ==== Proof.NsaProjSValue.lean ====
/- The projections before the sparse attention, on the sample: the queries, the keys and values, the window branch and the gates' logits,
   ordered by query, and the keys and values transposed. -/
module

public import proofs.«01_k».proof.Proof.SbProjSValue
public import proofs.«01_k».proof.Proof.Gen.NsaProjS.Frame
public import proofs.«01_k».proof.Proof.Gen.NsaProjSIdeal.Value
public import proofs.«01_k».proof.Proof.Gen.NsaProjSRefIdeal.Read

@[expose] public section

noncomputable section

namespace Cert.Proof.NsaProjSValue

open Cert.NsaProjSIdeal Cert.NsaProjSIdeal.Gen Idealize.ShloMosaic Idealize.ShloMosaic.TcCoe Idealize.SL.Sem
open Idealize.ShloMosaic.ValueIdx Cert.Proof.Common Cert.Proof.ProjCommon

variable (m : (ℓ : Loc nD τ sig) → Buf (Elt Ideal) ℓ)

abbrev X (c : Dev nD) : Buf (Elt Ideal) ((c : Thread nD τ).loc main_arg0) := m ((c : Thread nD τ).loc main_arg0)
abbrev Wt (c : Dev nD) : Buf (Elt Ideal) ((c : Thread nD τ).loc main_arg1) := m ((c : Thread nD τ).loc main_arg1)
/-- The columns of the weights: the queries', the keys' and values', the window branch's. -/
abbrev wq (c : Dev nD) := cols (N := 2608) 1024 0 (by omega) (Wt m c)
abbrev wkv (c : Dev nD) := cols (N := 2608) 1024 1024 (by omega) (Wt m c)
abbrev wwin (c : Dev nD) := cols (N := 2608) 512 2048 (by omega) (Wt m c)
abbrev G6 (c : Dev nD) : Buf (Elt Ideal) ((c : Thread nD τ).loc main_v14_0) := rowsOf (sampleRow (X m c)) (wq m c)
abbrev G7 (c : Dev nD) : Buf (Elt Ideal) ((c : Thread nD τ).loc main_v14_1) := rowsOf (sampleRow (X m c)) (wkv m c)
abbrev G8 (c : Dev nD) : Buf (Elt Ideal) ((c : Thread nD τ).loc main_v14_2) := rowsOf (sampleRow (X m c)) (wwin m c)
abbrev G9 (c : Dev nD) : Buf (Elt Ideal) ((c : Thread nD τ).loc main_v14_3) := rowsOf (sampleRow (X m c)) (padded (Wt m c))
abbrev G10 (c : Dev nD) : Buf (Elt Ideal) ((c : Thread nD τ).loc main_v14_4) := colsOf (M := 1024) (S := 8) (T := 128) (by omega) (sampleRow (X m c)) (wkv m c)

/-- Where the windows' blocks lie at each grid point. -/
theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)
theorem idx9 : ∀ t : Fin cfg0.N, win0_9.index t 0 = t.val ∧ win0_9.index t 1 = 0 := (by decide +kernel : ∀ t : Fin grid0.N, _)
theorem idx10 : ∀ t : Fin cfg0.N, win0_10.index t 0 = t.val ∧ win0_10.index t 1 = 0 ∧ win0_10.index t 2 = 0 :=
  (by decide +kernel : ∀ t : Fin grid0.N, _)
/-- The point that writes a row, and a query. -/
theorem point {r : ℕ} (h : r < 1024) : ∃ t : Fin cfg0.N, t.val = r / 128 := ⟨⟨r / 128, by
  have hN : cfg0.N = 8 := by decide
  omega⟩, rfl⟩
theorem point' {q : ℕ} (h : q < 8) : ∃ t : Fin cfg0.N, t.val = q := ⟨⟨q, h⟩, rfl⟩

/-- The prepared rows and weights. -/
theorem V_v10 (c : Dev nD) : V m c main_v10 = (shapeCast S1024x1024 (transpose S8x128x1024 [1, 0, 2] (X m c) transposes_S128x8x1024_S8x128x1024_1_0_2) shapeCasts_S8x128x1024_S1024x1024 : FVec Ideal S1024x1024 .f32) := by
  show StableHlo.after (List.flatten [hostOps0, hostOps0_1, hostOps0_2]) (fun b => m (c, b)) (Proc.devRef .tc main_v10) = _
  simp only [hostOps0, hostOps0_1, hostOps0_2, List.flatten_cons, List.flatten_nil, List.append_nil, List.cons_append, List.nil_append]
  after_results
  rfl
theorem V_v1 (c : Dev nD) : V m c main_v1 = (truncf (F := Ideal) .bf16 (extractStridedSlice S1024x1024 ![0, 0] (Wt m c) slices_S1024x2608_S1024x1024_0_0) bitsLt_bf16_f32 : FVec Ideal S1024x1024 .bf16) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results
theorem V_v3 (c : Dev nD) : V m c main_v3 = (truncf (F := Ideal) .bf16 (extractStridedSlice S1024x1024 ![0, 1024] (Wt m c) slices_S1024x2608_S1024x1024_0_1024) bitsLt_bf16_f32 : FVec Ideal S1024x1024 .bf16) := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append]
  after_results
theorem V_v5 (c : Dev nD) : V m c main_v5 = (truncf (F := Ideal) .bf16 (extractStridedSlice S1024x512 ![0, 2048] (Wt m c) slices_S1024x2608_S1024x512_0_2048) bitsLt_bf16_f32 : FVec Ideal S1024x512 .bf16) := by
  show StableHlo.after (List.flatten [hostOps0, hostOps0_1, hostOps0_2]) (fun b => m (c, b)) (Proc.devRef .tc main_v5) = _
  simp only [hostOps0, hostOps0_1, hostOps0_2, List.flatten_cons, List.flatten_nil, List.append_nil, List.cons_append, List.nil_append]
  after_results
theorem V_v8 (c : Dev nD) : V m c main_v8 = (truncf (F := Ideal) .bf16 (pad S1024x128 ![0, 0] ![0, 80] ![0, 0] (extractStridedSlice S1024x48 ![0, 2560] (Wt m c) slices_S1024x2608_S1024x48_0_2560) (sitofp (F := Ideal) .f32 (constantI S_ 32 0#32)) pads_S1024x48_S1024x128_000_0800 h_S_) bitsLt_bf16_f32 : FVec Ideal S1024x128 .bf16) := by
  show StableHlo.after (List.flatten [hostOps0, hostOps0_1, hostOps0_2]) (fun b => m (c, b)) (Proc.devRef .tc main_v8) = _
  simp only [hostOps0, hostOps0_1, hostOps0_2, List.flatten_cons, List.flatten_nil, List.append_nil, List.cons_append, List.nil_append]
  after_results
  rfl
theorem V_v13 (c : Dev nD) : V m c main_v13 = (truncf (F := Ideal) .bf16 (transpose S1024x1024 [1, 0] (extractStridedSlice S1024x1024 ![0, 1024] (Wt m c) slices_S1024x2608_S1024x1024_0_1024) transposes_S1024x1024_S1024x1024_1_0) bitsLt_bf16_f32 : FVec Ideal S1024x1024 .bf16) := by
  show StableHlo.after (List.flatten [hostOps0, hostOps0_1, hostOps0_2]) (fun b => m (c, b)) (Proc.devRef .tc main_v13) = _
  simp only [hostOps0, hostOps0_1, hostOps0_2, List.flatten_cons, List.flatten_nil, List.append_nil, List.cons_append, List.nil_append]
  after_results

/-- The windows' blocks, read at an element. -/
theorem blk0 (c : Dev nD) (t : Fin cfg0.N) (i : Fin 128) (k : Fin 1024) (r : Fin 1024) (hr : r.val = t.val * 128 + i.val) :
    iblk m c 0 t (ix2 i k) = sampleRow (X m c) r k :=
  ((congrArg (V m c main_v10) (Shape.idx_ext₂ (at_point (idx0 t).1 hr) (at_zero (idx0 t).2))).trans (congrFun (V_v10 m c) (ix2 r k))).trans (sample_apply _ _ _ r k)
theorem blk1 (c : Dev nD) (t : Fin cfg0.N) (k n : Fin 1024) : iblk m c 1 t (ix2 k n) = wq m c k n :=
  ((congrArg (V m c main_v1) (Shape.idx_ext₂ (at_zero (idx1 t).1) (at_zero (idx1 t).2))).trans (congrFun (V_v1 m c) (ix2 k n))).trans (cols_apply _ _ _ _ k n)
theorem blk2 (c : Dev nD) (t : Fin cfg0.N) (k n : Fin 1024) : iblk m c 2 t (ix2 k n) = wkv m c k n :=
  ((congrArg (V m c main_v3) (Shape.idx_ext₂ (at_zero (idx2 t).1) (at_zero (idx2 t).2))).trans (congrFun (V_v3 m c) (ix2 k n))).trans (cols_apply _ _ _ _ k n)
theorem blk3 (c : Dev nD) (t : Fin cfg0.N) (k : Fin 1024) (n : Fin 512) : iblk m c 3 t (ix2 k n) = wwin m c k n :=
  ((congrArg (V m c main_v5) (Shape.idx_ext₂ (at_zero (idx3 t).1) (at_zero (idx3 t).2))).trans (congrFun (V_v5 m c) (ix2 k n))).trans (cols_apply _ _ _ _ k n)
theorem blk4 (c : Dev nD) (t : Fin cfg0.N) (k : Fin 1024) (n : Fin 128) : iblk m c 4 t (ix2 k n) = padded (Wt m c) k n :=
  ((congrArg (V m c main_v8) (Shape.idx_ext₂ (at_zero (idx4 t).1) (at_zero (idx4 t).2))).trans (congrFun (V_v8 m c) (ix2 k n))).trans (padded_apply _ _ _ _ _ k n)
theorem blk5 (c : Dev nD) (t : Fin cfg0.N) (k n : Fin 1024) : iblk m c 5 t (ix2 n k) = wkv m c k n :=
  ((congrArg (V m c main_v13) (Shape.idx_ext₂ (at_zero (idx5 t).1) (at_zero (idx5 t).2))).trans (congrFun (V_v13 m c) (ix2 n k))).trans (rows_apply _ _ _ _ _ k n)

/-- Each point writes its block of the results, and the blocks cover them. -/
theorem final6 (c : Dev nD) : (dats m 0 c).arrAt 6 cfg0.N = G6 m c := by
  refine (dats m 0 c).arrAt_eq_of_cover 6 (G6 m c) (fun t _ => funext fun j => ?_) fun i => ?_
  · rw [Value.flushed6, View.read_apply]
    show out0_6 _ _ _ _ _ _ j = G6 m c (((cfg0.win 6).blk t).view.emb j : S1024x1024.Idx)
    unfold out0_6
    rw [View.canon_unit_zero hz2, View.ld_unit_zero (S := S128x1024) hz2, View.ld_unit_zero (S := S1024x1024) hz2]
    unfold k0_pay2 k0_pay1
    simp only [shapeCast_self]
    exact rows_point _ ⟨rfl, rfl, rfl, rfl, rfl, rfl⟩ _ _ _ _ t.val (blk0 m c t) (blk1 m c t) j _ (at_point (idx6 t).1 rfl) (at_zero (idx6 t).2)
  · obtain ⟨t, ht⟩ := point (i 0).isLt
    refine ⟨t, flush0_6 t, ?_⟩
    show i ∈ ((View.whole main_v14_0).slice (win0_6.rect t)).set
    rw [View.set_slice_whole, Rect.mem_set_unit]
    exact fun a => match a with
      | ⟨0, _⟩ => in_rows (B := 128) (idx6 t).1 ht (by omega)
      | ⟨1, _⟩ => in_zero (idx6 t).2 (i 1).isLt
theorem final7 (c : Dev nD) : (dats m 0 c).arrAt 7 cfg0.N = G7 m c := by
  refine (dats m 0 c).arrAt_eq_of_cover 7 (G7 m c) (fun t _ => funext fun j => ?_) fun i => ?_
  · rw [Value.flushed7, View.read_apply]
    show out0_7 _ _ _ _ _ _ j = G7 m c (((cfg0.win 7).blk t).view.emb j : S1024x1024.Idx)
    unfold out0_7
    rw [View.canon_unit_zero hz2, View.ld_unit_zero (S := S128x1024) hz2, View.ld_unit_zero (S := S1024x1024) hz2]
    unfold k0_pay3 k0_pay1
    simp only [shapeCast_self]
    exact rows_point _ ⟨rfl, rfl, rfl, rfl, rfl, rfl⟩ _ _ _ _ t.val (blk0 m c t) (blk2 m c t) j _ (at_point (idx7 t).1 rfl) (at_zero (idx7 t).2)
  · obtain ⟨t, ht⟩ := point (i 0).isLt
    refine ⟨t, flush0_7 t, ?_⟩
    show i ∈ ((View.whole main_v14_1).slice (win0_7.rect t)).set
    rw [View.set_slice_whole, Rect.mem_set_unit]
    exact fun a => match a with
      | ⟨0, _⟩ => in_rows (B := 128) (idx7 t).1 ht (by omega)
      | ⟨1, _⟩ => in_zero (idx7 t).2 (i 1).isLt
theorem final8 (c : Dev nD) : (dats m 0 c).arrAt 8 cfg0.N = G8 m c := by
  refine (dats m 0 c).arrAt_eq_of_cover 8 (G8 m c) (fun t _ => funext fun j => ?_) fun i => ?_
  · rw [Value.flushed8, View.read_apply]
    show out0_8 _ _ _ _ _ _ j = G8 m c (((cfg0.win 8).blk t).view.emb j : S1024x512.Idx)
    unfold out0_8
    rw [View.canon_unit_zero hz2, View.ld_unit_zero (S := S128x1024) hz2, View.ld_unit_zero (S := S1024x512) hz2]
    unfold k0_pay4 k0_pay1
    simp only [shapeCast_self]
    exact rows_point _ ⟨rfl, rfl, rfl, rfl, rfl, rfl⟩ _ _ _ _ t.val (blk0 m c t) (blk3 m c t) j _ (at_point (idx8 t).1 rfl) (at_zero (idx8 t).2)
  · obtain ⟨t, ht⟩ := point (i 0).isLt
    refine ⟨t, flush0_8 t, ?_⟩
    show i ∈ ((View.whole main_v14_2).slice (win0_8.rect t)).set
    rw [View.set_slice_whole, Rect.mem_set_unit]
    exact fun a => match a with
      | ⟨0, _⟩ => in_rows (B := 128) (idx8 t).1 ht (by omega)
      | ⟨1, _⟩ => in_zero (idx8 t).2 (i 1).isLt
theorem final9 (c : Dev nD) : (dats m 0 c).arrAt 9 cfg0.N = G9 m c := by
  refine (dats m 0 c).arrAt_eq_of_cover 9 (G9 m c) (fun t _ => funext fun j => ?_) fun i => ?_
  · rw [Value.flushed9, View.read_apply]
    show out0_9 _ _ _ _ _ _ j = G9 m c (((cfg0.win 9).blk t).view.emb j : S1024x128.Idx)
    unfold out0_9
    rw [View.canon_unit_zero hz2, View.ld_unit_zero (S := S128x1024) hz2, View.ld_unit_zero (S := S1024x128) hz2]
    unfold k0_pay5 k0_pay1
    simp only [shapeCast_self]
    exact rows_point _ ⟨rfl, rfl, rfl, rfl, rfl, rfl⟩ _ _ _ _ t.val (blk0 m c t) (blk4 m c t) j _ (at_point (idx9 t).1 rfl) (at_zero (idx9 t).2)
  · obtain ⟨t, ht⟩ := point (i 0).isLt
    refine ⟨t, flush0_9 t, ?_⟩
    show i ∈ ((View.whole main_v14_3).slice (win0_9.rect t)).set
    rw [View.set_slice_whole, Rect.mem_set_unit]
    exact fun a => match a with
      | ⟨0, _⟩ => in_rows (B := 128) (idx9 t).1 ht (by omega)
      | ⟨1, _⟩ => in_zero (idx9 t).2 (i 1).isLt
theorem final10 (c : Dev nD) : (dats m 0 c).arrAt 10 cfg0.N = G10 m c := by
  refine (dats m 0 c).arrAt_eq_of_cover 10 (G10 m c) (fun t _ => funext fun j => ?_) fun i => ?_
  · rw [Value.flushed10, View.read_apply]
    show out0_10 _ _ _ _ _ _ j = G10 m c (((cfg0.win 10).blk t).view.emb j : S8x1024x128.Idx)
    unfold out0_10
    rw [View.canon_unit_zero hz3, View.ld_unit_zero (S := S128x1024) hz2, View.ld_unit_zero (S := S1024x1024) hz2]
    unfold k0_pay6 k0_pay1
    simp only [shapeCast_self]
    exact cols_point _ _ ⟨rfl, rfl, rfl, rfl, rfl, rfl⟩ _ _ _ _ _ t.val (blk0 m c t) (blk5 m c t) j _ (at_sample (idx10 t).1 (idx10 t).2.2 (j 0)) (at_zero (idx10 t).2.1)
  · obtain ⟨t, ht⟩ := point' (i 0).isLt
    refine ⟨t, flush0_10 t, ?_⟩
    show i ∈ ((View.whole main_v14_4).slice (win0_10.rect t)).set
    rw [View.set_slice_whole, Rect.mem_set_unit]
    exact fun a => match a with
      | ⟨0, _⟩ => in_query (idx10 t).1 ht
      | ⟨1, _⟩ => in_zero (idx10 t).2.1 (i 1).isLt
      | ⟨2, _⟩ => in_zero (idx10 t).2.2 (i 2).isLt

section
open Cert.NsaProjSRefIdeal.Read
/-- The reference's results. -/
theorem ref6 (c : Dev nD) : val_main_v6 (F := Ideal) (X m c) (Wt m c) = G6 m c := by
  funext i
  rw [val_main_v6_apply, val_main_v5_apply, val_main_v4_apply, val_main_v0_apply]
  refine Finset.sum_congr rfl fun k _ => term (S := S128x8x1024) (T := S1024x2608) (X m c) (Wt m c) ?_ ?_
  · exact idx_ext₃ (seq_of (i 1).isLt) (query_of (i 1).isLt rfl) rfl
  · exact Shape.idx_ext₂ rfl ((col_of (i 1).isLt).trans (Nat.zero_add _).symm)
theorem ref7 (c : Dev nD) : val_main_v8 (F := Ideal) (X m c) (Wt m c) = G7 m c := by
  funext i
  rw [val_main_v8_apply, val_main_v7_apply, val_main_v1_apply, val_main_v0_apply]
  refine Finset.sum_congr rfl fun k _ => term (S := S128x8x1024) (T := S1024x2608) (X m c) (Wt m c) ?_ ?_
  · exact idx_ext₃ (seq_of (i 1).isLt) (query_of (i 1).isLt rfl) rfl
  · exact Shape.idx_ext₂ rfl (congrArg (1024 + ·) (col_of (i 1).isLt))
theorem ref8 (c : Dev nD) : val_main_v10 (F := Ideal) (X m c) (Wt m c) = G8 m c := by
  funext i
  rw [val_main_v10_apply, val_main_v9_apply, val_main_v2_apply, val_main_v0_apply]
  refine Finset.sum_congr rfl fun k _ => term (S := S128x8x1024) (T := S1024x2608) (X m c) (Wt m c) ?_ ?_
  · exact idx_ext₃ (seq_of (i 1).isLt) (query_of (i 1).isLt rfl) rfl
  · exact Shape.idx_ext₂ rfl (congrArg (2048 + ·) (col_of (i 1).isLt))
theorem ref9 (c : Dev nD) : val_main_v13 (F := Ideal) (X m c) (Wt m c) = G9 m c := by
  funext i
  refine pad_dot (val_main_v12 (F := Ideal) (X m c) (Wt m c)) (sampleRow (X m c)) (Wt m c) _ _ _ zero_word (fun r n => ?_) i
  rw [val_main_v12_apply, val_main_v11_apply, val_main_v3_apply, val_main_v0_apply]
  refine Finset.sum_congr rfl fun k _ => term (S := S128x8x1024) (T := S1024x2608) (X m c) (Wt m c) ?_ ?_
  · exact idx_ext₃ (seq_of n.isLt) (query_of n.isLt rfl) rfl
  · exact Shape.idx_ext₂ rfl (congrArg (2560 + ·) (col_of n.isLt))
theorem ref10 (c : Dev nD) : val_main_v14 (F := Ideal) (X m c) (Wt m c) = G10 m c := by
  funext i
  rw [val_main_v14_apply, val_main_v1_apply, val_main_v0_apply]
  refine Finset.sum_congr rfl fun k _ => term (S := S128x8x1024) (T := S1024x2608) (X m c) (Wt m c) ?_ ?_
  · exact idx_ext₃ (col_of (i 2).isLt).symm (row_of (i 2).isLt).symm rfl
  · exact Shape.idx_ext₂ rfl rfl
end

/-- The call and its reference end with the same arrays. -/
theorem algebraic : Cert.algebraic_NsaProjSIdeal_NsaProjSRefIdeal := by
  intro m g m' g' _ hagree
  refine ⟨fun c => G6 m c, fun c => G7 m c, fun c => G8 m c, fun c => G9 m c, fun c => G10 m c, ?_, ?_⟩
  · refine (θ_run Cert.NsaProjSIdeal.defs _ _).mono (fun r h c => ?_) (Value.run_blocks m g)
    obtain ⟨e6, e7, e8, e9, e10, k⟩ := h c
    exact ⟨e6.trans (final6 m c), e7.trans (final7 m c), e8.trans (final8 m c), e9.trans (final9 m c), e10.trans (final10 m c), k⟩
  · refine (θ_run Cert.NsaProjSRefIdeal.defs _ _).mono (fun r h c => ?_) (Cert.NsaProjSRefIdeal.Value.run m' g')
    obtain ⟨e6, e7, e8, e9, e10, k⟩ := h c
    obtain ⟨a0, a1⟩ := hagree c
    rw [a0, a1] at e6 e7 e8 e9 e10
    exact ⟨e6.trans ((Cert.NsaProjSRefIdeal.Read.val_main_v6_eq _ _).trans (ref6 m c)),
      e7.trans ((Cert.NsaProjSRefIdeal.Read.val_main_v8_eq _ _).trans (ref7 m c)),
      e8.trans ((Cert.NsaProjSRefIdeal.Read.val_main_v10_eq _ _).trans (ref8 m c)),
      e9.trans ((Cert.NsaProjSRefIdeal.Read.val_main_v13_eq _ _).trans (ref9 m c)),
      e10.trans ((Cert.NsaProjSRefIdeal.Read.val_main_v14_eq _ _).trans (ref10 m c)), k⟩

/-- The reference runs and changes none of its arguments. -/
theorem frameRef : Cert.quiescent_NsaProjSRefIdeal := fun m ρ _ =>
  (θ_run _ _ _).mono (fun r h => ⟨fun c => (h c).2.2.2.2.2, sem_eq_zero_of_no_sems (by decide) r.2⟩)
    (Cert.NsaProjSRefIdeal.Value.run (F := Ideal) m ρ)

end Cert.Proof.NsaProjSValue

end
-- ==== Proof.PostSValue.lean ====
/- The call after the mixer, on the sample: the same kernel over two blocks of 512 rows. The blocks' values are those of the prompt's
   call; what differs is the arrays they are read from and written to. -/
module

public import proofs.«01_k».proof.Proof.NsaProjSValue
public import proofs.«01_k».proof.Proof.PostValue
public import proofs.«01_k».proof.Proof.Gen.PostS.Frame
public import proofs.«01_k».proof.Proof.Gen.PostSIdeal.Value
public import proofs.«01_k».proof.Proof.Gen.PostSRefIdeal.Read

@[expose] public section

noncomputable section

namespace Cert.Proof.PostSValue

open Cert.PostSIdeal Cert.PostSIdeal.Gen Idealize.ShloMosaic Idealize.ShloMosaic.TcCoe Idealize.SL.Sem
open Idealize.ShloMosaic.ValueIdx Cert.Proof.Common Cert.Proof
open Cert.Proof.PostValue (al dm ep ze mean ln cut cut_apply ld_row ze_eq hz2)
open Idealize.ShloMosaic.Pipeline (Dat)

variable (m : (ℓ : Loc nD τ sig) → Buf (Elt Ideal) ℓ) (ρ : Dev nD → PrngReg)

/-- The arguments as launched: the mixer's output, the output weights, the layer's input, the two norms' gains and offsets, and the
    feed-forward's weights. -/
abbrev O (c : Dev nD) : Buf (Elt Ideal) ((c : Thread nD τ).loc main_arg0) := m ((c : Thread nD τ).loc main_arg0)
abbrev Wo (c : Dev nD) : Buf (Elt Ideal) ((c : Thread nD τ).loc main_arg1) := m ((c : Thread nD τ).loc main_arg1)
abbrev X (c : Dev nD) : Buf (Elt Ideal) ((c : Thread nD τ).loc main_arg2) := m ((c : Thread nD τ).loc main_arg2)
abbrev Lg (c : Dev nD) : Buf (Elt Ideal) ((c : Thread nD τ).loc main_arg3) := m ((c : Thread nD τ).loc main_arg3)
abbrev Lb (c : Dev nD) : Buf (Elt Ideal) ((c : Thread nD τ).loc main_arg4) := m ((c : Thread nD τ).loc main_arg4)
abbrev Wu (c : Dev nD) : Buf (Elt Ideal) ((c : Thread nD τ).loc main_arg5) := m ((c : Thread nD τ).loc main_arg5)
abbrev Wd (c : Dev nD) : Buf (Elt Ideal) ((c : Thread nD τ).loc main_arg6) := m ((c : Thread nD τ).loc main_arg6)

/-- The kernel's blocks are those of the prompt's call: the first norm, one quarter of the feed-forward sum, the last norm. -/
theorem pay5_apply (o : Vec Ideal S512x1024 .f32) (w : Vec Ideal S1024x1024 .bf16) (x : Vec Ideal S512x1024 .f32) (g b : Vec Ideal S1x1024 .f32)
    (i : Fin 512) (n : Fin 1024) :
    k0_pay5 o w x g b (ix2 i n) = ln (fun n => g (ix2 0 n)) (fun n => b (ix2 0 n))
      (fun k => al * x (ix2 i k) + ∑ j : Fin 1024, o (ix2 i j) * w (ix2 j k)) n := PostValue.pay5_apply o w x g b i n
theorem pay4_apply (x acc : Vec Ideal S512x1024 .f32) (g b : Vec Ideal S1x1024 .f32) (i : Fin 512) (n : Fin 1024) :
    k0_pay4 x acc g b (ix2 i n) = ln (fun n => g (ix2 0 n)) (fun n => b (ix2 0 n)) (fun k => al * x (ix2 i k) + acc (ix2 i k)) n :=
  PostValue.pay4_apply x acc g b i n
theorem pay3_apply (xb : Vec Ideal S512x1024 .bf16) (wu : Vec Ideal S1024x1024 .bf16) (acc : Vec Ideal S512x1024 .f32) (wd : Vec Ideal S1024x1024 .bf16)
    (i : Fin 512) (n : Fin 1024) :
    k0_pay3 xb wu acc wd (ix2 i n) = acc (ix2 i n) + ∑ f : Fin 1024,
      (max (∑ j : Fin 1024, xb (ix2 i j) * wu (ix2 j f)) ze * max (∑ j : Fin 1024, xb (ix2 i j) * wu (ix2 j f)) ze) * wd (ix2 f n) :=
  PostValue.pay3_apply xb wu acc wd i n

/-- The four rows of the norms' gains and offsets in the block of the fourth window. -/
abbrev row0 (c : Dev nD) (t : Fin cfg0.N) : Vec Ideal S1x1024 .f32 := View.ld (iblk m c 3 t) (Rect.unit ![0, 0] S1x1024.size inb_S4x1024_S1x1024_0_0)
abbrev row1 (c : Dev nD) (t : Fin cfg0.N) : Vec Ideal S1x1024 .f32 := View.ld (iblk m c 3 t) (Rect.unit ![1, 0] S1x1024.size inb_S4x1024_S1x1024_1_0)
abbrev row2 (c : Dev nD) (t : Fin cfg0.N) : Vec Ideal S1x1024 .f32 := View.ld (iblk m c 3 t) (Rect.unit ![2, 0] S1x1024.size inb_S4x1024_S1x1024_2_0)
abbrev row3 (c : Dev nD) (t : Fin cfg0.N) : Vec Ideal S1x1024 .f32 := View.ld (iblk m c 3 t) (Rect.unit ![3, 0] S1x1024.size inb_S4x1024_S1x1024_3_0)

/-- The state after the first point of a block of rows: the normalized rows (twice), and the first quarter of the feed-forward sum. -/
theorem x1_A (c : Dev nD) (t : Fin cfg0.N) (h0 : t.val % 4 = 0) (h1 : ¬t.val % 4 = 3) :
    (outsAt0 m c t.val t.isLt).2.1 = k0_pay5 (iblk m c 0 t) (iblk m c 1 t) (iblk m c 2 t) (row0 m c t) (row1 m c t) := by
  rw [outsAt0_A m c t h0 h1]
  dsimp only
  unfold sout0_A_0
  rw [View.read_writes_eq_canon _ _ _ (scover0_A_0 _ _ _ _ _ _ _ _ _ _ _ _ _ _ _ _ _ _ _ _ _ _ _ _ _ _ _ _ _ _)]
  unfold kernelRun0_A
  dsimp only
  sl_unfold_words
  rw [View.canon_unit_zero hz2]
  unfold k0_pay6
  simp only [View.readAt_eq_ld, shapeCast_self, (hs0_0 t).read_unread, (hs0_1 t).read_unread, (hs0_2 t).read_unread, (hs0_3 t).read_unread,
    View.ld_unit_zero (S := S512x1024) hz2, View.ld_unit_zero (S := S1024x1024) hz2]
  rfl
theorem xb_A (c : Dev nD) (t : Fin cfg0.N) (h0 : t.val % 4 = 0) (h1 : ¬t.val % 4 = 3) :
    (outsAt0 m c t.val t.isLt).2.2.1 = k0_pay7 (iblk m c 0 t) (iblk m c 1 t) (iblk m c 2 t) (row0 m c t) (row1 m c t) := by
  rw [outsAt0_A m c t h0 h1]
  dsimp only
  unfold sout0_A_1
  rw [View.read_writes_eq_canon _ _ _ (scover0_A_1 _ _ _ _ _ _ _ _ _ _ _ _ _ _ _ _ _ _ _ _ _ _ _ _ _ _ _ _ _ _)]
  unfold kernelRun0_A
  dsimp only
  sl_unfold_words
  rw [View.canon_unit_zero hz2]
  unfold k0_pay1
  simp only [View.readAt_eq_ld, shapeCast_self, (hs0_0 t).read_unread, (hs0_1 t).read_unread, (hs0_2 t).read_unread, (hs0_3 t).read_unread,
    View.ld_unit_zero (S := S512x1024) hz2, View.ld_unit_zero (S := S1024x1024) hz2]
  rfl
theorem acc_A (c : Dev nD) (t : Fin cfg0.N) (h0 : t.val % 4 = 0) (h1 : ¬t.val % 4 = 3) :
    (outsAt0 m c t.val t.isLt).2.2.2 = k0_pay3 (k0_pay7 (iblk m c 0 t) (iblk m c 1 t) (iblk m c 2 t) (row0 m c t) (row1 m c t)) (iblk m c 4 t)
      (k0_pay2 (F := Ideal)) (iblk m c 5 t) := by
  rw [outsAt0_A m c t h0 h1]
  dsimp only
  unfold sout0_A_2
  rw [View.read_writes_eq_canon _ _ _ (scover0_A_2 _ _ _ _ _ _ _ _ _ _ _ _ _ _ _ _ _ _ _ _ _ _ _ _ _ _ _ _ _ _)]
  unfold kernelRun0_A
  dsimp only
  sl_unfold_words
  rw [View.canon_cons_unit_zero (S := S512x1024) hz2]
  simp only [View.readCov_unit_zero (S := S512x1024) _ hz2]
  unfold k0_pay1
  simp only [View.readAt_eq_ld, shapeCast_self, (hs0_0 t).read_unread, (hs0_1 t).read_unread, (hs0_2 t).read_unread, (hs0_3 t).read_unread,
    (hs0_4 t).read_unread, (hs0_5 t).read_unread, View.ld_unit_zero (S := S512x1024) hz2, View.ld_unit_zero (S := S1024x1024) hz2]
  rfl

theorem rs0 (x : Vec Ideal S512x1024 .f32) : View.read (Elt Ideal) (View.whole cc0_scratch0) ((Memref.isWhole_whole cc0_scratch0).unread x) = x :=
  (Memref.isWhole_whole cc0_scratch0).read_unread x
theorem rs1 (x : Vec Ideal S512x1024 .bf16) : View.read (Elt Ideal) (View.whole cc0_scratch1) ((Memref.isWhole_whole cc0_scratch1).unread x) = x :=
  (Memref.isWhole_whole cc0_scratch1).read_unread x
theorem rs2 (x : Vec Ideal S512x1024 .f32) : View.read (Elt Ideal) (View.whole cc0_scratch2) ((Memref.isWhole_whole cc0_scratch2).unread x) = x :=
  (Memref.isWhole_whole cc0_scratch2).read_unread x

/-- At the other points the normalized rows stay and another quarter is added; -/
abbrev prev (c : Dev nD) (t : Fin cfg0.N) := outsAt0 m c (t.val - 1) (Nat.lt_of_le_of_lt (Nat.sub_le _ _) t.isLt)
theorem x1_B (c : Dev nD) (t : Fin cfg0.N) (h0 : ¬t.val % 4 = 0) :
    (outsAt0 m c t.val t.isLt).2.1 = (prev m c t).2.1 ∧ (outsAt0 m c t.val t.isLt).2.2.1 = (prev m c t).2.2.1 := by
  by_cases h1 : t.val % 4 = 3
  · rw [outsAt0_C m c t h0 h1]
    exact ⟨rfl, rfl⟩
  · rw [outsAt0_B m c t h0 h1]
    exact ⟨rfl, rfl⟩
theorem acc_B (c : Dev nD) (t : Fin cfg0.N) (h0 : ¬t.val % 4 = 0) :
    (outsAt0 m c t.val t.isLt).2.2.2 = k0_pay3 (prev m c t).2.2.1 (iblk m c 4 t) (prev m c t).2.2.2 (iblk m c 5 t) := by
  by_cases h1 : t.val % 4 = 3
  · rw [outsAt0_C m c t h0 h1]
    dsimp only
    unfold sout0_C_2
    rw [View.read_writes_eq_canon _ _ _ (scover0_C_2 _ _ _ _ _ _ _ _ _ _ _ _ _ _ _ _ _ _ _ _ _ _ _ _ _ _ _ _ _ _ _ _ _)]
    unfold kernelRun0_C
    dsimp only
    sl_unfold_words
    rw [View.canon_unit_zero hz2]
    simp only [View.readAt_eq_ld, (hs0_4 t).read_unread, (hs0_5 t).read_unread, rs0, rs1, rs2,
      View.ld_unit_zero (S := S512x1024) hz2, View.ld_unit_zero (S := S1024x1024) hz2]
  · rw [outsAt0_B m c t h0 h1]
    dsimp only
    unfold sout0_B_2
    rw [View.read_writes_eq_canon _ _ _ (scover0_B_2 _ _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_4 t).read_unread, (hs0_5 t).read_unread, rs0, rs1, rs2,
      View.ld_unit_zero (S := S512x1024) hz2, View.ld_unit_zero (S := S1024x1024) hz2]
/-- and the last point writes the second norm. -/
theorem out_C (c : Dev nD) (t : Fin cfg0.N) (h1 : t.val % 4 = 3) :
    (outsAt0 m c t.val t.isLt).1 = k0_pay4 (outsAt0 m c t.val t.isLt).2.1 (outsAt0 m c t.val t.isLt).2.2.2 (row2 m c t) (row3 m c t) := by
  have h0 : ¬t.val % 4 = 0 := by omega
  rw [acc_B m c t h0, (x1_B m c t h0).1]
  rw [outsAt0_C m c t h0 h1]
  dsimp only
  unfold out0_C_6
  rw [View.read_writes_eq_canon _ _ _ (cover0_C_6 _ _ _ _ _ _ _ _ _ _ _ _ _ _ _ _ _ _ _ _ _ _ _ _ _ _ _ _ _ _ _ _ _)]
  unfold kernelRun0_C
  dsimp only
  sl_unfold_words
  rw [View.canon_unit_zero hz2]
  simp only [View.readCov_unit_zero (S := S512x1024) _ hz2, View.readAt_eq_ld, (hs0_3 t).read_unread, (hs0_4 t).read_unread, (hs0_5 t).read_unread, rs0, rs1, rs2,
    View.ld_unit_zero (S := S512x1024) hz2, View.ld_unit_zero (S := S1024x1024) hz2]
  rfl

theorem V_v13 (c : Dev nD) : V m c main_v13 = (truncf (F := Ideal) .bf16 (Wo m c) bitsLt_bf16_f32 : FVec Ideal S1024x1024 .bf16) := by
  show StableHlo.after hostOps0 (fun b => m (c, b)) (Proc.devRef .tc main_v13) = _
  after_results
theorem V_v14 (c : Dev nD) : V m c main_v14 = (truncf (F := Ideal) .bf16 (Wu m c) bitsLt_bf16_f32 : FVec Ideal S1024x4096 .bf16) := by
  show StableHlo.after hostOps0 (fun b => m (c, b)) (Proc.devRef .tc main_v14) = _
  after_results
theorem V_v15 (c : Dev nD) : V m c main_v15 = (truncf (F := Ideal) .bf16 (Wd m c) bitsLt_bf16_f32 : FVec Ideal S4096x1024 .bf16) := by
  show StableHlo.after hostOps0 (fun b => m (c, b)) (Proc.devRef .tc main_v15) = _
  after_results
theorem V_v12 (c : Dev nD) : V m c main_v12 = (concatenate S4x1024 0 [⟨S1x1024, cut ![0, 0] slices_S2x1024_S1x1024_0_0 (Lg m c)⟩,
    ⟨S1x1024, cut ![0, 0] slices_S2x1024_S1x1024_0_0 (Lb m c)⟩, ⟨S1x1024, cut ![1, 0] slices_S2x1024_S1x1024_1_0 (Lg m c)⟩,
    ⟨S1x1024, cut ![1, 0] slices_S2x1024_S1x1024_1_0 (Lb m c)⟩] concatenates_S1x1024_S1x1024_S1x1024_S1x1024_S4x1024_d0 : FVec Ideal S4x1024 .f32) := by
  show StableHlo.after hostOps0 (fun b => m (c, b)) (Proc.devRef .tc main_v12) = _
  simp only [hostOps0, StableHlo.after_cons, StableHlo.after_nil]
  after_results_steps
  rfl

/-- Where the windows' blocks lie at each grid point. -/
theorem idx_facts : ∀ t : Fin cfg0.N, (win0_0.index t 0 = t.val / 4 ∧ win0_0.index t 1 = 0) ∧ (win0_1.index t 0 = 0 ∧ win0_1.index t 1 = 0)
    ∧ (win0_2.index t 0 = t.val / 4 ∧ win0_2.index t 1 = 0) ∧ (win0_3.index t 0 = 0 ∧ win0_3.index t 1 = 0)
    ∧ (win0_4.index t 0 = 0 ∧ win0_4.index t 1 = t.val % 4) ∧ (win0_5.index t 0 = t.val % 4 ∧ win0_5.index t 1 = 0) :=
  (by decide +kernel : ∀ t : Fin grid0.N, _)

theorem blk0 (c : Dev nD) (t : Fin cfg0.N) (i : Fin 512) (k : Fin 1024) (r : Fin 1024) (hr : r.val = t.val / 4 * 512 + i.val) :
    iblk m c 0 t (ix2 i k) = O m c (ix2 r k) := by
  obtain ⟨⟨h0, h1⟩, -⟩ := idx_facts t
  unfold iblk
  rw [View.read_apply]
  show V m c main_arg0 _ = _
  rw [V_main_arg0]
  show m _ _ = m _ _
  congr 1
  funext a
  apply Fin.ext
  match a with
  | ⟨0, _⟩ => show win0_0.index t 0 * 512 + 1 * i.val = r.val; rw [h0, hr]; omega
  | ⟨1, _⟩ => show win0_0.index t 1 * 1024 + 1 * k.val = k.val; rw [h1]; omega
theorem blk1 (c : Dev nD) (t : Fin cfg0.N) (k n : Fin 1024) : iblk m c 1 t (ix2 k n) = Wo m c (ix2 k n) := by
  obtain ⟨-, ⟨h0, h1⟩, -⟩ := idx_facts t
  unfold iblk
  rw [View.read_apply]
  show V m c main_v13 _ = _
  rw [V_v13]
  show m _ _ = m _ _
  congr 1
  funext a
  apply Fin.ext
  match a with
  | ⟨0, _⟩ => show win0_1.index t 0 * 1024 + 1 * k.val = k.val; rw [h0]; omega
  | ⟨1, _⟩ => show win0_1.index t 1 * 1024 + 1 * n.val = n.val; rw [h1]; omega
theorem blk2 (c : Dev nD) (t : Fin cfg0.N) (i : Fin 512) (k : Fin 1024) (r : Fin 1024) (hr : r.val = t.val / 4 * 512 + i.val) :
    iblk m c 2 t (ix2 i k) = X m c (ix2 r k) := by
  obtain ⟨-, -, ⟨h0, h1⟩, -⟩ := idx_facts t
  unfold iblk
  rw [View.read_apply]
  show V m c main_arg2 _ = _
  rw [V_main_arg2]
  show m _ _ = m _ _
  congr 1
  funext a
  apply Fin.ext
  match a with
  | ⟨0, _⟩ => show win0_2.index t 0 * 512 + 1 * i.val = r.val; rw [h0, hr]; omega
  | ⟨1, _⟩ => show win0_2.index t 1 * 1024 + 1 * k.val = k.val; rw [h1]; omega
theorem blk3 (c : Dev nD) (t : Fin cfg0.N) : iblk m c 3 t = V m c main_v12 := by
  obtain ⟨-, -, -, ⟨h0, h1⟩, -⟩ := idx_facts t
  funext j
  unfold iblk
  rw [View.read_apply]
  show V m c main_v12 _ = V m c main_v12 _
  congr 1
  funext a
  apply Fin.ext
  match a with
  | ⟨0, _⟩ => show win0_3.index t 0 * 4 + 1 * (j 0).val = (j 0).val; rw [h0]; omega
  | ⟨1, _⟩ => show win0_3.index t 1 * 1024 + 1 * (j 1).val = (j 1).val; rw [h1]; omega
theorem blk4 (c : Dev nD) (t : Fin cfg0.N) (k n : Fin 1024) (p : Fin 4096) (hp : p.val = t.val % 4 * 1024 + n.val) :
    iblk m c 4 t (ix2 k n) = Wu m c (ix2 k p) := by
  obtain ⟨-, -, -, -, ⟨h0, h1⟩, -⟩ := idx_facts t
  unfold iblk
  rw [View.read_apply]
  show V m c main_v14 _ = _
  rw [V_v14]
  show m _ _ = m _ _
  congr 1
  funext a
  apply Fin.ext
  match a with
  | ⟨0, _⟩ => show win0_4.index t 0 * 1024 + 1 * k.val = k.val; rw [h0]; omega
  | ⟨1, _⟩ => show win0_4.index t 1 * 1024 + 1 * n.val = p.val; rw [h1]; omega
theorem blk5 (c : Dev nD) (t : Fin cfg0.N) (k n : Fin 1024) (p : Fin 4096) (hp : p.val = t.val % 4 * 1024 + k.val) :
    iblk m c 5 t (ix2 k n) = Wd m c (ix2 p n) := by
  obtain ⟨-, -, -, -, -, ⟨h0, h1⟩⟩ := idx_facts t
  unfold iblk
  rw [View.read_apply]
  show V m c main_v15 _ = _
  rw [V_v15]
  show m _ _ = m _ _
  congr 1
  funext a
  apply Fin.ext
  match a with
  | ⟨0, _⟩ => show win0_5.index t 0 * 1024 + 1 * k.val = p.val; rw [h0]; omega
  | ⟨1, _⟩ => show win0_5.index t 1 * 1024 + 1 * n.val = n.val; rw [h1]; omega

/-- The fourth window's rows are the two norms' gains and offsets. -/
theorem rows_apply (c : Dev nD) (t : Fin cfg0.N) (n : Fin 1024) :
    row0 m c t (ix2 0 n) = Lg m c (ix2 0 n) ∧ row1 m c t (ix2 0 n) = Lb m c (ix2 0 n)
    ∧ row2 m c t (ix2 0 n) = Lg m c (ix2 1 n) ∧ row3 m c t (ix2 0 n) = Lb m c (ix2 1 n) := by
  unfold row0 row1 row2 row3
  rw [blk3, V_v12]
  refine ⟨?_, ?_, ?_, ?_⟩
  · refine (ld_row _ 0 _ (0 : Fin 4) rfl n).trans ?_
    exact Eq.trans (concatenate_apply_piece (t := S4x1024) 0 _ _ _ 0 (by simp) S1x1024 (cut ![0, 0] slices_S2x1024_S1x1024_0_0 (Lg m c)) rfl rfl 0 rfl (ix2 0 n)
      (fun b hb => by match b with | ⟨0, _⟩ => exact absurd rfl hb | ⟨1, _⟩ => rfl) rfl) (cut_apply ![0, 0] slices_S2x1024_S1x1024_0_0 (Lg m c) 0 n 0 rfl rfl)
  · refine (ld_row _ 1 _ (1 : Fin 4) rfl n).trans ?_
    exact Eq.trans (concatenate_apply_piece (t := S4x1024) 0 _ _ _ 1 (by simp) S1x1024 (cut ![0, 0] slices_S2x1024_S1x1024_0_0 (Lb m c)) rfl rfl 1 rfl (ix2 0 n)
      (fun b hb => by match b with | ⟨0, _⟩ => exact absurd rfl hb | ⟨1, _⟩ => rfl) rfl) (cut_apply ![0, 0] slices_S2x1024_S1x1024_0_0 (Lb m c) 0 n 0 rfl rfl)
  · refine (ld_row _ 2 _ (2 : Fin 4) rfl n).trans ?_
    exact Eq.trans (concatenate_apply_piece (t := S4x1024) 0 _ _ _ 2 (by simp) S1x1024 (cut ![1, 0] slices_S2x1024_S1x1024_1_0 (Lg m c)) rfl rfl 2 rfl (ix2 0 n)
      (fun b hb => by match b with | ⟨0, _⟩ => exact absurd rfl hb | ⟨1, _⟩ => rfl) rfl) (cut_apply ![1, 0] slices_S2x1024_S1x1024_1_0 (Lg m c) 0 n 1 rfl rfl)
  · refine (ld_row _ 3 _ (3 : Fin 4) rfl n).trans ?_
    exact Eq.trans (concatenate_apply_piece (t := S4x1024) 0 _ _ _ 3 (by simp) S1x1024 (cut ![1, 0] slices_S2x1024_S1x1024_1_0 (Lb m c)) rfl rfl 3 rfl (ix2 0 n)
      (fun b hb => by match b with | ⟨0, _⟩ => exact absurd rfl hb | ⟨1, _⟩ => rfl) rfl) (cut_apply ![1, 0] slices_S2x1024_S1x1024_1_0 (Lb m c) 0 n 1 rfl rfl)

/-- The rows after the first norm. -/
def H (c : Dev nD) (r : Fin 1024) (n : Fin 1024) : EReal :=
  ln (fun n => Lg m c (ix2 0 n)) (fun n => Lb m c (ix2 0 n))
    (fun k => al * X m c (ix2 r k) + ∑ j : Fin 1024, @HMul.hMul EReal EReal EReal _ (O m c (ix2 r j)) (Wo m c (ix2 j k))) n
/-- The feed-forward's hidden value, rectified and squared. -/
def U (c : Dev nD) (r : Fin 1024) (f : Fin 4096) : EReal :=
  max (∑ j : Fin 1024, H m c r j * Wu m c (ix2 j f)) ze * max (∑ j : Fin 1024, H m c r j * Wu m c (ix2 j f)) ze
/-- The part of the feed-forward sum over the quarter `q` of the hidden values, and the sum of the first quarters. -/
def Q (c : Dev nD) (r : Fin 1024) (n : Fin 1024) (q : Fin 4) : EReal :=
  ∑ f : Fin 1024, U m c r ⟨q.val * 1024 + f.val, by omega⟩ * Wd m c (ix2 ⟨q.val * 1024 + f.val, by omega⟩ n)
def acc (c : Dev nD) (r : Fin 1024) (n : Fin 1024) : (q : Nat) → q < 4 → EReal
  | 0, h => ze + Q m c r n ⟨0, h⟩
  | q + 1, h => acc c r n q (by omega) + Q m c r n ⟨q + 1, h⟩

/-- The quarter added at a point. -/
theorem quarter (c : Dev nD) (t : Fin cfg0.N) (xb : Vec Ideal S512x1024 .bf16) (a : Vec Ideal S512x1024 .f32) (i : Fin 512) (n : Fin 1024)
    (r : Fin 1024) (q : Fin 4) (hq : q.val = t.val % 4) (hx : ∀ j : Fin 1024, xb (ix2 i j) = H m c r j) :
    k0_pay3 xb (iblk m c 4 t) a (iblk m c 5 t) (ix2 i n) = a (ix2 i n) + Q m c r n q := by
  rw [pay3_apply]
  congr 1
  unfold Q U
  refine Finset.sum_congr rfl fun f _ => ?_
  rw [blk5 m c t f n ⟨q.val * 1024 + f.val, by omega⟩ (by rw [← hq])]
  simp only [hx, blk4 m c t _ f ⟨q.val * 1024 + f.val, by omega⟩ (by rw [← hq])]

/-- What the carried state is after each point. -/
theorem state (c : Dev nD) (n : Nat) (hn : n < cfg0.N) (i : Fin 512) (k : Fin 1024) (r : Fin 1024) (hr : r.val = n / 4 * 512 + i.val) :
    (∀ j : Fin 1024, (outsAt0 m c n hn).2.1 (ix2 i j) = H m c r j) ∧ (∀ j : Fin 1024, (outsAt0 m c n hn).2.2.1 (ix2 i j) = H m c r j)
    ∧ (outsAt0 m c n hn).2.2.2 (ix2 i k) = acc m c r k (n % 4) (Nat.mod_lt _ (by decide)) := by
  have hA : ∀ (t : Fin cfg0.N), t.val % 4 = 0 → r.val = t.val / 4 * 512 + i.val → ∀ j : Fin 1024,
      k0_pay5 (iblk m c 0 t) (iblk m c 1 t) (iblk m c 2 t) (row0 m c t) (row1 m c t) (ix2 i j) = H m c r j := by
    intro t h0 hr j
    rw [pay5_apply]
    unfold H
    simp only [(rows_apply m c t _).1, (rows_apply m c t _).2.1, blk0 m c t i _ r hr, blk2 m c t i _ r hr, blk1]
  induction n with
  | zero =>
    have h0 : (⟨0, hn⟩ : Fin cfg0.N).val % 4 = 0 := rfl
    have h1 : ¬(⟨0, hn⟩ : Fin cfg0.N).val % 4 = 3 := by show ¬0 % 4 = 3; omega
    have e1 := x1_A m c ⟨0, hn⟩ h0 h1
    have e2 := xb_A m c ⟨0, hn⟩ h0 h1
    have e3 := acc_A m c ⟨0, hn⟩ h0 h1
    dsimp only at e1 e2 e3
    rw [e1, e2, e3]
    refine ⟨hA ⟨0, hn⟩ h0 hr, hA ⟨0, hn⟩ h0 hr, ?_⟩
    refine (quarter m c ⟨0, hn⟩ _ _ i k r ⟨0, by omega⟩ rfl (hA ⟨0, hn⟩ h0 hr)).trans ?_
    rfl
  | succ n ih =>
    by_cases h0 : (n + 1) % 4 = 0
    · have h1 : ¬(n + 1) % 4 = 3 := by omega
      have e1 := x1_A m c ⟨n + 1, hn⟩ h0 h1
      have e2 := xb_A m c ⟨n + 1, hn⟩ h0 h1
      have e3 := acc_A m c ⟨n + 1, hn⟩ h0 h1
      dsimp only at e1 e2 e3
      rw [e1, e2, e3]
      refine ⟨hA ⟨n + 1, hn⟩ h0 hr, hA ⟨n + 1, hn⟩ h0 hr, ?_⟩
      refine (quarter m c ⟨n + 1, hn⟩ _ _ i k r ⟨0, by omega⟩ h0.symm (hA ⟨n + 1, hn⟩ h0 hr)).trans ?_
      simp only [h0]
      rfl
    · have hd : (n + 1) / 4 = n / 4 := by omega
      obtain ⟨i1, i2, i3⟩ := ih (by omega) (by rw [hr, hd])
      have e1 := x1_B m c ⟨n + 1, hn⟩ h0
      have e3 := acc_B m c ⟨n + 1, hn⟩ h0
      dsimp only at e1 e3
      rw [e1.1, e1.2, e3]
      refine ⟨i1, i2, ?_⟩
      have hm : (n + 1) % 4 = n % 4 + 1 := by omega
      refine (quarter m c ⟨n + 1, hn⟩ _ _ i k r ⟨n % 4 + 1, by omega⟩ hm.symm i2).trans ?_
      simp only [hm, acc]
      exact congrArg (· + _) i3

/-- The feed-forward sum is the four quarters'. -/
theorem acc_eq (c : Dev nD) (r : Fin 1024) (n : Fin 1024) : acc m c r n 3 (by decide) = ∑ f : Fin 4096, U m c r f * Wd m c (ix2 f n) := by
  have e : ∑ f : Fin 4096, U m c r f * Wd m c (ix2 f n) = ∑ q : Fin 4, Q m c r n q := by
    unfold Q
    exact sum_quarters fun f => U m c r f * Wd m c (ix2 f n)
  rw [e, Fin.sum_univ_four]
  have z : ze = 0 := by simp [ze, Ideal.ofBits, Ideal.ieee]
  simp only [acc, z, zero_add]
  rfl

/-- The result. -/
def G (c : Dev nD) (r : Fin 1024) (n : Fin 1024) : EReal :=
  ln (fun n => Lg m c (ix2 1 n)) (fun n => Lb m c (ix2 1 n))
    (fun k => al * H m c r k + ∑ f : Fin 4096, U m c r f * Wd m c (ix2 f k)) n

theorem G6_apply (c : Dev nD) (i : S1024x1024.Idx) : Cert.PostSIdeal.Value.G6 m c i = G m c (i 0) (i 1) := by
  have hi0 : (i 0).val < 1024 := (i 0).isLt
  have hi1 : (i 1).val < 1024 := (i 1).isLt
  have hN : cfg0.N = 8 := by decide
  have hp : Cert.PostSIdeal.Value.pt6Of i = 4 * ((i 0).val / 512) + 3 := by
    show 4 * (1 * ((i 0).val / 512 - 0) + 1 * ((i 1).val / 1024 - 0)) + 3 = _
    omega
  unfold Cert.PostSIdeal.Value.G6
  have hlt : Cert.PostSIdeal.Value.pt6Of i < cfg0.N := by rw [hp, hN]; omega
  rw [dif_pos hlt, ← Cert.PostSIdeal.Value.outsAt0_sweep m c _ hlt]
  have h3 : (⟨Cert.PostSIdeal.Value.pt6Of i, hlt⟩ : Fin cfg0.N).val % 4 = 3 := by show Cert.PostSIdeal.Value.pt6Of i % 4 = 3; rw [hp]; omega
  have e := out_C m c ⟨Cert.PostSIdeal.Value.pt6Of i, hlt⟩ h3
  dsimp only at e
  rw [e]
  have hl : (Cert.PostSIdeal.Value.loc6Of i : S512x1024.Idx) = ix2 ⟨(i 0).val % 512, by omega⟩ ⟨(i 1).val, hi1⟩ := by
    refine Shape.idx_ext₂ rfl ?_
    show (i 1).val % 1024 = (i 1).val
    omega
  rw [hl, pay4_apply]
  have hr : (i 0).val = Cert.PostSIdeal.Value.pt6Of i / 4 * 512 + (⟨(i 0).val % 512, by omega⟩ : Fin 512).val := by rw [hp]; dsimp only; omega
  have hs := fun k => state m c _ hlt ⟨(i 0).val % 512, by omega⟩ k (i 0) hr
  have h3' : Cert.PostSIdeal.Value.pt6Of i % 4 = 3 := h3
  unfold G
  simp only [(rows_apply m c _ _).2.2.1, (rows_apply m c _ _).2.2.2]
  congr 1
  funext k
  rw [(hs k).1 k, (hs k).2.2]
  simp only [h3']
  exact congrArg (_ + ·) (acc_eq m c (i 0) k)

/-! The reference, read the same way. -/
section Ref
open Cert.PostSRefIdeal.Read

theorem ref3 (c : Dev nD) (i : S1024x1024.Idx) : val_main_v3 (F := Ideal) (O m c) (Wo m c) (X m c) i
    = al * X m c (ix2 (i 0) (i 1)) + ∑ j : Fin 1024, @HMul.hMul EReal EReal EReal _ (O m c (ix2 (i 0) j)) (Wo m c (ix2 j (i 1))) := by
  rw [val_main_v3_apply, val_main_v1_apply, val_main_v0_apply, val_main_cst_apply, val_main_v2_apply]
  refine congrArg₂ (· + ·) (congrArg (al * ·) (congrArg (X m c) (eq_ix2 i))) (Finset.sum_congr rfl fun j _ => ?_)
  exact congrArg₂ (@HMul.hMul EReal EReal EReal _) (congrArg (O m c) (Shape.idx_ext₂ rfl rfl)) (congrArg (Wo m c) (Shape.idx_ext₂ rfl rfl))
theorem ref11 (c : Dev nD) (i : Cert.PostSRefIdeal.S1024x1.Idx) : val_main_v11 (F := Ideal) (O m c) (Wo m c) (X m c) i
    = mean fun k => val_main_v3 (F := Ideal) (O m c) (Wo m c) (X m c) (ix2 (i 0) k) := by
  rw [val_main_v11_apply, val_main_v9_apply, val_main_v10_apply, val_main_cst_1_apply, val_main_v8_apply, val_main_cst_0_apply]
  show Ideal.div (ze + _) dm = _
  rw [ze_eq, zero_add]
  refine congrArg (Ideal.div · dm) (Finset.sum_congr rfl fun k _ => congrArg _ (Shape.idx_ext₂ rfl rfl))
theorem ref13 (c : Dev nD) (i : S1024x1024.Idx) : val_main_v13 (F := Ideal) (O m c) (Wo m c) (X m c) i
    = val_main_v3 (F := Ideal) (O m c) (Wo m c) (X m c) i - mean fun k => val_main_v3 (F := Ideal) (O m c) (Wo m c) (X m c) (ix2 (i 0) k) := by
  rw [val_main_v13_apply, val_main_v12_apply, ref11]
  rfl
theorem ref20 (c : Dev nD) (i : S1024x1024.Idx) : val_main_v20 (F := Ideal) (O m c) (Wo m c) (X m c) i
    = val_main_v3 (F := Ideal) (O m c) (Wo m c) (X m c) i - mean fun k => val_main_v3 (F := Ideal) (O m c) (Wo m c) (X m c) (ix2 (i 0) k) := by
  rw [val_main_v20_apply, val_main_v19_apply, ref11]
  rfl
theorem ref18 (c : Dev nD) (i : Cert.PostSRefIdeal.S1024x1.Idx) : val_main_v18 (F := Ideal) (O m c) (Wo m c) (X m c) i
    = mean fun k => val_main_v13 (F := Ideal) (O m c) (Wo m c) (X m c) (ix2 (i 0) k) * val_main_v13 (F := Ideal) (O m c) (Wo m c) (X m c) (ix2 (i 0) k) := by
  rw [val_main_v18_apply, val_main_v16_apply, val_main_v17_apply, val_main_cst_3_apply, val_main_v15_apply, val_main_cst_2_apply]
  show Ideal.div (ze + _) dm = _
  rw [ze_eq, zero_add]
  refine congrArg (Ideal.div · dm) (Finset.sum_congr rfl fun k _ => ?_)
  rw [val_main_v14_apply]
  have e : idx_main_v15 (idx_main_v16 i) k = ix2 (i 0) k := Shape.idx_ext₂ rfl rfl
  rw [e]
  rfl
theorem ref_g0 (c : Dev nD) (i : S1024x1024.Idx) : val_main_v27 (F := Ideal) (Lg m c) i = Lg m c (ix2 0 (i 1)) := by
  rw [val_main_v27_apply, val_main_v26_apply, val_main_v5_apply, val_main_v4_apply]
  exact congrArg (Lg m c) (Shape.idx_ext₂ rfl (Nat.mod_eq_of_lt (idx2_lt1 i)))
theorem ref_b0 (c : Dev nD) (i : S1024x1024.Idx) : val_main_v30 (F := Ideal) (Lb m c) i = Lb m c (ix2 0 (i 1)) := by
  rw [val_main_v30_apply, val_main_v29_apply, val_main_v7_apply, val_main_v6_apply]
  exact congrArg (Lb m c) (Shape.idx_ext₂ rfl (Nat.mod_eq_of_lt (idx2_lt1 i)))
theorem ref_g1 (c : Dev nD) (i : S1024x1024.Idx) : val_main_v62 (F := Ideal) (Lg m c) i = Lg m c (ix2 1 (i 1)) := by
  rw [val_main_v62_apply, val_main_v61_apply, val_main_v40_apply, val_main_v39_apply]
  exact congrArg (Lg m c) (Shape.idx_ext₂ rfl (Nat.mod_eq_of_lt (idx2_lt1 i)))
theorem ref_b1 (c : Dev nD) (i : S1024x1024.Idx) : val_main_v65 (F := Ideal) (Lb m c) i = Lb m c (ix2 1 (i 1)) := by
  rw [val_main_v65_apply, val_main_v64_apply, val_main_v42_apply, val_main_v41_apply]
  exact congrArg (Lb m c) (Shape.idx_ext₂ rfl (Nat.mod_eq_of_lt (idx2_lt1 i)))
/-- The first norm's rows are the kernel's. -/
theorem ref31 (c : Dev nD) (i : S1024x1024.Idx) : val_main_v31 (F := Ideal) (O m c) (Wo m c) (X m c) (Lg m c) (Lb m c) i = H m c (i 0) (i 1) := by
  rw [val_main_v31_apply, val_main_v28_apply, val_main_v25_apply, val_main_v24_apply, val_main_v23_apply, val_main_v22_apply, val_main_v21_apply,
    val_main_cst_4_apply, ref_g0, ref_b0, ref18, ref20]
  simp only [ref13, ref3]
  rfl
theorem ref34 (c : Dev nD) (i : Cert.PostSRefIdeal.S1024x4096.Idx) : val_main_v36 (F := Ideal) (O m c) (Wo m c) (X m c) (Lg m c) (Lb m c) (Wu m c) i = U m c (i 0) (i 1) := by
  rw [val_main_v36_apply, val_main_v35_apply, val_main_call0_v0_apply, val_main_call0_cst_apply, val_main_v34_apply]
  have e : (∑ k : Fin 1024, val_main_v31 (F := Ideal) (O m c) (Wo m c) (X m c) (Lg m c) (Lb m c) (lidx_main_v34 i k) * Wu m c (ridx_main_v34 i k))
      = ∑ j : Fin 1024, H m c (i 0) j * Wu m c (ix2 j (i 1)) := by
    refine Finset.sum_congr rfl fun k _ => ?_
    rw [ref31]
    exact congrArg (H m c (i 0) k * ·) (congrArg (Wu m c) (Shape.idx_ext₂ rfl rfl))
  rw [e]
  rfl
theorem ref38 (c : Dev nD) (i : S1024x1024.Idx) : val_main_v38 (F := Ideal) (O m c) (Wo m c) (X m c) (Lg m c) (Lb m c) (Wu m c) (Wd m c) i
    = al * H m c (i 0) (i 1) + ∑ f : Fin 4096, U m c (i 0) f * Wd m c (ix2 f (i 1)) := by
  rw [val_main_v38_apply, val_main_v33_apply, val_main_v32_apply, val_main_cst_5_apply, ref31, val_main_v37_apply]
  refine congrArg (al * H m c (i 0) (i 1) + ·) (Finset.sum_congr rfl fun f _ => ?_)
  rw [ref34]
  exact congrArg (U m c (i 0) f * ·) (congrArg (Wd m c) (Shape.idx_ext₂ rfl rfl))
/-- The rows that the second norm takes. -/
abbrev Y (c : Dev nD) : S1024x1024.Idx → EReal := val_main_v38 (F := Ideal) (O m c) (Wo m c) (X m c) (Lg m c) (Lb m c) (Wu m c) (Wd m c)
theorem ref46 (c : Dev nD) (i : Cert.PostSRefIdeal.S1024x1.Idx) : val_main_v46 (F := Ideal) (O m c) (Wo m c) (X m c) (Lg m c) (Lb m c) (Wu m c) (Wd m c) i
    = mean fun k => Y m c (ix2 (i 0) k) := by
  rw [val_main_v46_apply, val_main_v44_apply, val_main_v45_apply, val_main_cst_7_apply, val_main_v43_apply, val_main_cst_6_apply]
  show Ideal.div (ze + _) dm = _
  rw [ze_eq, zero_add]
  refine congrArg (Ideal.div · dm) (Finset.sum_congr rfl fun k _ => congrArg _ (Shape.idx_ext₂ rfl rfl))
theorem ref48 (c : Dev nD) (i : S1024x1024.Idx) : val_main_v48 (F := Ideal) (O m c) (Wo m c) (X m c) (Lg m c) (Lb m c) (Wu m c) (Wd m c) i
    = Y m c i - mean fun k => Y m c (ix2 (i 0) k) := by
  rw [val_main_v48_apply, val_main_v47_apply, ref46]
  rfl
theorem ref55 (c : Dev nD) (i : S1024x1024.Idx) : val_main_v55 (F := Ideal) (O m c) (Wo m c) (X m c) (Lg m c) (Lb m c) (Wu m c) (Wd m c) i
    = Y m c i - mean fun k => Y m c (ix2 (i 0) k) := by
  rw [val_main_v55_apply, val_main_v54_apply, ref46]
  rfl
theorem ref53 (c : Dev nD) (i : Cert.PostSRefIdeal.S1024x1.Idx) : val_main_v53 (F := Ideal) (O m c) (Wo m c) (X m c) (Lg m c) (Lb m c) (Wu m c) (Wd m c) i
    = mean fun k => (Y m c (ix2 (i 0) k) - mean fun k => Y m c (ix2 (i 0) k)) * (Y m c (ix2 (i 0) k) - mean fun k => Y m c (ix2 (i 0) k)) := by
  rw [val_main_v53_apply, val_main_v51_apply, val_main_v52_apply, val_main_cst_9_apply, val_main_v50_apply, val_main_cst_8_apply]
  show Ideal.div (ze + _) dm = _
  rw [ze_eq, zero_add]
  refine congrArg (Ideal.div · dm) (Finset.sum_congr rfl fun k _ => ?_)
  rw [val_main_v49_apply]
  have e : idx_main_v50 (idx_main_v51 i) k = ix2 (i 0) k := Shape.idx_ext₂ rfl rfl
  rw [e]
  exact congrArg₂ (@HMul.hMul EReal EReal EReal _) (ref48 m c _) (ref48 m c _)
theorem ref66 (c : Dev nD) : val_main_v66 (F := Ideal) (O m c) (Wo m c) (X m c) (Lg m c) (Lb m c) (Wu m c) (Wd m c) = Cert.PostSIdeal.Value.G6 m c := by
  funext i
  rw [G6_apply, val_main_v66_apply, val_main_v63_apply, val_main_v60_apply, val_main_v59_apply, val_main_v58_apply, val_main_v57_apply, val_main_v56_apply,
    val_main_cst_10_apply, ref_g1, ref_b1, ref53, ref55]
  simp only [Y, ref38]
  rfl
end Ref

/-- The call and its reference end with the same array. -/
theorem algebraic : Cert.algebraic_PostSIdeal_PostSRefIdeal := by
  intro m g m' g' _ hagree
  refine ⟨fun c => Cert.PostSIdeal.Value.G6 m c, Cert.PostSIdeal.Value.run m g, ?_⟩
  refine (θ_run Cert.PostSRefIdeal.defs _ _).mono (fun r h c => ?_) (Cert.PostSRefIdeal.Value.run m' g')
  obtain ⟨e, k⟩ := h c
  obtain ⟨a0, a1, a2, a3, a4, a5, a6⟩ := hagree c
  refine ⟨e.trans ?_, k⟩
  refine (Cert.PostSRefIdeal.Read.val_main_v66_eq _ _).trans ?_
  rw [a0, a1, a2, a3, a4, a5, a6]
  exact ref66 m c

/-- The reference runs and changes none of its arguments. -/
theorem frameRef : Cert.quiescent_PostSRefIdeal := fun m ρ _ =>
  (θ_run _ _ _).mono (fun r h => ⟨fun c => (h c).2, sem_eq_zero_of_no_sems (by decide) r.2⟩)
    (Cert.PostSRefIdeal.Value.run (F := Ideal) m ρ)

end Cert.Proof.PostSValue

end
-- ==== Proof.WinSRun.lean ====
/- One run of the sparse layers' sample attention: from its blocks at a grid point, what the body stores in its two results, and that
   it ends with its inputs as they were. The body is long, so the run takes more steps than an ordinary definition may. -/
module

public import proofs.«01_k».proof.Proof.Gen.WinSIdeal.Frame.Runs

@[expose] public section

set_option maxRecDepth 16384

noncomputable section

namespace Cert.WinSIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 8000000 in
/-- The pieces that the body stores in its two results and in its scratch buffer, last first, with the proof that the body, run on
    buffers holding its blocks, ends with the inputs as they were and the pieces stored. The run over the body's operations finds
    the pieces. -/
noncomputable def kernelRun0_A (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S1x128x512 .f32) (harg6 : arg6.IsWhole) (arg7 : Memref sig .tc .vmem S1x1x2x4x64x512 .f32) (harg7 : arg7.IsWhole) (arg8 : Memref sig .tc .vmem S128x128 .f32) (harg8 : arg8.IsWhole) (arg9 : Memref sig .tc .vmem S128x2176 .f32) (harg9 : arg9.IsWhole) (arg10 : Memref sig .tc .vmem S128x640 .f32) (harg10 : arg10.IsWhole) (arg11 : Memref sig .tc .vmem S40x128 .bf16) (harg11 : arg11.IsWhole) (arg12 : Memref sig .tc .vmem S1x1x2x4x64x128 .f32) (harg12 : arg12.IsWhole) (arg13 : Memref sig .tc .vmem S1x1x2x4x64x128 .f32) (harg13 : arg13.IsWhole) (arg14 : Memref sig .tc .vmem S1x1x2x4x64x128 .f32) (harg14 : arg14.IsWhole) (arg15 : Memref sig .tc .vmem S1x1x2x4x64x128 .f32) (harg15 : arg15.IsWhole) (arg16 : Memref sig .tc .vmem S1x1x2x4x64x128 .f32) (harg16 : arg16.IsWhole) (arg17 : Memref sig .tc .vmem S1x1x2x4x64x128 .f32) (harg17 : arg17.IsWhole) (arg18 : Memref sig .tc .vmem S1x1x2x4x64x128 .f32) (harg18 : arg18.IsWhole) (arg19 : Memref sig .tc .vmem S1x1x2x4x64x128 .f32) (harg19 : arg19.IsWhole) (arg20 : Memref sig .tc .vmem S1x1x2x4x64x128 .f32) (harg20 : arg20.IsWhole) (arg21 : Memref sig .tc .vmem S1x1x2x4x64x128 .f32) (harg21 : arg21.IsWhole) (arg22 : Memref sig .tc .vmem S1x1x2x4x64x128 .f32) (harg22 : arg22.IsWhole) (arg23 : Memref sig .tc .vmem S1x1x2x4x64x128 .f32) (harg23 : arg23.IsWhole) (arg24 : Memref sig .tc .vmem S1x1x2x4x64x128 .f32) (harg24 : arg24.IsWhole) (arg25 : Memref sig .tc .vmem S1x1x2x4x64x128 .f32) (harg25 : arg25.IsWhole) (arg26 : Memref sig .tc .vmem S1x1x2x4x64x128 .f32) (harg26 : arg26.IsWhole) (arg27 : Memref sig .tc .vmem S1x1x2x4x64x128 .f32) (harg27 : arg27.IsWhole) (arg28 : Memref sig .tc .vmem S1x8x1024 .f32) (harg28 : arg28.IsWhole) (arg29 : Memref sig .tc .vmem S1x2x4x64x512 .f32) (harg29 : arg29.IsWhole) (arg30 : Memref sig .tc .vmem S128x2048 .f32) (harg30 : arg30.IsWhole)
    (x0 : Vec F S1x8x1024 .f32) (x1 : Vec F S1x8x1024 .f32) (x2 : Vec F S1x8x512 .f32) (x3 : Vec F S1x8x128 .f32) (x4 : Vec F S1x128x512 .f32) (x5 : Vec F S1x1x2x4x64x512 .f32) (x6 : Vec F S128x128 .f32) (x7 : Vec F S128x2176 .f32) (x8 : Vec F S128x640 .f32) (x9 : Vec F S40x128 .bf16) (x10 : Vec F S1x1x2x4x64x128 .f32) (x11 : Vec F S1x1x2x4x64x128 .f32) (x12 : Vec F S1x1x2x4x64x128 .f32) (x13 : Vec F S1x1x2x4x64x128 .f32) (x14 : Vec F S1x1x2x4x64x128 .f32) (x15 : Vec F S1x1x2x4x64x128 .f32) (x16 : Vec F S1x1x2x4x64x128 .f32) (x17 : Vec F S1x1x2x4x64x128 .f32) (x18 : Vec F S1x1x2x4x64x128 .f32) (x19 : Vec F S1x1x2x4x64x128 .f32) (x20 : Vec F S1x1x2x4x64x128 .f32) (x21 : Vec F S1x1x2x4x64x128 .f32) (x22 : Vec F S1x1x2x4x64x128 .f32) (x23 : Vec F S1x1x2x4x64x128 .f32) (x24 : Vec F S1x1x2x4x64x128 .f32) (x25 : Vec F S1x1x2x4x64x128 .f32) (xt0 : TbBuf0 (F := F) c tbM0_0) :
    Σ' (L26 : List (View.Piece (Elt F) S1x8x1024 .f32)), Σ' (L27 : List (View.Piece (Elt F) S1x2x4x64x512 .f32)), { LT0 : List (View.Piece (Elt F) S128x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ d, owns (c : Thread nD τ) arg28 fullShare d) ∗ (∃ d, owns (c : Thread nD τ) arg29 fullShare d) ∗ (∃ d, owns (c : Thread nD τ) arg30 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f LT0) ∗ tbPt0 c tbM0_0 xt0) -∗ K ⟨⟩))
          ⊢ wp frame (wpE (defs₀ (F := F)) Variants.none c none) E (cc0_nsa_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, fun E K => ?run⟩
  case run =>
    simp only [cc0_nsa_decode_eq_skeleton]; unfold cc0_nsa_decode_skel
    simp only [k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]; · iexists _; iexact H26
    isplitl [H27]; · iexists _; iexact H27
    isplitl [HS0]; · iexists _; iexact HS0
    iexact HT0

end Cert.WinSIdeal.Gen

end
-- ==== Proof.WinSFrame.lean ====
/- The sparse layers' sample attention runs to its end, for every page table whose pages exist: what its buffers hold at each grid
   point, from the body's run (WinSRun), and the run of the whole call. The program as printed for rounding floats has the same text
   as the one over the reals, so one run serves both. -/
module

public import proofs.«01_k».proof.Proof.WinSRun
public import Idealize.ShloMosaic.Lib.Claim

@[expose] public section

set_option maxRecDepth 16384

noncomputable section

namespace Cert.WinSIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The body stores the whole of its block of the attention's output at once. -/
theorem cover0_A_26 (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S1x128x512 .f32) (harg6 : arg6.IsWhole) (arg7 : Memref sig .tc .vmem S1x1x2x4x64x512 .f32) (harg7 : arg7.IsWhole) (arg8 : Memref sig .tc .vmem S128x128 .f32) (harg8 : arg8.IsWhole) (arg9 : Memref sig .tc .vmem S128x2176 .f32) (harg9 : arg9.IsWhole) (arg10 : Memref sig .tc .vmem S128x640 .f32) (harg10 : arg10.IsWhole) (arg11 : Memref sig .tc .vmem S40x128 .bf16) (harg11 : arg11.IsWhole) (arg12 : Memref sig .tc .vmem S1x1x2x4x64x128 .f32) (harg12 : arg12.IsWhole) (arg13 : Memref sig .tc .vmem S1x1x2x4x64x128 .f32) (harg13 : arg13.IsWhole) (arg14 : Memref sig .tc .vmem S1x1x2x4x64x128 .f32) (harg14 : arg14.IsWhole) (arg15 : Memref sig .tc .vmem S1x1x2x4x64x128 .f32) (harg15 : arg15.IsWhole) (arg16 : Memref sig .tc .vmem S1x1x2x4x64x128 .f32) (harg16 : arg16.IsWhole) (arg17 : Memref sig .tc .vmem S1x1x2x4x64x128 .f32) (harg17 : arg17.IsWhole) (arg18 : Memref sig .tc .vmem S1x1x2x4x64x128 .f32) (harg18 : arg18.IsWhole) (arg19 : Memref sig .tc .vmem S1x1x2x4x64x128 .f32) (harg19 : arg19.IsWhole) (arg20 : Memref sig .tc .vmem S1x1x2x4x64x128 .f32) (harg20 : arg20.IsWhole) (arg21 : Memref sig .tc .vmem S1x1x2x4x64x128 .f32) (harg21 : arg21.IsWhole) (arg22 : Memref sig .tc .vmem S1x1x2x4x64x128 .f32) (harg22 : arg22.IsWhole) (arg23 : Memref sig .tc .vmem S1x1x2x4x64x128 .f32) (harg23 : arg23.IsWhole) (arg24 : Memref sig .tc .vmem S1x1x2x4x64x128 .f32) (harg24 : arg24.IsWhole) (arg25 : Memref sig .tc .vmem S1x1x2x4x64x128 .f32) (harg25 : arg25.IsWhole) (arg26 : Memref sig .tc .vmem S1x1x2x4x64x128 .f32) (harg26 : arg26.IsWhole) (arg27 : Memref sig .tc .vmem S1x1x2x4x64x128 .f32) (harg27 : arg27.IsWhole) (arg28 : Memref sig .tc .vmem S1x8x1024 .f32) (harg28 : arg28.IsWhole) (arg29 : Memref sig .tc .vmem S1x2x4x64x512 .f32) (harg29 : arg29.IsWhole) (arg30 : Memref sig .tc .vmem S128x2048 .f32) (harg30 : arg30.IsWhole)
    (x0 : Vec F S1x8x1024 .f32) (x1 : Vec F S1x8x1024 .f32) (x2 : Vec F S1x8x512 .f32) (x3 : Vec F S1x8x128 .f32) (x4 : Vec F S1x128x512 .f32) (x5 : Vec F S1x1x2x4x64x512 .f32) (x6 : Vec F S128x128 .f32) (x7 : Vec F S128x2176 .f32) (x8 : Vec F S128x640 .f32) (x9 : Vec F S40x128 .bf16) (x10 : Vec F S1x1x2x4x64x128 .f32) (x11 : Vec F S1x1x2x4x64x128 .f32) (x12 : Vec F S1x1x2x4x64x128 .f32) (x13 : Vec F S1x1x2x4x64x128 .f32) (x14 : Vec F S1x1x2x4x64x128 .f32) (x15 : Vec F S1x1x2x4x64x128 .f32) (x16 : Vec F S1x1x2x4x64x128 .f32) (x17 : Vec F S1x1x2x4x64x128 .f32) (x18 : Vec F S1x1x2x4x64x128 .f32) (x19 : Vec F S1x1x2x4x64x128 .f32) (x20 : Vec F S1x1x2x4x64x128 .f32) (x21 : Vec F S1x1x2x4x64x128 .f32) (x22 : Vec F S1x1x2x4x64x128 .f32) (x23 : Vec F S1x1x2x4x64x128 .f32) (x24 : Vec F S1x1x2x4x64x128 .f32) (x25 : Vec F S1x1x2x4x64x128 .f32) (xt0 : TbBuf0 (F := F) c tbM0_0) (y : S1x8x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 xt0).1 S1x8x1024.size (by sl_kernel_rfl) y

/-- What the body leaves of the attention's output. -/
def out0_A_26 (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S1x128x512 .f32) (harg6 : arg6.IsWhole) (arg7 : Memref sig .tc .vmem S1x1x2x4x64x512 .f32) (harg7 : arg7.IsWhole) (arg8 : Memref sig .tc .vmem S128x128 .f32) (harg8 : arg8.IsWhole) (arg9 : Memref sig .tc .vmem S128x2176 .f32) (harg9 : arg9.IsWhole) (arg10 : Memref sig .tc .vmem S128x640 .f32) (harg10 : arg10.IsWhole) (arg11 : Memref sig .tc .vmem S40x128 .bf16) (harg11 : arg11.IsWhole) (arg12 : Memref sig .tc .vmem S1x1x2x4x64x128 .f32) (harg12 : arg12.IsWhole) (arg13 : Memref sig .tc .vmem S1x1x2x4x64x128 .f32) (harg13 : arg13.IsWhole) (arg14 : Memref sig .tc .vmem S1x1x2x4x64x128 .f32) (harg14 : arg14.IsWhole) (arg15 : Memref sig .tc .vmem S1x1x2x4x64x128 .f32) (harg15 : arg15.IsWhole) (arg16 : Memref sig .tc .vmem S1x1x2x4x64x128 .f32) (harg16 : arg16.IsWhole) (arg17 : Memref sig .tc .vmem S1x1x2x4x64x128 .f32) (harg17 : arg17.IsWhole) (arg18 : Memref sig .tc .vmem S1x1x2x4x64x128 .f32) (harg18 : arg18.IsWhole) (arg19 : Memref sig .tc .vmem S1x1x2x4x64x128 .f32) (harg19 : arg19.IsWhole) (arg20 : Memref sig .tc .vmem S1x1x2x4x64x128 .f32) (harg20 : arg20.IsWhole) (arg21 : Memref sig .tc .vmem S1x1x2x4x64x128 .f32) (harg21 : arg21.IsWhole) (arg22 : Memref sig .tc .vmem S1x1x2x4x64x128 .f32) (harg22 : arg22.IsWhole) (arg23 : Memref sig .tc .vmem S1x1x2x4x64x128 .f32) (harg23 : arg23.IsWhole) (arg24 : Memref sig .tc .vmem S1x1x2x4x64x128 .f32) (harg24 : arg24.IsWhole) (arg25 : Memref sig .tc .vmem S1x1x2x4x64x128 .f32) (harg25 : arg25.IsWhole) (arg26 : Memref sig .tc .vmem S1x1x2x4x64x128 .f32) (harg26 : arg26.IsWhole) (arg27 : Memref sig .tc .vmem S1x1x2x4x64x128 .f32) (harg27 : arg27.IsWhole) (arg28 : Memref sig .tc .vmem S1x8x1024 .f32) (harg28 : arg28.IsWhole) (arg29 : Memref sig .tc .vmem S1x2x4x64x512 .f32) (harg29 : arg29.IsWhole) (arg30 : Memref sig .tc .vmem S128x2048 .f32) (harg30 : arg30.IsWhole)
    (x0 : Vec F S1x8x1024 .f32) (x1 : Vec F S1x8x1024 .f32) (x2 : Vec F S1x8x512 .f32) (x3 : Vec F S1x8x128 .f32) (x4 : Vec F S1x128x512 .f32) (x5 : Vec F S1x1x2x4x64x512 .f32) (x6 : Vec F S128x128 .f32) (x7 : Vec F S128x2176 .f32) (x8 : Vec F S128x640 .f32) (x9 : Vec F S40x128 .bf16) (x10 : Vec F S1x1x2x4x64x128 .f32) (x11 : Vec F S1x1x2x4x64x128 .f32) (x12 : Vec F S1x1x2x4x64x128 .f32) (x13 : Vec F S1x1x2x4x64x128 .f32) (x14 : Vec F S1x1x2x4x64x128 .f32) (x15 : Vec F S1x1x2x4x64x128 .f32) (x16 : Vec F S1x1x2x4x64x128 .f32) (x17 : Vec F S1x1x2x4x64x128 .f32) (x18 : Vec F S1x1x2x4x64x128 .f32) (x19 : Vec F S1x1x2x4x64x128 .f32) (x20 : Vec F S1x1x2x4x64x128 .f32) (x21 : Vec F S1x1x2x4x64x128 .f32) (x22 : Vec F S1x1x2x4x64x128 .f32) (x23 : Vec F S1x1x2x4x64x128 .f32) (x24 : Vec F S1x1x2x4x64x128 .f32) (x25 : Vec F S1x1x2x4x64x128 .f32) (xt0 : TbBuf0 (F := F) c tbM0_0) : Vec F S1x8x1024 .f32 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 xt0).1)

/-- The body stores the whole of its block of the window's state at once. -/
theorem cover0_A_27 (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S1x128x512 .f32) (harg6 : arg6.IsWhole) (arg7 : Memref sig .tc .vmem S1x1x2x4x64x512 .f32) (harg7 : arg7.IsWhole) (arg8 : Memref sig .tc .vmem S128x128 .f32) (harg8 : arg8.IsWhole) (arg9 : Memref sig .tc .vmem S128x2176 .f32) (harg9 : arg9.IsWhole) (arg10 : Memref sig .tc .vmem S128x640 .f32) (harg10 : arg10.IsWhole) (arg11 : Memref sig .tc .vmem S40x128 .bf16) (harg11 : arg11.IsWhole) (arg12 : Memref sig .tc .vmem S1x1x2x4x64x128 .f32) (harg12 : arg12.IsWhole) (arg13 : Memref sig .tc .vmem S1x1x2x4x64x128 .f32) (harg13 : arg13.IsWhole) (arg14 : Memref sig .tc .vmem S1x1x2x4x64x128 .f32) (harg14 : arg14.IsWhole) (arg15 : Memref sig .tc .vmem S1x1x2x4x64x128 .f32) (harg15 : arg15.IsWhole) (arg16 : Memref sig .tc .vmem S1x1x2x4x64x128 .f32) (harg16 : arg16.IsWhole) (arg17 : Memref sig .tc .vmem S1x1x2x4x64x128 .f32) (harg17 : arg17.IsWhole) (arg18 : Memref sig .tc .vmem S1x1x2x4x64x128 .f32) (harg18 : arg18.IsWhole) (arg19 : Memref sig .tc .vmem S1x1x2x4x64x128 .f32) (harg19 : arg19.IsWhole) (arg20 : Memref sig .tc .vmem S1x1x2x4x64x128 .f32) (harg20 : arg20.IsWhole) (arg21 : Memref sig .tc .vmem S1x1x2x4x64x128 .f32) (harg21 : arg21.IsWhole) (arg22 : Memref sig .tc .vmem S1x1x2x4x64x128 .f32) (harg22 : arg22.IsWhole) (arg23 : Memref sig .tc .vmem S1x1x2x4x64x128 .f32) (harg23 : arg23.IsWhole) (arg24 : Memref sig .tc .vmem S1x1x2x4x64x128 .f32) (harg24 : arg24.IsWhole) (arg25 : Memref sig .tc .vmem S1x1x2x4x64x128 .f32) (harg25 : arg25.IsWhole) (arg26 : Memref sig .tc .vmem S1x1x2x4x64x128 .f32) (harg26 : arg26.IsWhole) (arg27 : Memref sig .tc .vmem S1x1x2x4x64x128 .f32) (harg27 : arg27.IsWhole) (arg28 : Memref sig .tc .vmem S1x8x1024 .f32) (harg28 : arg28.IsWhole) (arg29 : Memref sig .tc .vmem S1x2x4x64x512 .f32) (harg29 : arg29.IsWhole) (arg30 : Memref sig .tc .vmem S128x2048 .f32) (harg30 : arg30.IsWhole)
    (x0 : Vec F S1x8x1024 .f32) (x1 : Vec F S1x8x1024 .f32) (x2 : Vec F S1x8x512 .f32) (x3 : Vec F S1x8x128 .f32) (x4 : Vec F S1x128x512 .f32) (x5 : Vec F S1x1x2x4x64x512 .f32) (x6 : Vec F S128x128 .f32) (x7 : Vec F S128x2176 .f32) (x8 : Vec F S128x640 .f32) (x9 : Vec F S40x128 .bf16) (x10 : Vec F S1x1x2x4x64x128 .f32) (x11 : Vec F S1x1x2x4x64x128 .f32) (x12 : Vec F S1x1x2x4x64x128 .f32) (x13 : Vec F S1x1x2x4x64x128 .f32) (x14 : Vec F S1x1x2x4x64x128 .f32) (x15 : Vec F S1x1x2x4x64x128 .f32) (x16 : Vec F S1x1x2x4x64x128 .f32) (x17 : Vec F S1x1x2x4x64x128 .f32) (x18 : Vec F S1x1x2x4x64x128 .f32) (x19 : Vec F S1x1x2x4x64x128 .f32) (x20 : Vec F S1x1x2x4x64x128 .f32) (x21 : Vec F S1x1x2x4x64x128 .f32) (x22 : Vec F S1x1x2x4x64x128 .f32) (x23 : Vec F S1x1x2x4x64x128 .f32) (x24 : Vec F S1x1x2x4x64x128 .f32) (x25 : Vec F S1x1x2x4x64x128 .f32) (xt0 : TbBuf0 (F := F) c tbM0_0) (y : S1x2x4x64x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 xt0).2.1 S1x2x4x64x512.size (by sl_kernel_rfl) y

/-- What the body leaves of the window's state. -/
def out0_A_27 (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S1x128x512 .f32) (harg6 : arg6.IsWhole) (arg7 : Memref sig .tc .vmem S1x1x2x4x64x512 .f32) (harg7 : arg7.IsWhole) (arg8 : Memref sig .tc .vmem S128x128 .f32) (harg8 : arg8.IsWhole) (arg9 : Memref sig .tc .vmem S128x2176 .f32) (harg9 : arg9.IsWhole) (arg10 : Memref sig .tc .vmem S128x640 .f32) (harg10 : arg10.IsWhole) (arg11 : Memref sig .tc .vmem S40x128 .bf16) (harg11 : arg11.IsWhole) (arg12 : Memref sig .tc .vmem S1x1x2x4x64x128 .f32) (harg12 : arg12.IsWhole) (arg13 : Memref sig .tc .vmem S1x1x2x4x64x128 .f32) (harg13 : arg13.IsWhole) (arg14 : Memref sig .tc .vmem S1x1x2x4x64x128 .f32) (harg14 : arg14.IsWhole) (arg15 : Memref sig .tc .vmem S1x1x2x4x64x128 .f32) (harg15 : arg15.IsWhole) (arg16 : Memref sig .tc .vmem S1x1x2x4x64x128 .f32) (harg16 : arg16.IsWhole) (arg17 : Memref sig .tc .vmem S1x1x2x4x64x128 .f32) (harg17 : arg17.IsWhole) (arg18 : Memref sig .tc .vmem S1x1x2x4x64x128 .f32) (harg18 : arg18.IsWhole) (arg19 : Memref sig .tc .vmem S1x1x2x4x64x128 .f32) (harg19 : arg19.IsWhole) (arg20 : Memref sig .tc .vmem S1x1x2x4x64x128 .f32) (harg20 : arg20.IsWhole) (arg21 : Memref sig .tc .vmem S1x1x2x4x64x128 .f32) (harg21 : arg21.IsWhole) (arg22 : Memref sig .tc .vmem S1x1x2x4x64x128 .f32) (harg22 : arg22.IsWhole) (arg23 : Memref sig .tc .vmem S1x1x2x4x64x128 .f32) (harg23 : arg23.IsWhole) (arg24 : Memref sig .tc .vmem S1x1x2x4x64x128 .f32) (harg24 : arg24.IsWhole) (arg25 : Memref sig .tc .vmem S1x1x2x4x64x128 .f32) (harg25 : arg25.IsWhole) (arg26 : Memref sig .tc .vmem S1x1x2x4x64x128 .f32) (harg26 : arg26.IsWhole) (arg27 : Memref sig .tc .vmem S1x1x2x4x64x128 .f32) (harg27 : arg27.IsWhole) (arg28 : Memref sig .tc .vmem S1x8x1024 .f32) (harg28 : arg28.IsWhole) (arg29 : Memref sig .tc .vmem S1x2x4x64x512 .f32) (harg29 : arg29.IsWhole) (arg30 : Memref sig .tc .vmem S128x2048 .f32) (harg30 : arg30.IsWhole)
    (x0 : Vec F S1x8x1024 .f32) (x1 : Vec F S1x8x1024 .f32) (x2 : Vec F S1x8x512 .f32) (x3 : Vec F S1x8x128 .f32) (x4 : Vec F S1x128x512 .f32) (x5 : Vec F S1x1x2x4x64x512 .f32) (x6 : Vec F S128x128 .f32) (x7 : Vec F S128x2176 .f32) (x8 : Vec F S128x640 .f32) (x9 : Vec F S40x128 .bf16) (x10 : Vec F S1x1x2x4x64x128 .f32) (x11 : Vec F S1x1x2x4x64x128 .f32) (x12 : Vec F S1x1x2x4x64x128 .f32) (x13 : Vec F S1x1x2x4x64x128 .f32) (x14 : Vec F S1x1x2x4x64x128 .f32) (x15 : Vec F S1x1x2x4x64x128 .f32) (x16 : Vec F S1x1x2x4x64x128 .f32) (x17 : Vec F S1x1x2x4x64x128 .f32) (x18 : Vec F S1x1x2x4x64x128 .f32) (x19 : Vec F S1x1x2x4x64x128 .f32) (x20 : Vec F S1x1x2x4x64x128 .f32) (x21 : Vec F S1x1x2x4x64x128 .f32) (x22 : Vec F S1x1x2x4x64x128 .f32) (x23 : Vec F S1x1x2x4x64x128 .f32) (x24 : Vec F S1x1x2x4x64x128 .f32) (x25 : Vec F S1x1x2x4x64x128 .f32) (xt0 : TbBuf0 (F := F) c tbM0_0) : Vec F S1x2x4x64x512 .f32 :=
  VO0_27.read (Elt F) (VO0_27.writes (Elt F) VO0_27.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 xt0).2.1)

/-! ## What the outputs hold after each point -/

/-- What the two results' buffers hold after the body at point `t`. -/
def outsAt0 (hO : Ok m) (c : Dev nD) (t : Fin (cfgM m hO).N) : Vec F S1x8x1024 .f32 × Vec F S1x2x4x64x512 .f32 :=
  (out0_A_26 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (tbl m 0), out0_A_27 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (tbl m 0))

/-! ## The pipeline's proof data -/

/-- The call on core `c`: its arrays as it finds them; after the body at point `t` each input's buffer holds its block and the
    results' what the body leaves; nothing is owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => (outsAt0 m hO c t).1
    | ⟨27, _⟩ => (outsAt0 m hO c t).2
    | ⟨_ + 28, h⟩ => absurd h (Nat.not_lt.2 (Nat.le_add_left _ _))
  Φ _ := iprop(Pipeline.ΦA spec0 c ∗ Pipeline.ΦT pre0 (tbl m) c)
  q w := Pipeline.shareOf spec0 w
  owed _ := 0

/-- The arrays are those that the call finds. -/
theorem A_eq (hO : Ok m) (c : Dev nD) (w : Fin (cfgM m hO).W) : (dats m hO 0 c).A w = V m c (Pipeline.arrRef spec0 w) := by
  dsimp only [dats]

/-- What the buffers hold after the body, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = (outsAt0 m hO c t).1 := by dsimp only [dats]; try rfl
theorem after0_27 (hO : Ok m) (c : Dev nD) (t : Fin (cfgM m hO).N) : (dats m hO 0 c).after 27 t = (outsAt0 m hO c t).2 := by dsimp only [dats]; try rfl

/-- Each input's buffer holds its block at every point, fetched there or before. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d

/-! ## The body obligation, at a generic point -/

/-- What the body is called with at point `t`, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t))

set_option maxHeartbeats 8000000 in
/-- The body at any point: its inputs hold their blocks, so the run applies; it takes its scratch buffer at any contents and
    returns it at some. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m hO 0 c).Φ t.castSucc = iprop(Pipeline.ΦA spec0 c ∗ Pipeline.ΦT pre0 (tbl m) c) from rfl, PhiT0_eq, PhiA0_eq]
  unfold outsAt0
  unfold out0_A_26 out0_A_27; (try dsimp only)
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (tbl m 0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [HS0]; · iexact HS0
  isplitl [HT0]; · iexact HT0
  iintro ⟨H0, H1, H2, H3, H4, H5, H6, H7, H8, H9, H10, H11, H12, H13, H14, H15, H16, H17, H18, H19, H20, H21, H22, H23, H24, H25, ⟨%e26, H26⟩, ⟨%e27, H27⟩, ⟨%fT0, HS0⟩, HT0⟩
  isplitl [HS0 Hg HT0]
  · isplitl [HS0 Hg]
    · isplitl [HS0]
      · iexists _; unfold owns; iexists _; isplitr
        swap; · iexact HS0
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H27
  ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The call's body at a point's buffers is the body as the run has it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 8000000 in
/-- The body at every point, as the call asks for it. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- The call ends with its arrays as computed from the points and no semaphore raised. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- Every run of the program ends, its results at what the points leave and every other array as the call found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ hO (dats m hO) (A_eq m hO) (run_main m ρ hO)

end Cert.WinSIdeal.Gen

end
-- ==== Proof.WinSValue.lean ====
/- The sliding window's new state of the sparse layer on the sample, which the call that attends over the cache's pages also writes:
   of each sequence the last 504 positions of the old window and behind them the 8 new ones. The precondition bounds the pages that
   the call is handed, and with them the blocks it reads. -/
module

public import proofs.«01_k».proof.Defs
public import proofs.«01_k».proof.Proof.PostSValue
public import proofs.«01_k».proof.Proof.WinSFrame
public import proofs.«01_k».proof.Proof.Gen.WinS
public import proofs.«01_k».proof.Proof.Gen.WinSRefIdeal.Read
public import proofs.«01_k».proof.Proof.Gen.Pre_pages_exist
public import Idealize.ShloMosaic.Lib.Pipeline.ValueKit
public import Idealize.ShloMosaic.Lib.StableHlo.RunRead
public import Idealize.ShloMosaic.Lib.ValueIdxRank6

@[expose] public section

noncomputable section

namespace Cert.Proof.WinSValue

open Idealize.ShloMosaic hiding ix2 ix3 ix4 ix5 ix6
open Idealize.ShloMosaic.TcCoe Idealize.SL.Sem
open Idealize.ShloMosaic.ValueIdx Cert.Proof.ProjCommon

/-! ## The pages -/

/-- The precondition at an entry of the table: the page it names exists. -/
theorem named {F : FTy → Type} [FloatOps F] {a0 a1 a2 a3 a4 a5 a6 a8 a9 a10 a11} {table : IVec ⟨2, ![128, 16]⟩ 32}
    (h : Cert.Pre_pages_exist.fn (F := F) a0 a1 a2 a3 a4 a5 a6 table a8 a9 a10 a11 = fun _ => 1#1) (w : (⟨2, ![128, 16]⟩ : Shape).Idx) : (table w).toNat < 2560 := by
  have andi_one (a b : BitVec 1) : IntOp.andi a b = 1#1 ↔ a = 1#1 ∧ b = 1#1 := by revert a b; decide
  have ofBool_eq_one (p : Bool) : BitVec.ofBool p = 1#1 ↔ p = true := by cases p <;> decide
  have hw := congrFun h w
  simp only [Cert.Pre_pages_exist.fn, constantI, broadcastInDim, cmpi, andi, andi_one, ofBool_eq_one, IntOp.cmpi, BitVec.sle, BitVec.slt,
    decide_eq_true_eq, BitVec.toInt, BitVec.toNat_ofNat] at hw
  have := (table w).isLt
  omega

/-- The block of an existing page lies in the cache. -/
theorem page {n : ℕ} (h : n < 2560) (a : Fin 6) : ((![0, n, 1, 0, 0, 0] : Fin 6 → ℕ) a + 1) * (![1, 1, 2, 4, 64, 128] : Fin 6 → ℕ) a ≤ (![2, 2560, 4, 4, 64, 128] : Fin 6 → ℕ) a := by
  fin_cases a <;> simp <;> omega

theorem ok_of {F : FTy → Type} [FloatOps F] (pf : Cert.WinSIdeal.pre0.Contents (Elt F)) (h : ∀ w : (⟨2, ![128, 16]⟩ : Shape).Idx, BitVec.toNat (w := 32) (pf 0 w) < 2560) :
    Cert.WinSIdeal.ok0 pf :=
  ⟨fun i => ⟨page (h _), .inl rfl⟩, fun i => ⟨page (h _), .inl rfl⟩, fun i => ⟨page (h _), .inl rfl⟩, fun i => ⟨page (h _), .inl rfl⟩,
    fun i => ⟨page (h _), .inl rfl⟩, fun i => ⟨page (h _), .inl rfl⟩, fun i => ⟨page (h _), .inl rfl⟩, fun i => ⟨page (h _), .inl rfl⟩,
    fun i => ⟨page (h _), .inl rfl⟩, fun i => ⟨page (h _), .inl rfl⟩, fun i => ⟨page (h _), .inl rfl⟩, fun i => ⟨page (h _), .inl rfl⟩,
    fun i => ⟨page (h _), .inl rfl⟩, fun i => ⟨page (h _), .inl rfl⟩, fun i => ⟨page (h _), .inl rfl⟩, fun i => ⟨page (h _), .inl rfl⟩⟩

section
open Cert.WinSIdeal Cert.WinSIdeal.Gen
variable {F : FTy → Type} [FloatOps F]

/-- Every page that the table names exists, on every device. -/
abbrev Pages (m : (ℓ : Loc nD τ sig) → Buf (Elt F) ℓ) : Prop := ∀ c : Dev nD,
  Cert.Pre_pages_exist.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = fun _ => 1#1

theorem okAt (m : (ℓ : Loc nD τ sig) → Buf (Elt F) ℓ) (h : Pages m) : Ok m :=
  ok_of _ fun w => (congrArg (BitVec.toNat (w := 32)) (congrFun (V_main_arg7 m 0) w)).trans_lt (named (h 0) w)

variable (F) in
/-- With floats of any kind the call runs to its end, changes none of its arguments and leaves nothing owed. -/
def Runs : Prop := ∀ (m : (ℓ : Loc nD τ sig) → Buf (Elt F) ℓ) (g : Dev nD → PrngReg), Pages m →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0)

variable (F) in
theorem runs : Runs F := fun m g h =>
  θ_run_and (unchanged m g (okAt m h)) ((θ_run defs _ _).mono (fun _ h => h.2) (run_main_quiescent m g (okAt m h)))
end

theorem frameIdeal : Cert.quiescent_WinSIdeal := runs Ideal

/-- The rounding call is the same text. -/
theorem same : Cert.quiescent_WinS = Runs Bits := by sl_kernel_rfl

theorem frame : Cert.quiescent_WinS := same.mpr (runs Bits)

/-! ## The window -/

/-- The feature of a kind, a head and a coordinate. -/
def feature (k : Fin 2) (g : Fin 4) (d : Fin 64) : Fin 512 := ⟨(k.val * 4 + g.val) * 64 + d.val, by omega⟩

/-- A position of the new window: 504 of the old window's last positions, then the 8 new ones. -/
def slide (old : Fin 512 → EReal) (new : Fin 8 → EReal) (w : Fin 512) : EReal :=
  if h : w.val < 504 then old ⟨w.val + 8, by omega⟩ else new ⟨w.val - 504, by omega⟩

/-- What the kernel computes of a sequence's old window and new rows: the window as features by positions, its first 8 positions
    dropped and the new rows, padded and transposed, put behind. -/
theorem slid_apply (x : FVec Ideal ⟨6, ![1, 1, 2, 4, 64, 512]⟩ .f32) (n : FVec Ideal ⟨3, ![1, 8, 512]⟩ .f32) (zero : FVec Ideal ⟨2, ![120, 512]⟩ .f32)
    (h1 : (⟨6, ![1, 1, 2, 4, 64, 512]⟩ : Shape).ShapeCasts ⟨4, ![2, 4, 64, 512]⟩) (h2 : (⟨4, ![2, 4, 64, 512]⟩ : Shape).ShapeCasts ⟨2, ![512, 512]⟩)
    (h3 : (⟨3, ![1, 8, 512]⟩ : Shape).ShapeCasts ⟨2, ![8, 512]⟩) (h4 : Shape.Concatenates [⟨2, ![8, 512]⟩, ⟨2, ![120, 512]⟩] ⟨2, ![128, 512]⟩ 0)
    (h5 : (⟨2, ![128, 512]⟩ : Shape).Transposes [1, 0] ⟨2, ![512, 128]⟩) (h6 : (⟨2, ![512, 512]⟩ : Shape).Slices ![0, 8] ⟨2, ![512, 504]⟩)
    (h7 : (⟨2, ![512, 128]⟩ : Shape).Slices ![0, 0] ⟨2, ![512, 8]⟩) (h8 : Shape.Concatenates [⟨2, ![512, 504]⟩, ⟨2, ![512, 8]⟩] ⟨2, ![512, 512]⟩ 1)
    (h9 : (⟨2, ![512, 512]⟩ : Shape).ShapeCasts ⟨4, ![2, 4, 64, 512]⟩) (h10 : (⟨4, ![2, 4, 64, 512]⟩ : Shape).ShapeCasts ⟨5, ![1, 2, 4, 64, 512]⟩)
    (z : Fin 1) (k : Fin 2) (g : Fin 4) (d : Fin 64) (w : Fin 512) :
    shapeCast ⟨5, ![1, 2, 4, 64, 512]⟩ (shapeCast ⟨4, ![2, 4, 64, 512]⟩ (concatenate ⟨2, ![512, 512]⟩ 1
        [⟨⟨2, ![512, 504]⟩, extractStridedSlice ⟨2, ![512, 504]⟩ ![0, 8] (shapeCast ⟨2, ![512, 512]⟩ (shapeCast ⟨4, ![2, 4, 64, 512]⟩ x h1) h2) h6⟩,
          ⟨⟨2, ![512, 8]⟩, extractStridedSlice ⟨2, ![512, 8]⟩ ![0, 0] (transpose ⟨2, ![512, 128]⟩ [1, 0]
            (concatenate ⟨2, ![128, 512]⟩ 0 [⟨⟨2, ![8, 512]⟩, shapeCast ⟨2, ![8, 512]⟩ n h3⟩, ⟨⟨2, ![120, 512]⟩, zero⟩] h4) h5) h7⟩] h8) h9) h10 (ix5 z k g d w)
      = slide (fun w => x (ix6 0 0 k g d w)) (fun s => n (ix3 0 s (feature k g d))) w := by
  have hk := k.isLt; have hg := g.isLt; have hd := d.isLt; have hw := w.isLt
  obtain rfl : z = 0 := Subsingleton.elim _ _
  rw [shapeCast_apply _ h10 _ (ix4 k g d w) (by rw [Shape.rowMajor_val_four, Shape.rowMajor_val_five]; show ((k.val * 4 + g.val) * 64 + d.val) * 512 + w.val = (((0 * 2 + k.val) * 4 + g.val) * 64 + d.val) * 512 + w.val; omega),
    shapeCast_apply _ h9 _ (ix2 (feature k g d) w) (by rw [Shape.rowMajor_val_four, Shape.rowMajor_val_two]; rfl)]
  unfold slide
  by_cases h : w.val < 504
  · rw [dif_pos h, concatenate_pair_apply_left 1 _ _ h8 _ rfl (ix2 (feature k g d) (⟨w.val, h⟩ : Fin 504)) (fun b => by fin_cases b <;> rfl),
      extractStridedSlice_apply _ _ h6 _ (ix2 (feature k g d) (⟨w.val + 8, by omega⟩ : Fin 512)) (fun b => by fin_cases b <;> [exact (Nat.zero_add _).symm; exact Nat.add_comm _ _]),
      shapeCast_apply _ h2 _ (ix4 k g d (⟨w.val + 8, by omega⟩ : Fin 512)) (by rw [Shape.rowMajor_val_four, Shape.rowMajor_val_two]; rfl)]
    exact shapeCast_apply _ h1 _ (ix6 0 0 k g d _) (by rw [Shape.rowMajor_val_four, Shape.rowMajor_val_six]; show ((((0 * 1 + 0) * 2 + k.val) * 4 + g.val) * 64 + d.val) * 512 + (w.val + 8) = ((k.val * 4 + g.val) * 64 + d.val) * 512 + (w.val + 8); omega)
  · rw [dif_neg h, concatenate_pair_apply_right 1 _ _ h8 (ix2 (feature k g d) w) rfl rfl (ix2 (feature k g d) (⟨w.val - 504, by omega⟩ : Fin 8)) (fun b hb => by fin_cases b <;> [rfl; exact absurd rfl hb]) (by show w.val - 504 + 504 = w.val; omega),
      extractStridedSlice_apply _ _ h7 _ (ix2 (feature k g d) (⟨w.val - 504, by omega⟩ : Fin 128)) (fun b => by fin_cases b <;> exact (Nat.zero_add _).symm),
      transpose_apply _ _ h5 _ (ix2 (⟨w.val - 504, by omega⟩ : Fin 128) (feature k g d)) (fun b => by fin_cases b <;> rfl),
      concatenate_pair_apply_left 0 _ _ h4 _ rfl (ix2 (⟨w.val - 504, by omega⟩ : Fin 8) (feature k g d)) (fun b => by fin_cases b <;> rfl)]
    exact shapeCast_apply _ h3 _ (ix3 0 _ _) (by rw [Shape.rowMajor_val_three, Shape.rowMajor_val_two]; show (0 * 8 + (w.val - 504)) * 512 + (feature k g d).val = (w.val - 504) * 512 + (feature k g d).val; omega)

/-- The reference's window of all sequences: the state's layer and the new rows joined, the first 8 positions dropped, the positions put last. -/
theorem joined_apply (x : FVec Ideal ⟨6, ![2, 128, 512, 2, 4, 64]⟩ .f32) (n : FVec Ideal ⟨3, ![128, 8, 512]⟩ .f32)
    (h1 : (⟨6, ![2, 128, 512, 2, 4, 64]⟩ : Shape).Slices ![0, 0, 0, 0, 0, 0] ⟨6, ![1, 128, 512, 2, 4, 64]⟩) (h2 : (⟨6, ![1, 128, 512, 2, 4, 64]⟩ : Shape).ShapeCasts ⟨5, ![128, 512, 2, 4, 64]⟩)
    (h3 : (⟨3, ![128, 8, 512]⟩ : Shape).ShapeCasts ⟨5, ![128, 8, 2, 4, 64]⟩)
    (h4 : Shape.Concatenates [⟨5, ![128, 512, 2, 4, 64]⟩, ⟨5, ![128, 8, 2, 4, 64]⟩] ⟨5, ![128, 520, 2, 4, 64]⟩ 1)
    (b : Fin 128) (k : Fin 2) (g : Fin 4) (d : Fin 64) (w : Fin 512) :
    concatenate ⟨5, ![128, 520, 2, 4, 64]⟩ 1 [⟨⟨5, ![128, 512, 2, 4, 64]⟩, shapeCast ⟨5, ![128, 512, 2, 4, 64]⟩ (extractStridedSlice ⟨6, ![1, 128, 512, 2, 4, 64]⟩ ![0, 0, 0, 0, 0, 0] x h1) h2⟩,
        ⟨⟨5, ![128, 8, 2, 4, 64]⟩, shapeCast ⟨5, ![128, 8, 2, 4, 64]⟩ n h3⟩] h4 (ix5 b (⟨8 + w.val, by omega⟩ : Fin 520) k g d)
      = slide (fun w => x (ix6 0 b w k g d)) (fun s => n (ix3 b s (feature k g d))) w := by
  have hb := b.isLt; have hk := k.isLt; have hg := g.isLt; have hd := d.isLt; have hw := w.isLt
  unfold slide
  by_cases h : w.val < 504
  · rw [dif_pos h, concatenate_pair_apply_left 1 _ _ h4 _ rfl (ix5 b (⟨w.val + 8, by omega⟩ : Fin 512) k g d) (fun b => by fin_cases b <;> first | rfl | exact Nat.add_comm _ _),
      shapeCast_apply _ h2 _ (ix6 0 b (⟨w.val + 8, by omega⟩ : Fin 512) k g d) (by rw [Shape.rowMajor_val_five, Shape.rowMajor_val_six]; show (((((0 * 128 + b.val) * 512 + (w.val + 8)) * 2 + k.val) * 4 + g.val) * 64 + d.val) = ((((b.val) * 512 + (w.val + 8)) * 2 + k.val) * 4 + g.val) * 64 + d.val; omega)]
    exact extractStridedSlice_apply _ _ h1 _ (ix6 0 b _ k g d) (fun b => by fin_cases b <;> exact (Nat.zero_add _).symm)
  · rw [dif_neg h, concatenate_pair_apply_right 1 _ _ h4 (ix5 b (⟨8 + w.val, by omega⟩ : Fin 520) k g d) rfl rfl (ix5 b (⟨w.val - 504, by omega⟩ : Fin 8) k g d) (fun b hb => by fin_cases b <;> first | rfl | exact absurd rfl hb) (by show w.val - 504 + 512 = 8 + w.val; omega)]
    exact shapeCast_apply _ h3 _ (ix3 b _ (feature k g d)) (by rw [Shape.rowMajor_val_three, Shape.rowMajor_val_five]; show (b.val * 8 + (w.val - 504)) * 512 + ((k.val * 4 + g.val) * 64 + d.val) = (((b.val * 8 + (w.val - 504)) * 2 + k.val) * 4 + g.val) * 64 + d.val; omega)

section
open Cert.WinSIdeal Cert.WinSIdeal.Gen
variable (m : (ℓ : Loc nD τ sig) → Buf (Elt Ideal) ℓ)

abbrev New (c : Dev nD) : Buf (Elt Ideal) ((c : Thread nD τ).loc main_arg2) := m ((c : Thread nD τ).loc main_arg2)
abbrev State (c : Dev nD) : Buf (Elt Ideal) ((c : Thread nD τ).loc main_arg5) := m ((c : Thread nD τ).loc main_arg5)
/-- The new window of the first sparse layer. -/
abbrev G (c : Dev nD) : Buf (Elt Ideal) ((c : Thread nD τ).loc main_v3_1) := fun (i : S128x2x4x64x512.Idx) =>
  slide (fun w => State m c (ix6 (0 : Fin 2) (i 0) w (i 1) (i 2) (i 3))) (fun s => New m c (ix3 (i 0) s (feature (i 1) (i 2) (i 3)))) (i 4)

/-- Where the windows' blocks lie at each grid point. -/
theorem at2 : ∀ t : Fin grid0.N, cc0_transform_2 (grid0.coords t) 0 = t.val ∧ cc0_transform_2 (grid0.coords t) 1 = 0 ∧ cc0_transform_2 (grid0.coords t) 2 = 0 := by decide +kernel
theorem at5 : ∀ t : Fin grid0.N, cc0_transform_5 (grid0.coords t) 0 = 0 ∧ cc0_transform_5 (grid0.coords t) 1 = t.val ∧ cc0_transform_5 (grid0.coords t) 2 = 0
    ∧ cc0_transform_5 (grid0.coords t) 3 = 0 ∧ cc0_transform_5 (grid0.coords t) 4 = 0 ∧ cc0_transform_5 (grid0.coords t) 5 = 0 := by decide +kernel
theorem at27 : ∀ t : Fin grid0.N, cc0_transform_27 (grid0.coords t) 0 = t.val ∧ cc0_transform_27 (grid0.coords t) 1 = 0 ∧ cc0_transform_27 (grid0.coords t) 2 = 0
    ∧ cc0_transform_27 (grid0.coords t) 3 = 0 ∧ cc0_transform_27 (grid0.coords t) 4 = 0 := by decide +kernel

/-- The state with its positions last. -/
theorem V_v0 (c : Dev nD) : V m c main_v0 = (transpose S2x128x2x4x64x512 [0, 1, 3, 4, 5, 2] (State m c) transposes_S2x128x512x2x4x64_S2x128x2x4x64x512_0_1_3_4_5_2 : FVec Ideal S2x128x2x4x64x512 .f32) := by
  unfold_abbrev_sides
  after_reads_simp

/-- Transposing moves the positions behind the features. -/
theorem transposed (x : FVec Ideal S2x128x512x2x4x64 .f32) (h : S2x128x512x2x4x64.Transposes [0, 1, 3, 4, 5, 2] S2x128x2x4x64x512)
    (l : Fin 2) (b : Fin 128) (k : Fin 2) (g : Fin 4) (d : Fin 64) (w : Fin 512) : transpose S2x128x2x4x64x512 [0, 1, 3, 4, 5, 2] x h (ix6 l b k g d w) = x (ix6 l b w k g d) :=
  congrArg x (funext fun a => Fin.ext (match a with | ⟨0, _⟩ => rfl | ⟨1, _⟩ => rfl | ⟨2, _⟩ => rfl | ⟨3, _⟩ => rfl | ⟨4, _⟩ => rfl | ⟨5, _⟩ => rfl))

theorem blk2 (hO : Ok m) (c : Dev nD) (t : Fin (cfgM m hO).N) (z : Fin 1) (s : Fin 8) (f : Fin 512) (b : Fin 128) (hb : b.val = t.val) : iblk m hO c 2 t (ix3 z s f) = New m c (ix3 b s f) :=
  (congrArg (V m c main_arg2) (idx_ext₃ (at_point (B := 1) (k := z.val) (r := b.val) (at2 t).1 (by omega)) (at_zero (at2 t).2.1) (at_zero (at2 t).2.2))).trans (congrFun (V_main_arg2 m c) (ix3 b s f))
theorem blk5 (hO : Ok m) (c : Dev nD) (t : Fin (cfgM m hO).N) (y z : Fin 1) (k : Fin 2) (g : Fin 4) (d : Fin 64) (w : Fin 512) (b : Fin 128) (hb : b.val = t.val) :
    iblk m hO c 5 t (ix6 y z k g d w) = State m c (ix6 0 b w k g d) := by
  refine (congrArg (V m c main_v0) (a₂ := (ix6 0 b k g d w : S2x128x2x4x64x512.Idx)) (funext fun a => Fin.ext ?_)).trans
    ((congrFun (V_v0 m c) (ix6 0 b k g d w)).trans (transposed _ _ 0 b k g d w))
  match a with
  | ⟨0, _⟩ => exact at_point (B := 1) (k := y.val) (r := 0) (at5 t).1 (by omega)
  | ⟨1, _⟩ => exact at_point (B := 1) (k := z.val) (r := b.val) (at5 t).2.1 (by omega)
  | ⟨2, _⟩ => exact at_zero (at5 t).2.2.1
  | ⟨3, _⟩ => exact at_zero (at5 t).2.2.2.1
  | ⟨4, _⟩ => exact at_zero (at5 t).2.2.2.2.1
  | ⟨5, _⟩ => exact at_zero (at5 t).2.2.2.2.2

/-- What the body stores, of the old window and the new rows. -/
theorem stored (x : FVec Ideal S1x1x2x4x64x512 .f32) (n : FVec Ideal S1x8x512 .f32) (z : Fin 1) (k : Fin 2) (g : Fin 4) (d : Fin 64) (w : Fin 512) :
    k0_pay1 (F := Ideal) (k0_pay270 (k0_pay268 x) (k0_pay269 (k0_pay243 n))) (ix5 z k g d w)
      = slide (fun w => x (ix6 0 0 k g d w)) (fun s => n (ix3 0 s (feature k g d))) w := by
  unfold k0_pay1 k0_pay270 k0_pay268 k0_pay269 k0_pay243
  exact slid_apply x n _ _ _ _ _ _ _ _ _ _ _ z k g d w

set_option maxHeartbeats 2000000 in
/-- What a point leaves in its block of the new state. -/
theorem left (hO : Ok m) (c : Dev nD) (t : Fin (cfgM m hO).N) (b : Fin 128) (hb : b.val = t.val) (z : Fin 1) (k : Fin 2) (g : Fin 4) (d : Fin 64) (w : Fin 512) :
    (outsAt0 m hO c t).2 (ix5 z k g d w) = G m c (ix5 b k g d w) := by
  unfold outsAt0
  dsimp only
  frame_out
  refine (congrArg₂ (fun x n => k0_pay1 (F := Ideal) (k0_pay270 (k0_pay268 x) (k0_pay269 (k0_pay243 n))) (ix5 z k g d w))
    ((hs0_5 m hO t).read_unread (iblk m hO c 5 t)) ((hs0_2 m hO t).read_unread (iblk m hO c 2 t))).trans ?_
  exact (stored (iblk m hO c 5 t) (iblk m hO c 2 t) z k g d w).trans
    (congrArg₂ (fun old new => slide old new w) (funext fun w => blk5 m hO c t 0 0 k g d w b hb) (funext fun s => blk2 m hO c t 0 s (feature k g d) b hb))

/-- The same at an index of the block, where it lies in the new state. -/
theorem placed (hO : Ok m) (c : Dev nD) (t : Fin (cfgM m hO).N) (j : S1x2x4x64x512.Idx) :
    (outsAt0 m hO c t).2 j = G m c ((((cfgM m hO).win 27).blk t).view.emb j : S128x2x4x64x512.Idx) := by
  have ht : t.val < 128 := t.isLt
  have e : ((((cfgM m hO).win 27).blk t).view.emb j : S128x2x4x64x512.Idx) = ix5 (⟨t.val, ht⟩ : Fin 128) (j 1) (j 2) (j 3) (j 4) := funext fun a => Fin.ext (match a with
    | ⟨0, _⟩ => at_point (B := 1) (k := (j 0).val) (r := t.val) (at27 t).1 (by have : (j 0).val < 1 := (j 0).isLt; omega)
    | ⟨1, _⟩ => at_zero (at27 t).2.1 | ⟨2, _⟩ => at_zero (at27 t).2.2.1 | ⟨3, _⟩ => at_zero (at27 t).2.2.2.1 | ⟨4, _⟩ => at_zero (at27 t).2.2.2.2)
  rw [e]
  exact (congrArg (outsAt0 m hO c t).2 (ValueIdx.eq_ix5 j)).trans (left m hO c t ⟨t.val, ht⟩ rfl (j 0) (j 1) (j 2) (j 3) (j 4))

/-- Each point writes its block of the new state, and the blocks cover it. -/
theorem final27 (hO : Ok m) (c : Dev nD) : (dats m hO 0 c).arrAt 27 (cfgM m hO).N = G m c := by
  refine (dats m hO 0 c).arrAt_eq_of_cover 27 (G m c) (fun t _ => funext fun j => ?_) ?_
  · exact (congrArg (fun f => ((cfgM m hO).win 27).cut ((cfgM m hO).grid.coords t) f j) (after0_27 m hO c t)).trans (placed m hO c t j)
  · show ∀ i : S128x2x4x64x512.Idx, _
    intro i
    let t : Fin (cfgM m hO).N := ⟨(i 0).val, (i 0).isLt⟩
    have h : ((((cfgM m hO).win 27).blk t).view.emb (ix5 (0 : Fin 1) (i 1) (i 2) (i 3) (i 4) : S1x2x4x64x512.Idx) : S128x2x4x64x512.Idx) = i := funext fun a => Fin.ext (match a with
      | ⟨0, _⟩ => at_point (B := 1) (k := 0) (r := (i 0).val) (at27 t).1 (by show (i 0).val = (i 0).val * 1 + 0; omega)
      | ⟨1, _⟩ => at_zero (at27 t).2.1 | ⟨2, _⟩ => at_zero (at27 t).2.2.1 | ⟨3, _⟩ => at_zero (at27 t).2.2.2.1 | ⟨4, _⟩ => at_zero (at27 t).2.2.2.2)
    exact ⟨t, flush0_27 _ t, Finset.mem_map.mpr ⟨_, Finset.mem_univ _, h⟩⟩
end

section
open Cert.WinSRefIdeal.Read
variable (m : (ℓ : Loc Cert.WinSIdeal.nD Cert.WinSIdeal.τ Cert.WinSIdeal.sig) → Buf (Elt Ideal) ℓ)
/-- The reference's new state. -/
theorem ref (c : Dev Cert.WinSIdeal.nD) : val_main_v5 (F := Ideal) (New m c) (State m c) = G m c := by
  funext i
  rw [val_main_v5_apply, val_main_v4_apply]
  refine (congrArg (val_main_v3 (F := Ideal) (New m c) (State m c))
    (a₂ := ix5 (i 0) (⟨8 + (i 4).val, by have : (i 4).val < 512 := (i 4).isLt; omega⟩ : Fin 520) (i 1) (i 2) (i 3)) (funext fun a => Fin.ext ?_)).trans
    (joined_apply _ _ _ _ _ _ (i 0) (i 1) (i 2) (i 3) (i 4))
  match a with | ⟨0, _⟩ => rfl | ⟨1, _⟩ => rfl | ⟨2, _⟩ => rfl | ⟨3, _⟩ => rfl | ⟨4, _⟩ => rfl
end

/-- The call and its reference end with the same array. -/
theorem algebraic : Cert.algebraic_WinSIdeal_WinSRefIdeal := by
  intro m g m' g' hpre hagree
  have hO := okAt m hpre
  refine ⟨fun c => G m c, ?_, ?_⟩
  · refine (θ_run Cert.WinSIdeal.defs _ _).mono (fun r h c => ⟨?_, h.2 c⟩) (θ_run_and (Cert.WinSIdeal.Gen.run_main m g hO) (Cert.WinSIdeal.Gen.unchanged m g hO))
    exact ((h.1 c).1 27).trans (final27 m hO c)
  · refine (θ_run Cert.WinSRefIdeal.defs _ _).mono (fun r h c => ?_) (Cert.WinSRefIdeal.Value.run m' g')
    obtain ⟨e, k⟩ := h c
    obtain ⟨a0, a1, a2, a3, a4, a5, a6⟩ := hagree c
    refine ⟨e.trans ?_, k⟩
    refine (Cert.WinSRefIdeal.Read.val_main_v5_eq _ _).trans ?_
    rw [a2, a5]
    exact ref m c

/-- The reference runs and changes none of its arguments. -/
theorem frameRef : Cert.quiescent_WinSRefIdeal := fun m ρ _ =>
  (θ_run _ _ _).mono (fun r h => ⟨fun c => (h c).2, sem_eq_zero_of_no_sems (by decide) r.2⟩)
    (Cert.WinSRefIdeal.Value.run (F := Ideal) m ρ)

end Cert.Proof.WinSValue

end
-- ==== Proof.lean ====
module

public import proofs.«01_k».proof.Defs
public import proofs.«01_k».proof.Proof.DiffRefValue
public import proofs.«01_k».proof.Proof.WinSValue
public import Idealize.ShloMosaic.Adequacy
public import Idealize.ShloMosaic.Init

@[expose] public section

noncomputable section

namespace Cert.Proof

open Idealize.ShloMosaic Idealize.SL.Sem Cert.Proof.Frames

theorem claim : Cert.Claim :=
  ⟨Cert.Diff.Gen.facts, Cert.DiffIdeal.Gen.facts, Cert.DiffRefIdeal.Gen.facts, Cert.DiffRef.Gen.facts,
    Cert.Post.Gen.facts, Cert.PostIdeal.Gen.facts, Cert.PostRefIdeal.Gen.facts,
    Cert.Proj.Gen.facts, Cert.ProjIdeal.Gen.facts, Cert.ProjRefIdeal.Gen.facts,
    Cert.NsaProj.Gen.facts, Cert.NsaProjIdeal.Gen.facts, Cert.NsaProjRefIdeal.Gen.facts,
    Cert.SbProj.Gen.facts, Cert.SbProjIdeal.Gen.facts, Cert.SbProjRefIdeal.Gen.facts,
    Cert.ProjS.Gen.facts, Cert.ProjSIdeal.Gen.facts, Cert.ProjSRefIdeal.Gen.facts,
    Cert.NsaProjS.Gen.facts, Cert.NsaProjSIdeal.Gen.facts, Cert.NsaProjSRefIdeal.Gen.facts,
    Cert.SbProjS.Gen.facts, Cert.SbProjSIdeal.Gen.facts, Cert.SbProjSRefIdeal.Gen.facts,
    Cert.PostS.Gen.facts, Cert.PostSIdeal.Gen.facts, Cert.PostSRefIdeal.Gen.facts,
    Cert.WinS.Gen.facts, Cert.WinSIdeal.Gen.facts, Cert.WinSRefIdeal.Gen.facts,
    DiffRefValue.preFacts, Cert.Pre_pages_exist.Gen.facts,
    fun m ρ _ => Cert.Diff.Gen.frame m ρ,
    fun m ρ _ => Cert.DiffIdeal.Gen.frame m ρ,
    fun m ρ _ => Cert.DiffIdeal.Gen.frame m ρ,
    diffRefIdeal, fun m ρ _ => diffRefIdeal m ρ trivial, diffRef,
    fun m ρ _ => Cert.Post.Gen.frame m ρ,
    fun m ρ _ => Cert.PostIdeal.Gen.frame m ρ,
    postRefIdeal,
    fun m ρ _ => Cert.Proj.Gen.frame m ρ,
    fun m ρ _ => Cert.ProjIdeal.Gen.frame m ρ,
    projRefIdeal,
    fun m ρ _ => Cert.NsaProj.Gen.frame m ρ, fun m ρ _ => Cert.NsaProjIdeal.Gen.frame m ρ, NsaProjValue.frameRef,
    fun m ρ _ => Cert.SbProj.Gen.frame m ρ, fun m ρ _ => Cert.SbProjIdeal.Gen.frame m ρ, SbProjValue.frameRef,
    fun m ρ _ => Cert.ProjS.Gen.frame m ρ, fun m ρ _ => Cert.ProjSIdeal.Gen.frame m ρ, ProjSValue.frameRef,
    fun m ρ _ => Cert.NsaProjS.Gen.frame m ρ, fun m ρ _ => Cert.NsaProjSIdeal.Gen.frame m ρ, NsaProjSValue.frameRef,
    fun m ρ _ => Cert.SbProjS.Gen.frame m ρ, fun m ρ _ => Cert.SbProjSIdeal.Gen.frame m ρ, SbProjSValue.frameRef,
    fun m ρ _ => Cert.PostS.Gen.frame m ρ, fun m ρ _ => Cert.PostSIdeal.Gen.frame m ρ, PostSValue.frameRef,
    WinSValue.frame, WinSValue.frameIdeal, WinSValue.frameRef, fun m ρ _ => WinSValue.frameRef m ρ trivial,
    preservesDiff, trivial, DiffRefValue.algebraic,
    trivial, PostValue.algebraic,
    trivial, ProjValue.algebraic,
    trivial, NsaProjValue.algebraic,
    trivial, SbProjValue.algebraic,
    trivial, ProjSValue.algebraic,
    trivial, NsaProjSValue.algebraic,
    trivial, SbProjSValue.algebraic,
    trivial, PostSValue.algebraic,
    trivial, WinSValue.algebraic⟩

end Cert.Proof

end
